-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_RefFinalIdeal (m : (ℓ : Loc Cert.RefFinalIdeal.nD Cert.RefFinalIdeal.τ Cert.RefFinalIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaIdeal_all_real [hPre_all_real : Cert.Pre_all_real.Facts] (m : (ℓ : Loc Cert.DeltaIdeal.nD Cert.DeltaIdeal.τ Cert.DeltaIdeal.sig) → Buf (Elt Ideal) ℓ) : Prop :=
  ∀ c : Dev Cert.DeltaIdeal.nD,
    (Cert.Pre_all_real.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3)) (m ((c.tc : Thread Cert.DeltaIdeal.nD Cert.DeltaIdeal.τ).loc Cert.DeltaIdeal.main_arg4)) (m ((c.tc : Thread Cert.DeltaIdeal.nD Cert.DeltaIdeal.τ).loc Cert.DeltaIdeal.main_arg5))) = (fun _ => 1#1)

def Pre_RefDeltaIdeal (m : (ℓ : Loc Cert.RefDeltaIdeal.nD Cert.RefDeltaIdeal.τ Cert.RefDeltaIdeal.sig) → Buf (Elt Ideal) ℓ) : Prop :=
  True

def Pre_RefDeltaIdeal_all_real [hPre_all_real : Cert.Pre_all_real.Facts] (m : (ℓ : Loc Cert.RefDeltaIdeal.nD Cert.RefDeltaIdeal.τ Cert.RefDeltaIdeal.sig) → Buf (Elt Ideal) ℓ) : Prop :=
  ∀ c : Dev Cert.RefDeltaIdeal.nD,
    (Cert.Pre_all_real.fn (F := Ideal) (m ((c.tc : Thread Cert.RefDeltaIdeal.nD Cert.RefDeltaIdeal.τ).loc Cert.RefDeltaIdeal.main_arg0)) (m ((c.tc : Thread Cert.RefDeltaIdeal.nD Cert.RefDeltaIdeal.τ).loc Cert.RefDeltaIdeal.main_arg1)) (m ((c.tc : Thread Cert.RefDeltaIdeal.nD Cert.RefDeltaIdeal.τ).loc Cert.RefDeltaIdeal.main_arg2)) (m ((c.tc : Thread Cert.RefDeltaIdeal.nD Cert.RefDeltaIdeal.τ).loc Cert.RefDeltaIdeal.main_arg3)) (m ((c.tc : Thread Cert.RefDeltaIdeal.nD Cert.RefDeltaIdeal.τ).loc Cert.RefDeltaIdeal.main_arg4)) (m ((c.tc : Thread Cert.RefDeltaIdeal.nD Cert.RefDeltaIdeal.τ).loc Cert.RefDeltaIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_RefModsIdeal (m : (ℓ : Loc Cert.RefModsIdeal.nD Cert.RefModsIdeal.τ Cert.RefModsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ r.2.sem = fun _ => 0)

def quiescent_RefFinalIdeal [hRefFinalIdeal : Cert.RefFinalIdeal.Facts] : Prop :=
  ∀ (m : (ℓ : Loc Cert.RefFinalIdeal.nD Cert.RefFinalIdeal.τ Cert.RefFinalIdeal.sig) → Buf (Elt Ideal) ℓ) (g : Dev Cert.RefFinalIdeal.nD → PrngReg), Pre_RefFinalIdeal m →
    θ_run (Cert.RefFinalIdeal.defs (F := Ideal)) (onTc (τ := Cert.RefFinalIdeal.τ) (Cert.RefFinalIdeal.main (F := Ideal))) ⟨m, fun _ => 0, g⟩ (fun r => (∀ c : Dev Cert.RefFinalIdeal.nD,
      r.2.mem ((c.tc : Thread Cert.RefFinalIdeal.nD Cert.RefFinalIdeal.τ).loc Cert.RefFinalIdeal.main_arg0) = m ((c.tc : Thread Cert.RefFinalIdeal.nD Cert.RefFinalIdeal.τ).loc Cert.RefFinalIdeal.main_arg0)
      ∧ r.2.mem ((c.tc : Thread Cert.RefFinalIdeal.nD Cert.RefFinalIdeal.τ).loc Cert.RefFinalIdeal.main_arg1) = m ((c.tc : Thread Cert.RefFinalIdeal.nD Cert.RefFinalIdeal.τ).loc Cert.RefFinalIdeal.main_arg1)
      ∧ r.2.mem ((c.tc : Thread Cert.RefFinalIdeal.nD Cert.RefFinalIdeal.τ).loc Cert.RefFinalIdeal.main_arg2) = m ((c.tc : Thread Cert.RefFinalIdeal.nD Cert.RefFinalIdeal.τ).loc Cert.RefFinalIdeal.main_arg2)
      ∧ r.2.mem ((c.tc : Thread Cert.RefFinalIdeal.nD Cert.RefFinalIdeal.τ).loc Cert.RefFinalIdeal.main_arg3) = m ((c.tc : Thread Cert.RefFinalIdeal.nD Cert.RefFinalIdeal.τ).loc Cert.RefFinalIdeal.main_arg3)
      ∧ r.2.mem ((c.tc : Thread Cert.RefFinalIdeal.nD Cert.RefFinalIdeal.τ).loc Cert.RefFinalIdeal.main_arg4) = m ((c.tc : Thread Cert.RefFinalIdeal.nD Cert.RefFinalIdeal.τ).loc Cert.RefFinalIdeal.main_arg4)
      ∧ r.2.mem ((c.tc : Thread Cert.RefFinalIdeal.nD Cert.RefFinalIdeal.τ).loc Cert.RefFinalIdeal.main_arg5) = m ((c.tc : Thread Cert.RefFinalIdeal.nD Cert.RefFinalIdeal.τ).loc Cert.RefFinalIdeal.main_arg5)
      ∧ r.2.mem ((c.tc : Thread Cert.RefFinalIdeal.nD Cert.RefFinalIdeal.τ).loc Cert.RefFinalIdeal.main_arg6) = m ((c.tc : Thread Cert.RefFinalIdeal.nD Cert.RefFinalIdeal.τ).loc Cert.RefFinalIdeal.main_arg6))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3)
      ∧ r.2.mem ((c.tc : Thread Cert.Delta.nD Cert.Delta.τ).loc Cert.Delta.main_arg4) = m ((c.tc : Thread Cert.Delta.nD Cert.Delta.τ).loc Cert.Delta.main_arg4)
      ∧ r.2.mem ((c.tc : Thread Cert.Delta.nD Cert.Delta.τ).loc Cert.Delta.main_arg5) = m ((c.tc : Thread Cert.Delta.nD Cert.Delta.τ).loc Cert.Delta.main_arg5))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5))
      ∧ r.2.sem = fun _ => 0)

def quiescent_DeltaIdeal_pre_all_real [hDeltaIdeal : Cert.DeltaIdeal.Facts] [hPre_all_real : Cert.Pre_all_real.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal_all_real m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5))
      ∧ r.2.sem = fun _ => 0)

def quiescent_RefDeltaIdeal [hRefDeltaIdeal : Cert.RefDeltaIdeal.Facts] : Prop :=
  ∀ (m : (ℓ : Loc Cert.RefDeltaIdeal.nD Cert.RefDeltaIdeal.τ Cert.RefDeltaIdeal.sig) → Buf (Elt Ideal) ℓ) (g : Dev Cert.RefDeltaIdeal.nD → PrngReg), Pre_RefDeltaIdeal m →
    θ_run (Cert.RefDeltaIdeal.defs (F := Ideal)) (onTc (τ := Cert.RefDeltaIdeal.τ) (Cert.RefDeltaIdeal.main (F := Ideal))) ⟨m, fun _ => 0, g⟩ (fun r => (∀ c : Dev Cert.RefDeltaIdeal.nD,
      r.2.mem ((c.tc : Thread Cert.RefDeltaIdeal.nD Cert.RefDeltaIdeal.τ).loc Cert.RefDeltaIdeal.main_arg0) = m ((c.tc : Thread Cert.RefDeltaIdeal.nD Cert.RefDeltaIdeal.τ).loc Cert.RefDeltaIdeal.main_arg0)
      ∧ r.2.mem ((c.tc : Thread Cert.RefDeltaIdeal.nD Cert.RefDeltaIdeal.τ).loc Cert.RefDeltaIdeal.main_arg1) = m ((c.tc : Thread Cert.RefDeltaIdeal.nD Cert.RefDeltaIdeal.τ).loc Cert.RefDeltaIdeal.main_arg1)
      ∧ r.2.mem ((c.tc : Thread Cert.RefDeltaIdeal.nD Cert.RefDeltaIdeal.τ).loc Cert.RefDeltaIdeal.main_arg2) = m ((c.tc : Thread Cert.RefDeltaIdeal.nD Cert.RefDeltaIdeal.τ).loc Cert.RefDeltaIdeal.main_arg2)
      ∧ r.2.mem ((c.tc : Thread Cert.RefDeltaIdeal.nD Cert.RefDeltaIdeal.τ).loc Cert.RefDeltaIdeal.main_arg3) = m ((c.tc : Thread Cert.RefDeltaIdeal.nD Cert.RefDeltaIdeal.τ).loc Cert.RefDeltaIdeal.main_arg3)
      ∧ r.2.mem ((c.tc : Thread Cert.RefDeltaIdeal.nD Cert.RefDeltaIdeal.τ).loc Cert.RefDeltaIdeal.main_arg4) = m ((c.tc : Thread Cert.RefDeltaIdeal.nD Cert.RefDeltaIdeal.τ).loc Cert.RefDeltaIdeal.main_arg4)
      ∧ r.2.mem ((c.tc : Thread Cert.RefDeltaIdeal.nD Cert.RefDeltaIdeal.τ).loc Cert.RefDeltaIdeal.main_arg5) = m ((c.tc : Thread Cert.RefDeltaIdeal.nD Cert.RefDeltaIdeal.τ).loc Cert.RefDeltaIdeal.main_arg5))
      ∧ r.2.sem = fun _ => 0)

def quiescent_RefDeltaIdeal_pre_all_real [hRefDeltaIdeal : Cert.RefDeltaIdeal.Facts] [hPre_all_real : Cert.Pre_all_real.Facts] : Prop :=
  ∀ (m : (ℓ : Loc Cert.RefDeltaIdeal.nD Cert.RefDeltaIdeal.τ Cert.RefDeltaIdeal.sig) → Buf (Elt Ideal) ℓ) (g : Dev Cert.RefDeltaIdeal.nD → PrngReg), Pre_RefDeltaIdeal_all_real m →
    θ_run (Cert.RefDeltaIdeal.defs (F := Ideal)) (onTc (τ := Cert.RefDeltaIdeal.τ) (Cert.RefDeltaIdeal.main (F := Ideal))) ⟨m, fun _ => 0, g⟩ (fun r => (∀ c : Dev Cert.RefDeltaIdeal.nD,
      r.2.mem ((c.tc : Thread Cert.RefDeltaIdeal.nD Cert.RefDeltaIdeal.τ).loc Cert.RefDeltaIdeal.main_arg0) = m ((c.tc : Thread Cert.RefDeltaIdeal.nD Cert.RefDeltaIdeal.τ).loc Cert.RefDeltaIdeal.main_arg0)
      ∧ r.2.mem ((c.tc : Thread Cert.RefDeltaIdeal.nD Cert.RefDeltaIdeal.τ).loc Cert.RefDeltaIdeal.main_arg1) = m ((c.tc : Thread Cert.RefDeltaIdeal.nD Cert.RefDeltaIdeal.τ).loc Cert.RefDeltaIdeal.main_arg1)
      ∧ r.2.mem ((c.tc : Thread Cert.RefDeltaIdeal.nD Cert.RefDeltaIdeal.τ).loc Cert.RefDeltaIdeal.main_arg2) = m ((c.tc : Thread Cert.RefDeltaIdeal.nD Cert.RefDeltaIdeal.τ).loc Cert.RefDeltaIdeal.main_arg2)
      ∧ r.2.mem ((c.tc : Thread Cert.RefDeltaIdeal.nD Cert.RefDeltaIdeal.τ).loc Cert.RefDeltaIdeal.main_arg3) = m ((c.tc : Thread Cert.RefDeltaIdeal.nD Cert.RefDeltaIdeal.τ).loc Cert.RefDeltaIdeal.main_arg3)
      ∧ r.2.mem ((c.tc : Thread Cert.RefDeltaIdeal.nD Cert.RefDeltaIdeal.τ).loc Cert.RefDeltaIdeal.main_arg4) = m ((c.tc : Thread Cert.RefDeltaIdeal.nD Cert.RefDeltaIdeal.τ).loc Cert.RefDeltaIdeal.main_arg4)
      ∧ r.2.mem ((c.tc : Thread Cert.RefDeltaIdeal.nD Cert.RefDeltaIdeal.τ).loc Cert.RefDeltaIdeal.main_arg5) = m ((c.tc : Thread Cert.RefDeltaIdeal.nD Cert.RefDeltaIdeal.τ).loc Cert.RefDeltaIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3)
      ∧ r.2.mem ((c.tc : Thread Cert.RefProjIdeal.nD Cert.RefProjIdeal.τ).loc Cert.RefProjIdeal.main_arg4) = m ((c.tc : Thread Cert.RefProjIdeal.nD Cert.RefProjIdeal.τ).loc Cert.RefProjIdeal.main_arg4))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_RefModsIdeal [hRefModsIdeal : Cert.RefModsIdeal.Facts] : Prop :=
  ∀ (m : (ℓ : Loc Cert.RefModsIdeal.nD Cert.RefModsIdeal.τ Cert.RefModsIdeal.sig) → Buf (Elt Ideal) ℓ) (g : Dev Cert.RefModsIdeal.nD → PrngReg), Pre_RefModsIdeal m →
    θ_run (Cert.RefModsIdeal.defs (F := Ideal)) (onTc (τ := Cert.RefModsIdeal.τ) (Cert.RefModsIdeal.main (F := Ideal))) ⟨m, fun _ => 0, g⟩ (fun r => (∀ c : Dev Cert.RefModsIdeal.nD,
      r.2.mem ((c.tc : Thread Cert.RefModsIdeal.nD Cert.RefModsIdeal.τ).loc Cert.RefModsIdeal.main_arg0) = m ((c.tc : Thread Cert.RefModsIdeal.nD Cert.RefModsIdeal.τ).loc Cert.RefModsIdeal.main_arg0)
      ∧ r.2.mem ((c.tc : Thread Cert.RefModsIdeal.nD Cert.RefModsIdeal.τ).loc Cert.RefModsIdeal.main_arg1) = m ((c.tc : Thread Cert.RefModsIdeal.nD Cert.RefModsIdeal.τ).loc Cert.RefModsIdeal.main_arg1)
      ∧ r.2.mem ((c.tc : Thread Cert.RefModsIdeal.nD Cert.RefModsIdeal.τ).loc Cert.RefModsIdeal.main_arg2) = m ((c.tc : Thread Cert.RefModsIdeal.nD Cert.RefModsIdeal.τ).loc Cert.RefModsIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Final_FinalIdeal : Prop :=
  True

def algebraic_FinalIdeal_RefFinalIdeal [hFinalIdeal : Cert.FinalIdeal.Facts] [hRefFinalIdeal : Cert.RefFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.RefFinalIdeal.nD Cert.RefFinalIdeal.τ Cert.RefFinalIdeal.sig) → Buf (Elt Ideal) ℓ) (g' : Dev Cert.RefFinalIdeal.nD → PrngReg), Pre_FinalIdeal m →
    (∀ c : Dev Cert.FinalIdeal.nD,
      m' ((c.tc : Thread Cert.RefFinalIdeal.nD Cert.RefFinalIdeal.τ).loc Cert.RefFinalIdeal.main_arg0) = m ((c.tc : Thread Cert.FinalIdeal.nD Cert.FinalIdeal.τ).loc Cert.FinalIdeal.main_arg0)
      ∧ m' ((c.tc : Thread Cert.RefFinalIdeal.nD Cert.RefFinalIdeal.τ).loc Cert.RefFinalIdeal.main_arg1) = m ((c.tc : Thread Cert.FinalIdeal.nD Cert.FinalIdeal.τ).loc Cert.FinalIdeal.main_arg1)
      ∧ m' ((c.tc : Thread Cert.RefFinalIdeal.nD Cert.RefFinalIdeal.τ).loc Cert.RefFinalIdeal.main_arg2) = m ((c.tc : Thread Cert.FinalIdeal.nD Cert.FinalIdeal.τ).loc Cert.FinalIdeal.main_arg2)
      ∧ m' ((c.tc : Thread Cert.RefFinalIdeal.nD Cert.RefFinalIdeal.τ).loc Cert.RefFinalIdeal.main_arg3) = m ((c.tc : Thread Cert.FinalIdeal.nD Cert.FinalIdeal.τ).loc Cert.FinalIdeal.main_arg3)
      ∧ m' ((c.tc : Thread Cert.RefFinalIdeal.nD Cert.RefFinalIdeal.τ).loc Cert.RefFinalIdeal.main_arg4) = m ((c.tc : Thread Cert.FinalIdeal.nD Cert.FinalIdeal.τ).loc Cert.FinalIdeal.main_arg4)
      ∧ m' ((c.tc : Thread Cert.RefFinalIdeal.nD Cert.RefFinalIdeal.τ).loc Cert.RefFinalIdeal.main_arg5) = m ((c.tc : Thread Cert.FinalIdeal.nD Cert.FinalIdeal.τ).loc Cert.FinalIdeal.main_arg5)
      ∧ m' ((c.tc : Thread Cert.RefFinalIdeal.nD Cert.RefFinalIdeal.τ).loc Cert.RefFinalIdeal.main_arg6) = m ((c.tc : Thread Cert.FinalIdeal.nD Cert.FinalIdeal.τ).loc Cert.FinalIdeal.main_arg6)) →
    ∃ (v0 : (c : Dev Cert.FinalIdeal.nD) → Buf (Elt Ideal) ((c.tc : Thread Cert.FinalIdeal.nD Cert.FinalIdeal.τ).loc Cert.FinalIdeal.main_v3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ θ_run (Cert.RefFinalIdeal.defs (F := Ideal)) (onTc (τ := Cert.RefFinalIdeal.τ) (Cert.RefFinalIdeal.main (F := Ideal))) ⟨m', fun _ => 0, g'⟩ (fun r => ∀ c : Dev Cert.RefFinalIdeal.nD,
          r.2.mem ((c.tc : Thread Cert.RefFinalIdeal.nD Cert.RefFinalIdeal.τ).loc Cert.RefFinalIdeal.main_v52) = v0 c
          ∧ r.2.mem ((c.tc : Thread Cert.RefFinalIdeal.nD Cert.RefFinalIdeal.τ).loc Cert.RefFinalIdeal.main_arg0) = m' ((c.tc : Thread Cert.RefFinalIdeal.nD Cert.RefFinalIdeal.τ).loc Cert.RefFinalIdeal.main_arg0)
          ∧ r.2.mem ((c.tc : Thread Cert.RefFinalIdeal.nD Cert.RefFinalIdeal.τ).loc Cert.RefFinalIdeal.main_arg1) = m' ((c.tc : Thread Cert.RefFinalIdeal.nD Cert.RefFinalIdeal.τ).loc Cert.RefFinalIdeal.main_arg1)
          ∧ r.2.mem ((c.tc : Thread Cert.RefFinalIdeal.nD Cert.RefFinalIdeal.τ).loc Cert.RefFinalIdeal.main_arg2) = m' ((c.tc : Thread Cert.RefFinalIdeal.nD Cert.RefFinalIdeal.τ).loc Cert.RefFinalIdeal.main_arg2)
          ∧ r.2.mem ((c.tc : Thread Cert.RefFinalIdeal.nD Cert.RefFinalIdeal.τ).loc Cert.RefFinalIdeal.main_arg3) = m' ((c.tc : Thread Cert.RefFinalIdeal.nD Cert.RefFinalIdeal.τ).loc Cert.RefFinalIdeal.main_arg3)
          ∧ r.2.mem ((c.tc : Thread Cert.RefFinalIdeal.nD Cert.RefFinalIdeal.τ).loc Cert.RefFinalIdeal.main_arg4) = m' ((c.tc : Thread Cert.RefFinalIdeal.nD Cert.RefFinalIdeal.τ).loc Cert.RefFinalIdeal.main_arg4)
          ∧ r.2.mem ((c.tc : Thread Cert.RefFinalIdeal.nD Cert.RefFinalIdeal.τ).loc Cert.RefFinalIdeal.main_arg5) = m' ((c.tc : Thread Cert.RefFinalIdeal.nD Cert.RefFinalIdeal.τ).loc Cert.RefFinalIdeal.main_arg5)
          ∧ r.2.mem ((c.tc : Thread Cert.RefFinalIdeal.nD Cert.RefFinalIdeal.τ).loc Cert.RefFinalIdeal.main_arg6) = m' ((c.tc : Thread Cert.RefFinalIdeal.nD Cert.RefFinalIdeal.τ).loc Cert.RefFinalIdeal.main_arg6))

def preserves_Delta_DeltaIdeal : Prop :=
  True

def algebraic_DeltaIdeal_RefDeltaIdeal_pre_all_real [hDeltaIdeal : Cert.DeltaIdeal.Facts] [hRefDeltaIdeal : Cert.RefDeltaIdeal.Facts] [hPre_all_real : Cert.Pre_all_real.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.RefDeltaIdeal.nD Cert.RefDeltaIdeal.τ Cert.RefDeltaIdeal.sig) → Buf (Elt Ideal) ℓ) (g' : Dev Cert.RefDeltaIdeal.nD → PrngReg), Pre_DeltaIdeal_all_real m →
    (∀ c : Dev Cert.DeltaIdeal.nD,
      m' ((c.tc : Thread Cert.RefDeltaIdeal.nD Cert.RefDeltaIdeal.τ).loc Cert.RefDeltaIdeal.main_arg0) = m ((c.tc : Thread Cert.DeltaIdeal.nD Cert.DeltaIdeal.τ).loc Cert.DeltaIdeal.main_arg0)
      ∧ m' ((c.tc : Thread Cert.RefDeltaIdeal.nD Cert.RefDeltaIdeal.τ).loc Cert.RefDeltaIdeal.main_arg1) = m ((c.tc : Thread Cert.DeltaIdeal.nD Cert.DeltaIdeal.τ).loc Cert.DeltaIdeal.main_arg1)
      ∧ m' ((c.tc : Thread Cert.RefDeltaIdeal.nD Cert.RefDeltaIdeal.τ).loc Cert.RefDeltaIdeal.main_arg2) = m ((c.tc : Thread Cert.DeltaIdeal.nD Cert.DeltaIdeal.τ).loc Cert.DeltaIdeal.main_arg2)
      ∧ m' ((c.tc : Thread Cert.RefDeltaIdeal.nD Cert.RefDeltaIdeal.τ).loc Cert.RefDeltaIdeal.main_arg3) = m ((c.tc : Thread Cert.DeltaIdeal.nD Cert.DeltaIdeal.τ).loc Cert.DeltaIdeal.main_arg3)
      ∧ m' ((c.tc : Thread Cert.RefDeltaIdeal.nD Cert.RefDeltaIdeal.τ).loc Cert.RefDeltaIdeal.main_arg4) = m ((c.tc : Thread Cert.DeltaIdeal.nD Cert.DeltaIdeal.τ).loc Cert.DeltaIdeal.main_arg4)
      ∧ m' ((c.tc : Thread Cert.RefDeltaIdeal.nD Cert.RefDeltaIdeal.τ).loc Cert.RefDeltaIdeal.main_arg5) = m ((c.tc : Thread Cert.DeltaIdeal.nD Cert.DeltaIdeal.τ).loc Cert.DeltaIdeal.main_arg5)) →
    ∃ (v0 : (c : Dev Cert.DeltaIdeal.nD) → Buf (Elt Ideal) ((c.tc : Thread Cert.DeltaIdeal.nD Cert.DeltaIdeal.τ).loc Cert.DeltaIdeal.main_v7)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v7) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
          ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
          ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5))
      ∧ θ_run (Cert.RefDeltaIdeal.defs (F := Ideal)) (onTc (τ := Cert.RefDeltaIdeal.τ) (Cert.RefDeltaIdeal.main (F := Ideal))) ⟨m', fun _ => 0, g'⟩ (fun r => ∀ c : Dev Cert.RefDeltaIdeal.nD,
          r.2.mem ((c.tc : Thread Cert.RefDeltaIdeal.nD Cert.RefDeltaIdeal.τ).loc Cert.RefDeltaIdeal.main_v531) = v0 c
          ∧ r.2.mem ((c.tc : Thread Cert.RefDeltaIdeal.nD Cert.RefDeltaIdeal.τ).loc Cert.RefDeltaIdeal.main_arg0) = m' ((c.tc : Thread Cert.RefDeltaIdeal.nD Cert.RefDeltaIdeal.τ).loc Cert.RefDeltaIdeal.main_arg0)
          ∧ r.2.mem ((c.tc : Thread Cert.RefDeltaIdeal.nD Cert.RefDeltaIdeal.τ).loc Cert.RefDeltaIdeal.main_arg1) = m' ((c.tc : Thread Cert.RefDeltaIdeal.nD Cert.RefDeltaIdeal.τ).loc Cert.RefDeltaIdeal.main_arg1)
          ∧ r.2.mem ((c.tc : Thread Cert.RefDeltaIdeal.nD Cert.RefDeltaIdeal.τ).loc Cert.RefDeltaIdeal.main_arg2) = m' ((c.tc : Thread Cert.RefDeltaIdeal.nD Cert.RefDeltaIdeal.τ).loc Cert.RefDeltaIdeal.main_arg2)
          ∧ r.2.mem ((c.tc : Thread Cert.RefDeltaIdeal.nD Cert.RefDeltaIdeal.τ).loc Cert.RefDeltaIdeal.main_arg3) = m' ((c.tc : Thread Cert.RefDeltaIdeal.nD Cert.RefDeltaIdeal.τ).loc Cert.RefDeltaIdeal.main_arg3)
          ∧ r.2.mem ((c.tc : Thread Cert.RefDeltaIdeal.nD Cert.RefDeltaIdeal.τ).loc Cert.RefDeltaIdeal.main_arg4) = m' ((c.tc : Thread Cert.RefDeltaIdeal.nD Cert.RefDeltaIdeal.τ).loc Cert.RefDeltaIdeal.main_arg4)
          ∧ r.2.mem ((c.tc : Thread Cert.RefDeltaIdeal.nD Cert.RefDeltaIdeal.τ).loc Cert.RefDeltaIdeal.main_arg5) = m' ((c.tc : Thread Cert.RefDeltaIdeal.nD Cert.RefDeltaIdeal.τ).loc Cert.RefDeltaIdeal.main_arg5))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)
      ∧ m' ((c.tc : Thread Cert.RefProjIdeal.nD Cert.RefProjIdeal.τ).loc Cert.RefProjIdeal.main_arg3) = m ((c.tc : Thread Cert.ProjIdeal.nD Cert.ProjIdeal.τ).loc Cert.ProjIdeal.main_arg3)
      ∧ m' ((c.tc : Thread Cert.RefProjIdeal.nD Cert.RefProjIdeal.τ).loc Cert.RefProjIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v12) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3)
          ∧ r.2.mem ((c.tc : Thread Cert.RefProjIdeal.nD Cert.RefProjIdeal.τ).loc Cert.RefProjIdeal.main_arg4) = m' ((c.tc : Thread Cert.RefProjIdeal.nD Cert.RefProjIdeal.τ).loc Cert.RefProjIdeal.main_arg4))

def preserves_Mods_ModsIdeal : Prop :=
  True

def algebraic_ModsIdeal_RefModsIdeal [hModsIdeal : Cert.ModsIdeal.Facts] [hRefModsIdeal : Cert.RefModsIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.RefModsIdeal.nD Cert.RefModsIdeal.τ Cert.RefModsIdeal.sig) → Buf (Elt Ideal) ℓ) (g' : Dev Cert.RefModsIdeal.nD → PrngReg), Pre_ModsIdeal m →
    (∀ c : Dev Cert.ModsIdeal.nD,
      m' ((c.tc : Thread Cert.RefModsIdeal.nD Cert.RefModsIdeal.τ).loc Cert.RefModsIdeal.main_arg0) = m ((c.tc : Thread Cert.ModsIdeal.nD Cert.ModsIdeal.τ).loc Cert.ModsIdeal.main_arg0)
      ∧ m' ((c.tc : Thread Cert.RefModsIdeal.nD Cert.RefModsIdeal.τ).loc Cert.RefModsIdeal.main_arg1) = m ((c.tc : Thread Cert.ModsIdeal.nD Cert.ModsIdeal.τ).loc Cert.ModsIdeal.main_arg1)
      ∧ m' ((c.tc : Thread Cert.RefModsIdeal.nD Cert.RefModsIdeal.τ).loc Cert.RefModsIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.RefModsIdeal.defs (F := Ideal)) (onTc (τ := Cert.RefModsIdeal.τ) (Cert.RefModsIdeal.main (F := Ideal))) ⟨m', fun _ => 0, g'⟩ (fun r => ∀ c : Dev Cert.RefModsIdeal.nD,
          r.2.mem ((c.tc : Thread Cert.RefModsIdeal.nD Cert.RefModsIdeal.τ).loc Cert.RefModsIdeal.main_v4) = v0 c
          ∧ r.2.mem ((c.tc : Thread Cert.RefModsIdeal.nD Cert.RefModsIdeal.τ).loc Cert.RefModsIdeal.main_arg0) = m' ((c.tc : Thread Cert.RefModsIdeal.nD Cert.RefModsIdeal.τ).loc Cert.RefModsIdeal.main_arg0)
          ∧ r.2.mem ((c.tc : Thread Cert.RefModsIdeal.nD Cert.RefModsIdeal.τ).loc Cert.RefModsIdeal.main_arg1) = m' ((c.tc : Thread Cert.RefModsIdeal.nD Cert.RefModsIdeal.τ).loc Cert.RefModsIdeal.main_arg1)
          ∧ r.2.mem ((c.tc : Thread Cert.RefModsIdeal.nD Cert.RefModsIdeal.τ).loc Cert.RefModsIdeal.main_arg2) = m' ((c.tc : Thread Cert.RefModsIdeal.nD Cert.RefModsIdeal.τ).loc Cert.RefModsIdeal.main_arg2))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hRefFinalIdeal : Cert.RefFinalIdeal.Facts) (hDelta : Cert.Delta.Facts) (hDeltaIdeal : Cert.DeltaIdeal.Facts) (hRefDeltaIdeal : Cert.RefDeltaIdeal.Facts) (hProj : Cert.Proj.Facts) (hProjIdeal : Cert.ProjIdeal.Facts) (hRefProjIdeal : Cert.RefProjIdeal.Facts) (hMods : Cert.Mods.Facts) (hModsIdeal : Cert.ModsIdeal.Facts) (hRefModsIdeal : Cert.RefModsIdeal.Facts) (hPre_all_real : Cert.Pre_all_real.Facts),
    quiescent_Kernel (hKernel := hKernel)
    ∧ quiescent_KernelIdeal (hKernelIdeal := hKernelIdeal)
    ∧ quiescent_ReferenceIdeal (hReferenceIdeal := hReferenceIdeal)
    ∧ quiescent_Final (hFinal := hFinal)
    ∧ quiescent_FinalIdeal (hFinalIdeal := hFinalIdeal)
    ∧ quiescent_RefFinalIdeal (hRefFinalIdeal := hRefFinalIdeal)
    ∧ quiescent_Delta (hDelta := hDelta)
    ∧ quiescent_DeltaIdeal (hDeltaIdeal := hDeltaIdeal)
    ∧ quiescent_DeltaIdeal_pre_all_real (hDeltaIdeal := hDeltaIdeal) (hPre_all_real := hPre_all_real)
    ∧ quiescent_RefDeltaIdeal (hRefDeltaIdeal := hRefDeltaIdeal)
    ∧ quiescent_RefDeltaIdeal_pre_all_real (hRefDeltaIdeal := hRefDeltaIdeal) (hPre_all_real := hPre_all_real)
    ∧ quiescent_Proj (hProj := hProj)
    ∧ quiescent_ProjIdeal (hProjIdeal := hProjIdeal)
    ∧ quiescent_RefProjIdeal (hRefProjIdeal := hRefProjIdeal)
    ∧ quiescent_Mods (hMods := hMods)
    ∧ quiescent_ModsIdeal (hModsIdeal := hModsIdeal)
    ∧ quiescent_RefModsIdeal (hRefModsIdeal := hRefModsIdeal)
    ∧ preserves_Kernel_KernelIdeal
    ∧ algebraic_KernelIdeal_ReferenceIdeal (hKernelIdeal := hKernelIdeal) (hReferenceIdeal := hReferenceIdeal)
    ∧ preserves_Final_FinalIdeal
    ∧ algebraic_FinalIdeal_RefFinalIdeal (hFinalIdeal := hFinalIdeal) (hRefFinalIdeal := hRefFinalIdeal)
    ∧ preserves_Delta_DeltaIdeal
    ∧ algebraic_DeltaIdeal_RefDeltaIdeal_pre_all_real (hDeltaIdeal := hDeltaIdeal) (hRefDeltaIdeal := hRefDeltaIdeal) (hPre_all_real := hPre_all_real)
    ∧ preserves_Proj_ProjIdeal
    ∧ algebraic_ProjIdeal_RefProjIdeal (hProjIdeal := hProjIdeal) (hRefProjIdeal := hRefProjIdeal)
    ∧ preserves_Mods_ModsIdeal
    ∧ algebraic_ModsIdeal_RefModsIdeal (hModsIdeal := hModsIdeal) (hRefModsIdeal := hRefModsIdeal)
-- ==== Pre_all_real.lean ====
abbrev S4x4096x4096 : Shape := ⟨3, ![4, 4096, 4096]⟩
abbrev S4x4096x128 : Shape := ⟨3, ![4, 4096, 128]⟩
abbrev S4x3072 : Shape := ⟨2, ![4, 3072]⟩
abbrev S8 : Shape := ⟨1, ![8]⟩
abbrev S128 : Shape := ⟨1, ![128]⟩
abbrev S4x1x3072 : Shape := ⟨3, ![4, 1, 3072]⟩
abbrev S4x4096x3072 : Shape := ⟨3, ![4, 4096, 3072]⟩
abbrev S4x4096x8 : Shape := ⟨3, ![4, 4096, 8]⟩
abbrev S4x4096x7312 : Shape := ⟨3, ![4, 4096, 7312]⟩
abbrev S_ : Shape := ⟨0, ![]⟩

class Facts : Prop where
  bcast_S4x3072_S4x1x3072_0_2 : S4x3072.BroadcastsInDim S4x1x3072 (![0, 2] : Fin 2 → Fin S4x1x3072.rank)
  bcast_S4x1x3072_S4x4096x3072_0_1_2 : S4x1x3072.BroadcastsInDim S4x4096x3072 (![0, 1, 2] : Fin 3 → Fin S4x4096x3072.rank)
  bcast_S8_S4x4096x8_2 : S8.BroadcastsInDim S4x4096x8 (![2] : Fin 1 → Fin S4x4096x8.rank)
  concatenates_S4x4096x4096_S4x4096x128_S4x4096x3072_S4x4096x8_S4x4096x8_S4x4096x7312_d2 : Shape.Concatenates [S4x4096x4096, S4x4096x128, S4x4096x3072, S4x4096x8, S4x4096x8] S4x4096x7312 2
  bcast_S_S4x4096x7312 : S_.BroadcastsInDim S4x4096x7312 (![] : Fin 0 → Fin S4x4096x7312.rank)

variable [Facts]

def fn {F : FTy → Type} [FloatOps F] (main_arg0 : FVec F S4x4096x4096 .f32) (main_arg1 : FVec F S4x4096x128 .f32) (main_arg2 : FVec F S4x3072 .f32) (main_arg3 : FVec F S8 .f32) (main_arg4 : FVec F S8 .f32) (main_arg5 : FVec F S128 .f32) : IVec S4x4096x7312 1 :=
  let main_v0 : FVec F S4x1x3072 .f32 := broadcastInDim S4x1x3072 ![0, 2] bcast_S4x3072_S4x1x3072_0_2 main_arg2
  let main_v1 : FVec F S4x4096x3072 .f32 := broadcastInDim S4x4096x3072 ![0, 1, 2] bcast_S4x1x3072_S4x4096x3072_0_1_2 main_v0
  let main_v2 : FVec F S4x4096x8 .f32 := broadcastInDim S4x4096x8 ![2] bcast_S8_S4x4096x8_2 main_arg3
  let main_v3 : FVec F S4x4096x8 .f32 := broadcastInDim S4x4096x8 ![2] bcast_S8_S4x4096x8_2 main_arg4
  let main_v4 : FVec F S4x4096x7312 .f32 := concatenate S4x4096x7312 2 [⟨S4x4096x4096, main_arg0⟩, ⟨S4x4096x128, main_arg1⟩, ⟨S4x4096x3072, main_v1⟩, ⟨S4x4096x8, main_v2⟩, ⟨S4x4096x8, main_v3⟩] concatenates_S4x4096x4096_S4x4096x128_S4x4096x3072_S4x4096x8_S4x4096x8_S4x4096x7312_d2
  let main_v5 : FVec F S4x4096x7312 .f32 := subf main_v4 main_v4
  let main_cst : FVec F S_ .f32 := constant S_ .f32 0x00000000#32
  let main_v6 : FVec F S4x4096x7312 .f32 := broadcastInDim S4x4096x7312 ![] bcast_S_S4x4096x7312 main_cst
  let main_v7 : IVec S4x4096x7312 1 := cmpf .oeq main_v5 main_v6
  main_v7
-- ==== Kernel.lean ====
abbrev S16384x2048 : Shape := ⟨2, ![16384, 2048]⟩
abbrev S4x9x2048 : Shape := ⟨3, ![4, 9, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S1x9x2048 : Shape := ⟨3, ![1, 9, 2048]⟩
abbrev S2048x512 : Shape := ⟨2, ![2048, 512]⟩
abbrev S512x2048 : Shape := ⟨2, ![512, 2048]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩
abbrev S1024x512 : Shape := ⟨2, ![1024, 512]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S4x9x2048, .f32⟩
  | .hbm, ⟨2, _⟩ => ⟨S1x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_23 : BitVec 32 := 0#32
  let c32_i32 : BitVec 32 := 32#32
  let v32 : BitVec 32 := Scalar.addi c0_i32_23 c32_i32
  let c1_i32 : BitVec 32 := 1#32
  ⟨c0_i32_23, v32, c1_i32⟩
def k0_mult1 (k0_t1 : Fin k0_t1_loop.trips) : BitVec 32 :=
  let c0_i32_23 : BitVec 32 := 0#32
  let c1_i32 : BitVec 32 := 1#32
  let arg10 : BitVec 32 := Scf.iv c0_i32_23 c1_i32 k0_t1
  let c32_i32_25 : BitVec 32 := 32#32
  let v33 : BitVec 32 := Scalar.muli arg10 c32_i32_25
  v33
def k0_off1 (k0_t1 : Fin k0_t1_loop.trips) : Fin 2 → Nat :=
  let c0_i32_23 : BitVec 32 := 0#32
  let c1_i32 : BitVec 32 := 1#32
  let arg10 : BitVec 32 := Scf.iv c0_i32_23 c1_i32 k0_t1
  let c32_i32_25 : BitVec 32 := 32#32
  let v33 : BitVec 32 := Scalar.muli arg10 c32_i32_25
  let v34 : BitVec 32 := v33
  let v35 : Index := Scalar.indexCast v34
  let c0_26 : Index := 0#32
  ![v35.toNat, 0]
def k0_cond2 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_14 : BitVec 32 := 0#32
  let v23 : BitVec 1 := Scalar.cmpi .ne v22 c0_i32_14
  v23

@[reducible] def k0_t2_loop : Scf.Loop 32 :=
  let c0_i32_17 : BitVec 32 := 0#32
  let c32_i32 : BitVec 32 := 32#32
  let v26 : BitVec 32 := Scalar.addi c0_i32_17 c32_i32
  let c1_i32 : BitVec 32 := 1#32
  ⟨c0_i32_17, v26, c1_i32⟩
def k0_mult2 (k0_t2 : Fin k0_t2_loop.trips) : BitVec 32 :=
  let c0_i32_17 : BitVec 32 := 0#32
  let c1_i32 : BitVec 32 := 1#32
  let arg10 : BitVec 32 := Scf.iv c0_i32_17 c1_i32 k0_t2
  let c32_i32_19 : BitVec 32 := 32#32
  let v27 : BitVec 32 := Scalar.muli arg10 c32_i32_19
  v27
def k0_off2 (k0_t2 : Fin k0_t2_loop.trips) : Fin 2 → Nat :=
  let c0_i32_17 : BitVec 32 := 0#32
  let c1_i32 : BitVec 32 := 1#32
  let arg10 : BitVec 32 := Scf.iv c0_i32_17 c1_i32 k0_t2
  let c32_i32_19 : BitVec 32 := 32#32
  let v27 : BitVec 32 := Scalar.muli arg10 c32_i32_19
  let v28 : BitVec 32 := v27
  let v29 : Index := Scalar.indexCast v28
  let c0_20 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x2048 : Shape := ⟨2, ![16384, 2048]⟩
abbrev S4x9x2048 : Shape := ⟨3, ![4, 9, 2048]⟩
abbrev S1x2048 : Shape := ⟨2, ![1, 2048]⟩
abbrev S2048x5632 : Shape := ⟨2, ![2048, 5632]⟩
abbrev S5632x2048 : Shape := ⟨2, ![5632, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x2048 : Shape := ⟨2, ![4, 2048]⟩
abbrev S4x4096x5632 : Shape := ⟨3, ![4, 4096, 5632]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x9x2048, .f32⟩
  | .hbm, ⟨2, _⟩ => ⟨S1x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S4x4096x2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x1x2048, .f32⟩
  | .hbm, ⟨24, _⟩ => ⟨S4x2048, .f32⟩
  | .hbm, ⟨25, _⟩ => ⟨S4x1x2048, .f32⟩
  | .hbm, ⟨26, _⟩ => ⟨S4x2048, .f32⟩
  | .hbm, ⟨27, _⟩ => ⟨S4x1x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x1x2048, .f32⟩
  | .hbm, ⟨37, _⟩ => ⟨S4x2048, .f32⟩
  | .hbm, ⟨38, _⟩ => ⟨S4x1x2048, .f32⟩
  | .hbm, ⟨39, _⟩ => ⟨S_, .f32⟩
  | .hbm, ⟨40, _⟩ => ⟨S4x1x2048, .f32⟩
  | .hbm, ⟨41, _⟩ => ⟨S4x1x2048, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S_, .f32⟩
  | .hbm, ⟨46, _⟩ => ⟨S4x4096x5632, .f32⟩
  | .hbm, ⟨47, _⟩ => ⟨S4x4096x5632, .f32⟩
  | .hbm, ⟨48, _⟩ => ⟨S_, .f32⟩
  | .hbm, ⟨49, _⟩ => ⟨S4x4096x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Final.lean ====
abbrev S16384x2048 : Shape := ⟨2, ![16384, 2048]⟩
abbrev S4x9x2048 : Shape := ⟨3, ![4, 9, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S1x9x2048 : Shape := ⟨3, ![1, 9, 2048]⟩
abbrev S2048x512 : Shape := ⟨2, ![2048, 512]⟩
abbrev S512x2048 : Shape := ⟨2, ![512, 2048]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩
abbrev S1024x512 : Shape := ⟨2, ![1024, 512]⟩
abbrev S64x2048 : Shape := ⟨2, ![64, 2048]⟩
abbrev S64 : Shape := ⟨1, ![64]⟩
abbrev S64x1 : Shape := ⟨2, ![64, 1]⟩

abbrev nBuf : Space → Nat
  | .hbm => 11
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S4x9x2048, .f32⟩
  | .hbm, ⟨2, _⟩ => ⟨S1x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_22 : BitVec 32 := 0#32
  let c32_i32 : BitVec 32 := 32#32
  let v32 : BitVec 32 := Scalar.addi c0_i32_22 c32_i32
  let c1_i32 : BitVec 32 := 1#32
  ⟨c0_i32_22, v32, c1_i32⟩
def k0_mult1 (k0_t1 : Fin k0_t1_loop.trips) : BitVec 32 :=
  let c0_i32_22 : BitVec 32 := 0#32
  let c1_i32 : BitVec 32 := 1#32
  let arg11 : BitVec 32 := Scf.iv c0_i32_22 c1_i32 k0_t1
  let c32_i32_24 : BitVec 32 := 32#32
  let v33 : BitVec 32 := Scalar.muli arg11 c32_i32_24
  v33
def k0_off1 (k0_t1 : Fin k0_t1_loop.trips) : Fin 2 → Nat :=
  let c0_i32_22 : BitVec 32 := 0#32
  let c1_i32 : BitVec 32 := 1#32
  let arg11 : BitVec 32 := Scf.iv c0_i32_22 c1_i32 k0_t1
  let c32_i32_24 : BitVec 32 := 32#32
  let v33 : BitVec 32 := Scalar.muli arg11 c32_i32_24
  let v34 : BitVec 32 := v33
  let v35 : Index := Scalar.indexCast v34
  let c0_25 : Index := 0#32
  ![v35.toNat, 0]
def k0_cond2 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_14 : BitVec 32 := 0#32
  let v23 : BitVec 1 := Scalar.cmpi .ne v22 c0_i32_14
  v23

@[reducible] def k0_t2_loop : Scf.Loop 32 :=
  let c0_i32_17 : BitVec 32 := 0#32
  let c16_i32 : BitVec 32 := 16#32
  let v26 : BitVec 32 := Scalar.addi c0_i32_17 c16_i32
  let c1_i32 : BitVec 32 := 1#32
  ⟨c0_i32_17, v26, c1_i32⟩
def k0_mult2 (k0_t2 : Fin k0_t2_loop.trips) : BitVec 32 :=
  let c0_i32_17 : BitVec 32 := 0#32
  let c1_i32 : BitVec 32 := 1#32
  let arg11 : BitVec 32 := Scf.iv c0_i32_17 c1_i32 k0_t2
  let c64_i32 : BitVec 32 := 64#32
  let v27 : BitVec 32 := Scalar.muli arg11 c64_i32
  v27
def k0_off2 (k0_t2 : Fin k0_t2_loop.trips) : Fin 2 → Nat :=
  let c0_i32_17 : BitVec 32 := 0#32
  let c1_i32 : BitVec 32 := 1#32
  let arg11 : BitVec 32 := Scf.iv c0_i32_17 c1_i32 k0_t2
  let c64_i32 : BitVec 32 := 64#32
  let v27 : BitVec 32 := Scalar.muli arg11 c64_i32
  let v28 : BitVec 32 := v27
  let v29 : Index := Scalar.indexCast v28
  let c0_19 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RefFinalIdeal.lean ====
abbrev S16384x2048 : Shape := ⟨2, ![16384, 2048]⟩
abbrev S4x9x2048 : Shape := ⟨3, ![4, 9, 2048]⟩
abbrev S1x2048 : Shape := ⟨2, ![1, 2048]⟩
abbrev S2048x5632 : Shape := ⟨2, ![2048, 5632]⟩
abbrev S5632x2048 : Shape := ⟨2, ![5632, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x2048 : Shape := ⟨2, ![4, 2048]⟩
abbrev S4x4096x5632 : Shape := ⟨3, ![4, 4096, 5632]⟩

abbrev nBuf : Space → Nat
  | .hbm => 76
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x9x2048, .f32⟩
  | .hbm, ⟨2, _⟩ => ⟨S1x2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S1x2048, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x1x2048, .f32⟩
  | .hbm, ⟨25, _⟩ => ⟨S4x2048, .f32⟩
  | .hbm, ⟨26, _⟩ => ⟨S4x1x2048, .f32⟩
  | .hbm, ⟨27, _⟩ => ⟨S4x2048, .f32⟩
  | .hbm, ⟨28, _⟩ => ⟨S4x1x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x1x2048, .f32⟩
  | .hbm, ⟨35, _⟩ => ⟨S4x4096x2048, .f32⟩
  | .hbm, ⟨36, _⟩ => ⟨S4x4096x2048, .f32⟩
  | .hbm, ⟨37, _⟩ => ⟨S4x1x2048, .f32⟩
  | .hbm, ⟨38, _⟩ => ⟨S4x2048, .f32⟩
  | .hbm, ⟨39, _⟩ => ⟨S4x1x2048, .f32⟩
  | .hbm, ⟨40, _⟩ => ⟨S_, .f32⟩
  | .hbm, ⟨41, _⟩ => ⟨S4x1x2048, .f32⟩
  | .hbm, ⟨42, _⟩ => ⟨S4x1x2048, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S_, .f32⟩
  | .hbm, ⟨47, _⟩ => ⟨S4x4096x5632, .f32⟩
  | .hbm, ⟨48, _⟩ => ⟨S4x4096x5632, .f32⟩
  | .hbm, ⟨49, _⟩ => ⟨S_, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S4x4096x5632, .f32⟩
  | .hbm, ⟨54, _⟩ => ⟨S4x4096x5632, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1, .f32⟩
  | .hbm, ⟨70, _⟩ => ⟨S4x4096x2048, .f32⟩
  | .hbm, ⟨71, _⟩ => ⟨S4x4096x2048, .f32⟩
  | .hbm, ⟨72, _⟩ => ⟨S1x1x2048, .f32⟩
  | .hbm, ⟨73, _⟩ => ⟨S4x4096x2048, .f32⟩
  | .hbm, ⟨74, _⟩ => ⟨S4x4096x2048, .f32⟩
  | .hbm, ⟨75, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== Delta.lean ====
abbrev S4x4096x4096 : Shape := ⟨3, ![4, 4096, 4096]⟩
abbrev S4x4096x128 : Shape := ⟨3, ![4, 4096, 128]⟩
abbrev S4x3072 : Shape := ⟨2, ![4, 3072]⟩
abbrev S8 : Shape := ⟨1, ![8]⟩
abbrev S128 : Shape := ⟨1, ![128]⟩
abbrev S_ : Shape := ⟨0, ![]⟩
abbrev S16 : Shape := ⟨1, ![16]⟩
abbrev S16x1 : Shape := ⟨2, ![16, 1]⟩
abbrev S16x2 : Shape := ⟨2, ![16, 2]⟩
abbrev S1x128 : Shape := ⟨2, ![1, 128]⟩
abbrev S4x4096x1024 : Shape := ⟨3, ![4, 4096, 1024]⟩
abbrev S1x256x1024 : Shape := ⟨3, ![1, 256, 1024]⟩
abbrev S1x256x128 : Shape := ⟨3, ![1, 256, 128]⟩
abbrev S8x3072 : Shape := ⟨2, ![8, 3072]⟩
abbrev S256x3072 : Shape := ⟨2, ![256, 3072]⟩
abbrev S256x128 : Shape := ⟨2, ![256, 128]⟩
abbrev S2x16x128 : Shape := ⟨3, ![2, 16, 128]⟩
abbrev S8x128x128 : Shape := ⟨3, ![8, 128, 128]⟩
abbrev S128x128 : Shape := ⟨2, ![128, 128]⟩
abbrev S1x128x128 : Shape := ⟨3, ![1, 128, 128]⟩
abbrev S16x128 : Shape := ⟨2, ![16, 128]⟩
abbrev S112x128 : Shape := ⟨2, ![112, 128]⟩
abbrev S1x16x128 : Shape := ⟨3, ![1, 16, 128]⟩
abbrev S8x128 : Shape := ⟨2, ![8, 128]⟩
abbrev S264x128 : Shape := ⟨2, ![264, 128]⟩
abbrev S256 : Shape := ⟨1, ![256]⟩
abbrev S256x1 : Shape := ⟨2, ![256, 1]⟩
abbrev S1x8x1024 : Shape := ⟨3, ![1, 8, 1024]⟩
abbrev S8x1024 : Shape := ⟨2, ![8, 1024]⟩
abbrev S128x1 : Shape := ⟨2, ![128, 1]⟩
abbrev S128x256 : Shape := ⟨2, ![128, 256]⟩
abbrev S64x128 : Shape := ⟨2, ![64, 128]⟩
abbrev S1x1 : Shape := ⟨2, ![1, 1]⟩
abbrev S64x1 : Shape := ⟨2, ![64, 1]⟩
abbrev S64 : Shape := ⟨1, ![64]⟩
abbrev S1x64x128 : Shape := ⟨3, ![1, 64, 128]⟩

abbrev nBuf : Space → Nat
  | .hbm => 15
  | .vmem => 28
  | .smem => 0
  | _ => 0

abbrev bufTy : (tb : Table) → Fin (tcTables nBuf tb) → BufTy
  | .hbm, ⟨0, _⟩ => ⟨S4x4096x4096, .f32⟩
  | .hbm, ⟨1, _⟩ => ⟨S4x4096x128, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S_, .f32⟩
  | .hbm, ⟨7, _⟩ => ⟨S8, .f32⟩
  | .hbm, ⟨8, _⟩ => ⟨S16, .f32⟩
  | .hbm, ⟨9, _⟩ => ⟨S16, .f32⟩
  | .hbm, ⟨10, _⟩ => ⟨S16x1, .f32⟩
  | .hbm, ⟨11, _⟩ => ⟨S16x1, .f32⟩
  | .hbm, ⟨12, _⟩ => ⟨S16x2, .f32⟩
  | .hbm, ⟨13, _⟩ => ⟨S1x128, .f32⟩
  | .hbm, ⟨14, _⟩ => ⟨S4x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x128, .f32⟩
  | .local _ .vmem, ⟨7, _⟩ => ⟨S1x256x128, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x128, .f32⟩
  | .local _ .vmem, ⟨15, _⟩ => ⟨S1x256x128, .f32⟩
  | .local _ .vmem, ⟨16, _⟩ => ⟨S1x256x1024, .f32⟩
  | .local _ .vmem, ⟨17, _⟩ => ⟨S1x256x1024, .f32⟩
  | .local _ .vmem, ⟨18, _⟩ => ⟨S4x3072, .f32⟩
  | .local _ .vmem, ⟨19, _⟩ => ⟨S16x2, .f32⟩
  | .local _ .vmem, ⟨20, _⟩ => ⟨S1x128, .f32⟩
  | .local _ .vmem, ⟨21, _⟩ => ⟨S1x256x1024, .bf16⟩
  | .local _ .vmem, ⟨22, _⟩ => ⟨S1x256x1024, .bf16⟩
  | .local _ .vmem, ⟨23, _⟩ => ⟨S8x3072, .f32⟩
  | .local _ .vmem, ⟨24, _⟩ => ⟨S256x3072, .f32⟩
  | .local _ .vmem, ⟨25, _⟩ => ⟨S256x128, .f32⟩
  | .local _ .vmem, ⟨26, _⟩ => ⟨S2x16x128, .f32⟩
  | .local _ .vmem, ⟨27, _⟩ => ⟨S8x128x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c1_i32_0 : BitVec 32 := 1#32
  let c0_i32 : BitVec 32 := 0#32
  ![arg0.toNat, v1.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c2_i32 : BitVec 32 := 2#32
  let c0_i32 : BitVec 32 := 0#32
  ![arg0.toNat, v1.toNat, c2_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RefDeltaIdeal.lean ====
abbrev S4x4096x4096 : Shape := ⟨3, ![4, 4096, 4096]⟩
abbrev S4x4096x128 : Shape := ⟨3, ![4, 4096, 128]⟩
abbrev S4x3072 : Shape := ⟨2, ![4, 3072]⟩
abbrev S8 : Shape := ⟨1, ![8]⟩
abbrev S128 : Shape := ⟨1, ![128]⟩
abbrev S4x4096x3072 : Shape := ⟨3, ![4, 4096, 3072]⟩
abbrev S4x4096x8 : Shape := ⟨3, ![4, 4096, 8]⟩
abbrev S_ : Shape := ⟨0, ![]⟩
abbrev S4x4099x3072 : Shape := ⟨3, ![4, 4099, 3072]⟩
abbrev S1x3072 : Shape := ⟨2, ![1, 3072]⟩
abbrev S3072 : Shape := ⟨1, ![3072]⟩
abbrev S1x1x3072 : Shape := ⟨3, ![1, 1, 3072]⟩
abbrev S4x4096x1024 : Shape := ⟨3, ![4, 4096, 1024]⟩
abbrev S4x64x64x8x128 : Shape := ⟨5, ![4, 64, 64, 8, 128]⟩
abbrev S4x8x64x64x128 : Shape := ⟨5, ![4, 8, 64, 64, 128]⟩
abbrev S4x8x64x64 : Shape := ⟨4, ![4, 8, 64, 64]⟩
abbrev S4x8x64x64x1 : Shape := ⟨5, ![4, 8, 64, 64, 1]⟩
abbrev S4x64x64x8 : Shape := ⟨4, ![4, 64, 64, 8]⟩
abbrev S1x1x8 : Shape := ⟨3, ![1, 1, 8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x8x64x1x64 : Shape := ⟨5, ![4, 8, 64, 1, 64]⟩
abbrev S4x8x64x64x64 : Shape := ⟨5, ![4, 8, 64, 64, 64]⟩
abbrev S4x8x64x64x256 : Shape := ⟨5, ![4, 8, 64, 64, 256]⟩
abbrev S64x4x8x64x128 : Shape := ⟨5, ![64, 4, 8, 64, 128]⟩
abbrev S64x4x8x64x64 : Shape := ⟨5, ![64, 4, 8, 64, 64]⟩
abbrev S64x4x8x64 : Shape := ⟨4, ![64, 4, 8, 64]⟩
abbrev S4x8x128x128 : Shape := ⟨4, ![4, 8, 128, 128]⟩
abbrev S1x4x8x64x128 : Shape := ⟨5, ![1, 4, 8, 64, 128]⟩
abbrev S4x8x64x128 : Shape := ⟨4, ![4, 8, 64, 128]⟩
abbrev S1x4x8x64x64 : Shape := ⟨5, ![1, 4, 8, 64, 64]⟩
abbrev S1x4x8x64 : Shape := ⟨4, ![1, 4, 8, 64]⟩
abbrev S4x8x64 : Shape := ⟨3, ![4, 8, 64]⟩
abbrev S4x8x64x1 : Shape := ⟨4, ![4, 8, 64, 1]⟩
abbrev S4x8x1 : Shape := ⟨3, ![4, 8, 1]⟩
abbrev S4x8 : Shape := ⟨2, ![4, 8]⟩
abbrev S4x8x1x1 : Shape := ⟨4, ![4, 8, 1, 1]⟩
abbrev S4x4096x8x128 : Shape := ⟨4, ![4, 4096, 8, 128]⟩
abbrev S4x4096x8x1 : Shape := ⟨4, ![4, 4096, 8, 1]⟩
abbrev S1x1x1x128 : Shape := ⟨4, ![1, 1, 1, 128]⟩

abbrev nBuf : Space → Nat
  | .hbm => 799
  | .vmem => 0
  | .smem => 0
  | _ => 0

abbrev hbmTy0_0 (i : Nat) : BufTy := match i % 128 with
  | 0 => ⟨S4x4096x4096, .f32⟩
  | 1 => ⟨S4x4096x128, .f32⟩
  | 2 => ⟨S4x3072, .f32⟩
  | 3 => ⟨S8, .f32⟩
  | 4 => ⟨S8, .f32⟩
  | 5 => ⟨S128, .f32⟩
  | 6 => ⟨S4x4096x3072, .f32⟩
  | 7 => ⟨S4x4096x8, .f32⟩
  | 8 => ⟨S4x4096x8, .f32⟩
  | 9 => ⟨S_, .i32⟩
  | 10 => ⟨S_, .f32⟩
  | 11 => ⟨S4x4099x3072, .f32⟩
  | 12 => ⟨S4x4096x3072, .f32⟩
  | 13 => ⟨S1x3072, .f32⟩
  | 14 => ⟨S3072, .f32⟩
  | 15 => ⟨S1x1x3072, .f32⟩
  | 16 => ⟨S4x4096x3072, .f32⟩
  | 17 => ⟨S4x4096x3072, .f32⟩
  | 18 => ⟨S_, .f32⟩
  | 19 => ⟨S4x4096x3072, .f32⟩
  | 20 => ⟨S4x4096x3072, .f32⟩
  | 21 => ⟨S4x4096x3072, .f32⟩
  | 22 => ⟨S1x3072, .f32⟩
  | 23 => ⟨S3072, .f32⟩
  | 24 => ⟨S1x1x3072, .f32⟩
  | 25 => ⟨S4x4096x3072, .f32⟩
  | 26 => ⟨S4x4096x3072, .f32⟩
  | 27 => ⟨S4x4096x3072, .f32⟩
  | 28 => ⟨S4x4096x3072, .f32⟩
  | 29 => ⟨S1x3072, .f32⟩
  | 30 => ⟨S3072, .f32⟩
  | 31 => ⟨S1x1x3072, .f32⟩
  | 32 => ⟨S4x4096x3072, .f32⟩
  | 33 => ⟨S4x4096x3072, .f32⟩
  | 34 => ⟨S4x4096x3072, .f32⟩
  | 35 => ⟨S4x4096x3072, .f32⟩
  | 36 => ⟨S1x3072, .f32⟩
  | 37 => ⟨S3072, .f32⟩
  | 38 => ⟨S1x1x3072, .f32⟩
  | 39 => ⟨S4x4096x3072, .f32⟩
  | 40 => ⟨S4x4096x3072, .f32⟩
  | 41 => ⟨S4x4096x3072, .f32⟩
  | 42 => ⟨S4x4096x3072, .f32⟩
  | 43 => ⟨S4x4096x3072, .f32⟩
  | 44 => ⟨S_, .f32⟩
  | 45 => ⟨S4x4096x3072, .f32⟩
  | 46 => ⟨S4x4096x3072, .f32⟩
  | 47 => ⟨S_, .f32⟩
  | 48 => ⟨S4x4096x3072, .f32⟩
  | 49 => ⟨S4x4096x3072, .f32⟩
  | 50 => ⟨S4x4096x3072, .f32⟩
  | 51 => ⟨S4x4096x1024, .f32⟩
  | 52 => ⟨S4x4096x1024, .f32⟩
  | 53 => ⟨S4x4096x1024, .f32⟩
  | 54 => ⟨S4x64x64x8x128, .f32⟩
  | 55 => ⟨S4x8x64x64x128, .f32⟩
  | 56 => ⟨S4x8x64x64x128, .f32⟩
  | 57 => ⟨S_, .f32⟩
  | 58 => ⟨S4x8x64x64, .f32⟩
  | 59 => ⟨S4x8x64x64x1, .f32⟩
  | 60 => ⟨S_, .f32⟩
  | 61 => ⟨S4x8x64x64x1, .f32⟩
  | 62 => ⟨S4x8x64x64x1, .f32⟩
  | 63 => ⟨S4x8x64x64x1, .f32⟩
  | 64 => ⟨S4x8x64x64x128, .f32⟩
  | 65 => ⟨S4x8x64x64x128, .f32⟩
  | 66 => ⟨S_, .f32⟩
  | 67 => ⟨S4x8x64x64x128, .f32⟩
  | 68 => ⟨S4x8x64x64x128, .f32⟩
  | 69 => ⟨S4x64x64x8x128, .f32⟩
  | 70 => ⟨S4x8x64x64x128, .f32⟩
  | 71 => ⟨S4x8x64x64x128, .f32⟩
  | 72 => ⟨S_, .f32⟩
  | 73 => ⟨S4x8x64x64, .f32⟩
  | 74 => ⟨S4x8x64x64x1, .f32⟩
  | 75 => ⟨S_, .f32⟩
  | 76 => ⟨S4x8x64x64x1, .f32⟩
  | 77 => ⟨S4x8x64x64x1, .f32⟩
  | 78 => ⟨S4x8x64x64x1, .f32⟩
  | 79 => ⟨S4x8x64x64x128, .f32⟩
  | 80 => ⟨S4x8x64x64x128, .f32⟩
  | 81 => ⟨S4x64x64x8x128, .f32⟩
  | 82 => ⟨S4x8x64x64x128, .f32⟩
  | 83 => ⟨S4x4096x8, .f32⟩
  | 84 => ⟨S4x4096x8, .f32⟩
  | 85 => ⟨S_, .f32⟩
  | 86 => ⟨S4x4096x8, .f32⟩
  | 87 => ⟨S4x4096x8, .f32⟩
  | 88 => ⟨S_, .f32⟩
  | 89 => ⟨S4x4096x8, .f32⟩
  | 90 => ⟨S4x4096x8, .f32⟩
  | 91 => ⟨S4x64x64x8, .f32⟩
  | 92 => ⟨S4x8x64x64, .f32⟩
  | 93 => ⟨S8, .f32⟩
  | 94 => ⟨S8, .f32⟩
  | 95 => ⟨S1x1x8, .f32⟩
  | 96 => ⟨S4x4096x8, .f32⟩
  | 97 => ⟨S4x4096x8, .f32⟩
  | 98 => ⟨S_, .f32⟩
  | 99 => ⟨S4x4096x8, .f32⟩
  | 100 => ⟨S4x4096x8, .f32⟩
  | 101 => ⟨S4x4096x8, .f32⟩
  | 102 => ⟨S4x4096x8, .f32⟩
  | 103 => ⟨S4x4096x8, .i1⟩
  | 104 => ⟨S4x4096x8, .f32⟩
  | 105 => ⟨S4x4096x8, .f32⟩
  | 106 => ⟨S4x4096x8, .f32⟩
  | 107 => ⟨S4x4096x8, .f32⟩
  | 108 => ⟨S4x4096x8, .f32⟩
  | 109 => ⟨S4x4096x8, .f32⟩
  | 110 => ⟨S4x4096x8, .f32⟩
  | 111 => ⟨S4x4096x8, .f32⟩
  | 112 => ⟨S1x1x8, .f32⟩
  | 113 => ⟨S4x4096x8, .f32⟩
  | 114 => ⟨S4x4096x8, .f32⟩
  | 115 => ⟨S4x64x64x8, .f32⟩
  | 116 => ⟨S4x8x64x64, .f32⟩
  | 117 => ⟨S_, .f32⟩
  | 118 => ⟨S_, .f32⟩
  | 119 => ⟨S4x8x64x64, .f32⟩
  | 120 => ⟨S64, .i32⟩
  | 121 => ⟨S64x1, .i32⟩
  | 122 => ⟨S1x64, .i32⟩
  | 123 => ⟨S64x64, .i32⟩
  | 124 => ⟨S64x64, .i32⟩
  | 125 => ⟨S64x64, .i1⟩
  | 126 => ⟨S64x1, .i32⟩
  | 127 => ⟨S1x64, .i32⟩
  | _ => ⟨S4x4096x4096, .f32⟩

abbrev hbmTy0_1 (i : Nat) : BufTy := match i % 128 with
  | 0 => ⟨S64x64, .i32⟩
  | 1 => ⟨S64x64, .i32⟩
  | 2 => ⟨S64x64, .i1⟩
  | 3 => ⟨S4x8x64x64x1, .f32⟩
  | 4 => ⟨S4x8x64x1x64, .f32⟩
  | 5 => ⟨S4x8x64x64x64, .f32⟩
  | 6 => ⟨S4x8x64x64x64, .f32⟩
  | 7 => ⟨S4x8x64x64x64, .f32⟩
  | 8 => ⟨S_, .f32⟩
  | 9 => ⟨S_, .f32⟩
  | 10 => ⟨S4x8x64x64x64, .i1⟩
  | 11 => ⟨S4x8x64x64x64, .f32⟩
  | 12 => ⟨S4x8x64x64x64, .f32⟩
  | 13 => ⟨S4x8x64x64x64, .f32⟩
  | 14 => ⟨S4x8x64x64x1, .f32⟩
  | 15 => ⟨S4x8x64x64x128, .f32⟩
  | 16 => ⟨S4x8x64x64x128, .f32⟩
  | 17 => ⟨S4x8x64x64x64, .f32⟩
  | 18 => ⟨S_, .f32⟩
  | 19 => ⟨S_, .f32⟩
  | 20 => ⟨S4x8x64x64x64, .i1⟩
  | 21 => ⟨S4x8x64x64x64, .f32⟩
  | 22 => ⟨S4x8x64x64x64, .f32⟩
  | 23 => ⟨S4x8x64x64x64, .f32⟩
  | 24 => ⟨S4x8x64x64x1, .f32⟩
  | 25 => ⟨S4x8x64x64x128, .f32⟩
  | 26 => ⟨S4x8x64x64x128, .f32⟩
  | 27 => ⟨S4x8x64x64, .f32⟩
  | 28 => ⟨S4x8x64x64x1, .f32⟩
  | 29 => ⟨S4x8x64x64x128, .f32⟩
  | 30 => ⟨S4x8x64x64x128, .f32⟩
  | 31 => ⟨S4x8x64x64x256, .f32⟩
  | 32 => ⟨S_, .f32⟩
  | 33 => ⟨S4x8x64x64x256, .f32⟩
  | 34 => ⟨S_, .i32⟩
  | 35 => ⟨S64, .i32⟩
  | 36 => ⟨S64, .i1⟩
  | 37 => ⟨S64x1, .i1⟩
  | 38 => ⟨S4x8x64x64x256, .f32⟩
  | 39 => ⟨S4x8x64x64x256, .f32⟩
  | 40 => ⟨S4x8x64x64x256, .i1⟩
  | 41 => ⟨S4x8x64x64x256, .f32⟩
  | 42 => ⟨S_, .i32⟩
  | 43 => ⟨S64, .i32⟩
  | 44 => ⟨S64, .i1⟩
  | 45 => ⟨S64x1, .i1⟩
  | 46 => ⟨S4x8x64x64x256, .f32⟩
  | 47 => ⟨S4x8x64x64x256, .f32⟩
  | 48 => ⟨S4x8x64x64x256, .i1⟩
  | 49 => ⟨S4x8x64x64x256, .f32⟩
  | 50 => ⟨S_, .i32⟩
  | 51 => ⟨S64, .i32⟩
  | 52 => ⟨S64, .i1⟩
  | 53 => ⟨S64x1, .i1⟩
  | 54 => ⟨S4x8x64x64x256, .f32⟩
  | 55 => ⟨S4x8x64x64x256, .f32⟩
  | 56 => ⟨S4x8x64x64x256, .i1⟩
  | 57 => ⟨S4x8x64x64x256, .f32⟩
  | 58 => ⟨S_, .i32⟩
  | 59 => ⟨S64, .i32⟩
  | 60 => ⟨S64, .i1⟩
  | 61 => ⟨S64x1, .i1⟩
  | 62 => ⟨S4x8x64x64x256, .f32⟩
  | 63 => ⟨S4x8x64x64x256, .f32⟩
  | 64 => ⟨S4x8x64x64x256, .i1⟩
  | 65 => ⟨S4x8x64x64x256, .f32⟩
  | 66 => ⟨S_, .i32⟩
  | 67 => ⟨S64, .i32⟩
  | 68 => ⟨S64, .i1⟩
  | 69 => ⟨S64x1, .i1⟩
  | 70 => ⟨S4x8x64x64x256, .f32⟩
  | 71 => ⟨S4x8x64x64x256, .f32⟩
  | 72 => ⟨S4x8x64x64x256, .i1⟩
  | 73 => ⟨S4x8x64x64x256, .f32⟩
  | 74 => ⟨S_, .i32⟩
  | 75 => ⟨S64, .i32⟩
  | 76 => ⟨S64, .i1⟩
  | 77 => ⟨S64x1, .i1⟩
  | 78 => ⟨S4x8x64x64x256, .f32⟩
  | 79 => ⟨S4x8x64x64x256, .f32⟩
  | 80 => ⟨S4x8x64x64x256, .i1⟩
  | 81 => ⟨S4x8x64x64x256, .f32⟩
  | 82 => ⟨S_, .i32⟩
  | 83 => ⟨S64, .i32⟩
  | 84 => ⟨S64, .i1⟩
  | 85 => ⟨S64x1, .i1⟩
  | 86 => ⟨S4x8x64x64x256, .f32⟩
  | 87 => ⟨S4x8x64x64x256, .f32⟩
  | 88 => ⟨S4x8x64x64x256, .i1⟩
  | 89 => ⟨S4x8x64x64x256, .f32⟩
  | 90 => ⟨S_, .i32⟩
  | 91 => ⟨S64, .i32⟩
  | 92 => ⟨S64, .i1⟩
  | 93 => ⟨S64x1, .i1⟩
  | 94 => ⟨S4x8x64x64x256, .f32⟩
  | 95 => ⟨S4x8x64x64x256, .f32⟩
  | 96 => ⟨S4x8x64x64x256, .i1⟩
  | 97 => ⟨S4x8x64x64x256, .f32⟩
  | 98 => ⟨S_, .i32⟩
  | 99 => ⟨S64, .i32⟩
  | 100 => ⟨S64, .i1⟩
  | 101 => ⟨S64x1, .i1⟩
  | 102 => ⟨S4x8x64x64x256, .f32⟩
  | 103 => ⟨S4x8x64x64x256, .f32⟩
  | 104 => ⟨S4x8x64x64x256, .i1⟩
  | 105 => ⟨S4x8x64x64x256, .f32⟩
  | 106 => ⟨S_, .i32⟩
  | 107 => ⟨S64, .i32⟩
  | 108 => ⟨S64, .i1⟩
  | 109 => ⟨S64x1, .i1⟩
  | 110 => ⟨S4x8x64x64x256, .f32⟩
  | 111 => ⟨S4x8x64x64x256, .f32⟩
  | 112 => ⟨S4x8x64x64x256, .i1⟩
  | 113 => ⟨S4x8x64x64x256, .f32⟩
  | 114 => ⟨S_, .i32⟩
  | 115 => ⟨S64, .i32⟩
  | 116 => ⟨S64, .i1⟩
  | 117 => ⟨S64x1, .i1⟩
  | 118 => ⟨S4x8x64x64x256, .f32⟩
  | 119 => ⟨S4x8x64x64x256, .f32⟩
  | 120 => ⟨S4x8x64x64x256, .i1⟩
  | 121 => ⟨S4x8x64x64x256, .f32⟩
  | 122 => ⟨S_, .i32⟩
  | 123 => ⟨S64, .i32⟩
  | 124 => ⟨S64, .i1⟩
  | 125 => ⟨S64x1, .i1⟩
  | 126 => ⟨S4x8x64x64x256, .f32⟩
  | 127 => ⟨S4x8x64x64x256, .f32⟩
  | _ => ⟨S4x4096x4096, .f32⟩

abbrev hbmTy0_2 (i : Nat) : BufTy := match i % 128 with
  | 0 => ⟨S4x8x64x64x256, .i1⟩
  | 1 => ⟨S4x8x64x64x256, .f32⟩
  | 2 => ⟨S_, .i32⟩
  | 3 => ⟨S64, .i32⟩
  | 4 => ⟨S64, .i1⟩
  | 5 => ⟨S64x1, .i1⟩
  | 6 => ⟨S4x8x64x64x256, .f32⟩
  | 7 => ⟨S4x8x64x64x256, .f32⟩
  | 8 => ⟨S4x8x64x64x256, .i1⟩
  | 9 => ⟨S4x8x64x64x256, .f32⟩
  | 10 => ⟨S_, .i32⟩
  | 11 => ⟨S64, .i32⟩
  | 12 => ⟨S64, .i1⟩
  | 13 => ⟨S64x1, .i1⟩
  | 14 => ⟨S4x8x64x64x256, .f32⟩
  | 15 => ⟨S4x8x64x64x256, .f32⟩
  | 16 => ⟨S4x8x64x64x256, .i1⟩
  | 17 => ⟨S4x8x64x64x256, .f32⟩
  | 18 => ⟨S_, .i32⟩
  | 19 => ⟨S64, .i32⟩
  | 20 => ⟨S64, .i1⟩
  | 21 => ⟨S64x1, .i1⟩
  | 22 => ⟨S4x8x64x64x256, .f32⟩
  | 23 => ⟨S4x8x64x64x256, .f32⟩
  | 24 => ⟨S4x8x64x64x256, .i1⟩
  | 25 => ⟨S4x8x64x64x256, .f32⟩
  | 26 => ⟨S_, .i32⟩
  | 27 => ⟨S64, .i32⟩
  | 28 => ⟨S64, .i1⟩
  | 29 => ⟨S64x1, .i1⟩
  | 30 => ⟨S4x8x64x64x256, .f32⟩
  | 31 => ⟨S4x8x64x64x256, .f32⟩
  | 32 => ⟨S4x8x64x64x256, .i1⟩
  | 33 => ⟨S4x8x64x64x256, .f32⟩
  | 34 => ⟨S_, .i32⟩
  | 35 => ⟨S64, .i32⟩
  | 36 => ⟨S64, .i1⟩
  | 37 => ⟨S64x1, .i1⟩
  | 38 => ⟨S4x8x64x64x256, .f32⟩
  | 39 => ⟨S4x8x64x64x256, .f32⟩
  | 40 => ⟨S4x8x64x64x256, .i1⟩
  | 41 => ⟨S4x8x64x64x256, .f32⟩
  | 42 => ⟨S_, .i32⟩
  | 43 => ⟨S64, .i32⟩
  | 44 => ⟨S64, .i1⟩
  | 45 => ⟨S64x1, .i1⟩
  | 46 => ⟨S4x8x64x64x256, .f32⟩
  | 47 => ⟨S4x8x64x64x256, .f32⟩
  | 48 => ⟨S4x8x64x64x256, .i1⟩
  | 49 => ⟨S4x8x64x64x256, .f32⟩
  | 50 => ⟨S_, .i32⟩
  | 51 => ⟨S64, .i32⟩
  | 52 => ⟨S64, .i1⟩
  | 53 => ⟨S64x1, .i1⟩
  | 54 => ⟨S4x8x64x64x256, .f32⟩
  | 55 => ⟨S4x8x64x64x256, .f32⟩
  | 56 => ⟨S4x8x64x64x256, .i1⟩
  | 57 => ⟨S4x8x64x64x256, .f32⟩
  | 58 => ⟨S_, .i32⟩
  | 59 => ⟨S64, .i32⟩
  | 60 => ⟨S64, .i1⟩
  | 61 => ⟨S64x1, .i1⟩
  | 62 => ⟨S4x8x64x64x256, .f32⟩
  | 63 => ⟨S4x8x64x64x256, .f32⟩
  | 64 => ⟨S4x8x64x64x256, .i1⟩
  | 65 => ⟨S4x8x64x64x256, .f32⟩
  | 66 => ⟨S_, .i32⟩
  | 67 => ⟨S64, .i32⟩
  | 68 => ⟨S64, .i1⟩
  | 69 => ⟨S64x1, .i1⟩
  | 70 => ⟨S4x8x64x64x256, .f32⟩
  | 71 => ⟨S4x8x64x64x256, .f32⟩
  | 72 => ⟨S4x8x64x64x256, .i1⟩
  | 73 => ⟨S4x8x64x64x256, .f32⟩
  | 74 => ⟨S_, .i32⟩
  | 75 => ⟨S64, .i32⟩
  | 76 => ⟨S64, .i1⟩
  | 77 => ⟨S64x1, .i1⟩
  | 78 => ⟨S4x8x64x64x256, .f32⟩
  | 79 => ⟨S4x8x64x64x256, .f32⟩
  | 80 => ⟨S4x8x64x64x256, .i1⟩
  | 81 => ⟨S4x8x64x64x256, .f32⟩
  | 82 => ⟨S_, .i32⟩
  | 83 => ⟨S64, .i32⟩
  | 84 => ⟨S64, .i1⟩
  | 85 => ⟨S64x1, .i1⟩
  | 86 => ⟨S4x8x64x64x256, .f32⟩
  | 87 => ⟨S4x8x64x64x256, .f32⟩
  | 88 => ⟨S4x8x64x64x256, .i1⟩
  | 89 => ⟨S4x8x64x64x256, .f32⟩
  | 90 => ⟨S_, .i32⟩
  | 91 => ⟨S64, .i32⟩
  | 92 => ⟨S64, .i1⟩
  | 93 => ⟨S64x1, .i1⟩
  | 94 => ⟨S4x8x64x64x256, .f32⟩
  | 95 => ⟨S4x8x64x64x256, .f32⟩
  | 96 => ⟨S4x8x64x64x256, .i1⟩
  | 97 => ⟨S4x8x64x64x256, .f32⟩
  | 98 => ⟨S_, .i32⟩
  | 99 => ⟨S64, .i32⟩
  | 100 => ⟨S64, .i1⟩
  | 101 => ⟨S64x1, .i1⟩
  | 102 => ⟨S4x8x64x64x256, .f32⟩
  | 103 => ⟨S4x8x64x64x256, .f32⟩
  | 104 => ⟨S4x8x64x64x256, .i1⟩
  | 105 => ⟨S4x8x64x64x256, .f32⟩
  | 106 => ⟨S_, .i32⟩
  | 107 => ⟨S64, .i32⟩
  | 108 => ⟨S64, .i1⟩
  | 109 => ⟨S64x1, .i1⟩
  | 110 => ⟨S4x8x64x64x256, .f32⟩
  | 111 => ⟨S4x8x64x64x256, .f32⟩
  | 112 => ⟨S4x8x64x64x256, .i1⟩
  | 113 => ⟨S4x8x64x64x256, .f32⟩
  | 114 => ⟨S_, .i32⟩
  | 115 => ⟨S64, .i32⟩
  | 116 => ⟨S64, .i1⟩
  | 117 => ⟨S64x1, .i1⟩
  | 118 => ⟨S4x8x64x64x256, .f32⟩
  | 119 => ⟨S4x8x64x64x256, .f32⟩
  | 120 => ⟨S4x8x64x64x256, .i1⟩
  | 121 => ⟨S4x8x64x64x256, .f32⟩
  | 122 => ⟨S_, .i32⟩
  | 123 => ⟨S64, .i32⟩
  | 124 => ⟨S64, .i1⟩
  | 125 => ⟨S64x1, .i1⟩
  | 126 => ⟨S4x8x64x64x256, .f32⟩
  | 127 => ⟨S4x8x64x64x256, .f32⟩
  | _ => ⟨S4x4096x4096, .f32⟩

abbrev hbmTy0_3 (i : Nat) : BufTy := match i % 128 with
  | 0 => ⟨S4x8x64x64x256, .i1⟩
  | 1 => ⟨S4x8x64x64x256, .f32⟩
  | 2 => ⟨S_, .i32⟩
  | 3 => ⟨S64, .i32⟩
  | 4 => ⟨S64, .i1⟩
  | 5 => ⟨S64x1, .i1⟩
  | 6 => ⟨S4x8x64x64x256, .f32⟩
  | 7 => ⟨S4x8x64x64x256, .f32⟩
  | 8 => ⟨S4x8x64x64x256, .i1⟩
  | 9 => ⟨S4x8x64x64x256, .f32⟩
  | 10 => ⟨S_, .i32⟩
  | 11 => ⟨S64, .i32⟩
  | 12 => ⟨S64, .i1⟩
  | 13 => ⟨S64x1, .i1⟩
  | 14 => ⟨S4x8x64x64x256, .f32⟩
  | 15 => ⟨S4x8x64x64x256, .f32⟩
  | 16 => ⟨S4x8x64x64x256, .i1⟩
  | 17 => ⟨S4x8x64x64x256, .f32⟩
  | 18 => ⟨S_, .i32⟩
  | 19 => ⟨S64, .i32⟩
  | 20 => ⟨S64, .i1⟩
  | 21 => ⟨S64x1, .i1⟩
  | 22 => ⟨S4x8x64x64x256, .f32⟩
  | 23 => ⟨S4x8x64x64x256, .f32⟩
  | 24 => ⟨S4x8x64x64x256, .i1⟩
  | 25 => ⟨S4x8x64x64x256, .f32⟩
  | 26 => ⟨S_, .i32⟩
  | 27 => ⟨S64, .i32⟩
  | 28 => ⟨S64, .i1⟩
  | 29 => ⟨S64x1, .i1⟩
  | 30 => ⟨S4x8x64x64x256, .f32⟩
  | 31 => ⟨S4x8x64x64x256, .f32⟩
  | 32 => ⟨S4x8x64x64x256, .i1⟩
  | 33 => ⟨S4x8x64x64x256, .f32⟩
  | 34 => ⟨S_, .i32⟩
  | 35 => ⟨S64, .i32⟩
  | 36 => ⟨S64, .i1⟩
  | 37 => ⟨S64x1, .i1⟩
  | 38 => ⟨S4x8x64x64x256, .f32⟩
  | 39 => ⟨S4x8x64x64x256, .f32⟩
  | 40 => ⟨S4x8x64x64x256, .i1⟩
  | 41 => ⟨S4x8x64x64x256, .f32⟩
  | 42 => ⟨S_, .i32⟩
  | 43 => ⟨S64, .i32⟩
  | 44 => ⟨S64, .i1⟩
  | 45 => ⟨S64x1, .i1⟩
  | 46 => ⟨S4x8x64x64x256, .f32⟩
  | 47 => ⟨S4x8x64x64x256, .f32⟩
  | 48 => ⟨S4x8x64x64x256, .i1⟩
  | 49 => ⟨S4x8x64x64x256, .f32⟩
  | 50 => ⟨S_, .i32⟩
  | 51 => ⟨S64, .i32⟩
  | 52 => ⟨S64, .i1⟩
  | 53 => ⟨S64x1, .i1⟩
  | 54 => ⟨S4x8x64x64x256, .f32⟩
  | 55 => ⟨S4x8x64x64x256, .f32⟩
  | 56 => ⟨S4x8x64x64x256, .i1⟩
  | 57 => ⟨S4x8x64x64x256, .f32⟩
  | 58 => ⟨S_, .i32⟩
  | 59 => ⟨S64, .i32⟩
  | 60 => ⟨S64, .i1⟩
  | 61 => ⟨S64x1, .i1⟩
  | 62 => ⟨S4x8x64x64x256, .f32⟩
  | 63 => ⟨S4x8x64x64x256, .f32⟩
  | 64 => ⟨S4x8x64x64x256, .i1⟩
  | 65 => ⟨S4x8x64x64x256, .f32⟩
  | 66 => ⟨S_, .i32⟩
  | 67 => ⟨S64, .i32⟩
  | 68 => ⟨S64, .i1⟩
  | 69 => ⟨S64x1, .i1⟩
  | 70 => ⟨S4x8x64x64x256, .f32⟩
  | 71 => ⟨S4x8x64x64x256, .f32⟩
  | 72 => ⟨S4x8x64x64x256, .i1⟩
  | 73 => ⟨S4x8x64x64x256, .f32⟩
  | 74 => ⟨S_, .i32⟩
  | 75 => ⟨S64, .i32⟩
  | 76 => ⟨S64, .i1⟩
  | 77 => ⟨S64x1, .i1⟩
  | 78 => ⟨S4x8x64x64x256, .f32⟩
  | 79 => ⟨S4x8x64x64x256, .f32⟩
  | 80 => ⟨S4x8x64x64x256, .i1⟩
  | 81 => ⟨S4x8x64x64x256, .f32⟩
  | 82 => ⟨S_, .i32⟩
  | 83 => ⟨S64, .i32⟩
  | 84 => ⟨S64, .i1⟩
  | 85 => ⟨S64x1, .i1⟩
  | 86 => ⟨S4x8x64x64x256, .f32⟩
  | 87 => ⟨S4x8x64x64x256, .f32⟩
  | 88 => ⟨S4x8x64x64x256, .i1⟩
  | 89 => ⟨S4x8x64x64x256, .f32⟩
  | 90 => ⟨S_, .i32⟩
  | 91 => ⟨S64, .i32⟩
  | 92 => ⟨S64, .i1⟩
  | 93 => ⟨S64x1, .i1⟩
  | 94 => ⟨S4x8x64x64x256, .f32⟩
  | 95 => ⟨S4x8x64x64x256, .f32⟩
  | 96 => ⟨S4x8x64x64x256, .i1⟩
  | 97 => ⟨S4x8x64x64x256, .f32⟩
  | 98 => ⟨S_, .i32⟩
  | 99 => ⟨S64, .i32⟩
  | 100 => ⟨S64, .i1⟩
  | 101 => ⟨S64x1, .i1⟩
  | 102 => ⟨S4x8x64x64x256, .f32⟩
  | 103 => ⟨S4x8x64x64x256, .f32⟩
  | 104 => ⟨S4x8x64x64x256, .i1⟩
  | 105 => ⟨S4x8x64x64x256, .f32⟩
  | 106 => ⟨S_, .i32⟩
  | 107 => ⟨S64, .i32⟩
  | 108 => ⟨S64, .i1⟩
  | 109 => ⟨S64x1, .i1⟩
  | 110 => ⟨S4x8x64x64x256, .f32⟩
  | 111 => ⟨S4x8x64x64x256, .f32⟩
  | 112 => ⟨S4x8x64x64x256, .i1⟩
  | 113 => ⟨S4x8x64x64x256, .f32⟩
  | 114 => ⟨S_, .i32⟩
  | 115 => ⟨S64, .i32⟩
  | 116 => ⟨S64, .i1⟩
  | 117 => ⟨S64x1, .i1⟩
  | 118 => ⟨S4x8x64x64x256, .f32⟩
  | 119 => ⟨S4x8x64x64x256, .f32⟩
  | 120 => ⟨S4x8x64x64x256, .i1⟩
  | 121 => ⟨S4x8x64x64x256, .f32⟩
  | 122 => ⟨S_, .i32⟩
  | 123 => ⟨S64, .i32⟩
  | 124 => ⟨S64, .i1⟩
  | 125 => ⟨S64x1, .i1⟩
  | 126 => ⟨S4x8x64x64x256, .f32⟩
  | 127 => ⟨S4x8x64x64x256, .f32⟩
  | _ => ⟨S4x4096x4096, .f32⟩

abbrev hbmTy0_4 (i : Nat) : BufTy := match i % 128 with
  | 0 => ⟨S4x8x64x64x256, .i1⟩
  | 1 => ⟨S4x8x64x64x256, .f32⟩
  | 2 => ⟨S_, .i32⟩
  | 3 => ⟨S64, .i32⟩
  | 4 => ⟨S64, .i1⟩
  | 5 => ⟨S64x1, .i1⟩
  | 6 => ⟨S4x8x64x64x256, .f32⟩
  | 7 => ⟨S4x8x64x64x256, .f32⟩
  | 8 => ⟨S4x8x64x64x256, .i1⟩
  | 9 => ⟨S4x8x64x64x256, .f32⟩
  | 10 => ⟨S_, .i32⟩
  | 11 => ⟨S64, .i32⟩
  | 12 => ⟨S64, .i1⟩
  | 13 => ⟨S64x1, .i1⟩
  | 14 => ⟨S4x8x64x64x256, .f32⟩
  | 15 => ⟨S4x8x64x64x256, .f32⟩
  | 16 => ⟨S4x8x64x64x256, .i1⟩
  | 17 => ⟨S4x8x64x64x256, .f32⟩
  | 18 => ⟨S_, .i32⟩
  | 19 => ⟨S64, .i32⟩
  | 20 => ⟨S64, .i1⟩
  | 21 => ⟨S64x1, .i1⟩
  | 22 => ⟨S4x8x64x64x256, .f32⟩
  | 23 => ⟨S4x8x64x64x256, .f32⟩
  | 24 => ⟨S4x8x64x64x256, .i1⟩
  | 25 => ⟨S4x8x64x64x256, .f32⟩
  | 26 => ⟨S_, .i32⟩
  | 27 => ⟨S64, .i32⟩
  | 28 => ⟨S64, .i1⟩
  | 29 => ⟨S64x1, .i1⟩
  | 30 => ⟨S4x8x64x64x256, .f32⟩
  | 31 => ⟨S4x8x64x64x256, .f32⟩
  | 32 => ⟨S4x8x64x64x256, .i1⟩
  | 33 => ⟨S4x8x64x64x256, .f32⟩
  | 34 => ⟨S_, .i32⟩
  | 35 => ⟨S64, .i32⟩
  | 36 => ⟨S64, .i1⟩
  | 37 => ⟨S64x1, .i1⟩
  | 38 => ⟨S4x8x64x64x256, .f32⟩
  | 39 => ⟨S4x8x64x64x256, .f32⟩
  | 40 => ⟨S4x8x64x64x256, .i1⟩
  | 41 => ⟨S4x8x64x64x256, .f32⟩
  | 42 => ⟨S_, .i32⟩
  | 43 => ⟨S64, .i32⟩
  | 44 => ⟨S64, .i1⟩
  | 45 => ⟨S64x1, .i1⟩
  | 46 => ⟨S4x8x64x64x256, .f32⟩
  | 47 => ⟨S4x8x64x64x256, .f32⟩
  | 48 => ⟨S4x8x64x64x256, .i1⟩
  | 49 => ⟨S4x8x64x64x256, .f32⟩
  | 50 => ⟨S_, .i32⟩
  | 51 => ⟨S64, .i32⟩
  | 52 => ⟨S64, .i1⟩
  | 53 => ⟨S64x1, .i1⟩
  | 54 => ⟨S4x8x64x64x256, .f32⟩
  | 55 => ⟨S4x8x64x64x256, .f32⟩
  | 56 => ⟨S4x8x64x64x256, .i1⟩
  | 57 => ⟨S4x8x64x64x256, .f32⟩
  | 58 => ⟨S_, .i32⟩
  | 59 => ⟨S64, .i32⟩
  | 60 => ⟨S64, .i1⟩
  | 61 => ⟨S64x1, .i1⟩
  | 62 => ⟨S4x8x64x64x256, .f32⟩
  | 63 => ⟨S4x8x64x64x256, .f32⟩
  | 64 => ⟨S4x8x64x64x256, .i1⟩
  | 65 => ⟨S4x8x64x64x256, .f32⟩
  | 66 => ⟨S_, .i32⟩
  | 67 => ⟨S64, .i32⟩
  | 68 => ⟨S64, .i1⟩
  | 69 => ⟨S64x1, .i1⟩
  | 70 => ⟨S4x8x64x64x256, .f32⟩
  | 71 => ⟨S4x8x64x64x256, .f32⟩
  | 72 => ⟨S4x8x64x64x256, .i1⟩
  | 73 => ⟨S4x8x64x64x256, .f32⟩
  | 74 => ⟨S_, .i32⟩
  | 75 => ⟨S64, .i32⟩
  | 76 => ⟨S64, .i1⟩
  | 77 => ⟨S64x1, .i1⟩
  | 78 => ⟨S4x8x64x64x256, .f32⟩
  | 79 => ⟨S4x8x64x64x256, .f32⟩
  | 80 => ⟨S4x8x64x64x256, .i1⟩
  | 81 => ⟨S4x8x64x64x256, .f32⟩
  | 82 => ⟨S_, .i32⟩
  | 83 => ⟨S64, .i32⟩
  | 84 => ⟨S64, .i1⟩
  | 85 => ⟨S64x1, .i1⟩
  | 86 => ⟨S4x8x64x64x256, .f32⟩
  | 87 => ⟨S4x8x64x64x256, .f32⟩
  | 88 => ⟨S4x8x64x64x256, .i1⟩
  | 89 => ⟨S4x8x64x64x256, .f32⟩
  | 90 => ⟨S_, .i32⟩
  | 91 => ⟨S64, .i32⟩
  | 92 => ⟨S64, .i1⟩
  | 93 => ⟨S64x1, .i1⟩
  | 94 => ⟨S4x8x64x64x256, .f32⟩
  | 95 => ⟨S4x8x64x64x256, .f32⟩
  | 96 => ⟨S4x8x64x64x256, .i1⟩
  | 97 => ⟨S4x8x64x64x256, .f32⟩
  | 98 => ⟨S_, .i32⟩
  | 99 => ⟨S64, .i32⟩
  | 100 => ⟨S64, .i1⟩
  | 101 => ⟨S64x1, .i1⟩
  | 102 => ⟨S4x8x64x64x256, .f32⟩
  | 103 => ⟨S4x8x64x64x256, .f32⟩
  | 104 => ⟨S4x8x64x64x256, .i1⟩
  | 105 => ⟨S4x8x64x64x256, .f32⟩
  | 106 => ⟨S_, .i32⟩
  | 107 => ⟨S64, .i32⟩
  | 108 => ⟨S64, .i1⟩
  | 109 => ⟨S64x1, .i1⟩
  | 110 => ⟨S4x8x64x64x256, .f32⟩
  | 111 => ⟨S4x8x64x64x256, .f32⟩
  | 112 => ⟨S4x8x64x64x256, .i1⟩
  | 113 => ⟨S4x8x64x64x256, .f32⟩
  | 114 => ⟨S_, .i32⟩
  | 115 => ⟨S64, .i32⟩
  | 116 => ⟨S64, .i1⟩
  | 117 => ⟨S64x1, .i1⟩
  | 118 => ⟨S4x8x64x64x256, .f32⟩
  | 119 => ⟨S4x8x64x64x256, .f32⟩
  | 120 => ⟨S4x8x64x64x256, .i1⟩
  | 121 => ⟨S4x8x64x64x256, .f32⟩
  | 122 => ⟨S_, .i32⟩
  | 123 => ⟨S64, .i32⟩
  | 124 => ⟨S64, .i1⟩
  | 125 => ⟨S64x1, .i1⟩
  | 126 => ⟨S4x8x64x64x256, .f32⟩
  | 127 => ⟨S4x8x64x64x256, .f32⟩
  | _ => ⟨S4x4096x4096, .f32⟩

abbrev hbmTy0_5 (i : Nat) : BufTy := match i % 128 with
  | 0 => ⟨S4x8x64x64x256, .i1⟩
  | 1 => ⟨S4x8x64x64x256, .f32⟩
  | 2 => ⟨S_, .i32⟩
  | 3 => ⟨S64, .i32⟩
  | 4 => ⟨S64, .i1⟩
  | 5 => ⟨S64x1, .i1⟩
  | 6 => ⟨S4x8x64x64x256, .f32⟩
  | 7 => ⟨S4x8x64x64x256, .f32⟩
  | 8 => ⟨S4x8x64x64x256, .i1⟩
  | 9 => ⟨S4x8x64x64x256, .f32⟩
  | 10 => ⟨S_, .i32⟩
  | 11 => ⟨S64, .i32⟩
  | 12 => ⟨S64, .i1⟩
  | 13 => ⟨S64x1, .i1⟩
  | 14 => ⟨S4x8x64x64x256, .f32⟩
  | 15 => ⟨S4x8x64x64x256, .f32⟩
  | 16 => ⟨S4x8x64x64x256, .i1⟩
  | 17 => ⟨S4x8x64x64x256, .f32⟩
  | 18 => ⟨S_, .i32⟩
  | 19 => ⟨S64, .i32⟩
  | 20 => ⟨S64, .i1⟩
  | 21 => ⟨S64x1, .i1⟩
  | 22 => ⟨S4x8x64x64x256, .f32⟩
  | 23 => ⟨S4x8x64x64x256, .f32⟩
  | 24 => ⟨S4x8x64x64x256, .i1⟩
  | 25 => ⟨S4x8x64x64x256, .f32⟩
  | 26 => ⟨S_, .i32⟩
  | 27 => ⟨S64, .i32⟩
  | 28 => ⟨S64, .i1⟩
  | 29 => ⟨S64x1, .i1⟩
  | 30 => ⟨S4x8x64x64x256, .f32⟩
  | 31 => ⟨S4x8x64x64x256, .f32⟩
  | 32 => ⟨S4x8x64x64x256, .i1⟩
  | 33 => ⟨S4x8x64x64x256, .f32⟩
  | 34 => ⟨S4x8x64x64x128, .f32⟩
  | 35 => ⟨S4x8x64x64x128, .f32⟩
  | 36 => ⟨S4x8x64x64x64, .f32⟩
  | 37 => ⟨S4x8x64x64x64, .f32⟩
  | 38 => ⟨S64x4x8x64x128, .f32⟩
  | 39 => ⟨S64x4x8x64x128, .f32⟩
  | 40 => ⟨S64x4x8x64x128, .f32⟩
  | 41 => ⟨S64x4x8x64x128, .f32⟩
  | 42 => ⟨S64x4x8x64x64, .f32⟩
  | 43 => ⟨S64x4x8x64, .f32⟩
  | 44 => ⟨S_, .f32⟩
  | 45 => ⟨S4x8x128x128, .f32⟩
  | 46 => ⟨S_, .f32⟩
  | 47 => ⟨S64x4x8x64x128, .f32⟩
  | 48 => ⟨S_, .i32⟩
  | 49 => ⟨S64x4x8x64x128, .f32⟩
  | 50 => ⟨S64x4x8x64x128, .f32⟩
  | 51 => ⟨S64x4x8x64x128, .f32⟩
  | 52 => ⟨S64x4x8x64x128, .f32⟩
  | 53 => ⟨S64x4x8x64x64, .f32⟩
  | 54 => ⟨S64x4x8x64, .f32⟩
  | 55 => ⟨S_, .i32⟩
  | 56 => ⟨S4x8x128x128, .f32⟩
  | 57 => ⟨S64x4x8x64x128, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S1x4x8x64x128, .f32⟩
  | 65 => ⟨S4x8x64x128, .f32⟩
  | 66 => ⟨S_, .i32⟩
  | 67 => ⟨S_, .i32⟩
  | 68 => ⟨S_, .i32⟩
  | 69 => ⟨S_, .i32⟩
  | 70 => ⟨S1x4x8x64x128, .f32⟩
  | 71 => ⟨S4x8x64x128, .f32⟩
  | 72 => ⟨S_, .i32⟩
  | 73 => ⟨S_, .i32⟩
  | 74 => ⟨S_, .i32⟩
  | 75 => ⟨S_, .i32⟩
  | 76 => ⟨S1x4x8x64x128, .f32⟩
  | 77 => ⟨S4x8x64x128, .f32⟩
  | 78 => ⟨S_, .i32⟩
  | 79 => ⟨S_, .i32⟩
  | 80 => ⟨S_, .i32⟩
  | 81 => ⟨S_, .i32⟩
  | 82 => ⟨S1x4x8x64x128, .f32⟩
  | 83 => ⟨S4x8x64x128, .f32⟩
  | 84 => ⟨S_, .i32⟩
  | 85 => ⟨S_, .i32⟩
  | 86 => ⟨S_, .i32⟩
  | 87 => ⟨S_, .i32⟩
  | 88 => ⟨S1x4x8x64x64, .f32⟩
  | 89 => ⟨S4x8x64x64, .f32⟩
  | 90 => ⟨S_, .i32⟩
  | 91 => ⟨S_, .i32⟩
  | 92 => ⟨S_, .i32⟩
  | 93 => ⟨S1x4x8x64, .f32⟩
  | 94 => ⟨S4x8x64, .f32⟩
  | 95 => ⟨S4x8x64x128, .f32⟩
  | 96 => ⟨S4x8x64x128, .f32⟩
  | 97 => ⟨S4x8x64, .f32⟩
  | 98 => ⟨S4x8x64x1, .f32⟩
  | 99 => ⟨S4x8x64x128, .f32⟩
  | 100 => ⟨S4x8x64x128, .f32⟩
  | 101 => ⟨S4x8x64x128, .f32⟩
  | 102 => ⟨S4x8x64x128, .f32⟩
  | 103 => ⟨S4x8x64x128, .f32⟩
  | 104 => ⟨S4x8x1, .f32⟩
  | 105 => ⟨S4x8, .f32⟩
  | 106 => ⟨S4x8, .f32⟩
  | 107 => ⟨S4x8x1x1, .f32⟩
  | 108 => ⟨S4x8x128x128, .f32⟩
  | 109 => ⟨S4x8x128x128, .f32⟩
  | 110 => ⟨S4x8x1, .f32⟩
  | 111 => ⟨S4x8x64, .f32⟩
  | 112 => ⟨S4x8x64, .f32⟩
  | 113 => ⟨S4x8x64, .f32⟩
  | 114 => ⟨S4x8x64x1, .f32⟩
  | 115 => ⟨S4x8x64x128, .f32⟩
  | 116 => ⟨S4x8x64x128, .f32⟩
  | 117 => ⟨S4x8x128x128, .f32⟩
  | 118 => ⟨S4x8x128x128, .f32⟩
  | 119 => ⟨S1x4x8x64x128, .f32⟩
  | 120 => ⟨S_, .i32⟩
  | 121 => ⟨S_, .i32⟩
  | 122 => ⟨S_, .i32⟩
  | 123 => ⟨S_, .i32⟩
  | 124 => ⟨S64x4x8x64x128, .f32⟩
  | 125 => ⟨S_, .i32⟩
  | 126 => ⟨S_, .i32⟩
  | 127 => ⟨S4x64x64x8x128, .f32⟩
  | _ => ⟨S4x4096x4096, .f32⟩

abbrev hbmTy0_6 (i : Nat) : BufTy := match i % 128 with
  | 0 => ⟨S4x4096x8x128, .f32⟩
  | 1 => ⟨S4x4096x8x128, .f32⟩
  | 2 => ⟨S_, .f32⟩
  | 3 => ⟨S4x4096x8, .f32⟩
  | 4 => ⟨S4x4096x8x1, .f32⟩
  | 5 => ⟨S_, .f32⟩
  | 6 => ⟨S4x4096x8x1, .f32⟩
  | 7 => ⟨S4x4096x8x1, .f32⟩
  | 8 => ⟨S_, .f32⟩
  | 9 => ⟨S4x4096x8x1, .f32⟩
  | 10 => ⟨S4x4096x8x1, .f32⟩
  | 11 => ⟨S4x4096x8x1, .f32⟩
  | 12 => ⟨S4x4096x8x128, .f32⟩
  | 13 => ⟨S4x4096x8x128, .f32⟩
  | 14 => ⟨S1x1x1x128, .f32⟩
  | 15 => ⟨S4x4096x8x128, .f32⟩
  | 16 => ⟨S4x4096x8x128, .f32⟩
  | 17 => ⟨S4x4096x1024, .f32⟩
  | 18 => ⟨S4x4096x8x128, .f32⟩
  | 19 => ⟨S4x4096x8x128, .f32⟩
  | 20 => ⟨S4x4096x8x128, .f32⟩
  | 21 => ⟨S_, .f32⟩
  | 22 => ⟨S4x4096x8x128, .f32⟩
  | 23 => ⟨S4x4096x8x128, .f32⟩
  | 24 => ⟨S_, .f32⟩
  | 25 => ⟨S4x4096x8x128, .f32⟩
  | 26 => ⟨S4x4096x8x128, .f32⟩
  | 27 => ⟨S4x4096x8x128, .f32⟩
  | 28 => ⟨S4x4096x8x128, .f32⟩
  | 29 => ⟨S4x4096x1024, .f32⟩
  | 30 => ⟨S4x4096x1024, .bf16⟩
  | _ => ⟨S4x4096x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_0 : Ref sig .tc := ⟨.hbm, 57, rfl⟩
abbrev main_v40 : Ref sig .tc := ⟨.hbm, 58, rfl⟩
abbrev main_v41 : Ref sig .tc := ⟨.hbm, 59, rfl⟩
abbrev main_cst_1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_2 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_3 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_5 : Ref sig .tc := ⟨.hbm, 85, rfl⟩
abbrev main_v63 : Ref sig .tc := ⟨.hbm, 86, rfl⟩
abbrev main_v64 : Ref sig .tc := ⟨.hbm, 87, rfl⟩
abbrev main_cst_6 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call3_call0_cst : Ref sig .tc := ⟨.hbm, 117, rfl⟩
abbrev main_call3_call0_v0 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_7 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_8 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_9 : Ref sig .tc := ⟨.hbm, 160, rfl⟩
abbrev main_v113 : Ref sig .tc := ⟨.hbm, 161, rfl⟩
abbrev main_c_10 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_call6_v0 : Ref sig .tc := ⟨.hbm, 168, rfl⟩
abbrev main_v119 : Ref sig .tc := ⟨.hbm, 169, rfl⟩
abbrev main_c_11 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_call7_v0 : Ref sig .tc := ⟨.hbm, 176, rfl⟩
abbrev main_v125 : Ref sig .tc := ⟨.hbm, 177, rfl⟩
abbrev main_c_12 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_call8_v0 : Ref sig .tc := ⟨.hbm, 184, rfl⟩
abbrev main_v131 : Ref sig .tc := ⟨.hbm, 185, rfl⟩
abbrev main_c_13 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_call9_v0 : Ref sig .tc := ⟨.hbm, 192, rfl⟩
abbrev main_v137 : Ref sig .tc := ⟨.hbm, 193, rfl⟩
abbrev main_c_14 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_call10_v0 : Ref sig .tc := ⟨.hbm, 200, rfl⟩
abbrev main_v143 : Ref sig .tc := ⟨.hbm, 201, rfl⟩
abbrev main_c_15 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_call11_v0 : Ref sig .tc := ⟨.hbm, 208, rfl⟩
abbrev main_v149 : Ref sig .tc := ⟨.hbm, 209, rfl⟩
abbrev main_c_16 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_call12_v0 : Ref sig .tc := ⟨.hbm, 216, rfl⟩
abbrev main_v155 : Ref sig .tc := ⟨.hbm, 217, rfl⟩
abbrev main_c_17 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_call13_v0 : Ref sig .tc := ⟨.hbm, 224, rfl⟩
abbrev main_v161 : Ref sig .tc := ⟨.hbm, 225, rfl⟩
abbrev main_c_18 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_call14_v0 : Ref sig .tc := ⟨.hbm, 232, rfl⟩
abbrev main_v167 : Ref sig .tc := ⟨.hbm, 233, rfl⟩
abbrev main_c_19 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_call15_v0 : Ref sig .tc := ⟨.hbm, 240, rfl⟩
abbrev main_v173 : Ref sig .tc := ⟨.hbm, 241, rfl⟩
abbrev main_c_20 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_call16_v0 : Ref sig .tc := ⟨.hbm, 248, rfl⟩
abbrev main_v179 : Ref sig .tc := ⟨.hbm, 249, rfl⟩
abbrev main_c_21 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_call17_v0 : Ref sig .tc := ⟨.hbm, 256, rfl⟩
abbrev main_v185 : Ref sig .tc := ⟨.hbm, 257, rfl⟩
abbrev main_c_22 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_call18_v0 : Ref sig .tc := ⟨.hbm, 264, rfl⟩
abbrev main_v191 : Ref sig .tc := ⟨.hbm, 265, rfl⟩
abbrev main_c_23 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_call19_v0 : Ref sig .tc := ⟨.hbm, 272, rfl⟩
abbrev main_v197 : Ref sig .tc := ⟨.hbm, 273, rfl⟩
abbrev main_c_24 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_call20_v0 : Ref sig .tc := ⟨.hbm, 280, rfl⟩
abbrev main_v203 : Ref sig .tc := ⟨.hbm, 281, rfl⟩
abbrev main_c_25 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_call21_v0 : Ref sig .tc := ⟨.hbm, 288, rfl⟩
abbrev main_v209 : Ref sig .tc := ⟨.hbm, 289, rfl⟩
abbrev main_c_26 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_call22_v0 : Ref sig .tc := ⟨.hbm, 296, rfl⟩
abbrev main_v215 : Ref sig .tc := ⟨.hbm, 297, rfl⟩
abbrev main_c_27 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_call23_v0 : Ref sig .tc := ⟨.hbm, 304, rfl⟩
abbrev main_v221 : Ref sig .tc := ⟨.hbm, 305, rfl⟩
abbrev main_c_28 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_call24_v0 : Ref sig .tc := ⟨.hbm, 312, rfl⟩
abbrev main_v227 : Ref sig .tc := ⟨.hbm, 313, rfl⟩
abbrev main_c_29 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_call25_v0 : Ref sig .tc := ⟨.hbm, 320, rfl⟩
abbrev main_v233 : Ref sig .tc := ⟨.hbm, 321, rfl⟩
abbrev main_c_30 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_call26_v0 : Ref sig .tc := ⟨.hbm, 328, rfl⟩
abbrev main_v239 : Ref sig .tc := ⟨.hbm, 329, rfl⟩
abbrev main_c_31 : Ref sig .tc := ⟨.hbm, 330, rfl⟩
abbrev main_v240 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_call27_v0 : Ref sig .tc := ⟨.hbm, 336, rfl⟩
abbrev main_v245 : Ref sig .tc := ⟨.hbm, 337, rfl⟩
abbrev main_c_32 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_call28_v0 : Ref sig .tc := ⟨.hbm, 344, rfl⟩
abbrev main_v251 : Ref sig .tc := ⟨.hbm, 345, rfl⟩
abbrev main_c_33 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_call29_v0 : Ref sig .tc := ⟨.hbm, 352, rfl⟩
abbrev main_v257 : Ref sig .tc := ⟨.hbm, 353, rfl⟩
abbrev main_c_34 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_call30_v0 : Ref sig .tc := ⟨.hbm, 360, rfl⟩
abbrev main_v263 : Ref sig .tc := ⟨.hbm, 361, rfl⟩
abbrev main_c_35 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_call31_v0 : Ref sig .tc := ⟨.hbm, 368, rfl⟩
abbrev main_v269 : Ref sig .tc := ⟨.hbm, 369, rfl⟩
abbrev main_c_36 : Ref sig .tc := ⟨.hbm, 370, rfl⟩
abbrev main_v270 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_call32_v0 : Ref sig .tc := ⟨.hbm, 376, rfl⟩
abbrev main_v275 : Ref sig .tc := ⟨.hbm, 377, rfl⟩
abbrev main_c_37 : Ref sig .tc := ⟨.hbm, 378, rfl⟩
abbrev main_v276 : Ref sig .tc := ⟨.hbm, 379, rfl⟩
abbrev main_v277 : Ref sig .tc := ⟨.hbm, 380, rfl⟩
abbrev main_v278 : Ref sig .tc := ⟨.hbm, 381, rfl⟩
abbrev main_v279 : Ref sig .tc := ⟨.hbm, 382, rfl⟩
abbrev main_v280 : Ref sig .tc := ⟨.hbm, 383, rfl⟩
abbrev main_call33_v0 : Ref sig .tc := ⟨.hbm, 384, rfl⟩
abbrev main_v281 : Ref sig .tc := ⟨.hbm, 385, rfl⟩
abbrev main_c_38 : Ref sig .tc := ⟨.hbm, 386, rfl⟩
abbrev main_v282 : Ref sig .tc := ⟨.hbm, 387, rfl⟩
abbrev main_v283 : Ref sig .tc := ⟨.hbm, 388, rfl⟩
abbrev main_v284 : Ref sig .tc := ⟨.hbm, 389, rfl⟩
abbrev main_v285 : Ref sig .tc := ⟨.hbm, 390, rfl⟩
abbrev main_v286 : Ref sig .tc := ⟨.hbm, 391, rfl⟩
abbrev main_call34_v0 : Ref sig .tc := ⟨.hbm, 392, rfl⟩
abbrev main_v287 : Ref sig .tc := ⟨.hbm, 393, rfl⟩
abbrev main_c_39 : Ref sig .tc := ⟨.hbm, 394, rfl⟩
abbrev main_v288 : Ref sig .tc := ⟨.hbm, 395, rfl⟩
abbrev main_v289 : Ref sig .tc := ⟨.hbm, 396, rfl⟩
abbrev main_v290 : Ref sig .tc := ⟨.hbm, 397, rfl⟩
abbrev main_v291 : Ref sig .tc := ⟨.hbm, 398, rfl⟩
abbrev main_v292 : Ref sig .tc := ⟨.hbm, 399, rfl⟩
abbrev main_call35_v0 : Ref sig .tc := ⟨.hbm, 400, rfl⟩
abbrev main_v293 : Ref sig .tc := ⟨.hbm, 401, rfl⟩
abbrev main_c_40 : Ref sig .tc := ⟨.hbm, 402, rfl⟩
abbrev main_v294 : Ref sig .tc := ⟨.hbm, 403, rfl⟩
abbrev main_v295 : Ref sig .tc := ⟨.hbm, 404, rfl⟩
abbrev main_v296 : Ref sig .tc := ⟨.hbm, 405, rfl⟩
abbrev main_v297 : Ref sig .tc := ⟨.hbm, 406, rfl⟩
abbrev main_v298 : Ref sig .tc := ⟨.hbm, 407, rfl⟩
abbrev main_call36_v0 : Ref sig .tc := ⟨.hbm, 408, rfl⟩
abbrev main_v299 : Ref sig .tc := ⟨.hbm, 409, rfl⟩
abbrev main_c_41 : Ref sig .tc := ⟨.hbm, 410, rfl⟩
abbrev main_v300 : Ref sig .tc := ⟨.hbm, 411, rfl⟩
abbrev main_v301 : Ref sig .tc := ⟨.hbm, 412, rfl⟩
abbrev main_v302 : Ref sig .tc := ⟨.hbm, 413, rfl⟩
abbrev main_v303 : Ref sig .tc := ⟨.hbm, 414, rfl⟩
abbrev main_v304 : Ref sig .tc := ⟨.hbm, 415, rfl⟩
abbrev main_call37_v0 : Ref sig .tc := ⟨.hbm, 416, rfl⟩
abbrev main_v305 : Ref sig .tc := ⟨.hbm, 417, rfl⟩
abbrev main_c_42 : Ref sig .tc := ⟨.hbm, 418, rfl⟩
abbrev main_v306 : Ref sig .tc := ⟨.hbm, 419, rfl⟩
abbrev main_v307 : Ref sig .tc := ⟨.hbm, 420, rfl⟩
abbrev main_v308 : Ref sig .tc := ⟨.hbm, 421, rfl⟩
abbrev main_v309 : Ref sig .tc := ⟨.hbm, 422, rfl⟩
abbrev main_v310 : Ref sig .tc := ⟨.hbm, 423, rfl⟩
abbrev main_call38_v0 : Ref sig .tc := ⟨.hbm, 424, rfl⟩
abbrev main_v311 : Ref sig .tc := ⟨.hbm, 425, rfl⟩
abbrev main_c_43 : Ref sig .tc := ⟨.hbm, 426, rfl⟩
abbrev main_v312 : Ref sig .tc := ⟨.hbm, 427, rfl⟩
abbrev main_v313 : Ref sig .tc := ⟨.hbm, 428, rfl⟩
abbrev main_v314 : Ref sig .tc := ⟨.hbm, 429, rfl⟩
abbrev main_v315 : Ref sig .tc := ⟨.hbm, 430, rfl⟩
abbrev main_v316 : Ref sig .tc := ⟨.hbm, 431, rfl⟩
abbrev main_call39_v0 : Ref sig .tc := ⟨.hbm, 432, rfl⟩
abbrev main_v317 : Ref sig .tc := ⟨.hbm, 433, rfl⟩
abbrev main_c_44 : Ref sig .tc := ⟨.hbm, 434, rfl⟩
abbrev main_v318 : Ref sig .tc := ⟨.hbm, 435, rfl⟩
abbrev main_v319 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_call40_v0 : Ref sig .tc := ⟨.hbm, 440, rfl⟩
abbrev main_v323 : Ref sig .tc := ⟨.hbm, 441, rfl⟩
abbrev main_c_45 : Ref sig .tc := ⟨.hbm, 442, rfl⟩
abbrev main_v324 : Ref sig .tc := ⟨.hbm, 443, rfl⟩
abbrev main_v325 : Ref sig .tc := ⟨.hbm, 444, rfl⟩
abbrev main_v326 : Ref sig .tc := ⟨.hbm, 445, rfl⟩
abbrev main_v327 : Ref sig .tc := ⟨.hbm, 446, rfl⟩
abbrev main_v328 : Ref sig .tc := ⟨.hbm, 447, rfl⟩
abbrev main_call41_v0 : Ref sig .tc := ⟨.hbm, 448, rfl⟩
abbrev main_v329 : Ref sig .tc := ⟨.hbm, 449, rfl⟩
abbrev main_c_46 : Ref sig .tc := ⟨.hbm, 450, rfl⟩
abbrev main_v330 : Ref sig .tc := ⟨.hbm, 451, rfl⟩
abbrev main_v331 : Ref sig .tc := ⟨.hbm, 452, rfl⟩
abbrev main_v332 : Ref sig .tc := ⟨.hbm, 453, rfl⟩
abbrev main_v333 : Ref sig .tc := ⟨.hbm, 454, rfl⟩
abbrev main_v334 : Ref sig .tc := ⟨.hbm, 455, rfl⟩
abbrev main_call42_v0 : Ref sig .tc := ⟨.hbm, 456, rfl⟩
abbrev main_v335 : Ref sig .tc := ⟨.hbm, 457, rfl⟩
abbrev main_c_47 : Ref sig .tc := ⟨.hbm, 458, rfl⟩
abbrev main_v336 : Ref sig .tc := ⟨.hbm, 459, rfl⟩
abbrev main_v337 : Ref sig .tc := ⟨.hbm, 460, rfl⟩
abbrev main_v338 : Ref sig .tc := ⟨.hbm, 461, rfl⟩
abbrev main_v339 : Ref sig .tc := ⟨.hbm, 462, rfl⟩
abbrev main_v340 : Ref sig .tc := ⟨.hbm, 463, rfl⟩
abbrev main_call43_v0 : Ref sig .tc := ⟨.hbm, 464, rfl⟩
abbrev main_v341 : Ref sig .tc := ⟨.hbm, 465, rfl⟩
abbrev main_c_48 : Ref sig .tc := ⟨.hbm, 466, rfl⟩
abbrev main_v342 : Ref sig .tc := ⟨.hbm, 467, rfl⟩
abbrev main_v343 : Ref sig .tc := ⟨.hbm, 468, rfl⟩
abbrev main_v344 : Ref sig .tc := ⟨.hbm, 469, rfl⟩
abbrev main_v345 : Ref sig .tc := ⟨.hbm, 470, rfl⟩
abbrev main_v346 : Ref sig .tc := ⟨.hbm, 471, rfl⟩
abbrev main_call44_v0 : Ref sig .tc := ⟨.hbm, 472, rfl⟩
abbrev main_v347 : Ref sig .tc := ⟨.hbm, 473, rfl⟩
abbrev main_c_49 : Ref sig .tc := ⟨.hbm, 474, rfl⟩
abbrev main_v348 : Ref sig .tc := ⟨.hbm, 475, rfl⟩
abbrev main_v349 : Ref sig .tc := ⟨.hbm, 476, rfl⟩
abbrev main_v350 : Ref sig .tc := ⟨.hbm, 477, rfl⟩
abbrev main_v351 : Ref sig .tc := ⟨.hbm, 478, rfl⟩
abbrev main_v352 : Ref sig .tc := ⟨.hbm, 479, rfl⟩
abbrev main_call45_v0 : Ref sig .tc := ⟨.hbm, 480, rfl⟩
abbrev main_v353 : Ref sig .tc := ⟨.hbm, 481, rfl⟩
abbrev main_c_50 : Ref sig .tc := ⟨.hbm, 482, rfl⟩
abbrev main_v354 : Ref sig .tc := ⟨.hbm, 483, rfl⟩
abbrev main_v355 : Ref sig .tc := ⟨.hbm, 484, rfl⟩
abbrev main_v356 : Ref sig .tc := ⟨.hbm, 485, rfl⟩
abbrev main_v357 : Ref sig .tc := ⟨.hbm, 486, rfl⟩
abbrev main_v358 : Ref sig .tc := ⟨.hbm, 487, rfl⟩
abbrev main_call46_v0 : Ref sig .tc := ⟨.hbm, 488, rfl⟩
abbrev main_v359 : Ref sig .tc := ⟨.hbm, 489, rfl⟩
abbrev main_c_51 : Ref sig .tc := ⟨.hbm, 490, rfl⟩
abbrev main_v360 : Ref sig .tc := ⟨.hbm, 491, rfl⟩
abbrev main_v361 : Ref sig .tc := ⟨.hbm, 492, rfl⟩
abbrev main_v362 : Ref sig .tc := ⟨.hbm, 493, rfl⟩
abbrev main_v363 : Ref sig .tc := ⟨.hbm, 494, rfl⟩
abbrev main_v364 : Ref sig .tc := ⟨.hbm, 495, rfl⟩
abbrev main_call47_v0 : Ref sig .tc := ⟨.hbm, 496, rfl⟩
abbrev main_v365 : Ref sig .tc := ⟨.hbm, 497, rfl⟩
abbrev main_c_52 : Ref sig .tc := ⟨.hbm, 498, rfl⟩
abbrev main_v366 : Ref sig .tc := ⟨.hbm, 499, rfl⟩
abbrev main_v367 : Ref sig .tc := ⟨.hbm, 500, rfl⟩
abbrev main_v368 : Ref sig .tc := ⟨.hbm, 501, rfl⟩
abbrev main_v369 : Ref sig .tc := ⟨.hbm, 502, rfl⟩
abbrev main_v370 : Ref sig .tc := ⟨.hbm, 503, rfl⟩
abbrev main_call48_v0 : Ref sig .tc := ⟨.hbm, 504, rfl⟩
abbrev main_v371 : Ref sig .tc := ⟨.hbm, 505, rfl⟩
abbrev main_c_53 : Ref sig .tc := ⟨.hbm, 506, rfl⟩
abbrev main_v372 : Ref sig .tc := ⟨.hbm, 507, rfl⟩
abbrev main_v373 : Ref sig .tc := ⟨.hbm, 508, rfl⟩
abbrev main_v374 : Ref sig .tc := ⟨.hbm, 509, rfl⟩
abbrev main_v375 : Ref sig .tc := ⟨.hbm, 510, rfl⟩
abbrev main_v376 : Ref sig .tc := ⟨.hbm, 511, rfl⟩
abbrev main_call49_v0 : Ref sig .tc := ⟨.hbm, 512, rfl⟩
abbrev main_v377 : Ref sig .tc := ⟨.hbm, 513, rfl⟩
abbrev main_c_54 : Ref sig .tc := ⟨.hbm, 514, rfl⟩
abbrev main_v378 : Ref sig .tc := ⟨.hbm, 515, rfl⟩
abbrev main_v379 : Ref sig .tc := ⟨.hbm, 516, rfl⟩
abbrev main_v380 : Ref sig .tc := ⟨.hbm, 517, rfl⟩
abbrev main_v381 : Ref sig .tc := ⟨.hbm, 518, rfl⟩
abbrev main_v382 : Ref sig .tc := ⟨.hbm, 519, rfl⟩
abbrev main_call50_v0 : Ref sig .tc := ⟨.hbm, 520, rfl⟩
abbrev main_v383 : Ref sig .tc := ⟨.hbm, 521, rfl⟩
abbrev main_c_55 : Ref sig .tc := ⟨.hbm, 522, rfl⟩
abbrev main_v384 : Ref sig .tc := ⟨.hbm, 523, rfl⟩
abbrev main_v385 : Ref sig .tc := ⟨.hbm, 524, rfl⟩
abbrev main_v386 : Ref sig .tc := ⟨.hbm, 525, rfl⟩
abbrev main_v387 : Ref sig .tc := ⟨.hbm, 526, rfl⟩
abbrev main_v388 : Ref sig .tc := ⟨.hbm, 527, rfl⟩
abbrev main_call51_v0 : Ref sig .tc := ⟨.hbm, 528, rfl⟩
abbrev main_v389 : Ref sig .tc := ⟨.hbm, 529, rfl⟩
abbrev main_c_56 : Ref sig .tc := ⟨.hbm, 530, rfl⟩
abbrev main_v390 : Ref sig .tc := ⟨.hbm, 531, rfl⟩
abbrev main_v391 : Ref sig .tc := ⟨.hbm, 532, rfl⟩
abbrev main_v392 : Ref sig .tc := ⟨.hbm, 533, rfl⟩
abbrev main_v393 : Ref sig .tc := ⟨.hbm, 534, rfl⟩
abbrev main_v394 : Ref sig .tc := ⟨.hbm, 535, rfl⟩
abbrev main_call52_v0 : Ref sig .tc := ⟨.hbm, 536, rfl⟩
abbrev main_v395 : Ref sig .tc := ⟨.hbm, 537, rfl⟩
abbrev main_c_57 : Ref sig .tc := ⟨.hbm, 538, rfl⟩
abbrev main_v396 : Ref sig .tc := ⟨.hbm, 539, rfl⟩
abbrev main_v397 : Ref sig .tc := ⟨.hbm, 540, rfl⟩
abbrev main_v398 : Ref sig .tc := ⟨.hbm, 541, rfl⟩
abbrev main_v399 : Ref sig .tc := ⟨.hbm, 542, rfl⟩
abbrev main_v400 : Ref sig .tc := ⟨.hbm, 543, rfl⟩
abbrev main_call53_v0 : Ref sig .tc := ⟨.hbm, 544, rfl⟩
abbrev main_v401 : Ref sig .tc := ⟨.hbm, 545, rfl⟩
abbrev main_c_58 : Ref sig .tc := ⟨.hbm, 546, rfl⟩
abbrev main_v402 : Ref sig .tc := ⟨.hbm, 547, rfl⟩
abbrev main_v403 : Ref sig .tc := ⟨.hbm, 548, rfl⟩
abbrev main_v404 : Ref sig .tc := ⟨.hbm, 549, rfl⟩
abbrev main_v405 : Ref sig .tc := ⟨.hbm, 550, rfl⟩
abbrev main_v406 : Ref sig .tc := ⟨.hbm, 551, rfl⟩
abbrev main_call54_v0 : Ref sig .tc := ⟨.hbm, 552, rfl⟩
abbrev main_v407 : Ref sig .tc := ⟨.hbm, 553, rfl⟩
abbrev main_c_59 : Ref sig .tc := ⟨.hbm, 554, rfl⟩
abbrev main_v408 : Ref sig .tc := ⟨.hbm, 555, rfl⟩
abbrev main_v409 : Ref sig .tc := ⟨.hbm, 556, rfl⟩
abbrev main_v410 : Ref sig .tc := ⟨.hbm, 557, rfl⟩
abbrev main_v411 : Ref sig .tc := ⟨.hbm, 558, rfl⟩
abbrev main_v412 : Ref sig .tc := ⟨.hbm, 559, rfl⟩
abbrev main_call55_v0 : Ref sig .tc := ⟨.hbm, 560, rfl⟩
abbrev main_v413 : Ref sig .tc := ⟨.hbm, 561, rfl⟩
abbrev main_c_60 : Ref sig .tc := ⟨.hbm, 562, rfl⟩
abbrev main_v414 : Ref sig .tc := ⟨.hbm, 563, rfl⟩
abbrev main_v415 : Ref sig .tc := ⟨.hbm, 564, rfl⟩
abbrev main_v416 : Ref sig .tc := ⟨.hbm, 565, rfl⟩
abbrev main_v417 : Ref sig .tc := ⟨.hbm, 566, rfl⟩
abbrev main_v418 : Ref sig .tc := ⟨.hbm, 567, rfl⟩
abbrev main_call56_v0 : Ref sig .tc := ⟨.hbm, 568, rfl⟩
abbrev main_v419 : Ref sig .tc := ⟨.hbm, 569, rfl⟩
abbrev main_c_61 : Ref sig .tc := ⟨.hbm, 570, rfl⟩
abbrev main_v420 : Ref sig .tc := ⟨.hbm, 571, rfl⟩
abbrev main_v421 : Ref sig .tc := ⟨.hbm, 572, rfl⟩
abbrev main_v422 : Ref sig .tc := ⟨.hbm, 573, rfl⟩
abbrev main_v423 : Ref sig .tc := ⟨.hbm, 574, rfl⟩
abbrev main_v424 : Ref sig .tc := ⟨.hbm, 575, rfl⟩
abbrev main_call57_v0 : Ref sig .tc := ⟨.hbm, 576, rfl⟩
abbrev main_v425 : Ref sig .tc := ⟨.hbm, 577, rfl⟩
abbrev main_c_62 : Ref sig .tc := ⟨.hbm, 578, rfl⟩
abbrev main_v426 : Ref sig .tc := ⟨.hbm, 579, rfl⟩
abbrev main_v427 : Ref sig .tc := ⟨.hbm, 580, rfl⟩
abbrev main_v428 : Ref sig .tc := ⟨.hbm, 581, rfl⟩
abbrev main_v429 : Ref sig .tc := ⟨.hbm, 582, rfl⟩
abbrev main_v430 : Ref sig .tc := ⟨.hbm, 583, rfl⟩
abbrev main_call58_v0 : Ref sig .tc := ⟨.hbm, 584, rfl⟩
abbrev main_v431 : Ref sig .tc := ⟨.hbm, 585, rfl⟩
abbrev main_c_63 : Ref sig .tc := ⟨.hbm, 586, rfl⟩
abbrev main_v432 : Ref sig .tc := ⟨.hbm, 587, rfl⟩
abbrev main_v433 : Ref sig .tc := ⟨.hbm, 588, rfl⟩
abbrev main_v434 : Ref sig .tc := ⟨.hbm, 589, rfl⟩
abbrev main_v435 : Ref sig .tc := ⟨.hbm, 590, rfl⟩
abbrev main_v436 : Ref sig .tc := ⟨.hbm, 591, rfl⟩
abbrev main_call59_v0 : Ref sig .tc := ⟨.hbm, 592, rfl⟩
abbrev main_v437 : Ref sig .tc := ⟨.hbm, 593, rfl⟩
abbrev main_c_64 : Ref sig .tc := ⟨.hbm, 594, rfl⟩
abbrev main_v438 : Ref sig .tc := ⟨.hbm, 595, rfl⟩
abbrev main_v439 : Ref sig .tc := ⟨.hbm, 596, rfl⟩
abbrev main_v440 : Ref sig .tc := ⟨.hbm, 597, rfl⟩
abbrev main_v441 : Ref sig .tc := ⟨.hbm, 598, rfl⟩
abbrev main_v442 : Ref sig .tc := ⟨.hbm, 599, rfl⟩
abbrev main_call60_v0 : Ref sig .tc := ⟨.hbm, 600, rfl⟩
abbrev main_v443 : Ref sig .tc := ⟨.hbm, 601, rfl⟩
abbrev main_c_65 : Ref sig .tc := ⟨.hbm, 602, rfl⟩
abbrev main_v444 : Ref sig .tc := ⟨.hbm, 603, rfl⟩
abbrev main_v445 : Ref sig .tc := ⟨.hbm, 604, rfl⟩
abbrev main_v446 : Ref sig .tc := ⟨.hbm, 605, rfl⟩
abbrev main_v447 : Ref sig .tc := ⟨.hbm, 606, rfl⟩
abbrev main_v448 : Ref sig .tc := ⟨.hbm, 607, rfl⟩
abbrev main_call61_v0 : Ref sig .tc := ⟨.hbm, 608, rfl⟩
abbrev main_v449 : Ref sig .tc := ⟨.hbm, 609, rfl⟩
abbrev main_c_66 : Ref sig .tc := ⟨.hbm, 610, rfl⟩
abbrev main_v450 : Ref sig .tc := ⟨.hbm, 611, rfl⟩
abbrev main_v451 : Ref sig .tc := ⟨.hbm, 612, rfl⟩
abbrev main_v452 : Ref sig .tc := ⟨.hbm, 613, rfl⟩
abbrev main_v453 : Ref sig .tc := ⟨.hbm, 614, rfl⟩
abbrev main_v454 : Ref sig .tc := ⟨.hbm, 615, rfl⟩
abbrev main_call62_v0 : Ref sig .tc := ⟨.hbm, 616, rfl⟩
abbrev main_v455 : Ref sig .tc := ⟨.hbm, 617, rfl⟩
abbrev main_c_67 : Ref sig .tc := ⟨.hbm, 618, rfl⟩
abbrev main_v456 : Ref sig .tc := ⟨.hbm, 619, rfl⟩
abbrev main_v457 : Ref sig .tc := ⟨.hbm, 620, rfl⟩
abbrev main_v458 : Ref sig .tc := ⟨.hbm, 621, rfl⟩
abbrev main_v459 : Ref sig .tc := ⟨.hbm, 622, rfl⟩
abbrev main_v460 : Ref sig .tc := ⟨.hbm, 623, rfl⟩
abbrev main_call63_v0 : Ref sig .tc := ⟨.hbm, 624, rfl⟩
abbrev main_v461 : Ref sig .tc := ⟨.hbm, 625, rfl⟩
abbrev main_c_68 : Ref sig .tc := ⟨.hbm, 626, rfl⟩
abbrev main_v462 : Ref sig .tc := ⟨.hbm, 627, rfl⟩
abbrev main_v463 : Ref sig .tc := ⟨.hbm, 628, rfl⟩
abbrev main_v464 : Ref sig .tc := ⟨.hbm, 629, rfl⟩
abbrev main_v465 : Ref sig .tc := ⟨.hbm, 630, rfl⟩
abbrev main_v466 : Ref sig .tc := ⟨.hbm, 631, rfl⟩
abbrev main_call64_v0 : Ref sig .tc := ⟨.hbm, 632, rfl⟩
abbrev main_v467 : Ref sig .tc := ⟨.hbm, 633, rfl⟩
abbrev main_c_69 : Ref sig .tc := ⟨.hbm, 634, rfl⟩
abbrev main_v468 : Ref sig .tc := ⟨.hbm, 635, rfl⟩
abbrev main_v469 : Ref sig .tc := ⟨.hbm, 636, rfl⟩
abbrev main_v470 : Ref sig .tc := ⟨.hbm, 637, rfl⟩
abbrev main_v471 : Ref sig .tc := ⟨.hbm, 638, rfl⟩
abbrev main_v472 : Ref sig .tc := ⟨.hbm, 639, rfl⟩
abbrev main_call65_v0 : Ref sig .tc := ⟨.hbm, 640, rfl⟩
abbrev main_v473 : Ref sig .tc := ⟨.hbm, 641, rfl⟩
abbrev main_c_70 : Ref sig .tc := ⟨.hbm, 642, rfl⟩
abbrev main_v474 : Ref sig .tc := ⟨.hbm, 643, rfl⟩
abbrev main_v475 : Ref sig .tc := ⟨.hbm, 644, rfl⟩
abbrev main_v476 : Ref sig .tc := ⟨.hbm, 645, rfl⟩
abbrev main_v477 : Ref sig .tc := ⟨.hbm, 646, rfl⟩
abbrev main_v478 : Ref sig .tc := ⟨.hbm, 647, rfl⟩
abbrev main_call66_v0 : Ref sig .tc := ⟨.hbm, 648, rfl⟩
abbrev main_v479 : Ref sig .tc := ⟨.hbm, 649, rfl⟩
abbrev main_c_71 : Ref sig .tc := ⟨.hbm, 650, rfl⟩
abbrev main_v480 : Ref sig .tc := ⟨.hbm, 651, rfl⟩
abbrev main_v481 : Ref sig .tc := ⟨.hbm, 652, rfl⟩
abbrev main_v482 : Ref sig .tc := ⟨.hbm, 653, rfl⟩
abbrev main_v483 : Ref sig .tc := ⟨.hbm, 654, rfl⟩
abbrev main_v484 : Ref sig .tc := ⟨.hbm, 655, rfl⟩
abbrev main_call67_v0 : Ref sig .tc := ⟨.hbm, 656, rfl⟩
abbrev main_v485 : Ref sig .tc := ⟨.hbm, 657, rfl⟩
abbrev main_c_72 : Ref sig .tc := ⟨.hbm, 658, rfl⟩
abbrev main_v486 : Ref sig .tc := ⟨.hbm, 659, rfl⟩
abbrev main_v487 : Ref sig .tc := ⟨.hbm, 660, rfl⟩
abbrev main_v488 : Ref sig .tc := ⟨.hbm, 661, rfl⟩
abbrev main_v489 : Ref sig .tc := ⟨.hbm, 662, rfl⟩
abbrev main_v490 : Ref sig .tc := ⟨.hbm, 663, rfl⟩
abbrev main_call68_v0 : Ref sig .tc := ⟨.hbm, 664, rfl⟩
abbrev main_v491 : Ref sig .tc := ⟨.hbm, 665, rfl⟩
abbrev main_c_73 : Ref sig .tc := ⟨.hbm, 666, rfl⟩
abbrev main_v492 : Ref sig .tc := ⟨.hbm, 667, rfl⟩
abbrev main_v493 : Ref sig .tc := ⟨.hbm, 668, rfl⟩
abbrev main_v494 : Ref sig .tc := ⟨.hbm, 669, rfl⟩
abbrev main_v495 : Ref sig .tc := ⟨.hbm, 670, rfl⟩
abbrev main_v496 : Ref sig .tc := ⟨.hbm, 671, rfl⟩
abbrev main_call69_v0 : Ref sig .tc := ⟨.hbm, 672, rfl⟩
abbrev main_v497 : Ref sig .tc := ⟨.hbm, 673, rfl⟩
abbrev main_v498 : Ref sig .tc := ⟨.hbm, 674, rfl⟩
abbrev main_v499 : Ref sig .tc := ⟨.hbm, 675, rfl⟩
abbrev main_v500 : Ref sig .tc := ⟨.hbm, 676, rfl⟩
abbrev main_v501 : Ref sig .tc := ⟨.hbm, 677, rfl⟩
abbrev main_v502 : Ref sig .tc := ⟨.hbm, 678, rfl⟩
abbrev main_v503 : Ref sig .tc := ⟨.hbm, 679, rfl⟩
abbrev main_v504 : Ref sig .tc := ⟨.hbm, 680, rfl⟩
abbrev main_v505 : Ref sig .tc := ⟨.hbm, 681, rfl⟩
abbrev main_v506 : Ref sig .tc := ⟨.hbm, 682, rfl⟩
abbrev main_v507 : Ref sig .tc := ⟨.hbm, 683, rfl⟩
abbrev main_cst_74 : Ref sig .tc := ⟨.hbm, 684, rfl⟩
abbrev main_v508 : Ref sig .tc := ⟨.hbm, 685, rfl⟩
abbrev main_cst_75 : Ref sig .tc := ⟨.hbm, 686, rfl⟩
abbrev main_v509 : Ref sig .tc := ⟨.hbm, 687, rfl⟩
abbrev main_c_76 : Ref sig .tc := ⟨.hbm, 688, rfl⟩
abbrev main_v510_0 : Ref sig .tc := ⟨.hbm, 689, rfl⟩
abbrev main_v510_1 : Ref sig .tc := ⟨.hbm, 690, rfl⟩
abbrev main_v510_2 : Ref sig .tc := ⟨.hbm, 691, rfl⟩
abbrev main_v510_3 : Ref sig .tc := ⟨.hbm, 692, rfl⟩
abbrev main_v510_4 : Ref sig .tc := ⟨.hbm, 693, rfl⟩
abbrev main_v510_5 : Ref sig .tc := ⟨.hbm, 694, rfl⟩
abbrev main_v510_6 : Ref sig .tc := ⟨.hbm, 695, rfl⟩
abbrev main_v510_7 : Ref sig .tc := ⟨.hbm, 696, rfl⟩
abbrev main_v510_8 : Ref sig .tc := ⟨.hbm, 697, rfl⟩
abbrev main_while0c_c_88 : Ref sig .tc := ⟨.hbm, 698, rfl⟩
abbrev main_while0c_v532 : Ref sig .tc := ⟨.hbm, 699, rfl⟩
abbrev main_while0b_call70_c : Ref sig .tc := ⟨.hbm, 700, rfl⟩
abbrev main_while0b_call70_c_0 : Ref sig .tc := ⟨.hbm, 701, rfl⟩
abbrev main_while0b_call70_c_1 : Ref sig .tc := ⟨.hbm, 702, rfl⟩
abbrev main_while0b_call70_c_2 : Ref sig .tc := ⟨.hbm, 703, rfl⟩
abbrev main_while0b_call70_v0 : Ref sig .tc := ⟨.hbm, 704, rfl⟩
abbrev main_while0b_v532 : Ref sig .tc := ⟨.hbm, 705, rfl⟩
abbrev main_while0b_call71_c : Ref sig .tc := ⟨.hbm, 706, rfl⟩
abbrev main_while0b_call71_c_0 : Ref sig .tc := ⟨.hbm, 707, rfl⟩
abbrev main_while0b_call71_c_1 : Ref sig .tc := ⟨.hbm, 708, rfl⟩
abbrev main_while0b_call71_c_2 : Ref sig .tc := ⟨.hbm, 709, rfl⟩
abbrev main_while0b_call71_v0 : Ref sig .tc := ⟨.hbm, 710, rfl⟩
abbrev main_while0b_v533 : Ref sig .tc := ⟨.hbm, 711, rfl⟩
abbrev main_while0b_call72_c : Ref sig .tc := ⟨.hbm, 712, rfl⟩
abbrev main_while0b_call72_c_0 : Ref sig .tc := ⟨.hbm, 713, rfl⟩
abbrev main_while0b_call72_c_1 : Ref sig .tc := ⟨.hbm, 714, rfl⟩
abbrev main_while0b_call72_c_2 : Ref sig .tc := ⟨.hbm, 715, rfl⟩
abbrev main_while0b_call72_v0 : Ref sig .tc := ⟨.hbm, 716, rfl⟩
abbrev main_while0b_v534 : Ref sig .tc := ⟨.hbm, 717, rfl⟩
abbrev main_while0b_call73_c : Ref sig .tc := ⟨.hbm, 718, rfl⟩
abbrev main_while0b_call73_c_0 : Ref sig .tc := ⟨.hbm, 719, rfl⟩
abbrev main_while0b_call73_c_1 : Ref sig .tc := ⟨.hbm, 720, rfl⟩
abbrev main_while0b_call73_c_2 : Ref sig .tc := ⟨.hbm, 721, rfl⟩
abbrev main_while0b_call73_v0 : Ref sig .tc := ⟨.hbm, 722, rfl⟩
abbrev main_while0b_v535 : Ref sig .tc := ⟨.hbm, 723, rfl⟩
abbrev main_while0b_call74_c : Ref sig .tc := ⟨.hbm, 724, rfl⟩
abbrev main_while0b_call74_c_0 : Ref sig .tc := ⟨.hbm, 725, rfl⟩
abbrev main_while0b_call74_c_1 : Ref sig .tc := ⟨.hbm, 726, rfl⟩
abbrev main_while0b_call74_c_2 : Ref sig .tc := ⟨.hbm, 727, rfl⟩
abbrev main_while0b_call74_v0 : Ref sig .tc := ⟨.hbm, 728, rfl⟩
abbrev main_while0b_v536 : Ref sig .tc := ⟨.hbm, 729, rfl⟩
abbrev main_while0b_call75_c : Ref sig .tc := ⟨.hbm, 730, rfl⟩
abbrev main_while0b_call75_c_0 : Ref sig .tc := ⟨.hbm, 731, rfl⟩
abbrev main_while0b_call75_c_1 : Ref sig .tc := ⟨.hbm, 732, rfl⟩
abbrev main_while0b_call75_v0 : Ref sig .tc := ⟨.hbm, 733, rfl⟩
abbrev main_while0b_v537 : Ref sig .tc := ⟨.hbm, 734, rfl⟩
abbrev main_while0b_v538 : Ref sig .tc := ⟨.hbm, 735, rfl⟩
abbrev main_while0b_v539 : Ref sig .tc := ⟨.hbm, 736, rfl⟩
abbrev main_while0b_v540 : Ref sig .tc := ⟨.hbm, 737, rfl⟩
abbrev main_while0b_v541 : Ref sig .tc := ⟨.hbm, 738, rfl⟩
abbrev main_while0b_v542 : Ref sig .tc := ⟨.hbm, 739, rfl⟩
abbrev main_while0b_v543 : Ref sig .tc := ⟨.hbm, 740, rfl⟩
abbrev main_while0b_v544 : Ref sig .tc := ⟨.hbm, 741, rfl⟩
abbrev main_while0b_v545 : Ref sig .tc := ⟨.hbm, 742, rfl⟩
abbrev main_while0b_v546 : Ref sig .tc := ⟨.hbm, 743, rfl⟩
abbrev main_while0b_v547 : Ref sig .tc := ⟨.hbm, 744, rfl⟩
abbrev main_while0b_v548 : Ref sig .tc := ⟨.hbm, 745, rfl⟩
abbrev main_while0b_v549 : Ref sig .tc := ⟨.hbm, 746, rfl⟩
abbrev main_while0b_v550 : Ref sig .tc := ⟨.hbm, 747, rfl⟩
abbrev main_while0b_v551 : Ref sig .tc := ⟨.hbm, 748, rfl⟩
abbrev main_while0b_v552 : Ref sig .tc := ⟨.hbm, 749, rfl⟩
abbrev main_while0b_v553 : Ref sig .tc := ⟨.hbm, 750, rfl⟩
abbrev main_while0b_v554 : Ref sig .tc := ⟨.hbm, 751, rfl⟩
abbrev main_while0b_v555 : Ref sig .tc := ⟨.hbm, 752, rfl⟩
abbrev main_while0b_v556 : Ref sig .tc := ⟨.hbm, 753, rfl⟩
abbrev main_while0b_v557 : Ref sig .tc := ⟨.hbm, 754, rfl⟩
abbrev main_while0b_v558 : Ref sig .tc := ⟨.hbm, 755, rfl⟩
abbrev main_while0b_v559 : Ref sig .tc := ⟨.hbm, 756, rfl⟩
abbrev main_while0b_v560 : Ref sig .tc := ⟨.hbm, 757, rfl⟩
abbrev main_while0b_v561 : Ref sig .tc := ⟨.hbm, 758, rfl⟩
abbrev main_while0b_call76_v0 : Ref sig .tc := ⟨.hbm, 759, rfl⟩
abbrev main_while0b_call76_c : Ref sig .tc := ⟨.hbm, 760, rfl⟩
abbrev main_while0b_call76_c_0 : Ref sig .tc := ⟨.hbm, 761, rfl⟩
abbrev main_while0b_call76_c_1 : Ref sig .tc := ⟨.hbm, 762, rfl⟩
abbrev main_while0b_call76_c_2 : Ref sig .tc := ⟨.hbm, 763, rfl⟩
abbrev main_while0b_v562 : Ref sig .tc := ⟨.hbm, 764, rfl⟩
abbrev main_while0b_c_88 : Ref sig .tc := ⟨.hbm, 765, rfl⟩
abbrev main_while0b_v563 : Ref sig .tc := ⟨.hbm, 766, rfl⟩
abbrev main_v511 : Ref sig .tc := ⟨.hbm, 767, rfl⟩
abbrev main_v512 : Ref sig .tc := ⟨.hbm, 768, rfl⟩
abbrev main_v513 : Ref sig .tc := ⟨.hbm, 769, rfl⟩
abbrev main_cst_77 : Ref sig .tc := ⟨.hbm, 770, rfl⟩
abbrev main_v514 : Ref sig .tc := ⟨.hbm, 771, rfl⟩
abbrev main_v515 : Ref sig .tc := ⟨.hbm, 772, rfl⟩
abbrev main_cst_78 : Ref sig .tc := ⟨.hbm, 773, rfl⟩
abbrev main_v516 : Ref sig .tc := ⟨.hbm, 774, rfl⟩
abbrev main_v517 : Ref sig .tc := ⟨.hbm, 775, rfl⟩
abbrev main_cst_79 : Ref sig .tc := ⟨.hbm, 776, rfl⟩
abbrev main_v518 : Ref sig .tc := ⟨.hbm, 777, rfl⟩
abbrev main_v519 : Ref sig .tc := ⟨.hbm, 778, rfl⟩
abbrev main_v520 : Ref sig .tc := ⟨.hbm, 779, rfl⟩
abbrev main_v521 : Ref sig .tc := ⟨.hbm, 780, rfl⟩
abbrev main_v522 : Ref sig .tc := ⟨.hbm, 781, rfl⟩
abbrev main_v523 : Ref sig .tc := ⟨.hbm, 782, rfl⟩
abbrev main_v524 : Ref sig .tc := ⟨.hbm, 783, rfl⟩
abbrev main_v525 : Ref sig .tc := ⟨.hbm, 784, rfl⟩
abbrev main_v526 : Ref sig .tc := ⟨.hbm, 785, rfl⟩
abbrev main_v527 : Ref sig .tc := ⟨.hbm, 786, rfl⟩
abbrev main_call77_v0 : Ref sig .tc := ⟨.hbm, 787, rfl⟩
abbrev main_call77_v1 : Ref sig .tc := ⟨.hbm, 788, rfl⟩
abbrev main_call77_cst : Ref sig .tc := ⟨.hbm, 789, rfl⟩
abbrev main_call77_v2 : Ref sig .tc := ⟨.hbm, 790, rfl⟩
abbrev main_call77_v3 : Ref sig .tc := ⟨.hbm, 791, rfl⟩
abbrev main_call77_cst_0 : Ref sig .tc := ⟨.hbm, 792, rfl⟩
abbrev main_call77_v4 : Ref sig .tc := ⟨.hbm, 793, rfl⟩
abbrev main_call77_v5 : Ref sig .tc := ⟨.hbm, 794, rfl⟩
abbrev main_v528 : Ref sig .tc := ⟨.hbm, 795, rfl⟩
abbrev main_v529 : Ref sig .tc := ⟨.hbm, 796, rfl⟩
abbrev main_v530 : Ref sig .tc := ⟨.hbm, 797, rfl⟩
abbrev main_v531 : Ref sig .tc := ⟨.hbm, 798, rfl⟩

abbrev nD : Nat := 1
abbrev τ : Topo := Topo.v7x

variable {F : FTy → Type} [FloatOps F]

abbrev main_while0_count : Scf.Loop 32 := ⟨0#32, 64#32, 1#32⟩
-- ==== Proj.lean ====
abbrev S16384x2048 : Shape := ⟨2, ![16384, 2048]⟩
abbrev S4x9x2048 : Shape := ⟨3, ![4, 9, 2048]⟩
abbrev S16384x1024 : Shape := ⟨2, ![16384, 1024]⟩
abbrev S4x4096x1024 : Shape := ⟨3, ![4, 4096, 1024]⟩
abbrev S2048x2048 : Shape := ⟨2, ![2048, 2048]⟩
abbrev S512x2048 : Shape := ⟨2, ![512, 2048]⟩
abbrev S1x9x2048 : Shape := ⟨3, ![1, 9, 2048]⟩
abbrev S512x1024 : Shape := ⟨2, ![512, 1024]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S4x9x2048, .f32⟩
  | .hbm, ⟨2, _⟩ => ⟨S16384x1024, .bf16⟩
  | .hbm, ⟨3, _⟩ => ⟨S4x4096x1024, .bf16⟩
  | .hbm, ⟨4, _⟩ => ⟨S2048x2048, .f32⟩
  | .hbm, ⟨5, _⟩ => ⟨S16384x1024, .bf16⟩
  | .hbm, ⟨6, _⟩ => ⟨S2048x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x2048, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefProjIdeal.lean ====
abbrev S16384x2048 : Shape := ⟨2, ![16384, 2048]⟩
abbrev S4x9x2048 : Shape := ⟨3, ![4, 9, 2048]⟩
abbrev S16384x1024 : Shape := ⟨2, ![16384, 1024]⟩
abbrev S4x4096x1024 : Shape := ⟨3, ![4, 4096, 1024]⟩
abbrev S2048x2048 : Shape := ⟨2, ![2048, 2048]⟩
abbrev S4x4096x2048 : Shape := ⟨3, ![4, 4096, 2048]⟩
abbrev S4x1x2048 : Shape := ⟨3, ![4, 1, 2048]⟩
abbrev S4x2048 : Shape := ⟨2, ![4, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x9x2048, .f32⟩
  | .hbm, ⟨2, _⟩ => ⟨S16384x1024, .bf16⟩
  | .hbm, ⟨3, _⟩ => ⟨S4x4096x1024, .bf16⟩
  | .hbm, ⟨4, _⟩ => ⟨S2048x2048, .f32⟩
  | .hbm, ⟨5, _⟩ => ⟨S4x4096x2048, .f32⟩
  | .hbm, ⟨6, _⟩ => ⟨S16384x1024, .f32⟩
  | .hbm, ⟨7, _⟩ => ⟨S4x4096x1024, .f32⟩
  | .hbm, ⟨8, _⟩ => ⟨S4x4096x1024, .f32⟩
  | .hbm, ⟨9, _⟩ => ⟨S4x4096x2048, .f32⟩
  | .hbm, ⟨10, _⟩ => ⟨S4x4096x2048, .f32⟩
  | .hbm, ⟨11, _⟩ => ⟨S4x1x2048, .f32⟩
  | .hbm, ⟨12, _⟩ => ⟨S4x2048, .f32⟩
  | .hbm, ⟨13, _⟩ => ⟨S4x1x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mods.lean ====
abbrev S8x2048 : Shape := ⟨2, ![8, 2048]⟩
abbrev S2048x18432 : Shape := ⟨2, ![2048, 18432]⟩
abbrev S18432 : Shape := ⟨1, ![18432]⟩
abbrev S1x18432 : Shape := ⟨2, ![1, 18432]⟩
abbrev S8x18432 : Shape := ⟨2, ![8, 18432]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x18432, .f32⟩
  | .hbm, ⟨2, _⟩ => ⟨S18432, .f32⟩
  | .hbm, ⟨3, _⟩ => ⟨S1x18432, .f32⟩
  | .hbm, ⟨4, _⟩ => ⟨S8x18432, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefModsIdeal.lean ====
abbrev S8x2048 : Shape := ⟨2, ![8, 2048]⟩
abbrev S2048x18432 : Shape := ⟨2, ![2048, 18432]⟩
abbrev S18432 : Shape := ⟨1, ![18432]⟩
abbrev S_ : Shape := ⟨0, ![]⟩
abbrev S8x18432 : Shape := ⟨2, ![8, 18432]⟩
abbrev S1x18432 : Shape := ⟨2, ![1, 18432]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x18432, .f32⟩
  | .hbm, ⟨2, _⟩ => ⟨S18432, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x18432, .f32⟩
  | .hbm, ⟨13, _⟩ => ⟨S1x18432, .f32⟩
  | .hbm, ⟨14, _⟩ => ⟨S8x18432, .f32⟩
  | .hbm, ⟨15, _⟩ => ⟨S8x18432, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Ffn.Common.lean ====
module
public import proofs.«01_k».proof.Proof.Gen.KernelIdeal.Skeleton
public import proofs.«01_k».proof.Proof.Gen.FinalIdeal.Skeleton
public import Idealize.ShloMosaic.Lib.Pipeline.ValueKit
public import Idealize.ShloMosaic.Lib.Pointwise
@[expose] public section

/-! The mathematics both feed-forward calls share, a row at a time, and each of the kernel's computations read at an
element. Nothing here mentions a tile. -/

set_option maxRecDepth 16384
noncomputable section
namespace Cert.Ffn
open Idealize.ShloMosaic Idealize.ShloMosaic.TcCoe Idealize.SL.Sem

/-- A row of the model's width. -/
abbrev Row := Fin 2048 → EReal

/-- The reciprocal root of a row's mean square (with the small constant under the root). -/
def rinv (x : Row) : EReal :=
  Ideal.rsqrt (Ideal.div (∑ k, x k * x k) (Ideal.ofBits FTy.f32 1157627904#32) + Ideal.ofBits FTy.f32 897988541#32)

/-- The normalised row, with the gain and the shift of the modulation. -/
def modNorm (x nw sc sh : Row) : Row := fun b => x b * rinv x * (nw b * (1 + sc b)) + sh b

/-- One hidden unit of the gated layer: `silu (h · g) * (h · u)`. -/
def act (h g u : Row) : EReal :=
  (∑ k, h k * g k) * Ideal.logistic (∑ k, h k * g k) * ∑ k, h k * u k

/-- The residual row: the input plus half the gate times the layer's output. -/
def resid (x gate y : Row) : Row := fun b => x b + Ideal.ofBits FTy.f32 1056964608#32 * gate b * y b

/-- The last normalisation of a row. -/
def lastNorm (x fw : Row) : Row := fun b => x b * rinv x * fw b

/-- The layer's arguments: activations, modulation rows, norm gain, and the three weight matrices. -/
structure Args where
  x : Fin 16384 → Row
  mods : Fin 4 → Fin 9 → Row
  nw : Row
  wg : Fin 2048 → Fin 5632 → EReal
  wu : Fin 2048 → Fin 5632 → EReal
  wd : Fin 5632 → Row

/-- The normalised and modulated row `r`, its modulation rows starting at `b` (shift, scale, gate). -/
def Args.h (A : Args) (b : Fin 7) (r : Fin 16384) : Row :=
  modNorm (A.x r) A.nw (A.mods ⟨r.val / 4096, by omega⟩ ⟨b.val + 1, by omega⟩) (A.mods ⟨r.val / 4096, by omega⟩ ⟨b.val, by omega⟩)

/-- What hidden unit `f` adds to entry `q` of row `r`. -/
def Args.unit (A : Args) (b : Fin 7) (r : Fin 16384) (q : Fin 2048) (f : Fin 5632) : EReal :=
  act (A.h b r) (fun k => A.wg k f) (fun k => A.wu k f) * A.wd f q

/-- The layer's row `r`: the residual with the sum over all hidden units. -/
def Args.out (A : Args) (b : Fin 7) (r : Fin 16384) : Row :=
  resid (A.x r) (A.mods ⟨r.val / 4096, by omega⟩ ⟨b.val + 2, by omega⟩) (fun q => ∑ f, A.unit b r q f)

/-- What the `s`-th block of 512 hidden units adds (nothing past the last block). -/
def Args.block (A : Args) (b : Fin 7) (r : Fin 16384) (q : Fin 2048) (s : ℕ) : EReal :=
  ∑ f : Fin 512, if h : s * 512 + f.val < 5632 then A.unit b r q ⟨s * 512 + f.val, h⟩ else 0

/-- The eleven blocks are all the hidden units. -/
theorem Args.sum_block (A : Args) (b : Fin 7) (r : Fin 16384) (q : Fin 2048) :
    ∑ s ∈ Finset.range 11, A.block b r q s = ∑ f, A.unit b r q f := by
  rw [Finset.sum_range]
  refine Eq.trans ?_ (Fin.sum_univ_tiles 11 512 rfl (A.unit b r q)).symm
  refine Finset.sum_congr rfl fun s _ => Finset.sum_congr rfl fun f _ => ?_
  exact dif_pos (by omega)

/-- The arguments by rows and columns. -/
def argsOf (x0 : FVec Ideal ⟨2, ![16384, 2048]⟩ .f32) (x1 : FVec Ideal ⟨3, ![4, 9, 2048]⟩ .f32) (x2 : FVec Ideal ⟨2, ![1, 2048]⟩ .f32)
    (x3 x4 : FVec Ideal ⟨2, ![2048, 5632]⟩ .f32) (x5 : FVec Ideal ⟨2, ![5632, 2048]⟩ .f32) : Args where
  x r k := x0 (ix2 r k)
  mods b o k := x1 (ix3 b o k)
  nw k := x2 (ix2 0 k)
  wg k f := x3 (ix2 k f)
  wu k f := x4 (ix2 k f)
  wd f q := x5 (ix2 f q)

open Cert.KernelIdeal.Gen Cert.KernelIdeal in
/-- The normalisation of thirty-two rows, read at an element. -/
theorem pay1_apply (v24 v26 : Vec Ideal S1x1x2048 .f32) (v28 : Vec Ideal S1x2048 .f32)
    (v36 : Vec Ideal S32x2048 .f32) (a : Fin 32) (b : Fin 2048) :
    k0_pay1 v24 v26 v28 v36 (ix2 a b)
      = modNorm (fun k => v36 (ix2 a k)) (fun k => v28 (ix2 0 k)) (fun k => v26 (ix3 0 0 k)) (fun k => v24 (ix3 0 0 k)) b := by
  pointwise [k0_pay1]
  rfl

open Cert.KernelIdeal.Gen Cert.KernelIdeal in
/-- The rows the accumulator starts from are zero. -/
theorem pay2_apply (i : S32x2048.Idx) : (k0_pay2 : FVec Ideal S32x2048 .f32) i = 0 := by
  pointwise [k0_pay2]

open Cert.KernelIdeal.Gen Cert.KernelIdeal in
/-- One step of the accumulation, read at an element. -/
theorem pay3_apply (v3 : Vec Ideal S1024x2048 .bf16) (v4 v7 : Vec Ideal S2048x512 .bf16)
    (v14 : Vec Ideal S1024x2048 .f32) (v16 : Vec Ideal S512x2048 .bf16) (a : Fin 1024) (b : Fin 2048) :
    k0_pay3 v3 v4 v7 v14 v16 (ix2 a b)
      = v14 (ix2 a b) + ∑ f : Fin 512, act (fun k => v3 (ix2 a k)) (fun k => v4 (ix2 k f)) (fun k => v7 (ix2 k f)) * v16 (ix2 f b) := by
  pointwise [k0_pay3]
  rfl

open Cert.KernelIdeal.Gen Cert.KernelIdeal in
/-- The residual of thirty-two rows, read at an element. -/
theorem pay4_apply (v24 : Vec Ideal S1x1x2048 .f32) (v30 v34 : Vec Ideal S32x2048 .f32) (a : Fin 32) (b : Fin 2048) :
    k0_pay4 v24 v30 v34 (ix2 a b)
      = resid (fun k => v30 (ix2 a k)) (fun k => v24 (ix3 0 0 k)) (fun k => v34 (ix2 a k)) b := by
  pointwise [k0_pay4]
  rfl

open Cert.FinalIdeal.Gen Cert.FinalIdeal in
/-- The residual of sixty-four rows with the last normalisation, read at an element. -/
theorem final_pay4_apply (v24 : Vec Ideal S1x1x2048 .f32) (v30 v34 : Vec Ideal S64x2048 .f32)
    (v49 : Vec Ideal S1x2048 .f32) (a : Fin 64) (b : Fin 2048) :
    k0_pay4 v24 v30 v34 v49 (ix2 a b)
      = lastNorm (resid (fun k => v30 (ix2 a k)) (fun k => v24 (ix3 0 0 k)) (fun k => v34 (ix2 a k)))
          (fun k => v49 (ix2 0 k)) b := by
  pointwise [k0_pay4]
  rfl

end Cert.Ffn
end
-- ==== Proof.Ffn.Bands.lean ====
module
public import Idealize.ShloMosaic.Lib.Pipeline.ValueKit
public import Idealize.ShloMosaic.Lib.Pointwise
@[expose] public section

/-! A loop that visits the rows of a buffer in bands: what its writes leave, when each band's new rows depend on what the
buffer held in those rows alone. -/

set_option maxRecDepth 16384
noncomputable section
namespace Cert.Ffn
open Idealize.ShloMosaic Idealize.ShloMosaic.TcCoe Idealize.SL.Sem

variable {R W H : ℕ}

/-- A band's own index, placed in the buffer. -/
theorem band_emb (o : ℕ) (off : Fin 2 → ℕ) (h : off = ![o, 0])
    (inb : ∀ a, off a + (![H, W] : Fin 2 → ℕ) a ≤ (⟨2, ![R, W]⟩ : Shape).size a) (a : Fin H) (b : Fin W) (r : Fin R)
    (hr : r.val = o + a.val) : (Rect.unit (s := ⟨2, ![R, W]⟩) off ![H, W] inb).emb (ix2 a b) = ix2 r b := by
  subst h
  funext ax
  apply Fin.ext
  rw [Rect.emb_apply]
  fin_cases ax
  · simpa using hr.symm
  · simp

/-- An index is in a band exactly when its row is. -/
theorem band_mem (o : ℕ) (off : Fin 2 → ℕ) (h : off = ![o, 0])
    (inb : ∀ a, off a + (![H, W] : Fin 2 → ℕ) a ≤ (⟨2, ![R, W]⟩ : Shape).size a) (r : Fin R) (b : Fin W) :
    ix2 r b ∈ (Rect.unit (s := ⟨2, ![R, W]⟩) off ![H, W] inb).set ↔ o ≤ r.val ∧ r.val < o + H := by
  subst h
  rw [Rect.mem_set_unit]
  constructor
  · intro h
    exact h 0
  · intro h ax
    fin_cases ax
    · exact h
    · exact ⟨Nat.zero_le _, by simpa using b.isLt⟩

variable {sig : RefSig} {κ : Kind} {sp : Space} {e : EltTy} {Val : EltTy → Type}
    (v : View sig κ sp ⟨2, ![R, W]⟩ e)

/-- A band read from a buffer. -/
theorem band_readAt (X : BufTy.Contents Val v.ty) (o : ℕ) (off : Fin 2 → ℕ) (h : off = ![o, 0])
    (inb : ∀ a, off a + (![H, W] : Fin 2 → ℕ) a ≤ (⟨2, ![R, W]⟩ : Shape).size a) (a : Fin H) (b : Fin W) (r : Fin R)
    (hr : r.val = o + a.val) :
    v.readAt Val (Rect.unit (s := ⟨2, ![R, W]⟩) off ![H, W] inb).toLoadRect X (ix2 a b) = v.read Val X (ix2 r b) :=
  congrArg (v.read Val X) (band_emb o off h inb a b r hr)

/-- The loop by bands. `L n` is the list of writes after `n` trips, the last first; trip `n` writes the rows
`H * n … H * n + H`, and the new row `r` is a function `Φ r` of what the buffer held in that row. Then after `n` trips
every write is `Φ` of the rows the loop began with, all of them are in the rows below `H * n`, and they fill these. -/
theorem bands (G : BufTy.Contents Val v.ty) (T : ℕ) (L : ℕ → List (View.Piece Val ⟨2, ![R, W]⟩ e))
    (Φ : Fin R → (Fin W → Val e) → Fin W → Val e) (h0 : L 0 = [])
    (hstep : ∀ n < T, ∃ (off : Fin 2 → ℕ) (inb : ∀ a, off a + (![H, W] : Fin 2 → ℕ) a ≤ (⟨2, ![R, W]⟩ : Shape).size a)
      (A : (⟨2, ![H, W]⟩ : Shape).Idx → Val e),
      L (n + 1) = (⟨Rect.unit (s := ⟨2, ![R, W]⟩) off ![H, W] inb, A⟩ : View.Piece Val ⟨2, ![R, W]⟩ e) :: L n ∧ off = ![H * n, 0] ∧
      ∀ (a : Fin H) (b : Fin W) (r : Fin R), r.val = H * n + a.val →
        A (ix2 a b) = Φ r (fun k => v.read Val (v.writes Val G (L n)) (ix2 r k)) b) :
    ∀ n ≤ T,
      (∀ p ∈ L n, ∀ x, p.2 x = Φ (p.1.emb x 0) (fun k => v.read Val G (ix2 (p.1.emb x 0) k)) (p.1.emb x 1)) ∧
      (∀ p ∈ L n, ∀ (r : Fin R) (b : Fin W), ix2 r b ∈ p.1.set → r.val < H * n) ∧
      (∀ (r : Fin R) (b : Fin W), r.val < H * n → ∃ p ∈ L n, ix2 r b ∈ p.1.set)
  | 0, _ => by
    rw [h0]
    refine ⟨fun p hp => absurd hp List.not_mem_nil, fun p hp => absurd hp List.not_mem_nil, fun r b h => ?_⟩
    rw [Nat.mul_zero] at h
    exact absurd h (Nat.not_lt_zero _)
  | n + 1, hn => by
    obtain ⟨i1, i2, i3⟩ := bands G T L Φ h0 hstep n (Nat.le_of_succ_le hn)
    obtain ⟨off, inb, A, hL, ho, hA⟩ := hstep n hn
    have hrow : ∀ a : Fin H, H * n + a.val < R := fun a => by
      have := inb 0
      rw [ho] at this
      have h2 : H * n + H ≤ R := this
      omega
    rw [hL]
    refine ⟨fun p hp => ?_, fun p hp r b hr => ?_, fun r b hr => ?_⟩
    · rcases List.mem_cons.1 hp with rfl | hp
      · intro x
        obtain ⟨a, b, rfl⟩ : ∃ (a : Fin H) (b : Fin W), x = ix2 a b := ⟨x 0, x 1, (eq_ix2 x)⟩
        have he := band_emb (H * n) off ho inb a b ⟨_, hrow a⟩ rfl
        refine (hA a b ⟨_, hrow a⟩ rfl).trans ?_
        dsimp only
        rw [he]
        refine congrArg (fun q => Φ _ q b) (funext fun k => ?_)
        refine View.read_writes_apply_of_forall_not_mem v G _ _ fun p hp hm => ?_
        have := i2 p hp _ _ hm
        dsimp only [ix2_0] at this
        omega
      · exact i1 p hp
    · rcases List.mem_cons.1 hp with rfl | hp
      · have := ((band_mem (H * n) off ho inb r b).1 hr).2
        rw [Nat.mul_succ]; omega
      · have := i2 p hp r b hr
        rw [Nat.mul_succ]; omega
    · by_cases h : r.val < H * n
      · obtain ⟨p, hp, hm⟩ := i3 r b h
        exact ⟨p, List.mem_cons_of_mem _ hp, hm⟩
      · refine ⟨_, List.mem_cons_self, (band_mem (H * n) off ho inb r b).2 ⟨by omega, ?_⟩⟩
        rw [Nat.mul_succ] at hr; omega

/-- What the loop leaves, read at an element, when its bands fill the buffer: whatever the buffer `w` is and whatever
it held before, row `r` holds `Φ r` of the row the loop began with. -/
theorem bands_read (G : BufTy.Contents Val v.ty) (T : ℕ) (hT : R ≤ H * T) (L : ℕ → List (View.Piece Val ⟨2, ![R, W]⟩ e))
    (Φ : Fin R → (Fin W → Val e) → Fin W → Val e) (h0 : L 0 = [])
    (hstep : ∀ n < T, ∃ (off : Fin 2 → ℕ) (inb : ∀ a, off a + (![H, W] : Fin 2 → ℕ) a ≤ (⟨2, ![R, W]⟩ : Shape).size a)
      (A : (⟨2, ![H, W]⟩ : Shape).Idx → Val e),
      L (n + 1) = (⟨Rect.unit (s := ⟨2, ![R, W]⟩) off ![H, W] inb, A⟩ : View.Piece Val ⟨2, ![R, W]⟩ e) :: L n ∧ off = ![H * n, 0] ∧
      ∀ (a : Fin H) (b : Fin W) (r : Fin R), r.val = H * n + a.val →
        A (ix2 a b) = Φ r (fun k => v.read Val (v.writes Val G (L n)) (ix2 r k)) b)
    {κ' : Kind} {sp' : Space} (w : View sig κ' sp' ⟨2, ![R, W]⟩ e) (f : BufTy.Contents Val w.ty) (r : Fin R) (b : Fin W) :
    w.read Val (w.writes Val f (L T)) (ix2 r b) = Φ r (fun k => v.read Val G (ix2 r k)) b := by
  obtain ⟨i1, _, i3⟩ := bands v G T L Φ h0 hstep T le_rfl
  exact View.read_writes_apply_of_pieces w f (fun y => Φ (y 0) (fun k => v.read Val G (ix2 (y 0) k)) (y 1)) (L T) i1 (ix2 r b)
    (i3 r b (lt_of_lt_of_le r.isLt hT))

/-- A write of the whole buffer, read at an element. -/
theorem whole_cons (f : BufTy.Contents Val v.ty)
    (inb : ∀ a, (![0, 0] : Fin 2 → ℕ) a + (![R, W] : Fin 2 → ℕ) a ≤ (⟨2, ![R, W]⟩ : Shape).size a)
    (A : (⟨2, ![R, W]⟩ : Shape).Idx → Val e) (L : List (View.Piece Val ⟨2, ![R, W]⟩ e)) (r : Fin R) (b : Fin W) :
    v.read Val (v.writes Val f ((⟨Rect.unit (s := ⟨2, ![R, W]⟩) ![0, 0] ![R, W] inb, A⟩ : View.Piece Val ⟨2, ![R, W]⟩ e) :: L)) (ix2 r b)
      = A (ix2 r b) := by
  have he := band_emb (R := R) (W := W) (H := R) 0 ![0, 0] rfl inb r b r (Nat.zero_add _).symm
  have := View.read_writes_cons_emb v f (Rect.unit (s := ⟨2, ![R, W]⟩) ![0, 0] ![R, W] inb) A L (ix2 r b)
  rwa [he] at this

/-- The whole buffer read at an element. -/
theorem whole_readAt (X : BufTy.Contents Val v.ty)
    (inb : ∀ a, (![0, 0] : Fin 2 → ℕ) a + (![R, W] : Fin 2 → ℕ) a ≤ (⟨2, ![R, W]⟩ : Shape).size a) (r : Fin R) (b : Fin W) :
    v.readAt Val (Rect.unit (s := ⟨2, ![R, W]⟩) ![0, 0] ![R, W] inb).toLoadRect X (ix2 r b) = v.read Val X (ix2 r b) :=
  band_readAt v X 0 ![0, 0] rfl inb r b r (Nat.zero_add _).symm

end Cert.Ffn
end
-- ==== Proof.Ffn.Steps.lean ====
module
public import proofs.«01_k».proof.Proof.Ffn.Common
public import proofs.«01_k».proof.Proof.Ffn.Bands
@[expose] public section

/-! The steps both feed-forward calls take at a point of their grid, whatever buffers they take them on, and the induction
over the points. -/

set_option maxRecDepth 16384
noncomputable section
namespace Cert.Ffn
open Cert.KernelIdeal Cert.KernelIdeal.Gen Idealize.ShloMosaic Idealize.ShloMosaic.TcCoe Idealize.SL.Sem
variable {sig : RefSig}

/-- The part a block of hidden units adds to a row. -/
def part (h : Row) (g u : Vec Ideal S2048x512 .bf16) (d : Vec Ideal S512x2048 .bf16) (b : Fin 2048) : EReal :=
  ∑ f : Fin 512, act h (fun k => g (ix2 k f)) (fun k => u (ix2 k f)) * d (ix2 f b)

/-- A normalised row of a tile, from the modulation's rows `sc` (scale) and `sh` (shift). -/
def hRow (x0 : Vec Ideal S1024x2048 .f32) (x1 : Vec Ideal S1x9x2048 .f32) (x2 : Vec Ideal S1x2048 .f32) (sc sh : Fin 9) (r : Fin 1024) : Row :=
  modNorm (fun k => x0 (ix2 r k)) (fun k => x2 (ix2 0 k)) (fun k => x1 (ix3 0 sc k)) (fun k => x1 (ix3 0 sh k))

/-- The part the `s`-th block of hidden units adds, when the operands are that block of the weights. -/
theorem part_eq (A : Args) (b : Fin 7) (r : Fin 16384) (q : Fin 2048) (s : ℕ) (hs : s < 11) (g u : Vec Ideal S2048x512 .bf16)
    (d : Vec Ideal S512x2048 .bf16) (hg : ∀ k f (j : Fin 5632), j.val = s * 512 + f.val → g (ix2 k f) = A.wg k j)
    (hu : ∀ k f (j : Fin 5632), j.val = s * 512 + f.val → u (ix2 k f) = A.wu k j)
    (hd : ∀ f k (j : Fin 5632), j.val = s * 512 + f.val → d (ix2 f k) = A.wd j k) :
    part (A.h b r) g u d q = A.block b r q s := by
  refine Finset.sum_congr rfl fun f _ => ?_
  have hl : s * 512 + f.val < 5632 := by omega
  rw [dif_pos hl]
  refine Ideal.mul_congr ?_ (hd f q _ rfl)
  exact congrArg₂ (act _) (funext fun k => hg k f _ rfl) (funext fun k => hu k f _ rfl)

/-- A row of the modulation as the body reads it. -/
theorem mods_read (arg3 : Memref sig .tc .vmem S1x9x2048 .f32) (harg3 : arg3.IsWhole) (x1 : Vec Ideal S1x9x2048 .f32) (o : Fin 9) (off : Fin 3 → ℕ) (ho : off = ![0, o.val, 0])
    (inb : ∀ a, off a + (![1, 1, 2048] : Fin 3 → ℕ) a ≤ S1x9x2048.size a) (k : Fin 2048) :
    View.readAt (Elt Ideal) arg3.view (Rect.unit (s := S1x9x2048) off ![1, 1, 2048] inb).toLoadRect (harg3.unread x1) (ix3 0 0 k) = x1 (ix3 0 o k) := by
  subst ho
  refine (congrFun (harg3.read_unread x1) _).trans (congrArg x1 ?_)
  funext ax
  fin_cases ax
  · rfl
  · rfl
  · exact Fin.ext (by simp)

/-- A whole operand as the body reads it. -/
theorem whole_read {R W : ℕ} {e : EltTy} (m : Memref sig .tc .vmem ⟨2, ![R, W]⟩ e) (hm : m.IsWhole) (x : Vec Ideal ⟨2, ![R, W]⟩ e)
    (inb : ∀ a, (![0, 0] : Fin 2 → ℕ) a + (![R, W] : Fin 2 → ℕ) a ≤ (⟨2, ![R, W]⟩ : Shape).size a) (r : Fin R) (b : Fin W) :
    View.readAt (Elt Ideal) m.view (Rect.unit (s := ⟨2, ![R, W]⟩) ![0, 0] ![R, W] inb).toLoadRect (hm.unread x) (ix2 r b) = x (ix2 r b) :=
  (whole_readAt m.view _ _ r b).trans (congrFun (hm.read_unread x) _)

/-- One accumulation step on operands as the body reads them. -/
theorem step (arg5 : Memref sig .tc .vmem S2048x512 .bf16) (harg5 : arg5.IsWhole) (arg6 : Memref sig .tc .vmem S2048x512 .bf16) (harg6 : arg6.IsWhole)
    (arg7 : Memref sig .tc .vmem S512x2048 .bf16) (harg7 : arg7.IsWhole) (x3 x4 : Vec Ideal S2048x512 .bf16) (x5 : Vec Ideal S512x2048 .bf16)
    (v3 : Vec Ideal S1024x2048 .bf16) (v14 : Vec Ideal S1024x2048 .f32) (h : Row) (o : EReal) (r : Fin 1024) (b : Fin 2048)
    (hv3 : ∀ k, v3 (ix2 r k) = h k) (hv14 : v14 (ix2 r b) = o) (i5 i6 i7) :
    k0_pay3 v3
      (View.readAt (Elt Ideal) arg5.view (Rect.unit (s := S2048x512) ![0, 0] ![2048, 512] i5).toLoadRect (harg5.unread x3))
      (View.readAt (Elt Ideal) arg6.view (Rect.unit (s := S2048x512) ![0, 0] ![2048, 512] i6).toLoadRect (harg6.unread x4)) v14
      (View.readAt (Elt Ideal) arg7.view (Rect.unit (s := S512x2048) ![0, 0] ![512, 2048] i7).toLoadRect (harg7.unread x5)) (ix2 r b)
      = o + part h x3 x4 x5 b := by
  refine (pay3_apply _ _ _ _ _ r b).trans ?_
  unfold part
  refine Ideal.add_congr hv14 (Finset.sum_congr rfl fun f _ => Ideal.mul_congr ?_ (whole_read arg7 harg7 x5 _ f b))
  refine congr (congrArg₂ act (funext hv3) (funext fun k => whole_read arg5 harg5 x3 _ k f)) (funext fun k => whole_read arg6 harg6 x4 _ k f)

/-- The induction over the points of a grid whose every eleven points work on one tile of rows. `O` is the output block and `S`
the scratch buffer after a point. When the first point of a tile leaves the tile's normalised rows in `S` and the first block's part
in `O`, a later one keeps `S` and adds its block's part to `O`, and the last one moreover finishes each row by `fin`, then
after the last point of a tile a row is `fin` of the sum over all hidden units. -/
theorem accumulate (A : Args) (b : Fin 7) (N : ℕ) (O S : ∀ n, n < N → (⟨2, ![1024, 2048]⟩ : Shape).Idx → EReal) (fin : Fin 16384 → Row → Row)
    (hA : ∀ n (hn : n < N), n % 11 = 0 → ∀ (a : Fin 1024) (r : Fin 16384), r.val = 1024 * (n / 11) + a.val →
      (∀ k, S n hn (ix2 a k) = A.h b r k) ∧ ∀ q, O n hn (ix2 a q) = A.block b r q 0)
    (hB : ∀ n (hn : n < N), ¬n % 11 = 0 → ¬n % 11 = 10 → ∀ (hp : n - 1 < N) (a : Fin 1024) (r : Fin 16384) (o : Row),
      (∀ k, S (n - 1) hp (ix2 a k) = A.h b r k) → (∀ q, O (n - 1) hp (ix2 a q) = o q) →
      (∀ k, S n hn (ix2 a k) = A.h b r k) ∧ ∀ q, O n hn (ix2 a q) = o q + A.block b r q (n % 11))
    (hC : ∀ n (hn : n < N), ¬n % 11 = 0 → n % 11 = 10 → ∀ (hp : n - 1 < N) (a : Fin 1024) (r : Fin 16384),
      r.val = 1024 * (n / 11) + a.val → ∀ o : Row,
      (∀ k, S (n - 1) hp (ix2 a k) = A.h b r k) → (∀ q, O (n - 1) hp (ix2 a q) = o q) →
      ∀ q, O n hn (ix2 a q) = fin r (fun q => o q + A.block b r q 10) q) :
    ∀ n (hn : n < N), n % 11 = 10 → ∀ (a : Fin 1024) (r : Fin 16384), r.val = 1024 * (n / 11) + a.val →
      ∀ q, O n hn (ix2 a q) = fin r (fun q => ∑ f, A.unit b r q f) q := by
  have partial_sums : ∀ k, k < 10 → ∀ n (hn : n < N), n % 11 = k → ∀ (a : Fin 1024) (r : Fin 16384), r.val = 1024 * (n / 11) + a.val →
      (∀ k, S n hn (ix2 a k) = A.h b r k) ∧ ∀ q, O n hn (ix2 a q) = ∑ s ∈ Finset.range (k + 1), A.block b r q s := by
    intro k
    induction k with
    | zero =>
      intro _ n hn h0 a r hr
      refine (hA n hn h0 a r hr).imp_right fun h q => ?_
      rw [Finset.sum_range_one]
      exact h q
    | succ k ih =>
      intro hk n hn h a r hr
      have hp : n - 1 < N := by omega
      obtain ⟨i1, i2⟩ := ih (by omega) (n - 1) hp (by omega) a r (by omega)
      refine (hB n hn (by omega) (by omega) hp a r _ i1 i2).imp_right fun e q => (e q).trans ?_
      rw [h]
      exact (Finset.sum_range_succ _ _).symm
  intro n hn h a r hr q
  have hp : n - 1 < N := by omega
  obtain ⟨i1, i2⟩ := partial_sums 9 (by omega) (n - 1) hp (by omega) a r (by omega)
  refine (hC n hn (by omega) h hp a r hr _ i1 i2 q).trans (congrArg (fun y => fin r y q) (funext fun k => ?_))
  rw [← Args.sum_block]
  exact (Finset.sum_range_succ _ 10).symm

end Cert.Ffn
end
-- ==== Proof.Ffn.Loop.lean ====
module
public import proofs.«01_k».proof.Proof.Ffn.Common
public import proofs.«01_k».proof.Proof.Ffn.Bands
public import proofs.«01_k».proof.Proof.Gen.KernelIdeal.Frame
@[expose] public section

/-! What the two row loops of the first feed-forward call leave in the buffers they write. -/

set_option maxRecDepth 16384
noncomputable section
namespace Cert.Ffn
open Cert.KernelIdeal Cert.KernelIdeal.Gen Idealize.ShloMosaic Idealize.ShloMosaic.TcCoe Idealize.SL.Sem
variable (𝒱 : Variants) (c : Dev nD) (bd : Option 𝒱.V) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole)

variable {sp' : Space} {κ' : Kind}

/-- The first loop leaves zero rows in the accumulator. -/
theorem t1_acc (k0_h1 : k0_cond1 i = 1#1) (v24 v26 : Vec Ideal S1x1x2048 .f32) (v28 : Vec Ideal S1x2048 .f32)
    (X : BufTy.Contents (Elt Ideal) arg2.view.ty)
    (w : View sig κ' sp' S1024x2048 .f32) (f : BufTy.Contents (Elt Ideal) w.ty) (r : Fin 1024) (b : Fin 2048) :
    w.read (Elt Ideal) (w.writes (Elt Ideal) f
      (pb_k0_t1 (F := Ideal) 𝒱 c bd i arg2 harg2 arg3 harg3 arg4 harg4 arg5 harg5 arg6 harg6 arg7 harg7 arg8 harg8 arg9 harg9 k0_h1 v24 v26 v28 X k0_t1_loop.trips).1) (ix2 r b) = (0 : EReal) := by
  refine bands_read (H := 32) w f k0_t1_loop.trips (by decide)
    (fun n => (pb_k0_t1 (F := Ideal) 𝒱 c bd i arg2 harg2 arg3 harg3 arg4 harg4 arg5 harg5 arg6 harg6 arg7 harg7 arg8 harg8 arg9 harg9 k0_h1 v24 v26 v28 X n).1) (fun _ _ _ => (0 : EReal)) rfl (fun n hn => ?_) w f r b
  refine ⟨_, ?inb, ?new, ?list, k0_off1_eq ⟨n, hn⟩, ?val⟩
  case list =>
    refine (congrArg Prod.fst (pb_k0_t1_succ (F := Ideal) 𝒱 c bd i arg2 harg2 arg3 harg3 arg4 harg4 arg5 harg5 arg6 harg6 arg7 harg7 arg8 harg8 arg9 harg9 k0_h1 v24 v26 v28 X ⟨n, hn⟩)).trans ?_
    dsimp only
    unfold trip_k0_t1
    rfl
  case val =>
    intro a b r hr
    exact pay2_apply _

/-- The first loop leaves the normalised rows of the tile in the scratch buffer. -/
theorem t1_scr (k0_h1 : k0_cond1 i = 1#1) (v24 v26 : Vec Ideal S1x1x2048 .f32) (v28 : Vec Ideal S1x2048 .f32)
    (X : BufTy.Contents (Elt Ideal) arg2.view.ty)
    (w : View sig κ' sp' S1024x2048 .bf16) (f : BufTy.Contents (Elt Ideal) w.ty) (r : Fin 1024) (b : Fin 2048) :
    w.read (Elt Ideal) (w.writes (Elt Ideal) f
      (pb_k0_t1 (F := Ideal) 𝒱 c bd i arg2 harg2 arg3 harg3 arg4 harg4 arg5 harg5 arg6 harg6 arg7 harg7 arg8 harg8 arg9 harg9 k0_h1 v24 v26 v28 X k0_t1_loop.trips).2) (ix2 r b)
      = modNorm (fun k => arg2.view.read (Elt Ideal) X (ix2 r k)) (fun k => v28 (ix2 0 k)) (fun k => v26 (ix3 0 0 k))
          (fun k => v24 (ix3 0 0 k)) b := by
  refine bands_read (H := 32) w f k0_t1_loop.trips (by decide)
    (fun n => (pb_k0_t1 (F := Ideal) 𝒱 c bd i arg2 harg2 arg3 harg3 arg4 harg4 arg5 harg5 arg6 harg6 arg7 harg7 arg8 harg8 arg9 harg9 k0_h1 v24 v26 v28 X n).2) (fun r _ => modNorm (fun k => arg2.view.read (Elt Ideal) X (ix2 r k)) (fun k => v28 (ix2 0 k)) (fun k => v26 (ix3 0 0 k))
          (fun k => v24 (ix3 0 0 k))) rfl (fun n hn => ?_) w f r b
  refine ⟨_, ?inb, ?new, ?list, k0_off1_eq ⟨n, hn⟩, ?val⟩
  case list =>
    refine (congrArg Prod.snd (pb_k0_t1_succ (F := Ideal) 𝒱 c bd i arg2 harg2 arg3 harg3 arg4 harg4 arg5 harg5 arg6 harg6 arg7 harg7 arg8 harg8 arg9 harg9 k0_h1 v24 v26 v28 X ⟨n, hn⟩)).trans ?_
    dsimp only
    unfold trip_k0_t1
    rfl
  case val =>
    intro a b r hr
    refine (pay1_apply _ _ _ _ _ _).trans ?_
    refine congrArg (fun q => modNorm q _ _ _ b) (funext fun k => ?_)
    exact band_readAt arg2.view X (32 * n) _ (k0_off1_eq ⟨n, hn⟩) _ a k r hr

/-- The second loop leaves, in each row, the residual of the input's row and of the row it began with. -/
theorem t2_acc (k0_h2 : k0_cond2 i = 1#1) (v24 : Vec Ideal S1x1x2048 .f32) (X : BufTy.Contents (Elt Ideal) arg2.view.ty)
    (G : BufTy.Contents (Elt Ideal) arg8.view.ty)
    (w : View sig κ' sp' S1024x2048 .f32) (f : BufTy.Contents (Elt Ideal) w.ty) (r : Fin 1024) (b : Fin 2048) :
    w.read (Elt Ideal) (w.writes (Elt Ideal) f
      (pb_k0_t2 (F := Ideal) 𝒱 c bd i arg2 harg2 arg3 harg3 arg4 harg4 arg5 harg5 arg6 harg6 arg7 harg7 arg8 harg8 arg9 harg9 k0_h2 v24 X G k0_t2_loop.trips)) (ix2 r b)
      = resid (fun k => arg2.view.read (Elt Ideal) X (ix2 r k)) (fun k => v24 (ix3 0 0 k))
          (fun k => arg8.view.read (Elt Ideal) G (ix2 r k)) b := by
  refine bands_read (H := 32) arg8.view G k0_t2_loop.trips (by decide) _
    (fun r q => resid (fun k => arg2.view.read (Elt Ideal) X (ix2 r k)) (fun k => v24 (ix3 0 0 k)) q) rfl (fun n hn => ?_) w f r b
  refine ⟨_, ?inb, ?new, ?list, k0_off2_eq ⟨n, hn⟩, ?val⟩
  case list =>
    refine (pb_k0_t2_succ (F := Ideal) 𝒱 c bd i arg2 harg2 arg3 harg3 arg4 harg4 arg5 harg5 arg6 harg6 arg7 harg7 arg8 harg8 arg9 harg9 k0_h2 v24 X G ⟨n, hn⟩).trans ?_
    dsimp only
    unfold tripL_k0_t2 trip_k0_t2
    rfl
  case val =>
    intro a b r hr
    refine (pay4_apply _ _ _ _ _).trans ?_
    refine congrArg₂ (fun q p => resid q _ p b) (funext fun k => ?_) (funext fun k => ?_)
    · exact band_readAt arg2.view X (32 * n) _ (k0_off2_eq ⟨n, hn⟩) _ a k r hr
    · exact band_readAt arg8.view _ (32 * n) _ (k0_off2_eq ⟨n, hn⟩) _ a k r hr

end Cert.Ffn
end
-- ==== Proof.Ffn.Point.lean ====
module
public import proofs.«01_k».proof.Proof.Ffn.Steps
public import proofs.«01_k».proof.Proof.Ffn.Loop
@[expose] public section

/-! One point of the first feed-forward call: what each case of the body leaves in the output block and in the scratch
buffer, read at an element. -/

set_option maxRecDepth 16384
noncomputable section
namespace Cert.Ffn
open Cert.KernelIdeal Cert.KernelIdeal.Gen Idealize.ShloMosaic Idealize.ShloMosaic.TcCoe Idealize.SL.Sem
variable (c : Dev nD) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole)
variable (x0 : Vec Ideal S1024x2048 .f32) (x1 : Vec Ideal S1x9x2048 .f32) (x2 : Vec Ideal S1x2048 .f32) (x3 : Vec Ideal S2048x512 .bf16) (x4 : Vec Ideal S2048x512 .bf16) (x5 : Vec Ideal S512x2048 .bf16)

/-- At the first block of hidden units the scratch buffer is filled with the normalised rows. -/
theorem scr_A (hc0 hc1) (r : Fin 1024) (b : Fin 2048) :
    sout0_A_0 c i arg2 harg2 arg3 harg3 arg4 harg4 arg5 harg5 arg6 harg6 arg7 harg7 arg8 harg8 arg9 harg9 hc0 hc1 x0 x1 x2 x3 x4 x5 (ix2 r b) = hRow x0 x1 x2 1 0 r b := by
  unfold sout0_A_0 kernelRun0_A
  dsimp only
  refine (t1_scr Variants.none c none i arg2 harg2 arg3 harg3 arg4 harg4 arg5 harg5 arg6 harg6 arg7 harg7 arg8 harg8 arg9 harg9 hc0 _ _ _ _ VS0_0 _ r b).trans ?_
  unfold hRow
  congr 1
  · funext k
    exact congrFun (harg2.read_unread x0) _
  · funext k
    refine (whole_readAt arg4.view _ _ 0 k).trans ?_
    exact congrFun (harg4.read_unread x2) _
  · funext k
    exact mods_read arg3 harg3 x1 1 _ rfl _ k
  · funext k
    exact mods_read arg3 harg3 x1 0 _ rfl _ k

/-- At the first block the accumulator becomes that block's part. -/
theorem out_A (hc0 hc1) (r : Fin 1024) (b : Fin 2048) :
    out0_A_6 c i arg2 harg2 arg3 harg3 arg4 harg4 arg5 harg5 arg6 harg6 arg7 harg7 arg8 harg8 arg9 harg9 hc0 hc1 x0 x1 x2 x3 x4 x5 (ix2 r b) = part (hRow x0 x1 x2 1 0 r) x3 x4 x5 b := by
  have hs := fun k => scr_A c i arg2 harg2 arg3 harg3 arg4 harg4 arg5 harg5 arg6 harg6 arg7 harg7 arg8 harg8 arg9 harg9 x0 x1 x2 x3 x4 x5 hc0 hc1 r k
  unfold sout0_A_0 kernelRun0_A at hs
  unfold out0_A_6 kernelRun0_A
  dsimp only at hs ⊢
  refine (whole_cons VO0_6 _ _ _ _ r b).trans ?_
  refine (step arg5 harg5 arg6 harg6 arg7 harg7 x3 x4 x5 _ _ (hRow x0 x1 x2 1 0 r) 0 r b ?_ ?_ _ _ _).trans (zero_add _)
  · intro k
    exact (whole_readAt arg9.view _ _ r k).trans ((t1_scr Variants.none c none i arg2 harg2 arg3 harg3 arg4 harg4 arg5 harg5 arg6 harg6 arg7 harg7 arg8 harg8 arg9 harg9 hc0 _ _ _ _ arg9.view _ r k).trans
      ((t1_scr Variants.none c none i arg2 harg2 arg3 harg3 arg4 harg4 arg5 harg5 arg6 harg6 arg7 harg7 arg8 harg8 arg9 harg9 hc0 _ _ _ _ VS0_0 _ r k).symm.trans (hs k)))
  · exact (whole_readAt arg8.view _ _ r b).trans (t1_acc Variants.none c none i arg2 harg2 arg3 harg3 arg4 harg4 arg5 harg5 arg6 harg6 arg7 harg7 arg8 harg8 arg9 harg9 hc0 _ _ _ _ arg8.view _ r b)

/-- At a later block the accumulator grows by the block's part. -/
theorem out_B (hc0 hc1 xo xs) (r : Fin 1024) (b : Fin 2048) :
    out0_B_6 c i arg2 harg2 arg3 harg3 arg4 harg4 arg5 harg5 arg6 harg6 arg7 harg7 arg8 harg8 arg9 harg9 hc0 hc1 x0 x1 x2 x3 x4 x5 xo xs (ix2 r b) = xo (ix2 r b) + part (fun k => xs (ix2 r k)) x3 x4 x5 b := by
  unfold out0_B_6 kernelRun0_B
  dsimp only
  refine (whole_cons VO0_6 _ _ _ _ r b).trans ?_
  exact step arg5 harg5 arg6 harg6 arg7 harg7 x3 x4 x5 _ _ _ _ r b (fun k => whole_read arg9 harg9 xs _ r k) (whole_read arg8 harg8 xo _ r b) _ _ _

/-- At the last block the row is finished. -/
theorem out_C (hc0 hc1 xo xs) (r : Fin 1024) (b : Fin 2048) :
    out0_C_6 c i arg2 harg2 arg3 harg3 arg4 harg4 arg5 harg5 arg6 harg6 arg7 harg7 arg8 harg8 arg9 harg9 hc0 hc1 x0 x1 x2 x3 x4 x5 xo xs (ix2 r b)
      = resid (fun k => x0 (ix2 r k)) (fun k => x1 (ix3 0 2 k)) (fun k => xo (ix2 r k) + part (fun k => xs (ix2 r k)) x3 x4 x5 k) b := by
  unfold out0_C_6 kernelRun0_C
  dsimp only
  rw [View.writes_append]
  refine (t2_acc Variants.none c none i arg2 harg2 arg3 harg3 arg4 harg4 arg5 harg5 arg6 harg6 arg7 harg7 arg8 harg8 arg9 harg9 hc1 _ _ _ VO0_6 _ r b).trans ?_
  congr 1
  · funext k
    exact congrFun (harg2.read_unread x0) _
  · funext k
    exact mods_read arg3 harg3 x1 2 _ rfl _ k
  · funext k
    unfold kernelRun0_C.sl.H6_1
    refine (whole_cons arg8.view _ _ _ _ r k).trans ?_
    exact step arg5 harg5 arg6 harg6 arg7 harg7 x3 x4 x5 _ _ _ _ r k (fun k => whole_read arg9 harg9 xs _ r k) (whole_read arg8 harg8 xo _ r k) _ _ _

end Cert.Ffn
end
-- ==== Proof.Ffn.Array.lean ====
module
public import proofs.«01_k».proof.Proof.Ffn.Point
public import proofs.«01_k».proof.Proof.Gen.KernelIdeal.Value
@[expose] public section

/-! The first feed-forward call over its grid: the blocks of hidden units of one tile of rows, one after another, and the
array the call leaves. -/

set_option maxRecDepth 16384
noncomputable section
namespace Cert.Ffn
open Cert.KernelIdeal Cert.KernelIdeal.Gen Idealize.ShloMosaic Idealize.ShloMosaic.TcCoe Idealize.SL.Sem

variable (m : (ℓ : Loc nD τ sig) → Buf (Elt Ideal) ℓ) (c : Dev nD)

/-- The blocks each point of the grid works on. -/
theorem idx : ∀ t : Fin cfg0.N, win0_0.index t = ![t.val / 11, 0] ∧ win0_1.index t = ![t.val / 11 / 4, 0, 0]
    ∧ win0_2.index t = ![0, 0] ∧ win0_3.index t = ![0, t.val % 11] ∧ win0_4.index t = ![0, t.val % 11]
    ∧ win0_5.index t = ![t.val % 11, 0] ∧ win0_6.index t = ![t.val / 11, 0] :=
  (by decide +kernel : ∀ t : Fin grid0.N, _)

/-- The arguments as the memory holds them. -/
def args : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- Operand 0's block: rows of the activations. -/
theorem blk0 (t : Fin cfg0.N) (a : Fin 1024) (k : Fin 2048) (r : Fin 16384) (hr : r.val = 1024 * (t.val / 11) + a.val) :
    iblk m c 0 t (ix2 a k) = (args m c).x r k := by
  show (_ : EReal) = m ((c.tc : Thread nD τ).loc main_arg0) (ix2 r k)
  blk_ext [iblk, V, idx t]
/-- Operand 1's block: the modulation's rows of the tile's batch. -/
theorem blk1 (t : Fin cfg0.N) (o : Fin 9) (k : Fin 2048) (b : Fin 4) (hb : b.val = t.val / 11 / 4) :
    iblk m c 1 t (ix3 0 o k) = (args m c).mods b o k := by
  show (_ : EReal) = m ((c.tc : Thread nD τ).loc main_arg1) (ix3 b o k)
  blk_ext [iblk, V, idx t]
/-- Operand 2's block: the norm's gain. -/
theorem blk2 (t : Fin cfg0.N) (k : Fin 2048) : iblk m c 2 t (ix2 0 k) = (args m c).nw k := by
  show (_ : EReal) = m ((c.tc : Thread nD τ).loc main_arg2) (ix2 0 k)
  blk_ext [iblk, V, idx t]
/-- Operand 3's block: columns of the gate weights. -/
theorem blk3 (t : Fin cfg0.N) (k : Fin 2048) (f : Fin 512) (g : Fin 5632) (hg : g.val = t.val % 11 * 512 + f.val) :
    iblk m c 3 t (ix2 k f) = (args m c).wg k g := by
  show (_ : EReal) = m ((c.tc : Thread nD τ).loc main_arg3) (ix2 k g)
  blk_point [iblk, V, idx t]
/-- Operand 4's block: columns of the up weights. -/
theorem blk4 (t : Fin cfg0.N) (k : Fin 2048) (f : Fin 512) (g : Fin 5632) (hg : g.val = t.val % 11 * 512 + f.val) :
    iblk m c 4 t (ix2 k f) = (args m c).wu k g := by
  show (_ : EReal) = m ((c.tc : Thread nD τ).loc main_arg4) (ix2 k g)
  blk_point [iblk, V, idx t]
/-- Operand 5's block: rows of the down weights. -/
theorem blk5 (t : Fin cfg0.N) (f : Fin 512) (q : Fin 2048) (g : Fin 5632) (hg : g.val = t.val % 11 * 512 + f.val) :
    iblk m c 5 t (ix2 f q) = (args m c).wd g q := by
  show (_ : EReal) = m ((c.tc : Thread nD τ).loc main_arg5) (ix2 g q)
  blk_point [iblk, V, idx t]

/-- The part a point's block of hidden units adds, in terms of the arguments. -/
theorem part_at (t : Fin cfg0.N) (r : Fin 16384) (q : Fin 2048) :
    part ((args m c).h 0 r) (iblk m c 3 t) (iblk m c 4 t) (iblk m c 5 t) q = (args m c).block 0 r q (t.val % 11) :=
  part_eq (args m c) 0 r q _ (Nat.mod_lt _ (by decide)) _ _ _ (blk3 m c t) (blk4 m c t) (blk5 m c t)

/-- The normalised row of a point's tile, in terms of the arguments. -/
theorem hRow_eq (t : Fin cfg0.N) (a : Fin 1024) (r : Fin 16384) (hr : r.val = 1024 * (t.val / 11) + a.val) :
    hRow (iblk m c 0 t) (iblk m c 1 t) (iblk m c 2 t) 1 0 a = (args m c).h 0 r := by
  have hb : (⟨r.val / 4096, by omega⟩ : Fin 4).val = t.val / 11 / 4 := by
    show r.val / 4096 = _
    omega
  unfold hRow Args.h
  congr 1
  · exact funext fun k => blk0 m c t a k r hr
  · exact funext fun k => blk2 m c t k
  · exact funext fun k => blk1 m c t 1 k _ hb
  · exact funext fun k => blk1 m c t 0 k _ hb

/-- After the first block of hidden units of a tile. -/
theorem point_A (t : Fin cfg0.N) (h0 : t.val % 11 = 0) (a : Fin 1024) (r : Fin 16384) (hr : r.val = 1024 * (t.val / 11) + a.val) :
    (∀ k, (outsAt0 m c t.val t.isLt).2 (ix2 a k) = (args m c).h 0 r k) ∧
    (∀ q, (outsAt0 m c t.val t.isLt).1 (ix2 a q) = (args m c).block 0 r q 0) := by
  rw [outsAt0_A m c t h0 (by omega)]
  refine ⟨fun k => ?_, fun q => ?_⟩
  · exact (scr_A _ _ _ _ _ _ _ _ _ _ _ _ _ _ _ _ _ _ _ _ _ _ _ _ _ _ a k).trans (congrFun (hRow_eq m c t a r hr) k)
  · dsimp only
    refine (out_A _ _ _ _ _ _ _ _ _ _ _ _ _ _ _ _ _ _ _ _ _ _ _ _ _ _ a q).trans ?_
    rw [hRow_eq m c t a r hr, part_at, h0]

/-- After a later block of a tile but the last, when the point before left the sum `o` and the tile's normalised rows. -/
theorem point_B (t : Fin cfg0.N) (h0 : ¬t.val % 11 = 0) (h1 : ¬t.val % 11 = 10) (hp : t.val - 1 < cfg0.N) (a : Fin 1024) (r : Fin 16384) (o : Row)
    (ih : ∀ k, (outsAt0 m c (t.val - 1) hp).2 (ix2 a k) = (args m c).h 0 r k)
    (io : ∀ q, (outsAt0 m c (t.val - 1) hp).1 (ix2 a q) = o q) :
    (∀ k, (outsAt0 m c t.val t.isLt).2 (ix2 a k) = (args m c).h 0 r k) ∧
    (∀ q, (outsAt0 m c t.val t.isLt).1 (ix2 a q) = o q + (args m c).block 0 r q (t.val % 11)) := by
  rw [outsAt0_B m c t h0 h1]
  refine ⟨ih, fun q => ?_⟩
  dsimp only
  refine (out_B _ _ _ _ _ _ _ _ _ _ _ _ _ _ _ _ _ _ _ _ _ _ _ _ _ _ _ _ a q).trans ?_
  refine (congrArg₂ (fun x y => x + part y _ _ _ q) (io q) (funext ih)).trans ?_
  rw [part_at]

/-- After the last block of a tile. -/
theorem point_C (t : Fin cfg0.N) (h0 : ¬t.val % 11 = 0) (h1 : t.val % 11 = 10) (hp : t.val - 1 < cfg0.N) (a : Fin 1024) (r : Fin 16384)
    (hr : r.val = 1024 * (t.val / 11) + a.val) (o : Row)
    (ih : ∀ k, (outsAt0 m c (t.val - 1) hp).2 (ix2 a k) = (args m c).h 0 r k)
    (io : ∀ q, (outsAt0 m c (t.val - 1) hp).1 (ix2 a q) = o q) :
    ∀ q, (outsAt0 m c t.val t.isLt).1 (ix2 a q)
      = resid ((args m c).x r) ((args m c).mods ⟨r.val / 4096, by omega⟩ 2) (fun q => o q + (args m c).block 0 r q 10) q := by
  have hb : (⟨r.val / 4096, by omega⟩ : Fin 4).val = t.val / 11 / 4 := by
    show r.val / 4096 = _
    omega
  rw [outsAt0_C m c t h0 h1]
  intro q
  dsimp only
  refine (out_C _ _ _ _ _ _ _ _ _ _ _ _ _ _ _ _ _ _ _ _ _ _ _ _ _ _ _ _ a q).trans ?_
  congr 1
  · exact funext fun k => blk0 m c t a k r hr
  · exact funext fun k => blk1 m c t 2 k _ hb
  · funext k
    refine (congrArg₂ (fun x y => x + part y _ _ _ k) (io k) (funext ih)).trans ?_
    rw [part_at, h1]

/-- After the last block of a tile, its rows are the layer's rows. -/
theorem state (n : ℕ) (hn : n < cfg0.N) (h : n % 11 = 10) (a : Fin 1024) (r : Fin 16384) (hr : r.val = 1024 * (n / 11) + a.val) (q : Fin 2048) :
    (outsAt0 m c n hn).1 (ix2 a q) = (args m c).out 0 r q :=
  accumulate (args m c) 0 cfg0.N (fun n hn => (outsAt0 m c n hn).1) (fun n hn => (outsAt0 m c n hn).2)
    (fun r y => resid ((args m c).x r) ((args m c).mods ⟨r.val / 4096, by omega⟩ 2) y)
    (fun n hn => point_A m c ⟨n, hn⟩) (fun n hn h0 h1 hp a r o => point_B m c ⟨n, hn⟩ h0 h1 hp a r o)
    (fun n hn h0 h1 hp a r hr o => point_C m c ⟨n, hn⟩ h0 h1 hp a r hr o) n hn h a r hr q

/-- The array the call leaves: the layer's rows. -/
theorem array (r : Fin 16384) (q : Fin 2048) : Value.G6 m c (ix2 r q) = (args m c).out 0 r q := by
  have hN : cfg0.N = 176 := N_0
  have hq : q.val / 2048 = 0 := Nat.div_eq_of_lt q.isLt
  have hp : Value.pt6Of (ix2 r q) = 11 * (r.val / 1024) + 10 := by
    show 11 * (1 * (r.val / 1024 - 0) + 1 * (q.val / 2048 - 0)) + 10 = _
    omega
  have hlt : Value.pt6Of (ix2 r q) < cfg0.N := by rw [hp, hN]; omega
  have hl : Value.loc6Of (ix2 r q) = ix2 (⟨r.val % 1024, Nat.mod_lt _ (by decide)⟩ : Fin 1024) q := by
    funext ax
    fin_cases ax
    · rfl
    · exact Fin.ext (Nat.mod_eq_of_lt q.isLt)
  unfold Value.G6
  rw [dif_pos hlt, ← Value.outsAt0_sweep, hl]
  exact state m c _ hlt (by rw [hp]; omega) ⟨r.val % 1024, Nat.mod_lt _ (by decide)⟩ r (by rw [hp]; dsimp only; omega) q

end Cert.Ffn
end
-- ==== Proof.Ffn.Ref.lean ====
module
public import proofs.«01_k».proof.Proof.Ffn.Common
public import proofs.«01_k».proof.Proof.Gen.ReferenceIdeal.Read
@[expose] public section

/-! The first feed-forward reference, read at an element. -/

set_option maxRecDepth 16384
noncomputable section
namespace Cert.Ffn.Ref
open Cert.ReferenceIdeal Cert.ReferenceIdeal.Gen Idealize.ShloMosaic Idealize.ShloMosaic.TcCoe Idealize.SL.Sem

variable (m : (ℓ : Loc nD τ sig) → Buf (Elt Ideal) ℓ) (c : Dev nD)

variable (x0 : FVec Ideal S16384x2048 .f32) (x1 : FVec Ideal S4x9x2048 .f32) (x2 : FVec Ideal S1x2048 .f32)
    (x3 x4 : FVec Ideal S2048x5632 .f32) (x5 : FVec Ideal S5632x2048 .f32)

/-- The activations, batch by batch. -/
theorem v0_at (r : Fin 16384) (k : Fin 2048) :
    Read.val_main_v0 (F := Ideal) x0 (ix3 (⟨r.val / 4096, by omega⟩ : Fin 4) (⟨r.val % 4096, by omega⟩ : Fin 4096) k) = x0 (ix2 r k) := by
  pointwise [Read.val_main_v0]
  blk_ext []

/-- The normalised and modulated activations. -/
theorem v25_at (r : Fin 16384) (k : Fin 2048) :
    Read.val_main_v25 (F := Ideal) x0 x1 x2 (ix3 (⟨r.val / 4096, by omega⟩ : Fin 4) (⟨r.val % 4096, by omega⟩ : Fin 4096) k)
      = (argsOf x0 x1 x2 x3 x4 x5).h 0 r k := by
  pointwise [Read.val_main_v25, Read.val_main_v24, Read.val_main_v23, Read.val_main_v22, Read.val_main_v21, Read.val_main_v20, Read.val_main_v19,
    Read.val_main_v18, Read.val_main_v17, Read.val_main_v16, Read.val_main_v15, Read.val_main_v14, Read.val_main_v13, Read.val_main_v12,
    Read.val_main_v11, Read.val_main_v10, Read.val_main_v9, Read.val_main_v8, Read.val_main_v7, Read.val_main_v6, Read.val_main_v5, Read.val_main_v4,
    Read.val_main_v3, Read.val_main_v2, Read.val_main_v1, Read.val_main_cst, Read.val_main_cst_0, Read.val_main_cst_1, Read.val_main_cst_2]
  simp only [v0_at]
  rw [mul_assoc (_ * _) (x2 _)]
  rfl

/-- The hidden units. -/
theorem v34_at (r : Fin 16384) (f : Fin 5632) :
    Read.val_main_v34 (F := Ideal) x0 x1 x2 x3 x4 (ix3 (⟨r.val / 4096, by omega⟩ : Fin 4) (⟨r.val % 4096, by omega⟩ : Fin 4096) f)
      = act ((argsOf x0 x1 x2 x3 x4 x5).h 0 r) (fun k => x3 (ix2 k f)) (fun k => x4 (ix2 k f)) := by
  pointwise [Read.val_main_v34, Read.val_main_v33, Read.val_main_v32, Read.val_main_v31, Read.val_main_call0_v5, Read.val_main_call0_v4, Read.val_main_call0_v3, Read.val_main_call0_v2, Read.val_main_call0_v1, Read.val_main_call0_v0, Read.val_main_call0_cst, Read.val_main_call0_cst_0]
  simp only [v25_at x0 x1 x2 x3 x4 x5]
  rfl

/-- The reference's result is the layer's rows. -/
theorem v39_at (r : Fin 16384) (q : Fin 2048) :
    Read.val_main_v39 (F := Ideal) x0 x1 x2 x3 x4 x5 (ix2 r q) = (argsOf x0 x1 x2 x3 x4 x5).out 0 r q := by
  pointwise [Read.val_main_v39, Read.val_main_v38, Read.val_main_v37, Read.val_main_v36, Read.val_main_v35, Read.val_main_v30, Read.val_main_v29, Read.val_main_v28, Read.val_main_v27, Read.val_main_v26, Read.val_main_cst_3]
  simp only [v0_at, v34_at x0 x1 x2 x3 x4 x5]
  rfl

/-- The reference's result as its run states it. -/
theorem result (r : Fin 16384) (q : Fin 2048) : Cert.ReferenceIdeal.Value.res_out0 m c (ix2 r q)
    = (argsOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))).out 0 r q :=
  (congrFun (Read.val_main_v39_eq (F := Ideal) m c) (ix2 r q)).trans (v39_at _ _ _ _ _ _ r q)

end Cert.Ffn.Ref
end
-- ==== Proof.Ffn.FinalLoop.lean ====
module
public import proofs.«01_k».proof.Proof.Ffn.Common
public import proofs.«01_k».proof.Proof.Ffn.Bands
public import proofs.«01_k».proof.Proof.Gen.FinalIdeal.Frame
@[expose] public section

/-! What the two row loops of the last feed-forward call leave in the buffers they write. -/

set_option maxRecDepth 16384
noncomputable section
namespace Cert.Ffn.Final
open Cert.FinalIdeal Cert.FinalIdeal.Gen Idealize.ShloMosaic Idealize.ShloMosaic.TcCoe Idealize.SL.Sem
variable (𝒱 : Variants) (c : Dev nD) (bd : Option 𝒱.V) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole)

variable {sp' : Space} {κ' : Kind}

/-- The first loop leaves zero rows in the accumulator. -/
theorem t1_acc (k0_h1 : k0_cond1 i = 1#1) (v24 v26 : Vec Ideal S1x1x2048 .f32) (v28 : Vec Ideal S1x2048 .f32)
    (X : BufTy.Contents (Elt Ideal) arg2.view.ty)
    (w : View sig κ' sp' S1024x2048 .f32) (f : BufTy.Contents (Elt Ideal) w.ty) (r : Fin 1024) (b : Fin 2048) :
    w.read (Elt Ideal) (w.writes (Elt Ideal) f
      (pb_k0_t1 (F := Ideal) 𝒱 c bd i arg2 harg2 arg3 harg3 arg4 harg4 arg5 harg5 arg6 harg6 arg7 harg7 arg8 harg8 arg9 harg9 arg10 harg10 k0_h1 v24 v26 v28 X k0_t1_loop.trips).1) (ix2 r b) = (0 : EReal) := by
  refine bands_read (H := 32) w f k0_t1_loop.trips (by decide)
    (fun n => (pb_k0_t1 (F := Ideal) 𝒱 c bd i arg2 harg2 arg3 harg3 arg4 harg4 arg5 harg5 arg6 harg6 arg7 harg7 arg8 harg8 arg9 harg9 arg10 harg10 k0_h1 v24 v26 v28 X n).1) (fun _ _ _ => (0 : EReal)) rfl (fun n hn => ?_) w f r b
  refine ⟨_, ?inb, ?new, ?list, k0_off1_eq ⟨n, hn⟩, ?val⟩
  case list =>
    refine (congrArg Prod.fst (pb_k0_t1_succ (F := Ideal) 𝒱 c bd i arg2 harg2 arg3 harg3 arg4 harg4 arg5 harg5 arg6 harg6 arg7 harg7 arg8 harg8 arg9 harg9 arg10 harg10 k0_h1 v24 v26 v28 X ⟨n, hn⟩)).trans ?_
    dsimp only
    unfold trip_k0_t1
    rfl
  case val =>
    intro a b r hr
    exact pay2_apply _

/-- The first loop leaves the normalised rows of the tile in the scratch buffer. -/
theorem t1_scr (k0_h1 : k0_cond1 i = 1#1) (v24 v26 : Vec Ideal S1x1x2048 .f32) (v28 : Vec Ideal S1x2048 .f32)
    (X : BufTy.Contents (Elt Ideal) arg2.view.ty)
    (w : View sig κ' sp' S1024x2048 .bf16) (f : BufTy.Contents (Elt Ideal) w.ty) (r : Fin 1024) (b : Fin 2048) :
    w.read (Elt Ideal) (w.writes (Elt Ideal) f
      (pb_k0_t1 (F := Ideal) 𝒱 c bd i arg2 harg2 arg3 harg3 arg4 harg4 arg5 harg5 arg6 harg6 arg7 harg7 arg8 harg8 arg9 harg9 arg10 harg10 k0_h1 v24 v26 v28 X k0_t1_loop.trips).2) (ix2 r b)
      = modNorm (fun k => arg2.view.read (Elt Ideal) X (ix2 r k)) (fun k => v28 (ix2 0 k)) (fun k => v26 (ix3 0 0 k))
          (fun k => v24 (ix3 0 0 k)) b := by
  refine bands_read (H := 32) w f k0_t1_loop.trips (by decide)
    (fun n => (pb_k0_t1 (F := Ideal) 𝒱 c bd i arg2 harg2 arg3 harg3 arg4 harg4 arg5 harg5 arg6 harg6 arg7 harg7 arg8 harg8 arg9 harg9 arg10 harg10 k0_h1 v24 v26 v28 X n).2) (fun r _ => modNorm (fun k => arg2.view.read (Elt Ideal) X (ix2 r k)) (fun k => v28 (ix2 0 k)) (fun k => v26 (ix3 0 0 k))
          (fun k => v24 (ix3 0 0 k))) rfl (fun n hn => ?_) w f r b
  refine ⟨_, ?inb, ?new, ?list, k0_off1_eq ⟨n, hn⟩, ?val⟩
  case list =>
    refine (congrArg Prod.snd (pb_k0_t1_succ (F := Ideal) 𝒱 c bd i arg2 harg2 arg3 harg3 arg4 harg4 arg5 harg5 arg6 harg6 arg7 harg7 arg8 harg8 arg9 harg9 arg10 harg10 k0_h1 v24 v26 v28 X ⟨n, hn⟩)).trans ?_
    dsimp only
    unfold trip_k0_t1
    rfl
  case val =>
    intro a b r hr
    refine (pay1_apply _ _ _ _ _ _).trans ?_
    refine congrArg (fun q => modNorm q _ _ _ b) (funext fun k => ?_)
    exact band_readAt arg2.view X (32 * n) _ (k0_off1_eq ⟨n, hn⟩) _ a k r hr

/-- The second loop leaves, in each row, the normalised residual of the input's row and of the row it began with. -/
theorem t2_acc (k0_h2 : k0_cond2 i = 1#1) (v24 : Vec Ideal S1x1x2048 .f32) (X : BufTy.Contents (Elt Ideal) arg2.view.ty)
    (Y : BufTy.Contents (Elt Ideal) arg8.view.ty) (G : BufTy.Contents (Elt Ideal) arg9.view.ty)
    (w : View sig κ' sp' S1024x2048 .f32) (f : BufTy.Contents (Elt Ideal) w.ty) (r : Fin 1024) (b : Fin 2048) :
    w.read (Elt Ideal) (w.writes (Elt Ideal) f
      (pb_k0_t2 (F := Ideal) 𝒱 c bd i arg2 harg2 arg3 harg3 arg4 harg4 arg5 harg5 arg6 harg6 arg7 harg7 arg8 harg8 arg9 harg9 arg10 harg10 k0_h2 v24 X Y G k0_t2_loop.trips)) (ix2 r b)
      = lastNorm (resid (fun k => arg2.view.read (Elt Ideal) X (ix2 r k)) (fun k => v24 (ix3 0 0 k))
          (fun k => arg9.view.read (Elt Ideal) G (ix2 r k))) (fun k => arg8.view.read (Elt Ideal) Y (ix2 0 k)) b := by
  refine bands_read (H := 64) arg9.view G k0_t2_loop.trips (by decide) _
    (fun r q => lastNorm (resid (fun k => arg2.view.read (Elt Ideal) X (ix2 r k)) (fun k => v24 (ix3 0 0 k)) q)
      (fun k => arg8.view.read (Elt Ideal) Y (ix2 0 k))) rfl (fun n hn => ?_) w f r b
  refine ⟨_, ?inb, ?new, ?list, k0_off2_eq ⟨n, hn⟩, ?val⟩
  case list =>
    refine (pb_k0_t2_succ (F := Ideal) 𝒱 c bd i arg2 harg2 arg3 harg3 arg4 harg4 arg5 harg5 arg6 harg6 arg7 harg7 arg8 harg8 arg9 harg9 arg10 harg10 k0_h2 v24 X Y G ⟨n, hn⟩).trans ?_
    dsimp only
    unfold tripL_k0_t2 trip_k0_t2
    rfl
  case val =>
    intro a b r hr
    refine (final_pay4_apply _ _ _ _ _ _).trans ?_
    refine congrArg₂ (fun y w => lastNorm y w b) (congrArg₂ (fun q p => resid q _ p) (funext fun k => ?_) (funext fun k => ?_)) (funext fun k => ?_)
    · exact band_readAt arg2.view X (64 * n) _ (k0_off2_eq ⟨n, hn⟩) _ a k r hr
    · exact band_readAt arg9.view _ (64 * n) _ (k0_off2_eq ⟨n, hn⟩) _ a k r hr
    · exact whole_readAt arg8.view _ _ 0 k

end Cert.Ffn.Final
end
-- ==== Proof.Ffn.FinalPoint.lean ====
module
public import proofs.«01_k».proof.Proof.Ffn.Steps
public import proofs.«01_k».proof.Proof.Ffn.FinalLoop
@[expose] public section

/-! One point of the last feed-forward call: what each case of the body leaves in the output block and in the scratch
buffer, read at an element. -/

set_option maxRecDepth 16384
noncomputable section
namespace Cert.Ffn.Final
open Cert.FinalIdeal Cert.FinalIdeal.Gen Idealize.ShloMosaic Idealize.ShloMosaic.TcCoe Idealize.SL.Sem
variable (c : Dev nD) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .bf16) (harg10 : arg10.IsWhole)
variable (x0 : Vec Ideal S1024x2048 .f32) (x1 : Vec Ideal S1x9x2048 .f32) (x2 : Vec Ideal S1x2048 .f32) (x3 : Vec Ideal S2048x512 .bf16) (x4 : Vec Ideal S2048x512 .bf16) (x5 : Vec Ideal S512x2048 .bf16) (x6 : Vec Ideal S1x2048 .f32)

/-- At the first block of hidden units the scratch buffer is filled with the normalised rows. -/
theorem scr_A (hc0 hc1) (r : Fin 1024) (b : Fin 2048) :
    sout0_A_0 c i arg2 harg2 arg3 harg3 arg4 harg4 arg5 harg5 arg6 harg6 arg7 harg7 arg8 harg8 arg9 harg9 arg10 harg10 hc0 hc1 x0 x1 x2 x3 x4 x5 x6 (ix2 r b) = hRow x0 x1 x2 7 6 r b := by
  unfold sout0_A_0 kernelRun0_A
  dsimp only
  refine (t1_scr Variants.none c none i arg2 harg2 arg3 harg3 arg4 harg4 arg5 harg5 arg6 harg6 arg7 harg7 arg8 harg8 arg9 harg9 arg10 harg10 hc0 _ _ _ _ VS0_0 _ r b).trans ?_
  unfold hRow
  congr 1
  · funext k
    exact congrFun (harg2.read_unread x0) _
  · funext k
    refine (whole_readAt arg4.view _ _ 0 k).trans ?_
    exact congrFun (harg4.read_unread x2) _
  · funext k
    exact mods_read arg3 harg3 x1 7 _ rfl _ k
  · funext k
    exact mods_read arg3 harg3 x1 6 _ rfl _ k

/-- At the first block the accumulator becomes that block's part. -/
theorem out_A (hc0 hc1) (r : Fin 1024) (b : Fin 2048) :
    out0_A_7 c i arg2 harg2 arg3 harg3 arg4 harg4 arg5 harg5 arg6 harg6 arg7 harg7 arg8 harg8 arg9 harg9 arg10 harg10 hc0 hc1 x0 x1 x2 x3 x4 x5 x6 (ix2 r b) = part (hRow x0 x1 x2 7 6 r) x3 x4 x5 b := by
  have hs := fun k => scr_A c i arg2 harg2 arg3 harg3 arg4 harg4 arg5 harg5 arg6 harg6 arg7 harg7 arg8 harg8 arg9 harg9 arg10 harg10 x0 x1 x2 x3 x4 x5 x6 hc0 hc1 r k
  unfold sout0_A_0 kernelRun0_A at hs
  unfold out0_A_7 kernelRun0_A
  dsimp only at hs ⊢
  refine (whole_cons VO0_7 _ _ _ _ r b).trans ?_
  refine (step arg5 harg5 arg6 harg6 arg7 harg7 x3 x4 x5 _ _ (hRow x0 x1 x2 7 6 r) 0 r b ?_ ?_ _ _ _).trans (zero_add _)
  · intro k
    exact (whole_readAt arg10.view _ _ r k).trans ((t1_scr Variants.none c none i arg2 harg2 arg3 harg3 arg4 harg4 arg5 harg5 arg6 harg6 arg7 harg7 arg8 harg8 arg9 harg9 arg10 harg10 hc0 _ _ _ _ arg10.view _ r k).trans
      ((t1_scr Variants.none c none i arg2 harg2 arg3 harg3 arg4 harg4 arg5 harg5 arg6 harg6 arg7 harg7 arg8 harg8 arg9 harg9 arg10 harg10 hc0 _ _ _ _ VS0_0 _ r k).symm.trans (hs k)))
  · exact (whole_readAt arg9.view _ _ r b).trans (t1_acc Variants.none c none i arg2 harg2 arg3 harg3 arg4 harg4 arg5 harg5 arg6 harg6 arg7 harg7 arg8 harg8 arg9 harg9 arg10 harg10 hc0 _ _ _ _ arg9.view _ r b)

/-- At a later block the accumulator grows by the block's part. -/
theorem out_B (hc0 hc1 xo xs) (r : Fin 1024) (b : Fin 2048) :
    out0_B_7 c i arg2 harg2 arg3 harg3 arg4 harg4 arg5 harg5 arg6 harg6 arg7 harg7 arg8 harg8 arg9 harg9 arg10 harg10 hc0 hc1 x0 x1 x2 x3 x4 x5 x6 xo xs (ix2 r b) = xo (ix2 r b) + part (fun k => xs (ix2 r k)) x3 x4 x5 b := by
  unfold out0_B_7 kernelRun0_B
  dsimp only
  refine (whole_cons VO0_7 _ _ _ _ r b).trans ?_
  exact step arg5 harg5 arg6 harg6 arg7 harg7 x3 x4 x5 _ _ _ _ r b (fun k => whole_read arg10 harg10 xs _ r k) (whole_read arg9 harg9 xo _ r b) _ _ _

/-- At the last block the row is finished and normalised. -/
theorem out_C (hc0 hc1 xo xs) (r : Fin 1024) (b : Fin 2048) :
    out0_C_7 c i arg2 harg2 arg3 harg3 arg4 harg4 arg5 harg5 arg6 harg6 arg7 harg7 arg8 harg8 arg9 harg9 arg10 harg10 hc0 hc1 x0 x1 x2 x3 x4 x5 x6 xo xs (ix2 r b)
      = lastNorm (resid (fun k => x0 (ix2 r k)) (fun k => x1 (ix3 0 8 k)) (fun k => xo (ix2 r k) + part (fun k => xs (ix2 r k)) x3 x4 x5 k))
          (fun k => x6 (ix2 0 k)) b := by
  unfold out0_C_7 kernelRun0_C
  dsimp only
  rw [View.writes_append]
  refine (t2_acc Variants.none c none i arg2 harg2 arg3 harg3 arg4 harg4 arg5 harg5 arg6 harg6 arg7 harg7 arg8 harg8 arg9 harg9 arg10 harg10 hc1 _ _ _ _ VO0_7 _ r b).trans ?_
  refine congrArg₂ (fun y w => lastNorm y w b) ?_ (funext fun k => congrFun (harg8.read_unread x6) _)
  congr 1
  · funext k
    exact congrFun (harg2.read_unread x0) _
  · funext k
    exact mods_read arg3 harg3 x1 8 _ rfl _ k
  · funext k
    unfold kernelRun0_C.sl.H7_1
    refine (whole_cons arg9.view _ _ _ _ r k).trans ?_
    exact step arg5 harg5 arg6 harg6 arg7 harg7 x3 x4 x5 _ _ _ _ r k (fun k => whole_read arg10 harg10 xs _ r k) (whole_read arg9 harg9 xo _ r k) _ _ _

end Cert.Ffn.Final
end
-- ==== Proof.Ffn.FinalArray.lean ====
module
public import proofs.«01_k».proof.Proof.Ffn.FinalPoint
public import proofs.«01_k».proof.Proof.Gen.FinalIdeal.Value
@[expose] public section

/-! The last feed-forward call over its grid: the blocks of hidden units of one tile of rows, one after another, and the
array the call leaves. -/

set_option maxRecDepth 16384
noncomputable section
namespace Cert.Ffn.Final
open Cert.FinalIdeal Cert.FinalIdeal.Gen Idealize.ShloMosaic Idealize.ShloMosaic.TcCoe Idealize.SL.Sem

variable (m : (ℓ : Loc nD τ sig) → Buf (Elt Ideal) ℓ) (c : Dev nD)

/-- The blocks each point of the grid works on. -/
theorem idx : ∀ t : Fin cfg0.N, win0_0.index t = ![t.val / 11, 0] ∧ win0_1.index t = ![t.val / 11 / 4, 0, 0]
    ∧ win0_2.index t = ![0, 0] ∧ win0_3.index t = ![0, t.val % 11] ∧ win0_4.index t = ![0, t.val % 11]
    ∧ win0_5.index t = ![t.val % 11, 0] ∧ win0_6.index t = ![0, 0] ∧ win0_7.index t = ![t.val / 11, 0] :=
  (by decide +kernel : ∀ t : Fin grid0.N, _)

/-- The arguments as the memory holds them. -/
def args : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The last normalisation's gain. -/
def fw : Row := fun k => m ((c.tc : Thread nD τ).loc main_arg6) (ix2 0 k)

/-- Operand 0's block: rows of the activations. -/
theorem blk0 (t : Fin cfg0.N) (a : Fin 1024) (k : Fin 2048) (r : Fin 16384) (hr : r.val = 1024 * (t.val / 11) + a.val) :
    iblk m c 0 t (ix2 a k) = (args m c).x r k := by
  show (_ : EReal) = m ((c.tc : Thread nD τ).loc main_arg0) (ix2 r k)
  blk_ext [iblk, V, idx t]
/-- Operand 1's block: the modulation's rows of the tile's batch. -/
theorem blk1 (t : Fin cfg0.N) (o : Fin 9) (k : Fin 2048) (b : Fin 4) (hb : b.val = t.val / 11 / 4) :
    iblk m c 1 t (ix3 0 o k) = (args m c).mods b o k := by
  show (_ : EReal) = m ((c.tc : Thread nD τ).loc main_arg1) (ix3 b o k)
  blk_ext [iblk, V, idx t]
/-- Operand 2's block: the norm's gain. -/
theorem blk2 (t : Fin cfg0.N) (k : Fin 2048) : iblk m c 2 t (ix2 0 k) = (args m c).nw k := by
  show (_ : EReal) = m ((c.tc : Thread nD τ).loc main_arg2) (ix2 0 k)
  blk_ext [iblk, V, idx t]
/-- Operand 3's block: columns of the gate weights. -/
theorem blk3 (t : Fin cfg0.N) (k : Fin 2048) (f : Fin 512) (g : Fin 5632) (hg : g.val = t.val % 11 * 512 + f.val) :
    iblk m c 3 t (ix2 k f) = (args m c).wg k g := by
  show (_ : EReal) = m ((c.tc : Thread nD τ).loc main_arg3) (ix2 k g)
  blk_point [iblk, V, idx t]
/-- Operand 4's block: columns of the up weights. -/
theorem blk4 (t : Fin cfg0.N) (k : Fin 2048) (f : Fin 512) (g : Fin 5632) (hg : g.val = t.val % 11 * 512 + f.val) :
    iblk m c 4 t (ix2 k f) = (args m c).wu k g := by
  show (_ : EReal) = m ((c.tc : Thread nD τ).loc main_arg4) (ix2 k g)
  blk_point [iblk, V, idx t]
/-- Operand 5's block: rows of the down weights. -/
theorem blk5 (t : Fin cfg0.N) (f : Fin 512) (q : Fin 2048) (g : Fin 5632) (hg : g.val = t.val % 11 * 512 + f.val) :
    iblk m c 5 t (ix2 f q) = (args m c).wd g q := by
  show (_ : EReal) = m ((c.tc : Thread nD τ).loc main_arg5) (ix2 g q)
  blk_point [iblk, V, idx t]
/-- Operand 6's block: the last normalisation's gain. -/
theorem blk6 (t : Fin cfg0.N) (k : Fin 2048) : iblk m c 6 t (ix2 0 k) = fw m c k := by
  show (_ : EReal) = m ((c.tc : Thread nD τ).loc main_arg6) (ix2 0 k)
  blk_ext [iblk, V, idx t]

/-- The part a point's block of hidden units adds, in terms of the arguments. -/
theorem part_at (t : Fin cfg0.N) (r : Fin 16384) (q : Fin 2048) :
    part ((args m c).h 6 r) (iblk m c 3 t) (iblk m c 4 t) (iblk m c 5 t) q = (args m c).block 6 r q (t.val % 11) :=
  part_eq (args m c) 6 r q _ (Nat.mod_lt _ (by decide)) _ _ _ (blk3 m c t) (blk4 m c t) (blk5 m c t)

/-- The normalised row of a point's tile, in terms of the arguments. -/
theorem hRow_eq (t : Fin cfg0.N) (a : Fin 1024) (r : Fin 16384) (hr : r.val = 1024 * (t.val / 11) + a.val) :
    hRow (iblk m c 0 t) (iblk m c 1 t) (iblk m c 2 t) 7 6 a = (args m c).h 6 r := by
  have hb : (⟨r.val / 4096, by omega⟩ : Fin 4).val = t.val / 11 / 4 := by
    show r.val / 4096 = _
    omega
  unfold hRow Args.h
  congr 1
  · exact funext fun k => blk0 m c t a k r hr
  · exact funext fun k => blk2 m c t k
  · exact funext fun k => blk1 m c t 7 k _ hb
  · exact funext fun k => blk1 m c t 6 k _ hb

/-- After the first block of hidden units of a tile. -/
theorem point_A (t : Fin cfg0.N) (h0 : t.val % 11 = 0) (a : Fin 1024) (r : Fin 16384) (hr : r.val = 1024 * (t.val / 11) + a.val) :
    (∀ k, (outsAt0 m c t.val t.isLt).2 (ix2 a k) = (args m c).h 6 r k) ∧
    (∀ q, (outsAt0 m c t.val t.isLt).1 (ix2 a q) = (args m c).block 6 r q 0) := by
  rw [outsAt0_A m c t h0 (by omega)]
  refine ⟨fun k => ?_, fun q => ?_⟩
  · exact (scr_A _ _ _ _ _ _ _ _ _ _ _ _ _ _ _ _ _ _ _ _ _ _ _ _ _ _ _ _ _ a k).trans (congrFun (hRow_eq m c t a r hr) k)
  · dsimp only
    refine (out_A _ _ _ _ _ _ _ _ _ _ _ _ _ _ _ _ _ _ _ _ _ _ _ _ _ _ _ _ _ a q).trans ?_
    rw [hRow_eq m c t a r hr, part_at, h0]

/-- After a later block of a tile but the last, when the point before left the sum `o` and the tile's normalised rows. -/
theorem point_B (t : Fin cfg0.N) (h0 : ¬t.val % 11 = 0) (h1 : ¬t.val % 11 = 10) (hp : t.val - 1 < cfg0.N) (a : Fin 1024) (r : Fin 16384) (o : Row)
    (ih : ∀ k, (outsAt0 m c (t.val - 1) hp).2 (ix2 a k) = (args m c).h 6 r k)
    (io : ∀ q, (outsAt0 m c (t.val - 1) hp).1 (ix2 a q) = o q) :
    (∀ k, (outsAt0 m c t.val t.isLt).2 (ix2 a k) = (args m c).h 6 r k) ∧
    (∀ q, (outsAt0 m c t.val t.isLt).1 (ix2 a q) = o q + (args m c).block 6 r q (t.val % 11)) := by
  rw [outsAt0_B m c t h0 h1]
  refine ⟨ih, fun q => ?_⟩
  dsimp only
  refine (out_B _ _ _ _ _ _ _ _ _ _ _ _ _ _ _ _ _ _ _ _ _ _ _ _ _ _ _ _ _ _ _ a q).trans ?_
  refine (congrArg₂ (fun x y => x + part y _ _ _ q) (io q) (funext ih)).trans ?_
  rw [part_at]

/-- After the last block of a tile. -/
theorem point_C (t : Fin cfg0.N) (h0 : ¬t.val % 11 = 0) (h1 : t.val % 11 = 10) (hp : t.val - 1 < cfg0.N) (a : Fin 1024) (r : Fin 16384)
    (hr : r.val = 1024 * (t.val / 11) + a.val) (o : Row)
    (ih : ∀ k, (outsAt0 m c (t.val - 1) hp).2 (ix2 a k) = (args m c).h 6 r k)
    (io : ∀ q, (outsAt0 m c (t.val - 1) hp).1 (ix2 a q) = o q) :
    ∀ q, (outsAt0 m c t.val t.isLt).1 (ix2 a q)
      = lastNorm (resid ((args m c).x r) ((args m c).mods ⟨r.val / 4096, by omega⟩ 8) (fun q => o q + (args m c).block 6 r q 10)) (fw m c) q := by
  have hb : (⟨r.val / 4096, by omega⟩ : Fin 4).val = t.val / 11 / 4 := by
    show r.val / 4096 = _
    omega
  rw [outsAt0_C m c t h0 h1]
  intro q
  dsimp only
  refine (out_C _ _ _ _ _ _ _ _ _ _ _ _ _ _ _ _ _ _ _ _ _ _ _ _ _ _ _ _ _ _ _ a q).trans ?_
  refine congrArg₂ (fun y w => lastNorm y w q) ?_ (funext fun k => blk6 m c t k)
  congr 1
  · exact funext fun k => blk0 m c t a k r hr
  · exact funext fun k => blk1 m c t 8 k _ hb
  · funext k
    refine (congrArg₂ (fun x y => x + part y _ _ _ k) (io k) (funext ih)).trans ?_
    rw [part_at, h1]

/-- After the last block of a tile, its rows are the layer's normalised rows. -/
theorem state (n : ℕ) (hn : n < cfg0.N) (h : n % 11 = 10) (a : Fin 1024) (r : Fin 16384) (hr : r.val = 1024 * (n / 11) + a.val) (q : Fin 2048) :
    (outsAt0 m c n hn).1 (ix2 a q) = lastNorm ((args m c).out 6 r) (fw m c) q :=
  accumulate (args m c) 6 cfg0.N (fun n hn => (outsAt0 m c n hn).1) (fun n hn => (outsAt0 m c n hn).2)
    (fun r y => lastNorm (resid ((args m c).x r) ((args m c).mods ⟨r.val / 4096, by omega⟩ 8) y) (fw m c))
    (fun n hn => point_A m c ⟨n, hn⟩) (fun n hn h0 h1 hp a r o => point_B m c ⟨n, hn⟩ h0 h1 hp a r o)
    (fun n hn h0 h1 hp a r hr o => point_C m c ⟨n, hn⟩ h0 h1 hp a r hr o) n hn h a r hr q

/-- The array the call leaves: the layer's normalised rows. -/
theorem array (r : Fin 16384) (q : Fin 2048) : Value.G7 m c (ix2 r q) = lastNorm ((args m c).out 6 r) (fw m c) q := by
  have hN : cfg0.N = 176 := N_0
  have hq : q.val / 2048 = 0 := Nat.div_eq_of_lt q.isLt
  have hp : Value.pt7Of (ix2 r q) = 11 * (r.val / 1024) + 10 := by
    show 11 * (1 * (r.val / 1024 - 0) + 1 * (q.val / 2048 - 0)) + 10 = _
    omega
  have hlt : Value.pt7Of (ix2 r q) < cfg0.N := by rw [hp, hN]; omega
  have hl : Value.loc7Of (ix2 r q) = ix2 (⟨r.val % 1024, Nat.mod_lt _ (by decide)⟩ : Fin 1024) q := by
    funext ax
    fin_cases ax
    · rfl
    · exact Fin.ext (Nat.mod_eq_of_lt q.isLt)
  unfold Value.G7
  rw [dif_pos hlt, ← Value.outsAt0_sweep, hl]
  exact state m c _ hlt (by rw [hp]; omega) ⟨r.val % 1024, Nat.mod_lt _ (by decide)⟩ r (by rw [hp]; dsimp only; omega) q

end Cert.Ffn.Final
end
-- ==== Proof.Ffn.FinalRef.lean ====
module
public import proofs.«01_k».proof.Proof.Ffn.Common
public import proofs.«01_k».proof.Proof.Gen.RefFinalIdeal.Read
@[expose] public section

/-! The last feed-forward reference, read at an element. -/

set_option maxRecDepth 16384
noncomputable section
namespace Cert.Ffn.RefFinal
open Cert.RefFinalIdeal Cert.RefFinalIdeal.Gen Idealize.ShloMosaic Idealize.ShloMosaic.TcCoe Idealize.SL.Sem

variable (m : (ℓ : Loc nD τ sig) → Buf (Elt Ideal) ℓ) (c : Dev nD)

variable (x0 : FVec Ideal S16384x2048 .f32) (x1 : FVec Ideal S4x9x2048 .f32) (x2 : FVec Ideal S1x2048 .f32)
    (x3 x4 : FVec Ideal S2048x5632 .f32) (x5 : FVec Ideal S5632x2048 .f32) (x6 : FVec Ideal S1x2048 .f32)

/-- The activations, batch by batch. -/
theorem v0_at (r : Fin 16384) (k : Fin 2048) :
    Read.val_main_v0 (F := Ideal) x0 (ix3 (⟨r.val / 4096, by omega⟩ : Fin 4) (⟨r.val % 4096, by omega⟩ : Fin 4096) k) = x0 (ix2 r k) := by
  pointwise [Read.val_main_v0]
  blk_ext []

/-- The normalised and modulated activations. -/
theorem v25_at (r : Fin 16384) (k : Fin 2048) :
    Read.val_main_v25 (F := Ideal) x0 x1 x2 (ix3 (⟨r.val / 4096, by omega⟩ : Fin 4) (⟨r.val % 4096, by omega⟩ : Fin 4096) k)
      = (argsOf x0 x1 x2 x3 x4 x5).h 6 r k := by
  pointwise [Read.val_main_v25, Read.val_main_v24, Read.val_main_v23, Read.val_main_v22, Read.val_main_v21, Read.val_main_v20, Read.val_main_v19,
    Read.val_main_v18, Read.val_main_v17, Read.val_main_v16, Read.val_main_v15, Read.val_main_v14, Read.val_main_v13, Read.val_main_v12,
    Read.val_main_v11, Read.val_main_v10, Read.val_main_v9, Read.val_main_v8, Read.val_main_v7, Read.val_main_v6, Read.val_main_v5, Read.val_main_v4,
    Read.val_main_v3, Read.val_main_v2, Read.val_main_v1, Read.val_main_cst, Read.val_main_cst_0, Read.val_main_cst_1, Read.val_main_cst_2]
  simp only [v0_at]
  rw [mul_assoc (_ * _) (x2 _)]
  rfl

/-- The hidden units. -/
theorem v34_at (r : Fin 16384) (f : Fin 5632) :
    Read.val_main_v34 (F := Ideal) x0 x1 x2 x3 x4 (ix3 (⟨r.val / 4096, by omega⟩ : Fin 4) (⟨r.val % 4096, by omega⟩ : Fin 4096) f)
      = act ((argsOf x0 x1 x2 x3 x4 x5).h 6 r) (fun k => x3 (ix2 k f)) (fun k => x4 (ix2 k f)) := by
  pointwise [Read.val_main_v34, Read.val_main_v33, Read.val_main_v32, Read.val_main_v31, Read.val_main_call0_v5, Read.val_main_call0_v4, Read.val_main_call0_v3, Read.val_main_call0_v2, Read.val_main_call0_v1, Read.val_main_call0_v0, Read.val_main_call0_cst, Read.val_main_call0_cst_0]
  simp only [v25_at x0 x1 x2 x3 x4 x5]
  rfl

/-- The residual rows. -/
theorem v38_at (r : Fin 16384) (q : Fin 2048) :
    Read.val_main_v38 (F := Ideal) x0 x1 x2 x3 x4 x5 (ix3 (⟨r.val / 4096, by omega⟩ : Fin 4) (⟨r.val % 4096, by omega⟩ : Fin 4096) q)
      = (argsOf x0 x1 x2 x3 x4 x5).out 6 r q := by
  pointwise [Read.val_main_v38, Read.val_main_v37, Read.val_main_v36, Read.val_main_v35, Read.val_main_v30, Read.val_main_v29, Read.val_main_v28, Read.val_main_v27, Read.val_main_v26, Read.val_main_cst_3]
  simp only [v0_at, v34_at x0 x1 x2 x3 x4 x5]
  rfl

/-- The reference's result is the layer's normalised rows. -/
theorem v52_at (r : Fin 16384) (q : Fin 2048) :
    Read.val_main_v52 (F := Ideal) x0 x1 x2 x3 x4 x5 x6 (ix2 r q) = lastNorm ((argsOf x0 x1 x2 x3 x4 x5).out 6 r) (fun k => x6 (ix2 0 k)) q := by
  pointwise [Read.val_main_v52, Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_cst_4, Read.val_main_cst_5, Read.val_main_cst_6]
  simp only [v38_at x0 x1 x2 x3 x4 x5]
  rfl

/-- The reference's result as its run states it. -/
theorem result (r : Fin 16384) (q : Fin 2048) : Cert.RefFinalIdeal.Value.res_main_v52 m c (ix2 r q)
    = lastNorm ((argsOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))).out 6 r)
        (fun k => m ((c.tc : Thread nD τ).loc main_arg6) (ix2 0 k)) q :=
  (congrFun (Read.val_main_v52_eq (F := Ideal) m c) (ix2 r q)).trans (v52_at _ _ _ _ _ _ _ r q)

end Cert.Ffn.RefFinal
end
-- ==== Proof.Out.Proj.lean ====
module
public import proofs.«01_k».proof.Proof.Gen.ProjIdeal.Value
public import proofs.«01_k».proof.Proof.Gen.RefProjIdeal.Read
public import Idealize.ShloMosaic.Lib.Pipeline.ValueKit
public import Idealize.ShloMosaic.Lib.Pointwise
@[expose] public section

/-! The output projection: the array the call leaves and its reference's result, read at an element. -/

set_option maxRecDepth 16384
noncomputable section
namespace Cert.Out
open Idealize.ShloMosaic Idealize.ShloMosaic.TcCoe Idealize.SL.Sem

/-- Entry `q` of row `r` of the layer's activations after the token mixing: the residual with the gated product of the two
groups' outputs with their halves of the weights. -/
def row (x0 : FVec Ideal ⟨2, ![16384, 2048]⟩ .f32) (x1 : FVec Ideal ⟨3, ![4, 9, 2048]⟩ .f32) (x2 : FVec Ideal ⟨2, ![16384, 1024]⟩ .bf16)
    (x3 : FVec Ideal ⟨3, ![4, 4096, 1024]⟩ .bf16) (x4 : FVec Ideal ⟨2, ![2048, 2048]⟩ .f32) (r : Fin 16384) (q : Fin 2048) : EReal :=
  (x0 (ix2 r q) : EReal) + x1 (ix3 (⟨r.val / 4096, by omega⟩ : Fin 4) (5 : Fin 9) q)
    * ((∑ k : Fin 1024, (x2 (ix2 r k) : EReal) * x4 (ix2 (⟨k.val, by omega⟩ : Fin 2048) q))
      + ∑ k : Fin 1024, (x3 (ix3 (⟨r.val / 4096, by omega⟩ : Fin 4) (⟨r.val % 4096, by omega⟩ : Fin 4096) k) : EReal)
          * x4 (ix2 (⟨1024 + k.val, by omega⟩ : Fin 2048) q))

section kernel
open Cert.ProjIdeal Cert.ProjIdeal.Gen
variable (m : (ℓ : Loc nD τ sig) → Buf (Elt Ideal) ℓ) (c : Dev nD)

/-- The blocks each point of the grid works on. -/
theorem idx : ∀ t : Fin cfg0.N, win0_0.index t = ![t.val, 0] ∧ win0_1.index t = ![t.val / 8, 0, 0]
    ∧ win0_2.index t = ![t.val, 0] ∧ win0_3.index t = ![t.val, 0] ∧ win0_4.index t = ![0, 0]
    ∧ win0_5.index t = ![1, 0] ∧ win0_6.index t = ![t.val, 0] :=
  (by decide +kernel : ∀ t : Fin grid0.N, _)

/-- The body's result, read at an element. -/
theorem pay_apply (v0 : Vec Ideal S512x1024 .bf16) (v1 : Vec Ideal S1024x2048 .bf16) (v4 : Vec Ideal S512x1024 .bf16)
    (v6 : Vec Ideal S1024x2048 .bf16) (v10 : Vec Ideal S512x2048 .f32) (v11 : Vec Ideal S1x1x2048 .f32) (a : Fin 512) (q : Fin 2048) :
    k0_pay1 v0 v1 v4 v6 v10 v11 (ix2 a q)
      = (v10 (ix2 a q) : EReal) + v11 (ix3 0 0 q) * ((∑ k : Fin 1024, (v0 (ix2 a k) : EReal) * v1 (ix2 k q))
          + ∑ k : Fin 1024, (v4 (ix2 a k) : EReal) * v6 (ix2 k q)) := by
  pointwise [k0_pay1]

/-- Operand 0's block: rows of the activations. -/
theorem blk0 (t : Fin cfg0.N) (a : Fin 512) (k : Fin 2048) (r : Fin 16384) (hr : r.val = 512 * t.val + a.val) :
    (iblk m c 0 t (ix2 a k) : EReal) = m ((c.tc : Thread nD τ).loc main_arg0) (ix2 r k) := by
  blk_ext [iblk, V, idx t]
/-- Operand 1's block: the modulation's rows of the tile's batch. -/
theorem blk1 (t : Fin cfg0.N) (o : Fin 9) (k : Fin 2048) (b : Fin 4) (hb : b.val = t.val / 8) :
    (iblk m c 1 t (ix3 0 o k) : EReal) = m ((c.tc : Thread nD τ).loc main_arg1) (ix3 b o k) := by
  blk_ext [iblk, V, idx t]
/-- Operand 2's block: rows of the convolution group's output. -/
theorem blk2 (t : Fin cfg0.N) (a : Fin 512) (k : Fin 1024) (r : Fin 16384) (hr : r.val = 512 * t.val + a.val) :
    (iblk m c 2 t (ix2 a k) : EReal) = m ((c.tc : Thread nD τ).loc main_arg2) (ix2 r k) := by
  blk_ext [iblk, V, idx t]
/-- Operand 3's block: rows of the other group's output. -/
theorem blk3 (t : Fin cfg0.N) (a : Fin 512) (k : Fin 1024) (r : Fin 16384) (hr : r.val = 512 * t.val + a.val) :
    (iblk m c 3 t (ix2 a k) : EReal) = m ((c.tc : Thread nD τ).loc main_arg3)
      (ix3 (⟨r.val / 4096, by omega⟩ : Fin 4) (⟨r.val % 4096, by omega⟩ : Fin 4096) k) := by
  have e : (win0_3.blk t).view.emb (ix2 a k) = ix2 r k := by
    blk_ext [idx t]
  have h : (iblk m c 3 t (ix2 a k) : EReal) = V m c main_v0 ((win0_3.blk t).view.emb (ix2 a k)) := rfl
  rw [h, e]
  have hV : V m c main_v0 = shapeCast S16384x1024 (m ((c.tc : Thread nD τ).loc main_arg3)) shapeCasts_S4x4096x1024_S16384x1024 := rfl
  rw [hV]
  refine shapeCast_apply (s := S4x4096x1024) _ _ _ _ ?_
  rewrite [Shape.rowMajor_val_three, Shape.rowMajor_val_two]
  show (r.val / 4096 * 4096 + r.val % 4096) * 1024 + k.val = r.val * 1024 + k.val
  omega
/-- Operand 4's block: the upper half of the weights. -/
theorem blk4 (t : Fin cfg0.N) (k : Fin 1024) (q : Fin 2048) (j : Fin 2048) (hj : j.val = k.val) :
    (iblk m c 4 t (ix2 k q) : EReal) = m ((c.tc : Thread nD τ).loc main_arg4) (ix2 j q) := by
  blk_ext [iblk, V, idx t]
/-- Operand 5's block: the lower half of the weights. -/
theorem blk5 (t : Fin cfg0.N) (k : Fin 1024) (q : Fin 2048) (j : Fin 2048) (hj : j.val = 1024 + k.val) :
    (iblk m c 5 t (ix2 k q) : EReal) = m ((c.tc : Thread nD τ).loc main_arg4) (ix2 j q) := by
  blk_ext [iblk, V, idx t]

/-- The gate's row as the body loads it. -/
theorem mods_ld (x : Vec Ideal S1x9x2048 .f32) (q : Fin 2048) : View.ld x r0_3 (ix3 0 0 q) = x (ix3 0 5 q) := by
  refine congrArg x (funext fun ax => ?_)
  fin_cases ax
  · rfl
  · rfl
  · exact Fin.ext (by simp [r0_3])

/-- The array the call leaves. -/
theorem array (r : Fin 16384) (q : Fin 2048) : (dats m 0 c).arrAt 6 cfg0.N (ix2 r q)
    = row (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) r q := by
  have hN : cfg0.N = 32 := N_0
  have ht : r.val / 512 < cfg0.N := by rw [hN]; omega
  obtain ⟨t, htv⟩ : ∃ t : Fin cfg0.N, t.val = r.val / 512 := ⟨⟨_, ht⟩, rfl⟩
  obtain ⟨a, ha⟩ : ∃ a : Fin 512, a.val = r.val % 512 := ⟨⟨r.val % 512, Nat.mod_lt _ (by decide)⟩, rfl⟩
  have hr : r.val = 512 * t.val + a.val := by omega
  have h := congrFun (Value.blocks6 m c t ((by decide +kernel : ∀ t : Fin grid0.N, (cfg0.win 6).flush t = true) t)) (ix2 a q)
  rw [Value.flushed6] at h
  refine Eq.trans ?_ (h.trans ?_)
  · refine congrArg ((dats m 0 c).arrAt 6 cfg0.N) ?_
    blk_ext [idx t]
  · show out0_6 (iblk m c 0 t) (iblk m c 1 t) (iblk m c 2 t) (iblk m c 3 t) (iblk m c 4 t) (iblk m c 5 t) (ix2 a q) = _
    unfold out0_6
    rw [View.canon_cons_unit_lit _ _ _ (by decide)]
    refine (pay_apply _ _ _ _ _ _ a q).trans ?_
    rw [View.ld_unit_lit _ _ (by decide), View.ld_unit_lit _ _ (by decide), View.ld_unit_lit _ _ (by decide), View.ld_unit_lit _ _ (by decide),
      View.ld_unit_lit _ _ (by decide), mods_ld]
    unfold row
    have hb : (⟨r.val / 4096, by omega⟩ : Fin 4).val = t.val / 8 := by
      show r.val / 4096 = _
      omega
    refine Ideal.add_congr (blk0 m c t a q r hr) (Ideal.mul_congr (blk1 m c t 5 q _ hb) (Ideal.add_congr ?_ ?_))
    · exact Finset.sum_congr rfl fun k _ => Ideal.mul_congr (blk2 m c t a k r hr) (blk4 m c t k q _ rfl)
    · exact Finset.sum_congr rfl fun k _ => Ideal.mul_congr (blk3 m c t a k r hr) (blk5 m c t k q _ rfl)
end kernel

section reference
open Cert.RefProjIdeal Cert.RefProjIdeal.Gen

/-- The reference's result. -/
theorem ref (x0 : FVec Ideal S16384x2048 .f32) (x1 : FVec Ideal S4x9x2048 .f32) (x2 : FVec Ideal S16384x1024 .bf16)
    (x3 : FVec Ideal S4x4096x1024 .bf16) (x4 : FVec Ideal S2048x2048 .f32) (r : Fin 16384) (q : Fin 2048) :
    Read.val_main_v12 (F := Ideal) x0 x1 x2 x3 x4 (ix2 r q) = row x0 x1 x2 x3 x4 r q := by
  pointwise [Read.val_main_v12, Read.val_main_v11, Read.val_main_v10, Read.val_main_v9, Read.val_main_v8, Read.val_main_v7, Read.val_main_v6,
    Read.val_main_v5, Read.val_main_v4, Read.val_main_v3, Read.val_main_v2, Read.val_main_v1, Read.val_main_v0]
  rfl
end reference
end Cert.Out
end
-- ==== Proof.Out.Mods.lean ====
module
public import proofs.«01_k».proof.Proof.Gen.ModsIdeal.Value
public import proofs.«01_k».proof.Proof.Gen.RefModsIdeal.Read
public import Idealize.ShloMosaic.Lib.Pipeline.ValueKit
public import Idealize.ShloMosaic.Lib.Pointwise
@[expose] public section

/-! The modulation's product: the array the call leaves and its reference's result, read at an element. -/

set_option maxRecDepth 16384
noncomputable section
namespace Cert.Mod
open Idealize.ShloMosaic Idealize.ShloMosaic.TcCoe Idealize.SL.Sem

/-- Entry `q` of row `r` of the modulation: the product of the activated conditioning row with the weights, and the bias. -/
def row (x0 : FVec Ideal ⟨2, ![8, 2048]⟩ .f32) (x1 : FVec Ideal ⟨2, ![2048, 18432]⟩ .f32) (x2 : FVec Ideal ⟨1, ![18432]⟩ .f32)
    (r : Fin 8) (q : Fin 18432) : EReal :=
  (∑ k : Fin 2048, (x0 (ix2 r k) : EReal) * Ideal.logistic (x0 (ix2 r k)) * x1 (ix2 k q)) + x2 (ix1 q)

section kernel
open Cert.ModsIdeal Cert.ModsIdeal.Gen
variable (m : (ℓ : Loc nD τ sig) → Buf (Elt Ideal) ℓ) (c : Dev nD)

/-- The blocks each point of the grid works on. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The body's result, read at an element. -/
theorem pay_apply (v0 : Vec Ideal S8x2048 .f32) (v3 : Vec Ideal S2048x1024 .f32) (v7 : Vec Ideal S1x1024 .f32) (a : Fin 8) (q : Fin 1024) :
    k0_pay1 v0 v3 v7 (ix2 a q)
      = (∑ k : Fin 2048, (v0 (ix2 a k) : EReal) * Ideal.logistic (v0 (ix2 a k)) * v3 (ix2 k q)) + v7 (ix2 0 q) := by
  pointwise [k0_pay1]

/-- Operand 0's block: the conditioning rows. -/
theorem blk0 (t : Fin cfg0.N) (a : Fin 8) (k : Fin 2048) :
    (iblk m c 0 t (ix2 a k) : EReal) = m ((c.tc : Thread nD τ).loc main_arg0) (ix2 a k) := by
  blk_ext [iblk, V, idx t]
/-- Operand 1's block: columns of the weights. -/
theorem blk1 (t : Fin cfg0.N) (k : Fin 2048) (q : Fin 1024) (j : Fin 18432) (hj : j.val = 1024 * t.val + q.val) :
    (iblk m c 1 t (ix2 k q) : EReal) = m ((c.tc : Thread nD τ).loc main_arg1) (ix2 k j) := by
  blk_ext [iblk, V, idx t]
/-- Operand 2's block: a part of the bias. -/
theorem blk2 (t : Fin cfg0.N) (q : Fin 1024) (j : Fin 18432) (hj : j.val = 1024 * t.val + q.val) :
    (iblk m c 2 t (ix2 0 q) : EReal) = m ((c.tc : Thread nD τ).loc main_arg2) (ix1 j) := by
  have e : (win0_2.blk t).view.emb (ix2 0 q) = ix2 0 j := by
    blk_ext [idx t]
  have h : (iblk m c 2 t (ix2 0 q) : EReal) = V m c main_v0 ((win0_2.blk t).view.emb (ix2 0 q)) := rfl
  rw [h, e]
  have hV : V m c main_v0 = shapeCast S1x18432 (m ((c.tc : Thread nD τ).loc main_arg2)) shapeCasts_S18432_S1x18432 := rfl
  rw [hV]
  refine shapeCast_apply (s := S18432) _ _ _ _ ?_
  rewrite [Shape.rowMajor_val_two, Shape.rowMajor_val_one]
  exact (Nat.zero_add _).symm.trans (congrArg (· + j.val) (Nat.zero_mul _).symm)

/-- The array the call leaves. -/
theorem array (r : Fin 8) (q : Fin 18432) : (dats m 0 c).arrAt 3 cfg0.N (ix2 r q)
    = row (m ((c.tc : Thread nD τ).loc main_arg0)) (m ((c.tc : Thread nD τ).loc main_arg1)) (m ((c.tc : Thread nD τ).loc main_arg2)) r q := by
  have hN : cfg0.N = 18 := N_0
  have ht : q.val / 1024 < cfg0.N := by rw [hN]; omega
  obtain ⟨t, htv⟩ : ∃ t : Fin cfg0.N, t.val = q.val / 1024 := ⟨⟨_, ht⟩, rfl⟩
  obtain ⟨b, hb⟩ : ∃ b : Fin 1024, b.val = q.val % 1024 := ⟨⟨q.val % 1024, Nat.mod_lt _ (by decide)⟩, rfl⟩
  have hq : q.val = 1024 * t.val + b.val := by omega
  have h := congrFun (Value.blocks3 m c t ((by decide +kernel : ∀ t : Fin grid0.N, (cfg0.win 3).flush t = true) t)) (ix2 r b)
  rw [Value.flushed3] at h
  refine Eq.trans ?_ (h.trans ?_)
  · refine congrArg ((dats m 0 c).arrAt 3 cfg0.N) ?_
    blk_ext [idx t]
  · show out0_3 (iblk m c 0 t) (iblk m c 1 t) (iblk m c 2 t) (ix2 r b) = _
    unfold out0_3
    rw [View.canon_cons_unit_lit _ _ _ (by decide)]
    refine (pay_apply _ _ _ r b).trans ?_
    rw [View.ld_unit_lit _ _ (by decide), View.ld_unit_lit _ _ (by decide), View.ld_unit_lit _ _ (by decide)]
    unfold row
    refine Ideal.add_congr (Finset.sum_congr rfl fun k _ => Ideal.mul_congr ?_ (blk1 m c t k b q hq)) (blk2 m c t b q hq)
    exact Ideal.mul_congr (blk0 m c t r k) (congrArg Ideal.logistic (blk0 m c t r k))
end kernel

section reference
open Cert.RefModsIdeal Cert.RefModsIdeal.Gen

/-- The reference's result. -/
theorem ref (x0 : FVec Ideal S8x2048 .f32) (x1 : FVec Ideal S2048x18432 .f32) (x2 : FVec Ideal S18432 .f32) (r : Fin 8) (q : Fin 18432) :
    Read.val_main_v4 (F := Ideal) x0 x1 x2 (ix2 r q) = row x0 x1 x2 r q := by
  pointwise [Read.val_main_v4, Read.val_main_v3, Read.val_main_v2, Read.val_main_v1, Read.val_main_v0, Read.val_main_call0_v5, Read.val_main_call0_v4,
    Read.val_main_call0_v3, Read.val_main_call0_v2, Read.val_main_call0_v1, Read.val_main_call0_v0, Read.val_main_call0_cst, Read.val_main_call0_cst_0]
  rfl
end reference
end Cert.Mod
end
-- ==== Proof.Dn.Unit.lean ====
module
public import proofs.«01_k».proof.Proof.Gen.DeltaIdeal.Frame
@[expose] public section

/-! One head of one pair of chunks, as the gated DeltaNet call computes it: the operations on whole vectors, named once
for all sixteen (pair, head) units of a tile. -/

set_option maxRecDepth 65536
noncomputable section
namespace Cert.Dn
open Cert.DeltaIdeal Cert.DeltaIdeal.Gen Idealize.ShloMosaic Idealize.ShloMosaic.TcCoe Idealize.SL.Sem
variable {F : FTy → Type} [FloatOps F]

/-- The row and the column of every entry. -/
def rowI : IVec S128x128 32 := iota .tc S128x128 32 [0] iota_S128x128_d0_w32
/-- The column of every entry. -/
def colI : IVec S128x128 32 := iota .tc S128x128 32 [1] iota_S128x128_d1_w32

/-- Division by `n` rounding downwards. -/
def fd (x : IVec S128x128 32) (n : BitVec 32) : IVec S128x128 32 :=
  select (andi (cmpi .ne
        (subi (extui 32 (cmpi .sgt x (broadcast S128x128 0#32)) natLt_1_32) (extui 32 (cmpi .slt x (broadcast S128x128 0#32)) natLt_1_32))
        (broadcast S128x128 (Scalar.subi (Scalar.extui (Scalar.cmpi .sgt n 0#32)) (Scalar.extui (Scalar.cmpi .slt n 0#32)))))
      (cmpi .ne (remsi x (broadcast S128x128 n)) (broadcast S128x128 0#32)))
    (subi (divsi x (broadcast S128x128 n)) (broadcast S128x128 1#32)) (divsi x (broadcast S128x128 n))

/-- Row and column lie in one block of `n`. -/
def same (n : BitVec 32) : IVec S128x128 1 := cmpi .eq (fd rowI n) (fd colI n)
/-- On or below the diagonal of a chunk. -/
def tril : IVec S128x128 1 := andi (same 64#32) (cmpi .sge rowI colI)
/-- Below the diagonal of a chunk. -/
def strict : IVec S128x128 1 := andi (same 64#32) (cmpi .sgt rowI colI)
/-- In one block of `m`, in two blocks of `n`. -/
def between (m n : BitVec 32) : IVec S128x128 1 := andi (same m) (xori (same n) (constantI S128x128 1 1#1))
/-- The unit matrix. -/
def eye : FVec F S128x128 .f32 := sitofp .f32 (extui 32 (cmpi .eq rowI colI) natLt_1_32)

/-- A product of two 128 by 128 matrices. -/
def mm (a b : FVec F S128x128 .f32) : FVec F S128x128 .f32 :=
  matmul dot_S128x128_S128x128_S128x128_1_0_0_1_n_n none (truncf .bf16 a bitsLt_bf16_f32) (truncf .bf16 b bitsLt_bf16_f32) (constant S128x128 .f32 0x00000000#32)

/-- A column spread over 128 columns. -/
def col (a : FVec F S128x1 .f32) : FVec F S128x128 .f32 := broadcastTo S128x128 a broadcasts_S128x1_S128x128

/-- The zero matrix. -/
def zero128 : FVec F S128x128 .f32 := broadcast S128x128 (Scalar.ofBits .f32 0x00000000#32)

/-- The decay between two rows of one chunk, from the running sums of the gates. -/
def decay (gc : FVec F S128x1 .f32) (gr : FVec F S1x128 .f32) : FVec F S128x128 .f32 :=
  exp (select tril (subf (col gc) (broadcastTo S128x128 gr broadcasts_S1x128_S128x128)) (broadcast S128x128 (Scalar.ofBits .f32 0xFF800000#32)))

/-- The keys scaled by the write strengths, over the queries, times the keys. -/
def aq (q k : FVec F S128x128 .f32) (beta : FVec F S128x1 .f32) : FVec F S256x128 .f32 :=
  matmul dot_S256x128_S128x128_S256x128_1_1_0_0_n_n none
    (truncf .bf16 (concatenate S256x128 0 [⟨S128x128, mulf k (col beta)⟩, ⟨S128x128, q⟩] concatenates_S128x128_S128x128_S256x128_d0) bitsLt_bf16_f32)
    (truncf .bf16 k bitsLt_bf16_f32) (constant S256x128 .f32 0x00000000#32)

/-- The attention weights inside the chunks. -/
def intra (q k : FVec F S128x128 .f32) (beta gc : FVec F S128x1 .f32) (gr : FVec F S1x128 .f32) : FVec F S128x128 .f32 :=
  mulf (extractStridedSlice S128x128 ![128, 0] (aq q k beta) slices_S256x128_o128_0_S128x128) (decay gc gr)

/-- The strictly lower triangular matrix of the system. -/
def lmat (q k : FVec F S128x128 .f32) (beta gc : FVec F S128x1 .f32) (gr : FVec F S1x128 .f32) : FVec F S128x128 .f32 :=
  mulf (extractStridedSlice S128x128 ![0, 0] (aq q k beta) slices_S256x128_o0_0_S128x128) (select strict (decay gc gr) zero128)

/-- Minus the blocks of eight on the diagonal. -/
def base (l : FVec F S128x128 .f32) : FVec F S128x128 .f32 := subf zero128 (select (same 8#32) l zero128)

/-- The first two factors of the Neumann product over its square, times the square. -/
def pr1 (x : FVec F S128x128 .f32) : FVec F S256x128 .f32 :=
  matmul dot_S256x128_S128x128_S256x128_1_0_0_1_n_n none
    (truncf .bf16 (concatenate S256x128 0 [⟨S128x128, addf eye x⟩, ⟨S128x128, mm x x⟩] concatenates_S128x128_S128x128_S256x128_d0) bitsLt_bf16_f32)
    (truncf .bf16 (mm x x) bitsLt_bf16_f32) (constant S256x128 .f32 0x00000000#32)

/-- The inverse of one minus `x` when the eighth power of `x` is zero: first step. -/
def neu1 (x : FVec F S128x128 .f32) : FVec F S128x128 .f32 :=
  addf (addf eye x) (extractStridedSlice S128x128 ![0, 0] (pr1 x) slices_S256x128_o0_0_S128x128)

/-- … and last step. -/
def neu (x : FVec F S128x128 .f32) : FVec F S128x128 .f32 :=
  addf (neu1 x) (mm (neu1 x) (extractStridedSlice S128x128 ![128, 0] (pr1 x) slices_S256x128_o128_0_S128x128))

/-- Two inverted blocks merged into one of twice the size; `msk` keeps what lies between them. -/
def merge (msk : IVec S128x128 1) (l r : FVec F S128x128 .f32) : FVec F S128x128 .f32 :=
  subf r (mm (mm r (select msk l zero128)) r)

/-- The inverse of one plus the system's matrix. -/
def inv (l : FVec F S128x128 .f32) : FVec F S128x128 .f32 :=
  merge (between 64#32 32#32) l (merge (between 32#32 16#32) l (merge (between 16#32 8#32) l (neu (base l))))

/-- The system's solution: values and keys as the chunk rewrites them. -/
def sol (q k v : FVec F S128x128 .f32) (beta gc : FVec F S128x1 .f32) (gr : FVec F S1x128 .f32) : FVec F S128x256 .f32 :=
  matmul dot_S128x128_S128x256_S128x256_1_0_0_1_n_n none (truncf .bf16 (inv (lmat q k beta gc gr)) bitsLt_bf16_f32)
    (truncf .bf16 (concatenate S128x256 1 [⟨S128x128, mulf v (col beta)⟩, ⟨S128x128, mulf (mulf k (col beta)) (col (exp gc))⟩] concatenates_S128x128_S128x128_S128x256_d1) bitsLt_bf16_f32)
    (constant S128x256 .f32 0x00000000#32)

/-- The zero rows beside a chunk. -/
def zero64 : FVec F S64x128 .f32 := broadcast S64x128 (Scalar.ofBits .f32 0x00000000#32)

/-- Slices of a chunk's rows lie inside the pair. -/
theorem sl128 (ci : Fin 2) : S128x128.Slices ![64 * ci.val, 0] S64x128 := by revert ci; decide
/-- A chunk's rows of the solution's value columns. -/
theorem sl256a (ci : Fin 2) : S128x256.Slices ![64 * ci.val, 0] S64x128 := by revert ci; decide
/-- A chunk's rows of the solution's key columns. -/
theorem sl256b (ci : Fin 2) : S128x256.Slices ![64 * ci.val, 128] S64x128 := by revert ci; decide
/-- A chunk's rows of a column. -/
theorem sl1 (ci : Fin 2) : S128x1.Slices ![64 * ci.val, 0] S64x1 := by revert ci; decide
/-- A chunk's last entry of a column. -/
theorem slLast (ci : Fin 2) : S128x1.Slices ![64 * ci.val + 63, 0] S1x1 := by revert ci; decide
/-- A head's column of the write gate. -/
theorem slBeta (h : Fin 8) : S128x128.Slices ![0, h.val] S128x1 := by revert h; decide
/-- A head's column of the running sums. -/
theorem slG (h : Fin 8) : S128x128.Slices ![0, h.val + 8] S128x1 := by revert h; decide
/-- A head's row of the running sums. -/
theorem slRow (h : Fin 8) : S16x128.Slices ![h.val + 8, 0] S1x128 := by revert h; decide

/-- The solution's keys and the decayed queries of a chunk, times the state. -/
def wq (ci : Fin 2) (q : FVec F S128x128 .f32) (gc : FVec F S128x1 .f32) (s : FVec F S128x256 .f32) (st : FVec F S128x128 .f32) : FVec F S128x128 .f32 :=
  mm (concatenate S128x128 0 [⟨S64x128, extractStridedSlice S64x128 ![64 * ci.val, 128] s (sl256b ci)⟩,
      ⟨S64x128, extractStridedSlice S64x128 ![64 * ci.val, 0] (mulf q (col (exp gc))) (sl128 ci)⟩] concatenates_S64x128_S64x128_S128x128_d0) st

/-- The values a chunk writes. -/
def vnew (ci : Fin 2) (s : FVec F S128x256 .f32) (w : FVec F S128x128 .f32) : FVec F S64x128 .f32 :=
  subf (extractStridedSlice S64x128 ![64 * ci.val, 0] s (sl256a ci)) (extractStridedSlice S64x128 ![0, 0] w slices_S128x128_o0_0_S64x128)

/-- The keys a chunk writes with, decayed to its end. -/
def kd (ci : Fin 2) (k : FVec F S128x128 .f32) (gc : FVec F S128x1 .f32) : FVec F S64x128 .f32 :=
  mulf (extractStridedSlice S64x128 ![64 * ci.val, 0] k (sl128 ci))
    (broadcastTo S64x128 (exp (subf (broadcastTo S64x1 (extractStridedSlice S1x1 ![64 * ci.val + 63, 0] gc (slLast ci)) broadcasts_S1x1_S64x1)
      (extractStridedSlice S64x1 ![64 * ci.val, 0] gc (sl1 ci)))) broadcasts_S64x1_S64x128)

/-- The state after a chunk. -/
def stNext (ci : Fin 2) (k : FVec F S128x128 .f32) (gc : FVec F S128x1 .f32) (st : FVec F S128x128 .f32) (vn : FVec F S64x128 .f32) : FVec F S128x128 .f32 :=
  addf (mulf st (broadcastTo S128x128 (exp (extractStridedSlice S1x1 ![64 * ci.val + 63, 0] gc (slLast ci))) broadcasts_S1x1_S128x128))
    (matmul dot_S64x128_S64x128_S128x128_0_0_1_1_n_n none (truncf .bf16 (kd ci k gc) bitsLt_bf16_f32) (truncf .bf16 vn bitsLt_bf16_f32) (constant S128x128 .f32 0x00000000#32))

/-- What a tile reads. -/
structure Ld (F : FTy → Type) [FloatOps F] where
  q : Fin 2 → Fin 8 → FVec F S128x128 .f32
  k : Fin 2 → Fin 8 → FVec F S128x128 .f32
  v : Fin 2 → Fin 8 → FVec F S128x128 .f32
  gt : Fin 2 → FVec F S128x128 .f32
  gr : Fin 2 → Vec F S1x16x128 .f32
  st : Fin 8 → Vec F S1x128x128 .f32

/-- The write strengths of a head. -/
def Ld.beta (L : Ld F) (p : Fin 2) (h : Fin 8) : FVec F S128x1 .f32 := extractStridedSlice S128x1 ![0, h.val] (L.gt p) (slBeta h)
/-- The summed gates of a head, as a column. -/
def Ld.gc (L : Ld F) (p : Fin 2) (h : Fin 8) : FVec F S128x1 .f32 := extractStridedSlice S128x1 ![0, h.val + 8] (L.gt p) (slG h)
/-- The summed gates of a head, as a row. -/
def Ld.grow (L : Ld F) (p : Fin 2) (h : Fin 8) : FVec F S1x128 .f32 :=
  extractStridedSlice S1x128 ![h.val + 8, 0] (shapeCast S16x128 (L.gr p) shapeCasts_S1x16x128_S16x128) (slRow h)
/-- The solution of a unit. -/
def Ld.sol (L : Ld F) (p : Fin 2) (h : Fin 8) : FVec F S128x256 .f32 :=
  Dn.sol (L.q p h) (L.k p h) (L.v p h) (L.beta p h) (L.gc p h) (L.grow p h)
/-- The values chunk `ci` of pair `p` writes into a state. -/
def Ld.vn (L : Ld F) (p : Fin 2) (ci : Fin 2) (h : Fin 8) (st : FVec F S128x128 .f32) : FVec F S64x128 .f32 :=
  vnew ci (L.sol p h) (wq ci (L.q p h) (L.gc p h) (L.sol p h) st)
/-- One chunk's step of the state. -/
def Ld.step (L : Ld F) (p : Fin 2) (ci : Fin 2) (h : Fin 8) (st : FVec F S128x128 .f32) : FVec F S128x128 .f32 :=
  stNext ci (L.k p h) (L.gc p h) st (L.vn p ci h st)
/-- The state before the tile, and after each of its four chunks. -/
def Ld.s0 (L : Ld F) (h : Fin 8) : FVec F S128x128 .f32 := shapeCast S128x128 (L.st h) shapeCasts_S1x128x128_S128x128
/-- A head's state after the tile's first chunk. -/
def Ld.s1 (L : Ld F) (h : Fin 8) : FVec F S128x128 .f32 := L.step 0 0 h (L.s0 h)
/-- A head's state after the tile's second chunk. -/
def Ld.s2 (L : Ld F) (h : Fin 8) : FVec F S128x128 .f32 := L.step 0 1 h (L.s1 h)
/-- A head's state after the tile's third chunk. -/
def Ld.s3 (L : Ld F) (h : Fin 8) : FVec F S128x128 .f32 := L.step 1 0 h (L.s2 h)
/-- A head's state after the tile's fourth chunk. -/
def Ld.s4 (L : Ld F) (h : Fin 8) : FVec F S128x128 .f32 := L.step 1 1 h (L.s3 h)

/-- The rows beside a chunk's in the pair: zero. -/
def vpad (ci : Fin 2) (v : FVec F S64x128 .f32) : FVec F S128x128 .f32 :=
  concatenate S128x128 0 [⟨S64x128, (![v, zero64] : Fin 2 → FVec F S64x128 .f32) ci⟩, ⟨S64x128, (![zero64, v] : Fin 2 → FVec F S64x128 .f32) ci⟩] concatenates_S64x128_S64x128_S128x128_d0

/-- What a chunk's queries read. -/
def oraw (ci : Fin 2) (w : FVec F S128x128 .f32) (a : FVec F S128x128 .f32) (vn : FVec F S64x128 .f32) : FVec F S64x128 .f32 :=
  addf (extractStridedSlice S64x128 ![64, 0] w slices_S128x128_o64_0_S64x128)
    (matmul dot_S64x128_S128x128_S64x128_1_0_0_1_n_n none (truncf .bf16 (extractStridedSlice S64x128 ![64 * ci.val, 0] a (sl128 ci)) bitsLt_bf16_f32)
      (truncf .bf16 (vpad ci vn) bitsLt_bf16_f32) (constant S64x128 .f32 0x00000000#32))

/-- The normalised and gated output of a chunk. -/
def outp (o : FVec F S64x128 .f32) (wn : Vec F S1x128 .f32) (z : Vec F S1x64x128 .f32) : FVec F S1x64x128 .bf16 :=
  shapeCast S1x64x128 (truncf .bf16 (mulf (mulf (mulf o (broadcastTo S64x128 (rsqrt (addf (divf
      (shapeCast S64x1 (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
      (broadcastTo S64x128 (shapeCast S1x128 wn shapeCasts_S1x128_S1x128) broadcasts_S1x128_S64x128))
      (mulf (shapeCast S64x128 z shapeCasts_S1x64x128_S64x128) (logistic (shapeCast S64x128 z shapeCasts_S1x64x128_S64x128)))) bitsLt_bf16_f32) shapeCasts_S64x128_S1x64x128

/-- The state a chunk reads. -/
def Ld.sAt (L : Ld F) (n : Fin 4) (h : Fin 8) : FVec F S128x128 .f32 := (![L.s0 h, L.s1 h, L.s2 h, L.s3 h] : Fin 4 → FVec F S128x128 .f32) n
/-- The output of chunk `ci` of pair `p` before the normalisation. -/
def Ld.oraw (L : Ld F) (p ci : Fin 2) (h : Fin 8) (st : FVec F S128x128 .f32) : FVec F S64x128 .f32 :=
  Dn.oraw ci (wq ci (L.q p h) (L.gc p h) (L.sol p h) st) (intra (L.q p h) (L.k p h) (L.beta p h) (L.gc p h) (L.grow p h)) (L.vn p ci h st)

/-- What the preparation of a tile reads. -/
structure Src (F : FTy → Type) [FloatOps F] where
  x : Fin 3 → Fin 8 → Vec F S1x256x128 .f32
  halo : Fin 24 → Vec F S8x128 .f32
  w : Fin 4 → Fin 24 → Vec F S1x128 .f32
  ba : Fin 2 → Vec F S1x128x128 .f32
  ha : Vec F S16x1 .f32
  hd : Vec F S16x1 .f32
  last : Fin 3 → Vec F S1x8x1024 .f32

/-- One more tap of a convolution. -/
def tap (xs acc : FVec F S264x128 .f32) (w : Vec F S1x128 .f32) : FVec F S264x128 .f32 :=
  addf (dynamicRotate 0 1#32 none acc rotates_S264x128_d0) (mulf (broadcastTo S264x128 w broadcasts_S1x128_S264x128) xs)
/-- The rows a convolution reads: eight before the tile, then the tile's. -/
def cat (hl : Vec F S8x128 .f32) (x : Vec F S1x256x128 .f32) : FVec F S264x128 .f32 :=
  concatenate S264x128 0 [⟨S8x128, hl⟩, ⟨S256x128, shapeCast S256x128 x shapeCasts_S1x256x128_S256x128⟩] concatenates_S8x128_S256x128_S264x128_d0
/-- The convolution of a tile's rows before its activation. -/
def conv (hl : Vec F S8x128 .f32) (x : Vec F S1x256x128 .f32) (w0 w1 w2 w3 : Vec F S1x128 .f32) : FVec F S256x128 .f32 :=
  extractStridedSlice S256x128 ![8, 0] (tap (cat hl x) (tap (cat hl x) (tap (cat hl x)
    (mulf (broadcastTo S264x128 w0 broadcasts_S1x128_S264x128) (cat hl x)) w1) w2) w3) slices_S264x128_o8_0_S256x128
/-- The activation. -/
def act (y : FVec F S256x128 .f32) : FVec F S256x128 .f32 := mulf y (logistic y)
/-- Rows scaled to length `gain`. -/
def nrm (gain : BitVec 32) (y : FVec F S256x128 .f32) : FVec F S256x128 .f32 :=
  mulf y (broadcastTo S256x128 (mulf (rsqrt (addf (shapeCast S256x1 (multiReduction .add [1] S256 (mulf y y) 0x00000000#32 reduces_S256x128_S256 (.inl rfl) rfl) shapeCasts_S256_S256x1)
    (broadcast S256x1 (Scalar.ofBits .f32 0x358637BD#32)))) (broadcast S256x1 (Scalar.ofBits .f32 gain))) broadcasts_S256x1_S256x128)

/-- Head `h` of kind `a` among the convolved columns. -/
def hd24 (a : Fin 3) (h : Fin 8) : Fin 24 := ⟨8 * a.val + h.val, by omega⟩
/-- The convolved columns of a head, activated. -/
def Src.y (S : Src F) (a : Fin 3) (h : Fin 8) : FVec F S256x128 .f32 :=
  act (conv (S.halo (hd24 a h)) (S.x a h) (S.w 0 (hd24 a h)) (S.w 1 (hd24 a h)) (S.w 2 (hd24 a h)) (S.w 3 (hd24 a h)))
/-- What is stored for a head: queries and keys normalised, values as they are. -/
def Src.pay (S : Src F) (a : Fin 3) (h : Fin 8) : FVec F S256x128 .f32 :=
  shapeCast S256x128 ((![nrm 0x3DB504F3#32 (S.y a h), nrm 0x3F800000#32 (S.y a h), S.y a h] : Fin 3 → FVec F S256x128 .f32) a) shapeCasts_S256x128_S256x128

/-- On or above the diagonal of a chunk. -/
def triu : IVec S128x128 1 := andi (same 64#32) (cmpi .sle rowI colI)
/-- The heads' inputs of the gates, a row each. -/
def Src.baT (S : Src F) (p : Fin 2) : FVec F S16x128 .f32 :=
  extractStridedSlice S16x128 ![0, 0] (transpose S128x128 [1, 0] (shapeCast S128x128 (S.ba p) shapeCasts_S1x128x128_S128x128) transposes_S128x128_p1_0_S128x128) slices_S128x128_o0_0_S16x128
/-- The gates of single rows. -/
def Src.g (S : Src F) (p : Fin 2) : FVec F S16x128 .f32 :=
  mulf (broadcastTo S16x128 (subf (broadcast S16x1 (Scalar.ofBits .f32 0x00000000#32)) (exp (shapeCast S16x1 S.ha shapeCasts_S16x1_S16x1))) broadcasts_S16x1_S16x128)
    (addf (maximumf (addf (S.baT p) (broadcastTo S16x128 (shapeCast S16x1 S.hd shapeCasts_S16x1_S16x1) broadcasts_S16x1_S16x128)) (broadcast S16x128 (Scalar.ofBits .f32 0x00000000#32)))
      (log1p (exp (subf (broadcast S16x128 (Scalar.ofBits .f32 0x00000000#32))
        (absf (addf (S.baT p) (broadcastTo S16x128 (shapeCast S16x1 S.hd shapeCasts_S16x1_S16x1) broadcasts_S16x1_S16x128)))))))
/-- Their running sums inside the chunks. -/
def Src.gsum (S : Src F) (p : Fin 2) : FVec F S16x128 .f32 :=
  matmul dot_S16x128_S128x128_S16x128_1_0_0_1_n_n (some .fp32) (S.g p) (sitofp .f32 (extui 32 triu natLt_1_32)) (constant S16x128 .f32 0x00000000#32)
/-- The gates of a pair, a column each: write strengths, then running sums. -/
def Src.gate (S : Src F) (p : Fin 2) : FVec F S128x128 .f32 :=
  shapeCast S128x128 (transpose S128x128 [1, 0] (concatenate S128x128 0
    [⟨S16x128, select (cmpi .slt (iota .tc S16x128 32 [0] iota_S16x128_d0_w32) (broadcast S16x128 8#32)) (logistic (S.baT p)) (S.gsum p)⟩,
     ⟨S112x128, broadcast S112x128 (Scalar.ofBits .f32 0x00000000#32)⟩] concatenates_S16x128_S112x128_S128x128_d0) transposes_S128x128_p1_0_S128x128) shapeCasts_S128x128_S128x128

end Cert.Dn
end
-- ==== Proof.Dn.Tile.lean ====
module
public import proofs.«01_k».proof.Proof.Dn.Unit
@[expose] public section

/-! What one tile reads and stores. -/

set_option maxRecDepth 65536
noncomputable section
namespace Cert.Dn
open Cert.DeltaIdeal Cert.DeltaIdeal.Gen Idealize.ShloMosaic Idealize.ShloMosaic.TcCoe Idealize.SL.Sem
variable {F : FTy → Type} [FloatOps F]

/-- Blocks of 128 by 128 lie inside the convolved projections. -/
theorem inQ (p : Fin 2) (h : Fin 24) : ∀ a, (![128 * p.val, 128 * h.val] : Fin 2 → ℕ) a + S128x128.size a ≤ S256x3072.size a := by revert p h; decide
/-- The gates of a pair of chunks lie inside their buffer. -/
theorem inG (p : Fin 2) : ∀ a, (![128 * p.val, 0] : Fin 2 → ℕ) a + S128x128.size a ≤ S256x128.size a := by revert p; decide
/-- The running sums of a pair of chunks lie inside their buffer. -/
theorem inR (p : Fin 2) : ∀ a, (![p.val, 0, 0] : Fin 3 → ℕ) a + S1x16x128.size a ≤ S2x16x128.size a := by revert p; decide
/-- A head's state lies inside its buffer. -/
theorem inS (h : Fin 8) : ∀ a, (![h.val, 0, 0] : Fin 3 → ℕ) a + S1x128x128.size a ≤ S8x128x128.size a := by revert h; decide
/-- A head's columns lie inside a tile's block. -/
theorem inX (h : Fin 8) : ∀ a, (![0, 0, 128 * h.val] : Fin 3 → ℕ) a + S1x256x128.size a ≤ S1x256x1024.size a := by revert h; decide
/-- A head's columns lie inside the halo. -/
theorem inH (h : Fin 24) : ∀ a, (![0, 128 * h.val] : Fin 2 → ℕ) a + S8x128.size a ≤ S8x3072.size a := by revert h; decide
/-- A head's columns of a tap lie inside the array of taps. -/
theorem inW (i : Fin 4) (h : Fin 24) : ∀ a, (![i.val, 128 * h.val] : Fin 2 → ℕ) a + S1x128.size a ≤ S4x3072.size a := by revert i h; decide
/-- A pair's rows of the gate columns lie inside a tile's block. -/
theorem inBa (p : Fin 2) : ∀ a, (![0, 128 * p.val, 0] : Fin 3 → ℕ) a + S1x128x128.size a ≤ S1x256x128.size a := by revert p; decide
/-- A head's columns lie inside the buffer of prepared rows. -/
theorem inC (h : Fin 24) : ∀ a, (![0, 128 * h.val] : Fin 2 → ℕ) a + S256x128.size a ≤ S256x3072.size a := by revert h; decide
/-- Queries, keys and values each lie inside the halo. -/
theorem inHS (a : Fin 3) : ∀ ax, (![0, 1024 * a.val] : Fin 2 → ℕ) ax + S8x1024.size ax ≤ S8x3072.size ax := by revert a; decide
/-- A chunk's rows of a head's columns lie inside the result's block. -/
theorem inO (n : Fin 4) (h : Fin 8) : ∀ a, (![0, 64 * n.val, 128 * h.val] : Fin 3 → ℕ) a + S1x64x128.size a ≤ S1x256x1024.size a := by revert n h; decide

/-- The blocks a tile reads from the buffers carried between tiles. -/
def ldOf (X1 : Vec F S256x3072 .f32) (X2 : Vec F S256x128 .f32) (X3 : Vec F S2x16x128 .f32) (X4 : Vec F S8x128x128 .f32) : Ld F where
  q p h := View.ld X1 (Rect.unit (s := S256x3072) ![128 * p.val, 128 * (hd24 0 h).val] S128x128.size (inQ p (hd24 0 h)))
  k p h := View.ld X1 (Rect.unit (s := S256x3072) ![128 * p.val, 128 * (hd24 1 h).val] S128x128.size (inQ p (hd24 1 h)))
  v p h := View.ld X1 (Rect.unit (s := S256x3072) ![128 * p.val, 128 * (hd24 2 h).val] S128x128.size (inQ p (hd24 2 h)))
  gt p := View.ld X2 (Rect.unit (s := S256x128) ![128 * p.val, 0] S128x128.size (inG p))
  gr p := View.ld X3 (Rect.unit (s := S2x16x128) ![p.val, 0, 0] S1x16x128.size (inR p))
  st h := View.ld X4 (Rect.unit (s := S8x128x128) ![h.val, 0, 0] S1x128x128.size (inS h))

/-- What the preparation of a tile reads from its operands. -/
def srcOf (Xq Xk Xv : Vec F S1x256x1024 .f32) (Xb : Vec F S1x256x128 .f32) (Xw : Vec F S4x3072 .f32) (Xh : Vec F S16x2 .f32) (Xl : Vec F S8x3072 .f32) : Src F where
  x a h := View.ld ((![Xq, Xk, Xv] : Fin 3 → Vec F S1x256x1024 .f32) a) (Rect.unit (s := S1x256x1024) ![0, 0, 128 * h.val] S1x256x128.size (inX h))
  halo g := View.ld Xl (Rect.unit (s := S8x3072) ![0, 128 * g.val] S8x128.size (inH g))
  w i g := View.ld Xw (Rect.unit (s := S4x3072) ![i.val, 128 * g.val] S1x128.size (inW i g))
  ba p := View.ld Xb (Rect.unit (s := S1x256x128) ![0, 128 * p.val, 0] S1x128x128.size (inBa p))
  ha := View.ld Xh (Rect.unit (s := S16x2) ![0, 0] S16x1.size inb_S16x2_S16x1_0_0)
  hd := View.ld Xh (Rect.unit (s := S16x2) ![0, 1] S16x1.size inb_S16x2_S16x1_0_1)
  last a := View.ld ((![Xq, Xk, Xv] : Fin 3 → Vec F S1x256x1024 .f32) a) (Rect.unit (s := S1x256x1024) ![0, 248, 0] S1x8x1024.size inb_S1x256x1024_S1x8x1024_0_248_0)

/-- The stores of the convolved columns, last first. -/
def convPieces (S : Src F) : List (View.Piece (Elt F) S256x3072 .f32) := List.ofFn fun n : Fin 24 =>
  ⟨Rect.unit (s := S256x3072) ![0, 128 * (hd24 ⟨(23 - n.val) % 3, by omega⟩ ⟨(23 - n.val) / 3, by omega⟩).val] S256x128.size (inC _),
    S.pay ⟨(23 - n.val) % 3, by omega⟩ ⟨(23 - n.val) / 3, by omega⟩⟩
/-- The stores of the gates' columns. -/
def gatePieces (S : Src F) : List (View.Piece (Elt F) S256x128 .f32) := List.ofFn fun n : Fin 2 =>
  ⟨Rect.unit (s := S256x128) ![128 * (⟨1 - n.val, by omega⟩ : Fin 2).val, 0] S128x128.size (inG ⟨1 - n.val, by omega⟩), S.gate ⟨1 - n.val, by omega⟩⟩
/-- The stores of the gates' rows. -/
def rowPieces (S : Src F) : List (View.Piece (Elt F) S2x16x128 .f32) := List.ofFn fun n : Fin 2 =>
  ⟨Rect.unit (s := S2x16x128) ![(⟨1 - n.val, by omega⟩ : Fin 2).val, 0, 0] S1x16x128.size (inR ⟨1 - n.val, by omega⟩),
    shapeCast S1x16x128 (S.gsum ⟨1 - n.val, by omega⟩) shapeCasts_S16x128_S1x16x128⟩
/-- The stores of the rows the next tile's convolutions look back to. -/
def haloPieces (S : Src F) : List (View.Piece (Elt F) S8x3072 .f32) := List.ofFn fun n : Fin 3 =>
  ⟨Rect.unit (s := S8x3072) ![0, 1024 * (⟨2 - n.val, by omega⟩ : Fin 3).val] S8x1024.size (inHS ⟨2 - n.val, by omega⟩),
    shapeCast S8x1024 (shapeCast S8x1024 (S.last ⟨2 - n.val, by omega⟩) shapeCasts_S1x8x1024_S8x1024) shapeCasts_S8x1024_S8x1024⟩
/-- The last stores into the state, last head first. -/
def statePieces (L : Ld F) : List (View.Piece (Elt F) S8x128x128 .f32) := List.ofFn fun n : Fin 8 =>
  ⟨Rect.unit (s := S8x128x128) ![(⟨7 - n.val, by omega⟩ : Fin 8).val, 0, 0] S1x128x128.size (inS ⟨7 - n.val, by omega⟩),
    shapeCast S1x128x128 (L.s4 ⟨7 - n.val, by omega⟩) shapeCasts_S128x128_S1x128x128⟩
/-- The stores of the outputs. -/
def outPieces (L : Ld F) (wn : Vec F S1x128 .f32) (z : Fin 4 → Fin 8 → Vec F S1x64x128 .f32) : List (View.Piece (Elt F) S1x256x1024 .bf16) := List.ofFn fun n : Fin 32 =>
  ⟨Rect.unit (s := S1x256x1024) ![0, 64 * (⟨(31 - n.val) / 8, by omega⟩ : Fin 4).val, 128 * (⟨(31 - n.val) % 8, by omega⟩ : Fin 8).val] S1x64x128.size
      (inO ⟨(31 - n.val) / 8, by omega⟩ ⟨(31 - n.val) % 8, by omega⟩),
    outp (L.oraw ⟨(31 - n.val) / 16, by omega⟩ ⟨(31 - n.val) / 8 % 2, by omega⟩ ⟨(31 - n.val) % 8, by omega⟩ (L.sAt ⟨(31 - n.val) / 8, by omega⟩ ⟨(31 - n.val) % 8, by omega⟩)) wn
      (z ⟨(31 - n.val) / 8, by omega⟩ ⟨(31 - n.val) % 8, by omega⟩)⟩
/-- What the outputs are gated with. -/
def zOf (X : Vec F S1x256x1024 .f32) (n : Fin 4) (h : Fin 8) : Vec F S1x64x128 .f32 :=
  View.ld X (Rect.unit (s := S1x256x1024) ![0, 64 * n.val, 128 * h.val] S1x64x128.size (inO n h))
/-- The weights of the norm. -/
def wnOf (X : Vec F S1x128 .f32) : Vec F S1x128 .f32 := View.ld X (Rect.unit (s := S1x128) ![0, 0] S1x128.size inb_S1x128_S1x128_0_0)

section B
/-- The stores of a tile after the first. -/
theorem out_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : ¬cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) (xs0 : Vec F S8x3072 .f32) (xs1 : Vec F S256x3072 .f32) (xs2 : Vec F S256x128 .f32) (xs3 : Vec F S2x16x128 .f32) (xs4 : Vec F S8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4).1 = outPieces (ldOf (arg16.view.read (Elt F) (harg16.unread xs1)) (arg17.view.read (Elt F) (harg17.unread xs2)) (arg18.view.read (Elt F) (harg18.unread xs3)) (arg19.view.read (Elt F) (harg19.unread xs4))) (wnOf (arg13.view.read (Elt F) (harg13.unread x11))) (zOf (arg10.view.read (Elt F) (harg10.unread x8))) := by
  sl_kernel_rfl

/-- The stores of a tile after the first. -/
theorem halo_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : ¬cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) (xs0 : Vec F S8x3072 .f32) (xs1 : Vec F S256x3072 .f32) (xs2 : Vec F S256x128 .f32) (xs3 : Vec F S2x16x128 .f32) (xs4 : Vec F S8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4).2.1 = haloPieces (srcOf (arg6.view.read (Elt F) (harg6.unread x4)) (arg7.view.read (Elt F) (harg7.unread x5)) (arg8.view.read (Elt F) (harg8.unread x6)) (arg9.view.read (Elt F) (harg9.unread x7)) (arg11.view.read (Elt F) (harg11.unread x9)) (arg12.view.read (Elt F) (harg12.unread x10)) (arg15.view.read (Elt F) (harg15.unread xs0)))  := by
  sl_kernel_rfl

/-- The stores of a tile after the first. -/
theorem conv_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : ¬cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) (xs0 : Vec F S8x3072 .f32) (xs1 : Vec F S256x3072 .f32) (xs2 : Vec F S256x128 .f32) (xs3 : Vec F S2x16x128 .f32) (xs4 : Vec F S8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4).2.2.1 = convPieces (srcOf (arg6.view.read (Elt F) (harg6.unread x4)) (arg7.view.read (Elt F) (harg7.unread x5)) (arg8.view.read (Elt F) (harg8.unread x6)) (arg9.view.read (Elt F) (harg9.unread x7)) (arg11.view.read (Elt F) (harg11.unread x9)) (arg12.view.read (Elt F) (harg12.unread x10)) (arg15.view.read (Elt F) (harg15.unread xs0)))  := by
  sl_kernel_rfl

/-- The stores of a tile after the first. -/
theorem gate_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : ¬cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) (xs0 : Vec F S8x3072 .f32) (xs1 : Vec F S256x3072 .f32) (xs2 : Vec F S256x128 .f32) (xs3 : Vec F S2x16x128 .f32) (xs4 : Vec F S8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4).2.2.2.1 = gatePieces (srcOf (arg6.view.read (Elt F) (harg6.unread x4)) (arg7.view.read (Elt F) (harg7.unread x5)) (arg8.view.read (Elt F) (harg8.unread x6)) (arg9.view.read (Elt F) (harg9.unread x7)) (arg11.view.read (Elt F) (harg11.unread x9)) (arg12.view.read (Elt F) (harg12.unread x10)) (arg15.view.read (Elt F) (harg15.unread xs0)))  := by
  sl_kernel_rfl

/-- The stores of a tile after the first. -/
theorem row_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : ¬cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) (xs0 : Vec F S8x3072 .f32) (xs1 : Vec F S256x3072 .f32) (xs2 : Vec F S256x128 .f32) (xs3 : Vec F S2x16x128 .f32) (xs4 : Vec F S8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4).2.2.2.2.1 = rowPieces (srcOf (arg6.view.read (Elt F) (harg6.unread x4)) (arg7.view.read (Elt F) (harg7.unread x5)) (arg8.view.read (Elt F) (harg8.unread x6)) (arg9.view.read (Elt F) (harg9.unread x7)) (arg11.view.read (Elt F) (harg11.unread x9)) (arg12.view.read (Elt F) (harg12.unread x10)) (arg15.view.read (Elt F) (harg15.unread xs0)))  := by
  sl_kernel_rfl

/-- The stores of a tile after the first. -/
theorem state_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : ¬cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) (xs0 : Vec F S8x3072 .f32) (xs1 : Vec F S256x3072 .f32) (xs2 : Vec F S256x128 .f32) (xs3 : Vec F S2x16x128 .f32) (xs4 : Vec F S8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4).2.2.2.2.2.1 = statePieces (ldOf (arg16.view.read (Elt F) (harg16.unread xs1)) (arg17.view.read (Elt F) (harg17.unread xs2)) (arg18.view.read (Elt F) (harg18.unread xs3)) (arg19.view.read (Elt F) (harg19.unread xs4)))  := by
  sl_kernel_rfl

end B

section A
/-- The stores of the first tile of a batch. -/
theorem out_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).1 = outPieces (ldOf (arg16.view.read (Elt F) <| arg16.view.writes (Elt F) arg16.view.junk (convPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])))) (arg17.view.read (Elt F) <| arg17.view.writes (Elt F) arg17.view.junk (gatePieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])))) (arg18.view.read (Elt F) <| arg18.view.writes (Elt F) arg18.view.junk (rowPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])))) (arg19.view.read (Elt F) <| arg19.view.writes (Elt F) arg19.view.junk [⟨Rect.unit (s := S8x128x128) ![0, 0, 0] S8x128x128.size inb_S8x128x128_S8x128x128_0_0_0, k0_pay3⟩])) (wnOf (arg13.view.read (Elt F) (harg13.unread x11))) (zOf (arg10.view.read (Elt F) (harg10.unread x8))) := by
  sl_kernel_rfl

/-- The stores of the first tile of a batch. -/
theorem halo_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.1 = haloPieces (srcOf (arg6.view.read (Elt F) (harg6.unread x4)) (arg7.view.read (Elt F) (harg7.unread x5)) (arg8.view.read (Elt F) (harg8.unread x6)) (arg9.view.read (Elt F) (harg9.unread x7)) (arg11.view.read (Elt F) (harg11.unread x9)) (arg12.view.read (Elt F) (harg12.unread x10)) (arg15.view.read (Elt F) <| arg15.view.writes (Elt F) arg15.view.junk (haloPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])) ++ [⟨Rect.unit (s := S8x3072) ![0, 0] S8x3072.size inb_S8x3072_S8x3072_0_0, k0_pay2⟩])))  ++ (haloPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])) ++ [⟨Rect.unit (s := S8x3072) ![0, 0] S8x3072.size inb_S8x3072_S8x3072_0_0, k0_pay2⟩]) := by
  sl_kernel_rfl

/-- The stores of the first tile of a batch. -/
theorem conv_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.1 = convPieces (srcOf (arg6.view.read (Elt F) (harg6.unread x4)) (arg7.view.read (Elt F) (harg7.unread x5)) (arg8.view.read (Elt F) (harg8.unread x6)) (arg9.view.read (Elt F) (harg9.unread x7)) (arg11.view.read (Elt F) (harg11.unread x9)) (arg12.view.read (Elt F) (harg12.unread x10)) (arg15.view.read (Elt F) <| arg15.view.writes (Elt F) arg15.view.junk (haloPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])) ++ [⟨Rect.unit (s := S8x3072) ![0, 0] S8x3072.size inb_S8x3072_S8x3072_0_0, k0_pay2⟩])))  ++ convPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])) := by
  sl_kernel_rfl

/-- The stores of the first tile of a batch. -/
theorem gate_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.1 = gatePieces (srcOf (arg6.view.read (Elt F) (harg6.unread x4)) (arg7.view.read (Elt F) (harg7.unread x5)) (arg8.view.read (Elt F) (harg8.unread x6)) (arg9.view.read (Elt F) (harg9.unread x7)) (arg11.view.read (Elt F) (harg11.unread x9)) (arg12.view.read (Elt F) (harg12.unread x10)) (arg15.view.read (Elt F) <| arg15.view.writes (Elt F) arg15.view.junk (haloPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])) ++ [⟨Rect.unit (s := S8x3072) ![0, 0] S8x3072.size inb_S8x3072_S8x3072_0_0, k0_pay2⟩])))  ++ gatePieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])) := by
  sl_kernel_rfl

/-- The stores of the first tile of a batch. -/
theorem row_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.1 = rowPieces (srcOf (arg6.view.read (Elt F) (harg6.unread x4)) (arg7.view.read (Elt F) (harg7.unread x5)) (arg8.view.read (Elt F) (harg8.unread x6)) (arg9.view.read (Elt F) (harg9.unread x7)) (arg11.view.read (Elt F) (harg11.unread x9)) (arg12.view.read (Elt F) (harg12.unread x10)) (arg15.view.read (Elt F) <| arg15.view.writes (Elt F) arg15.view.junk (haloPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])) ++ [⟨Rect.unit (s := S8x3072) ![0, 0] S8x3072.size inb_S8x3072_S8x3072_0_0, k0_pay2⟩])))  ++ rowPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])) := by
  sl_kernel_rfl

/-- The stores of the first tile of a batch. -/
theorem state_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : cond0_0 i)
    (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11).2.2.2.2.2.1 = statePieces (ldOf (arg16.view.read (Elt F) <| arg16.view.writes (Elt F) arg16.view.junk (convPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])))) (arg17.view.read (Elt F) <| arg17.view.writes (Elt F) arg17.view.junk (gatePieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])))) (arg18.view.read (Elt F) <| arg18.view.writes (Elt F) arg18.view.junk (rowPieces (srcOf (arg2.view.read (Elt F) (harg2.unread x0)) (arg3.view.read (Elt F) (harg3.unread x1)) (arg4.view.read (Elt F) (harg4.unread x2)) (arg5.view.read (Elt F) (harg5.unread x3)) (arg11.view.read (Elt F) (harg11.unread x9)) (arg12.view.read (Elt F) (harg12.unread x10)) (arg15.view.read (Elt F) <| arg15.view.writes (Elt F) arg15.view.junk [⟨Rect.unit (s := S8x3072) ![0, 0] S8x3072.size inb_S8x3072_S8x3072_0_0, k0_pay2⟩])))) (arg19.view.read (Elt F) <| arg19.view.writes (Elt F) arg19.view.junk [⟨Rect.unit (s := S8x128x128) ![0, 0, 0] S8x128x128.size inb_S8x128x128_S8x128x128_0_0_0, k0_pay3⟩]))  ++ [⟨Rect.unit (s := S8x128x128) ![0, 0, 0] S8x128x128.size inb_S8x128x128_S8x128x128_0_0_0, k0_pay3⟩] := by
  sl_kernel_rfl

end A
end Cert.Dn
end
-- ==== Proof.Dn.Mask.lean ====
module
public import proofs.«01_k».proof.Proof.Dn.Unit
public import Idealize.ShloMosaic.Lib.Pipeline.ValueKit
public import Idealize.ShloMosaic.Lib.Pointwise
@[expose] public section

/-! The masks of a unit at an entry. -/

set_option maxRecDepth 16384
noncomputable section
namespace Cert.Dn
open Cert.DeltaIdeal Cert.DeltaIdeal.Gen Idealize.ShloMosaic Idealize.ShloMosaic.TcCoe Idealize.SL.Sem

/-- Division of a word rounding downwards. -/
def fdS (x n : BitVec 32) : BitVec 32 :=
  Scalar.select (IntOp.andi (IntOp.cmpi .ne (IntOp.subi (BitVec.setWidth 32 (IntOp.cmpi .sgt x 0#32)) (BitVec.setWidth 32 (IntOp.cmpi .slt x 0#32)))
          (Scalar.subi (Scalar.extui (Scalar.cmpi .sgt n 0#32)) (Scalar.extui (Scalar.cmpi .slt n 0#32))))
        (IntOp.cmpi .ne (IntOp.remsi ArithUnit.vector x n) 0#32))
      (IntOp.subi (IntOp.divsi ArithUnit.vector x n) 1#32) (IntOp.divsi ArithUnit.vector x n)

/-- The vector division rounding downwards, at an entry. -/
theorem fd_apply (x : IVec S128x128 32) (n : BitVec 32) (i j : Fin 128) : fd x n (ix2 i j) = fdS (x (ix2 i j)) n := by
  pointwise [fd]
  rfl
/-- The row numbers, at an entry. -/
theorem rowI_apply (i j : Fin 128) : rowI (ix2 i j) = BitVec.ofNat 32 i.val := by
  pointwise [rowI]
/-- The column numbers, at an entry. -/
theorem colI_apply (i j : Fin 128) : colI (ix2 i j) = BitVec.ofNat 32 j.val := by
  pointwise [colI]

/-- The quotients of the row and column numbers. -/
theorem fdS_eq : ∀ i : Fin 128, fdS (BitVec.ofNat 32 i.val) 8#32 = BitVec.ofNat 32 (i.val / 8) ∧ fdS (BitVec.ofNat 32 i.val) 16#32 = BitVec.ofNat 32 (i.val / 16)
    ∧ fdS (BitVec.ofNat 32 i.val) 32#32 = BitVec.ofNat 32 (i.val / 32) ∧ fdS (BitVec.ofNat 32 i.val) 64#32 = BitVec.ofNat 32 (i.val / 64) := by decide +kernel

/-- Equality of two small numbers as words. -/
theorem eqI (a b : ℕ) (ha : a < 128) (hb : b < 128) : IntOp.cmpi .eq (BitVec.ofNat 32 a) (BitVec.ofNat 32 b) = if a = b then 1#1 else 0#1 := by
  have : ∀ a b : Fin 128, IntOp.cmpi .eq (BitVec.ofNat 32 a.val) (BitVec.ofNat 32 b.val) = if a.val = b.val then 1#1 else 0#1 := by decide +kernel
  exact this ⟨a, ha⟩ ⟨b, hb⟩

/-- The mask of the blocks of 8, at an entry. -/
theorem same8 (i j : Fin 128) : same 8#32 (ix2 i j) = if i.val / 8 = j.val / 8 then 1#1 else 0#1 := by
  pointwise [same]
  rw [fd_apply, fd_apply, rowI_apply, colI_apply, (fdS_eq i).1, (fdS_eq j).1, eqI _ _ (by omega) (by omega)]
/-- The mask of the blocks of 16, at an entry. -/
theorem same16 (i j : Fin 128) : same 16#32 (ix2 i j) = if i.val / 16 = j.val / 16 then 1#1 else 0#1 := by
  pointwise [same]
  rw [fd_apply, fd_apply, rowI_apply, colI_apply, (fdS_eq i).2.1, (fdS_eq j).2.1, eqI _ _ (by omega) (by omega)]
/-- The mask of the blocks of 32, at an entry. -/
theorem same32 (i j : Fin 128) : same 32#32 (ix2 i j) = if i.val / 32 = j.val / 32 then 1#1 else 0#1 := by
  pointwise [same]
  rw [fd_apply, fd_apply, rowI_apply, colI_apply, (fdS_eq i).2.2.1, (fdS_eq j).2.2.1, eqI _ _ (by omega) (by omega)]
/-- The mask of the blocks of 64, at an entry. -/
theorem same64 (i j : Fin 128) : same 64#32 (ix2 i j) = if i.val / 64 = j.val / 64 then 1#1 else 0#1 := by
  pointwise [same]
  rw [fd_apply, fd_apply, rowI_apply, colI_apply, (fdS_eq i).2.2.2, (fdS_eq j).2.2.2, eqI _ _ (by omega) (by omega)]

/-- Comparisons of row and column numbers as words. -/
theorem cmpI : ∀ i j : Fin 128, IntOp.cmpi .sge (BitVec.ofNat 32 i.val) (BitVec.ofNat 32 j.val) = (if j.val ≤ i.val then 1#1 else 0#1)
    ∧ IntOp.cmpi .sgt (BitVec.ofNat 32 i.val) (BitVec.ofNat 32 j.val) = (if j.val < i.val then 1#1 else 0#1)
    ∧ IntOp.cmpi .sle (BitVec.ofNat 32 i.val) (BitVec.ofNat 32 j.val) = (if i.val ≤ j.val then 1#1 else 0#1) := by decide +kernel

/-- The conjunction of two one-bit truth values. -/
theorem andI (p q : Prop) [Decidable p] [Decidable q] : IntOp.andi (if p then 1#1 else 0#1) (if q then 1#1 else 0#1) = if p ∧ q then 1#1 else 0#1 := by
  by_cases hp : p <;> by_cases hq : q <;> simp [hp, hq] <;> decide
/-- The negation of a one-bit truth value. -/
theorem notI (p : Prop) [Decidable p] : IntOp.xori (if p then 1#1 else 0#1) 1#1 = if ¬p then 1#1 else 0#1 := by
  by_cases hp : p <;> simp [hp] <;> decide

/-- The mask of the chunks' lower triangles, at an entry. -/
theorem tril_apply (i j : Fin 128) : tril (ix2 i j) = if i.val / 64 = j.val / 64 ∧ j.val ≤ i.val then 1#1 else 0#1 := by
  pointwise [tril]
  rw [same64, rowI_apply, colI_apply, (cmpI i j).1, andI]
/-- The mask of the chunks' strict lower triangles, at an entry. -/
theorem strict_apply (i j : Fin 128) : strict (ix2 i j) = if i.val / 64 = j.val / 64 ∧ j.val < i.val then 1#1 else 0#1 := by
  pointwise [strict]
  rw [same64, rowI_apply, colI_apply, (cmpI i j).2.1, andI]
/-- The mask of the chunks' upper triangles, at an entry. -/
theorem triu_apply (i j : Fin 128) : triu (ix2 i j) = if i.val / 64 = j.val / 64 ∧ i.val ≤ j.val then 1#1 else 0#1 := by
  pointwise [triu]
  rw [same64, rowI_apply, colI_apply, (cmpI i j).2.2, andI]
/-- The mask inside the blocks of 16 and outside those of 8, at an entry. -/
theorem btw16 (i j : Fin 128) : between 16#32 8#32 (ix2 i j) = if i.val / 16 = j.val / 16 ∧ ¬ i.val / 8 = j.val / 8 then 1#1 else 0#1 := by
  pointwise [between]
  rw [same16, same8, notI, andI]
/-- The mask inside the blocks of 32 and outside those of 16, at an entry. -/
theorem btw32 (i j : Fin 128) : between 32#32 16#32 (ix2 i j) = if i.val / 32 = j.val / 32 ∧ ¬ i.val / 16 = j.val / 16 then 1#1 else 0#1 := by
  pointwise [between]
  rw [same32, same16, notI, andI]
/-- The mask inside the blocks of 64 and outside those of 32, at an entry. -/
theorem btw64 (i j : Fin 128) : between 64#32 32#32 (ix2 i j) = if i.val / 64 = j.val / 64 ∧ ¬ i.val / 32 = j.val / 32 then 1#1 else 0#1 := by
  pointwise [between]
  rw [same64, same32, notI, andI]

/-- Choice by a mask's entry. -/
theorem sel_if {α : Type} (p : Prop) [Decidable p] (a b : α) : Scalar.select (if p then 1#1 else 0#1) a b = if p then a else b := by
  by_cases hp : p <;> simp [hp, Scalar.select]

/-- The unit matrix's entry. -/
theorem eye_apply (i j : Fin 128) : (eye (F := Ideal) (ix2 i j) : EReal) = if i = j then 1 else 0 := by
  pointwise [eye]
  rw [rowI_apply, colI_apply, eqI _ _ i.isLt j.isLt]
  by_cases h : i = j
  · rw [if_pos (by rw [h]), if_pos h]
    show (((1#32 : BitVec 32).toInt : ℝ) : EReal) = 1
    rw [show (1#32 : BitVec 32).toInt = 1 from by decide]; norm_num
  · rw [if_neg (Fin.val_ne_iff.mpr h), if_neg h]
    show (((0#32 : BitVec 32).toInt : ℝ) : EReal) = 0
    rw [show (0#32 : BitVec 32).toInt = 0 from by decide]; norm_num
end Cert.Dn
end
-- ==== Proof.Dn.Alg.lean ====
module
public import Mathlib.Data.Matrix.Mul
public import Mathlib.Data.Real.Basic
public import Mathlib.Tactic.NoncommRing
public import Mathlib.Tactic.Linarith
@[expose] public section

/-! The inverse of a lower triangular matrix by blocks, over the reals. -/

noncomputable section
namespace Cert.Dn
open Matrix

/-- Square matrices of 128 rows. -/
abbrev M128 := Matrix (Fin 128) (Fin 128) ℝ

/-- The entries of a matrix inside the blocks of `n` on the diagonal. -/
def inBlk (n : ℕ) (A : M128) : M128 := fun i j => if i.val / n = j.val / n then A i j else 0
/-- The entries inside the blocks of `2 n`, outside the blocks of `n`. -/
def between' (n : ℕ) (A : M128) : M128 := fun i j => if i.val / (2 * n) = j.val / (2 * n) ∧ ¬ i.val / n = j.val / n then A i j else 0

/-- `(1 + x) (1 + x²) (1 + x⁴)`. -/
def neuR (x : M128) : M128 :=
  ((1 + x) + (1 + x) * (x * x)) + ((1 + x) + (1 + x) * (x * x)) * ((x * x) * (x * x))
/-- Inverted blocks of `n` merged into blocks of `2 n`. -/
def mergeR (n : ℕ) (l r : M128) : M128 := r - r * between' n l * r
/-- The inverse of one plus a strictly lower triangular matrix of blocks of 64. -/
def invR (l : M128) : M128 := mergeR 32 l (mergeR 16 l (mergeR 8 l (neuR (-(inBlk 8 l)))))

/-- A matrix without entries outside the blocks of `n`. -/
def IsBlk (n : ℕ) (A : M128) : Prop := ∀ i j, A i j ≠ 0 → i.val / n = j.val / n

/-- A sum of block diagonal matrices is block diagonal. -/
theorem IsBlk.add {n : ℕ} {A B : M128} (ha : IsBlk n A) (hb : IsBlk n B) : IsBlk n (A + B) := fun i j h => by
  by_contra hc
  have h1 : A i j = 0 := by by_contra h'; exact hc (ha i j h')
  have h2 : B i j = 0 := by by_contra h'; exact hc (hb i j h')
  exact h (by simp [h1, h2])
/-- The negative of a block diagonal matrix is block diagonal. -/
theorem IsBlk.neg {n : ℕ} {A : M128} (ha : IsBlk n A) : IsBlk n (-A) := fun i j h => ha i j fun h' => h (by simp [h'])
/-- A difference of block diagonal matrices is block diagonal. -/
theorem IsBlk.sub {n : ℕ} {A B : M128} (ha : IsBlk n A) (hb : IsBlk n B) : IsBlk n (A - B) := by
  rw [sub_eq_add_neg]; exact ha.add hb.neg
/-- A product of block diagonal matrices is block diagonal. -/
theorem IsBlk.mul {n : ℕ} {A B : M128} (ha : IsBlk n A) (hb : IsBlk n B) : IsBlk n (A * B) := fun i j h => by
  rw [Matrix.mul_apply] at h
  obtain ⟨k, -, hk⟩ := Finset.exists_ne_zero_of_sum_ne_zero h
  exact (ha i k (left_ne_zero_of_mul hk)).trans (hb k j (right_ne_zero_of_mul hk))
/-- The identity is block diagonal. -/
theorem IsBlk.one {n : ℕ} : IsBlk n 1 := fun i j h => by
  by_cases hij : i = j
  · rw [hij]
  · exact absurd (Matrix.one_apply_ne hij) h
/-- A block diagonal matrix is block diagonal for blocks twice as large. -/
theorem IsBlk.twice {n : ℕ} {A : M128} (ha : IsBlk n A) : IsBlk (2 * n) A := fun i j h => by
  rw [mul_comm 2 n, ← Nat.div_div_eq_div_mul, ← Nat.div_div_eq_div_mul, ha i j h]
/-- The part of a matrix inside its diagonal blocks is block diagonal. -/
theorem isBlk_inBlk (n : ℕ) (A : M128) : IsBlk n (inBlk n A) := fun i j h => by
  by_contra hc; exact h (by simp [inBlk, hc])
/-- The part of a matrix inside the larger blocks and outside the smaller ones is block diagonal for the larger. -/
theorem isBlk_between (n : ℕ) (A : M128) : IsBlk (2 * n) (between' n A) := fun i j h => by
  by_contra hc; exact h (by simp [between', hc])

/-- A merge of inverted blocks inverts the merged blocks. -/
theorem merge_inv (n : ℕ) (hn : 0 < n) (l r : M128) (hl : ∀ i j, l i j ≠ 0 → j < i) (hr : IsBlk n r) (h : (1 + inBlk n l) * r = 1) :
    (1 + inBlk (2 * n) l) * mergeR n l r = 1 := by
  have hs : inBlk (2 * n) l = inBlk n l + between' n l := by
    ext i j
    simp only [inBlk, between', Matrix.add_apply]
    have : i.val / n = j.val / n → i.val / (2 * n) = j.val / (2 * n) := fun e => by
      rw [mul_comm 2 n, ← Nat.div_div_eq_div_mul, ← Nat.div_div_eq_div_mul, e]
    split_ifs <;> simp_all
  have hz : between' n l * r * between' n l = 0 := by
    ext i j
    by_contra hc
    rw [Matrix.mul_apply] at hc
    obtain ⟨k, -, hk⟩ := Finset.exists_ne_zero_of_sum_ne_zero hc
    have h1 := left_ne_zero_of_mul hk
    have h2 := right_ne_zero_of_mul hk
    rw [Matrix.mul_apply] at h1
    obtain ⟨k', -, hk'⟩ := Finset.exists_ne_zero_of_sum_ne_zero h1
    have h3 := left_ne_zero_of_mul hk'
    have h4 := hr _ _ (right_ne_zero_of_mul hk')
    have key : ∀ a b : Fin 128, between' n l a b ≠ 0 → a.val / n = 2 * (a.val / (2 * n)) + 1 ∧ b.val / n = 2 * (b.val / (2 * n)) := by
      intro a b hab
      unfold between' at hab
      split_ifs at hab with hcond
      · obtain ⟨e1, e2⟩ := hcond
        have hlt : b.val < a.val := hl a b hab
        have h5 : b.val / n ≤ a.val / n := Nat.div_le_div_right hlt.le
        rw [mul_comm 2 n, ← Nat.div_div_eq_div_mul, ← Nat.div_div_eq_div_mul] at e1
        rw [mul_comm 2 n, ← Nat.div_div_eq_div_mul, ← Nat.div_div_eq_div_mul]
        omega
      · exact absurd rfl hab
    have h5 := key _ _ h3
    have h6 := key _ _ h2
    omega
  unfold mergeR
  rw [hs]
  have e : (1 + (inBlk n l + between' n l)) * (r - r * between' n l * r)
      = (1 + inBlk n l) * r - ((1 + inBlk n l) * r) * (between' n l * r) + between' n l * r - (between' n l * r * between' n l) * r := by noncomm_ring
  rw [e, h, hz]
  simp

/-- The powers of a strictly lower triangular matrix in blocks of eight. -/
theorem nilp (x : M128) (hx : ∀ i j, x i j ≠ 0 → i.val / 8 = j.val / 8 ∧ j < i) (n : ℕ) :
    ∀ i j, (x ^ n) i j ≠ 0 → i.val / 8 = j.val / 8 ∧ j.val + n ≤ i.val := by
  induction n with
  | zero =>
    intro i j h
    rw [pow_zero] at h
    by_cases hij : i = j
    · rw [hij]; exact ⟨rfl, by omega⟩
    · exact absurd (Matrix.one_apply_ne hij) h
  | succ n ih =>
    intro i j h
    rw [pow_succ, Matrix.mul_apply] at h
    obtain ⟨k, -, hk⟩ := Finset.exists_ne_zero_of_sum_ne_zero h
    have h1 := ih i k (left_ne_zero_of_mul hk)
    have h2 := hx k j (right_ne_zero_of_mul hk)
    have h3 : j.val < k.val := h2.2
    omega

/-- The product inverts one minus `x`. -/
theorem neu_inv (x : M128) (hx : ∀ i j, x i j ≠ 0 → i.val / 8 = j.val / 8 ∧ j < i) : (1 - x) * neuR x = 1 := by
  have h8 : x ^ 8 = 0 := by
    ext i j
    by_contra hc
    have := nilp x hx 8 i j hc
    omega
  have e : (1 - x) * neuR x = 1 - x ^ 8 := by unfold neuR; noncomm_ring
  rw [e, h8, sub_zero]

/-- The inverse is one. -/
theorem mul_invR (l : M128) (hl : ∀ i j, l i j ≠ 0 → i.val / 64 = j.val / 64 ∧ j < i) : (1 + l) * invR l = 1 := by
  have hlt : ∀ i j, l i j ≠ 0 → j < i := fun i j h => (hl i j h).2
  have h8 : (1 + inBlk 8 l) * neuR (-(inBlk 8 l)) = 1 := by
    have := neu_inv (-(inBlk 8 l)) fun i j h => by
      have h' : inBlk 8 l i j ≠ 0 := fun e => h (by simp [e])
      refine ⟨isBlk_inBlk 8 l i j h', hlt i j fun e => h' (by simp [inBlk, e])⟩
    rwa [sub_neg_eq_add] at this
  have b : IsBlk 8 (-(inBlk 8 l)) := (isBlk_inBlk 8 l).neg
  have bn : IsBlk 8 (neuR (-(inBlk 8 l))) :=
    ((IsBlk.one.add b).add ((IsBlk.one.add b).mul (b.mul b))).add (((IsBlk.one.add b).add ((IsBlk.one.add b).mul (b.mul b))).mul ((b.mul b).mul (b.mul b)))
  have bm : ∀ n r, IsBlk n r → IsBlk (2 * n) (mergeR n l r) := fun n r h =>
    h.twice.sub ((h.twice.mul (isBlk_between n l)).mul h.twice)
  have h64 := merge_inv 32 (by decide) l _ hlt (bm 16 _ (bm 8 _ bn)) (merge_inv 16 (by decide) l _ hlt (bm 8 _ bn) (merge_inv 8 (by decide) l _ hlt bn h8))
  have e64 : inBlk (2 * 32) l = l := by
    ext i j
    unfold inBlk
    split_ifs with h
    · rfl
    · by_contra hc
      exact h (hl i j (Ne.symm hc)).1
  rwa [e64] at h64
end Cert.Dn
end
-- ==== Proof.Dn.Spec.lean ====
module
public import proofs.«01_k».proof.Proof.Dn.Alg
public import Mathlib.Analysis.SpecialFunctions.Exp
@[expose] public section

/-! The chunks of the gated DeltaNet recurrence over the reals: the triangular system solved row by row, the values
written, the state carried on, the outputs read. -/

noncomputable section
namespace Cert.Dn

/-- The real data of one chunk of 64 rows of one head. -/
structure Ch where
  q : Fin 64 → Fin 128 → ℝ
  k : Fin 64 → Fin 128 → ℝ
  v : Fin 64 → Fin 128 → ℝ
  b : Fin 64 → ℝ
  g : Fin 64 → ℝ

/-- The strictly lower triangular matrix of the chunk's system. -/
def Ch.L (c : Ch) (i s : Fin 64) : ℝ := (∑ d, c.k i d * c.b i * c.k s d) * (if s < i then Real.exp (c.g i - c.g s) else 0)
/-- The right sides: values and keys. -/
def Ch.ru (c : Ch) (i : Fin 64) (e : Fin 128) : ℝ := c.v i e * c.b i
/-- The right sides' key columns. -/
def Ch.rw (c : Ch) (i : Fin 64) (e : Fin 128) : ℝ := c.k i e * c.b i * Real.exp (c.g i)
/-- Forward substitution: the first `n` rows solved. -/
def solveN (L : Fin 64 → Fin 64 → ℝ) (r : Fin 64 → Fin 128 → ℝ) : ℕ → Fin 64 → Fin 128 → ℝ
  | 0 => fun _ _ => 0
  | n + 1 => fun i e => if i.val = n then r i e - ∑ s, L i s * solveN L r n s e else solveN L r n i e
/-- The solved values and keys. -/
def Ch.u (c : Ch) : Fin 64 → Fin 128 → ℝ := solveN c.L c.ru 64
/-- The solved keys. -/
def Ch.w (c : Ch) : Fin 64 → Fin 128 → ℝ := solveN c.L c.rw 64
/-- The attention weights inside the chunk. -/
def Ch.a (c : Ch) (i s : Fin 64) : ℝ := (∑ d, c.q i d * c.k s d) * (if s ≤ i then Real.exp (c.g i - c.g s) else 0)
/-- The values the chunk writes into a state. -/
def Ch.vn (c : Ch) (S : Fin 128 → Fin 128 → ℝ) (i : Fin 64) (e : Fin 128) : ℝ := c.u i e - ∑ d, c.w i d * S d e
/-- What the chunk's queries read. -/
def Ch.o (c : Ch) (S : Fin 128 → Fin 128 → ℝ) (i : Fin 64) (e : Fin 128) : ℝ :=
  (∑ d, c.q i d * Real.exp (c.g i) * S d e) + ∑ s, c.a i s * c.vn S s e
/-- The state after the chunk. -/
def Ch.next (c : Ch) (S : Fin 128 → Fin 128 → ℝ) (d e : Fin 128) : ℝ :=
  S d e * Real.exp (c.g 63) + ∑ s, c.k s d * Real.exp (c.g 63 - c.g s) * c.vn S s e

/-- A solution of a strictly lower triangular system is what forward substitution finds. -/
theorem solveN_eq (L : Fin 64 → Fin 64 → ℝ) (hL : ∀ i s, L i s ≠ 0 → s < i) (r Y : Fin 64 → Fin 128 → ℝ)
    (hY : ∀ i e, Y i e = r i e - ∑ s, L i s * Y s e) : ∀ n i e, solveN L r n i e = if i.val < n then Y i e else 0
  | 0, i, e => by simp [solveN]
  | n + 1, i, e => by
    show (if i.val = n then r i e - ∑ s, L i s * solveN L r n s e else solveN L r n i e) = _
    by_cases h : i.val = n
    · rw [if_pos h, if_pos (by omega), hY i e]
      congr 1
      refine Finset.sum_congr rfl fun s _ => ?_
      by_cases hz : L i s = 0
      · rw [hz, zero_mul, zero_mul]
      · rw [solveN_eq L hL r Y hY n s e, if_pos (by have := hL i s hz; omega)]
    · rw [if_neg h, solveN_eq L hL r Y hY n i e]
      by_cases h' : i.val < n
      · rw [if_pos h', if_pos (by omega)]
      · rw [if_neg h', if_neg (by omega)]

/-- Row `i` of chunk `ci` of a pair. -/
def rw64 (ci : Fin 2) (i : Fin 64) : Fin 128 := ⟨64 * ci.val + i.val, by omega⟩

/-- Sums over a pair's rows that vanish outside a chunk. -/
theorem sum_rw64 (ci : Fin 2) (f : Fin 128 → ℝ) (hf : ∀ j, j.val / 64 ≠ ci.val → f j = 0) : ∑ j, f j = ∑ s, f (rw64 ci s) := by
  symm
  refine Finset.sum_of_injOn (rw64 ci) (fun a _ b _ h => Fin.ext (by have := congrArg Fin.val h; simp only [rw64] at this; omega)) (fun _ _ => Finset.mem_univ _) (fun j _ hj => hf j fun h => hj ?_) fun _ _ => rfl
  exact ⟨⟨j.val % 64, by omega⟩, Finset.mem_coe.2 (Finset.mem_univ _), Fin.ext (show 64 * ci.val + j.val % 64 = j.val by omega)⟩

/-- The data of chunk `ci` of a pair. -/
def chOf (q k v : Fin 128 → Fin 128 → ℝ) (b g : Fin 128 → ℝ) (ci : Fin 2) : Ch :=
  ⟨fun i => q (rw64 ci i), fun i => k (rw64 ci i), fun i => v (rw64 ci i), fun i => b (rw64 ci i), fun i => g (rw64 ci i)⟩

/-- The system's matrix of a pair. -/
def L128 (k : Fin 128 → Fin 128 → ℝ) (b g : Fin 128 → ℝ) : M128 := fun i j =>
  (∑ x, k i x * b i * k j x) * (if i.val / 64 = j.val / 64 ∧ j.val < i.val then Real.exp (g i - g j) else 0)

/-- The matrix of two chunks is strictly lower triangular. -/
theorem L128_low (k : Fin 128 → Fin 128 → ℝ) (b g : Fin 128 → ℝ) : ∀ i j, L128 k b g i j ≠ 0 → i.val / 64 = j.val / 64 ∧ j < i := fun i j h => by
  by_contra hc
  exact h (by unfold L128; rw [if_neg (fun hh => hc ⟨hh.1, hh.2⟩), mul_zero])

/-- The inverse times a right side is, in each chunk, the substituted solution. -/
theorem inv_solve (q k v : Fin 128 → Fin 128 → ℝ) (b g : Fin 128 → ℝ) (ci : Fin 2) (r : Fin 128 → Fin 128 → ℝ) (i : Fin 64) (e : Fin 128) :
    (∑ j, invR (L128 k b g) (rw64 ci i) j * r j e) = solveN (chOf q k v b g ci).L (fun i => r (rw64 ci i)) 64 i e := by
  have hi := mul_invR _ (L128_low k b g)
  set X : M128 := invR (L128 k b g) * (Matrix.of r : M128) with hX
  have hXe : ∀ j e, X j e = ∑ x, invR (L128 k b g) j x * r x e := fun j e => by rw [hX, Matrix.mul_apply]; rfl
  have h1 : X + L128 k b g * X = (Matrix.of r : M128) := by
    rw [hX, ← Matrix.mul_assoc]
    calc _ = ((1 + L128 k b g) * invR (L128 k b g)) * (Matrix.of r : M128) := by noncomm_ring
      _ = _ := by rw [hi, one_mul]
  have h2 : ∀ j e, X j e = r j e - ∑ x, L128 k b g j x * X x e := fun j e => by
    have := congrFun (congrFun h1 j) e
    rw [Matrix.add_apply, Matrix.mul_apply] at this
    rw [← show (Matrix.of r : M128) j e = r j e from rfl, ← this]; ring
  rw [← hXe, solveN_eq _ ?_ _ (fun i e => X (rw64 ci i) e) ?_ 64 i e, if_pos i.isLt]
  · intro i s h
    by_contra hc
    exact h (by unfold Ch.L; rw [if_neg hc, mul_zero])
  · intro i e
    rw [h2, sum_rw64 ci]
    · congr 1
      refine Finset.sum_congr rfl fun s _ => ?_
      congr 1
      simp only [L128, Ch.L, chOf]
      congr 1
      have : ((rw64 ci i).val / 64 = (rw64 ci s).val / 64 ∧ (rw64 ci s).val < (rw64 ci i).val) ↔ s < i := by
        simp only [rw64, Fin.lt_def]; omega
      by_cases h : s < i
      · rw [if_pos h, if_pos (this.2 h)]
      · rw [if_neg h, if_neg (fun hh => h (this.1 hh))]
    · intro j hj
      unfold L128
      rw [if_neg (by simp only [rw64]; omega), mul_zero, zero_mul]

end Cert.Dn
end
-- ==== Proof.Dn.Data.lean ====
module
public import proofs.«01_k».proof.Proof.Dn.Spec
public import Idealize.ShloMosaic.PureOps.Ideal
public import Idealize.ShloMosaic.Lib.Pointwise
public import Mathlib.Tactic.Positivity
public import Mathlib.Analysis.SpecialFunctions.Log.Basic
@[expose] public section

/-! What the layer's recurrence is applied to, over the reals: the convolved and activated projections, the normalised
queries and keys, the gates, and the states and outputs of all chunks. -/

noncomputable section
namespace Cert.Dn
open Idealize.ShloMosaic

/-- Row `c` of chunk `n`. -/
def rowOf (n c : Fin 64) : Fin 4096 := ⟨64 * n.val + c.val, by omega⟩
/-- Column `d` of head `h` of the queries, keys, values. -/
def colOf (a : Fin 3) (h : Fin 8) (d : Fin 128) : Fin 3072 := ⟨1024 * a.val + 128 * h.val + d.val, by omega⟩

/-- The real inputs. -/
structure Inp where
  P : Fin 4 → Fin 4096 → Fin 4096 → ℝ
  BA : Fin 4 → Fin 4096 → Fin 128 → ℝ
  W : Fin 4 → Fin 3072 → ℝ
  al : Fin 8 → ℝ
  dt : Fin 8 → ℝ

/-- The small number under the roots, and the queries' scale. -/
def epsR : ℝ := (Ideal.ofBits .f32 0x358637BD#32).toReal
/-- The queries' factor as a real number: the rounded inverse root of the head width. -/
def gainR : ℝ := (Ideal.ofBits .f32 0x3DB504F3#32).toReal

/-- The small constant's literal is a real number. -/
theorem eps_bits : Ideal.ofBits .f32 0x358637BD#32 = ((epsR : ℝ) : EReal) := by
  rw [epsR, EReal.coe_toReal] <;> simp [Ideal.ofBits, Ideal.ieee] <;> norm_cast
/-- The queries' factor's literal is a real number. -/
theorem gain_bits : Ideal.ofBits .f32 0x3DB504F3#32 = ((gainR : ℝ) : EReal) := by
  rw [gainR, EReal.coe_toReal] <;> simp [Ideal.ofBits, Ideal.ieee] <;> norm_cast
/-- The small constant is positive. -/
theorem eps_pos : 0 < epsR := by
  have : (0 : EReal) < ((epsR : ℝ) : EReal) := by
    rw [← eps_bits]; simp [Ideal.ofBits, Ideal.ieee]
    rw [← EReal.coe_mul, ← EReal.coe_zero, EReal.coe_lt_coe_iff]
    norm_num
  exact_mod_cast this
/-- The literal one is the real number one. -/
theorem one_bits : Ideal.ofBits .f32 0x3F800000#32 = ((1 : ℝ) : EReal) := by
  simp [Ideal.ofBits, Ideal.ieee]
  rw [← EReal.coe_mul, ← EReal.coe_one, EReal.coe_eq_coe_iff]
  norm_num

/-- Three zero rows above the projections. -/
def Inp.pad (I : Inp) (b : Fin 4) (r : ℕ) (c : Fin 3072) : ℝ :=
  if h : 3 ≤ r ∧ r - 3 < 4096 then I.P b ⟨r - 3, h.2⟩ ⟨c.val, by omega⟩ else 0
/-- The convolution over four rows. -/
def Inp.cv (I : Inp) (b : Fin 4) (s : ℕ) (c : Fin 3072) : ℝ :=
  I.pad b s c * I.W 0 c + I.pad b (s + 1) c * I.W 1 c + I.pad b (s + 2) c * I.W 2 c + I.pad b (s + 3) c * I.W 3 c
/-- Activated. -/
def Inp.y (I : Inp) (b : Fin 4) (s : ℕ) (c : Fin 3072) : ℝ := I.cv b s c * (1 + Real.exp (-I.cv b s c))⁻¹
/-- One over the length of a head's row. -/
def Inp.len (I : Inp) (b : Fin 4) (a : Fin 3) (h : Fin 8) (s : ℕ) : ℝ :=
  (Real.sqrt ((∑ x, I.y b s (colOf a h x) * I.y b s (colOf a h x)) + epsR))⁻¹
/-- The normalised and scaled queries. -/
def Inp.q (I : Inp) (b : Fin 4) (h : Fin 8) (s : ℕ) (d : Fin 128) : ℝ := I.y b s (colOf 0 h d) * I.len b 0 h s * gainR
/-- The normalised keys. -/
def Inp.k (I : Inp) (b : Fin 4) (h : Fin 8) (s : ℕ) (d : Fin 128) : ℝ := I.y b s (colOf 1 h d) * I.len b 1 h s
/-- The values. -/
def Inp.v (I : Inp) (b : Fin 4) (h : Fin 8) (s : ℕ) (d : Fin 128) : ℝ := I.y b s (colOf 2 h d)
/-- The write strengths. -/
def Inp.be (I : Inp) (b : Fin 4) (h : Fin 8) (s : Fin 4096) : ℝ := (1 + Real.exp (-I.BA b s ⟨h.val, by omega⟩))⁻¹
/-- The gates of single rows. -/
def Inp.gx (I : Inp) (b : Fin 4) (h : Fin 8) (s : Fin 4096) : ℝ := I.BA b s ⟨8 + h.val, by omega⟩ + I.dt h
/-- The logarithm of a row's decay. -/
def Inp.g (I : Inp) (b : Fin 4) (h : Fin 8) (s : Fin 4096) : ℝ :=
  -Real.exp (I.al h) * (max (I.gx b h s) 0 + Real.log (1 + Real.exp (-|I.gx b h s|)))
/-- Their running sums inside a chunk. -/
def Inp.G (I : Inp) (b : Fin 4) (h : Fin 8) (n c : Fin 64) : ℝ := ∑ s : Fin 64, if s ≤ c then I.g b h (rowOf n s) else 0
/-- Chunk `n` of head `h` of sequence `b`. -/
def Inp.ch (I : Inp) (b : Fin 4) (h : Fin 8) (n : Fin 64) : Ch :=
  ⟨fun c => I.q b h (rowOf n c), fun c => I.k b h (rowOf n c), fun c => I.v b h (rowOf n c), fun c => I.be b h (rowOf n c), fun c => I.G b h n c⟩
/-- The state before chunk `n`. -/
def Inp.S (I : Inp) (b : Fin 4) (h : Fin 8) : ℕ → Fin 128 → Fin 128 → ℝ
  | 0 => fun _ _ => 0
  | n + 1 => (I.ch b h ⟨n % 64, Nat.mod_lt _ (by decide)⟩).next (Inp.S I b h n)
/-- What the queries of chunk `n` read. -/
def Inp.O (I : Inp) (b : Fin 4) (h : Fin 8) (n c : Fin 64) (e : Fin 128) : ℝ := (I.ch b h n).o (I.S b h n.val) c e

/-- The entry of the layer's output: normalised, weighted, gated. -/
def fin (o : Fin 128 → EReal) (wn z : EReal) (d : Fin 128) : EReal :=
  o d * Ideal.rsqrt (Ideal.div (∑ x, o x * o x) (Ideal.ofBits .f32 0x43000000#32) + Ideal.ofBits .f32 0x358637BD#32) * wn * (z * Ideal.logistic z)

/-- The input arrays hold real numbers. -/
structure InpHolds (I : Inp) (a0 : (⟨3, ![4, 4096, 4096]⟩ : Shape).Idx → EReal) (a1 : (⟨3, ![4, 4096, 128]⟩ : Shape).Idx → EReal)
    (a2 : (⟨2, ![4, 3072]⟩ : Shape).Idx → EReal) (a3 a4 : (⟨1, ![8]⟩ : Shape).Idx → EReal) : Prop where
  p : ∀ b r c, a0 (ix3 b r c) = ((I.P b r c : ℝ) : EReal)
  ba : ∀ b r c, a1 (ix3 b r c) = ((I.BA b r c : ℝ) : EReal)
  w : ∀ t c, a2 (ix2 t c) = ((I.W t c : ℝ) : EReal)
  al : ∀ h, a3 (ix1 h) = ((I.al h : ℝ) : EReal)
  dt : ∀ h, a4 (ix1 h) = ((I.dt h : ℝ) : EReal)

end Cert.Dn
end
-- ==== Proof.Dn.Sum.lean ====
module
public import Idealize.ShloMosaic.PureOps.Ideal
public import Mathlib.Tactic.Positivity
public import Mathlib.Tactic.Linarith
public import Mathlib.Tactic.Ring
@[expose] public section

/-! Finite sums, quotients and activations of reals, read in the extended reals. -/

namespace Cert.Dn
open Idealize.ShloMosaic

/-- A finite sum of reals, read in the extended reals. -/
theorem coe_sum' {α : Type} (s : Finset α) (f : α → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-- The logistic function written with a quotient. -/
theorem div_sig (r : ℝ) : Ideal.div 1 (1 + Ideal.exp (-((r : ℝ) : EReal))) = (((1 + Real.exp (-r))⁻¹ : ℝ) : EReal) := by
  rw [← EReal.coe_neg, Ideal.exp_coe, ← EReal.coe_one, ← EReal.coe_add, Ideal.div_coe (by positivity), ← EReal.coe_mul]
  congr 1; ring

/-- The logarithm of one plus a positive real. -/
theorem log1p_coe (r : ℝ) (h : 0 < r) : Ideal.log1p ((r : ℝ) : EReal) = ((Real.log (1 + r) : ℝ) : EReal) := by
  rw [Ideal.log1p, ← EReal.coe_one, ← EReal.coe_add]
  show (if 1 + r ≤ 0 then (⊥ : EReal) else ((Real.log (1 + r) : ℝ) : EReal)) = _
  rw [if_neg (by linarith)]

/-- The reciprocal root of a positive real. -/
theorem rsqrt_coe' (r : ℝ) (h : 0 < r) : Ideal.rsqrt ((r : ℝ) : EReal) = (((Real.sqrt r)⁻¹ : ℝ) : EReal) := by
  rw [Ideal.rsqrt_coe, if_neg h.le.not_gt, if_neg h.ne']

/-- The greater of two reals, and the absolute value. -/
theorem max_coe' (r t : ℝ) : max ((r : ℝ) : EReal) ((t : ℝ) : EReal) = ((max r t : ℝ) : EReal) := by
  rcases le_total r t with h | h
  · rw [max_eq_right h, max_eq_right (EReal.coe_le_coe_iff.2 h)]
  · rw [max_eq_left h, max_eq_left (EReal.coe_le_coe_iff.2 h)]
/-- The absolute value of a real number, in the extended reals. -/
theorem abs_coe' (r : ℝ) : (FloatOps.absf (F := Ideal) (φ := .f32) ((r : ℝ) : EReal) : EReal) = ((|r| : ℝ) : EReal) := by
  show max ((r : ℝ) : EReal) (-((r : ℝ) : EReal)) = _
  rw [← EReal.coe_neg, max_coe']; rfl
end Cert.Dn
-- ==== Proof.Dn.Prep.lean ====
module
public import proofs.«01_k».proof.Proof.Dn.Mask
public import proofs.«01_k».proof.Proof.Dn.Data
public import proofs.«01_k».proof.Proof.Dn.Sum
public import Mathlib.Tactic.IntervalCases
@[expose] public section

/-! What the preparation of a tile stores, on real inputs: the normalised queries and keys, the values, the gates. -/

set_option maxRecDepth 65536
noncomputable section
namespace Cert.Dn
open Cert.DeltaIdeal Cert.DeltaIdeal.Gen Idealize.ShloMosaic Idealize.ShloMosaic.TcCoe Idealize.SL.Sem

/-- The halo's rows above the tile's rows, at an element. -/
theorem cat_apply (hl : Vec Ideal S8x128 .f32) (x : Vec Ideal S1x256x128 .f32) (r : Fin 264) (d : Fin 128) :
    (cat hl x (ix2 r d) : EReal) = if h : r.val < 8 then hl (ix2 ⟨r.val, h⟩ d) else x (ix3 0 ⟨r.val - 8, by omega⟩ d) := by
  pointwise [cat]
/-- One tap more: the sum so far shifted by a row, plus the tap times the rows. -/
theorem tap_apply (xs acc : FVec Ideal S264x128 .f32) (w : Vec Ideal S1x128 .f32) (r r' : Fin 264) (hr : r.val = r'.val + 1) (d : Fin 128) :
    (tap xs acc w (ix2 r d) : EReal) = acc (ix2 r' d) + w (ix2 0 d) * xs (ix2 r d) := by
  pointwise [tap]
  have : (⟨(r.val + 264 - 1) % 264, Nat.mod_lt _ (by decide)⟩ : Fin 264) = r' := Fin.ext (show (r.val + 264 - 1) % 264 = r'.val by omega)
  rw [this]
/-- The convolution's four taps, activated, at an element. -/
theorem conv_apply (hl : Vec Ideal S8x128 .f32) (x : Vec Ideal S1x256x128 .f32) (w0 w1 w2 w3 : Vec Ideal S1x128 .f32) (r : Fin 256) (d : Fin 128) :
    (conv hl x w0 w1 w2 w3 (ix2 r d) : EReal) = tap (cat hl x) (tap (cat hl x) (tap (cat hl x)
    (mulf (broadcastTo S264x128 w0 broadcasts_S1x128_S264x128) (cat hl x)) w1) w2) w3 (ix2 ⟨8 + r.val, by omega⟩ d) := by
  pointwise [conv]
/-- The first tap times the rows, at an element. -/
theorem first_apply (w : Vec Ideal S1x128 .f32) (x : FVec Ideal S264x128 .f32) (r : Fin 264) (d : Fin 128) :
    ((mulf (broadcastTo S264x128 w broadcasts_S1x128_S264x128) x : FVec Ideal S264x128 .f32) (ix2 r d) : EReal) = w (ix2 0 d) * x (ix2 r d) := by
  pointwise
/-- A row divided by its length and scaled, at an element. -/
theorem nrm_apply (g : BitVec 32) (y : FVec Ideal S256x128 .f32) (r : Fin 256) (d : Fin 128) :
    (nrm g y (ix2 r d) : EReal) = y (ix2 r d) * (Ideal.rsqrt ((∑ x, (y (ix2 r x) : EReal) * y (ix2 r x)) + Ideal.ofBits .f32 0x358637BD#32) * Ideal.ofBits .f32 g) := by
  pointwise [nrm]
/-- A cast to the same shape changes nothing. -/
theorem cast256 (y : FVec Ideal S256x128 .f32) : shapeCast S256x128 y shapeCasts_S256x128_S256x128 = y := by
  funext i
  obtain ⟨r, d, rfl⟩ : ∃ (r : Fin 256) (d : Fin 128), i = ix2 r d := ⟨i 0, i 1, by funext a; match a with | ⟨0, _⟩ => rfl | ⟨1, _⟩ => rfl⟩
  pointwise
/-- The gate columns transposed, at an element. -/
theorem baT_apply (S : Src Ideal) (p : Fin 2) (i : Fin 16) (r : Fin 128) : (S.baT p (ix2 i r) : EReal) = S.ba p (ix3 0 r ⟨i.val, by omega⟩) := by
  pointwise [Src.baT]
/-- The logarithms of the decays, at an element. -/
theorem g_apply (S : Src Ideal) (p : Fin 2) (i : Fin 16) (r : Fin 128) : (S.g p (ix2 i r) : EReal) =
    (0 - Ideal.exp (S.ha (ix2 i 0))) * (max (S.baT p (ix2 i r) + S.hd (ix2 i 0)) 0 + Ideal.log1p (Ideal.exp (0 - FloatOps.absf (F := Ideal) (φ := .f32) (S.baT p (ix2 i r) + S.hd (ix2 i 0))))) := by
  pointwise [Src.g]
/-- Their running sums inside the chunks, at an element. -/
theorem gsum_apply (S : Src Ideal) (p : Fin 2) (i : Fin 16) (r : Fin 128) : (S.gsum p (ix2 i r) : EReal) =
    ∑ s : Fin 128, (S.g p (ix2 i s) : EReal) * (((if s.val / 64 = r.val / 64 ∧ s.val ≤ r.val then 1 else 0 : ℝ) : ℝ) : EReal) := by
  pointwise [Src.gsum]
  refine Finset.sum_congr rfl fun s _ => ?_
  rw [triu_apply]
  congr 1
  show (((BitVec.setWidth 32 (if s.val / 64 = r.val / 64 ∧ s ≤ r then 1#1 else 0#1)).toInt : ℝ) : EReal) = _
  by_cases h : s.val / 64 = r.val / 64 ∧ s ≤ r
  · rw [if_pos h, if_pos (show s.val / 64 = r.val / 64 ∧ s.val ≤ r.val from h), show (BitVec.setWidth 32 1#1).toInt = 1 from by decide]; norm_num
  · rw [if_neg h, if_neg (show ¬ (s.val / 64 = r.val / 64 ∧ s.val ≤ r.val) from h), show (BitVec.setWidth 32 0#1).toInt = 0 from by decide]; norm_num
/-- The packed gates transposed back, at an element. -/
theorem gate_apply (S : Src Ideal) (p : Fin 2) (r : Fin 128) (i : Fin 16) : (S.gate p (ix2 r ⟨i.val, by omega⟩) : EReal) =
    if i.val < 8 then Ideal.logistic (S.baT p (ix2 i r)) else S.gsum p (ix2 i r) := by
  pointwise [Src.gate]
  have : IntOp.cmpi CmpIPredicate.slt (BitVec.ofNat 32 i.val) 8#32 = if i.val < 8 then 1#1 else 0#1 := by
    revert i; decide
  rw [this, sel_if]
/-- The normed outputs times the activated output gate, at an element. -/
theorem outp_apply (o : FVec Ideal S64x128 .f32) (wn : Vec Ideal S1x128 .f32) (z : Vec Ideal S1x64x128 .f32) (r : Fin 64) (d : Fin 128) :
    (outp o wn z (ix3 0 r d) : EReal) = fin (fun e => o (ix2 r e)) (wn (ix2 0 d)) (z (ix3 0 r d)) d := by
  pointwise [outp]
  rfl

/-- Queries, keys, values. -/
def Inp.qkv (I : Inp) (b : Fin 4) (a : Fin 3) (h : Fin 8) (s : ℕ) (d : Fin 128) : ℝ := (![I.q b h s d, I.k b h s d, I.v b h s d] : Fin 3 → ℝ) a

/-- Row `r` of pair `p` of tile `t`. -/
def rowT (t : Fin 16) (p : Fin 2) (r : Fin 128) : Fin 4096 := ⟨256 * t.val + 128 * p.val + r.val, by omega⟩
/-- The chunk of that row, and its place in it. -/
def chT (t : Fin 16) (p : Fin 2) (r : Fin 128) : Fin 64 := ⟨4 * t.val + 2 * p.val + r.val / 64, by omega⟩
/-- A row's place in its chunk. -/
def plT (r : Fin 128) : Fin 64 := ⟨r.val % 64, Nat.mod_lt _ (by decide)⟩

/-- What the preparation of tile `t` of sequence `b` reads is real. -/
structure Src.Good (S : Src Ideal) (I : Inp) (b : Fin 4) (t : Fin 16) : Prop where
  x : ∀ a h (r : Fin 256) d, (S.x a h (ix3 0 r d) : EReal) = ((I.pad b (256 * t.val + r.val + 3) (colOf a h d) : ℝ) : EReal)
  halo : ∀ a h (r : Fin 8) d, 5 ≤ r.val → (S.halo (hd24 a h) (ix2 r d) : EReal) = ((I.pad b (256 * t.val + (r.val - 5)) (colOf a h d) : ℝ) : EReal)
  w : ∀ i a h d, (S.w i (hd24 a h) (ix2 0 d) : EReal) = ((I.W i (colOf a h d) : ℝ) : EReal)
  ba : ∀ p r i, (S.ba p (ix3 0 r i) : EReal) = ((I.BA b (rowT t p r) i : ℝ) : EReal)
  ha : ∀ h : Fin 8, (S.ha (ix2 ⟨8 + h.val, by omega⟩ 0) : EReal) = ((I.al h : ℝ) : EReal)
  hd : ∀ h : Fin 8, (S.hd (ix2 ⟨8 + h.val, by omega⟩ 0) : EReal) = ((I.dt h : ℝ) : EReal)

variable {S : Src Ideal} {I : Inp} {b : Fin 4} {t : Fin 16}

/-- The rows the convolution reads are the padded projection's. -/
theorem Src.Good.cat (H : S.Good I b t) (a : Fin 3) (h : Fin 8) (i : Fin 264) (n : ℕ) (hi : i.val = n + 5) (d : Fin 128) :
    (Dn.cat (S.halo (hd24 a h)) (S.x a h) (ix2 i d) : EReal) = ((I.pad b (256 * t.val + n) (colOf a h d) : ℝ) : EReal) := by
  rw [cat_apply]
  split
  · next hl => rw [H.halo _ _ _ _ (show 5 ≤ i.val by omega)]; congr 2; show 256 * t.val + (i.val - 5) = _; omega
  · next hl => rw [H.x]; congr 2; show 256 * t.val + (i.val - 8) + 3 = _; omega

/-- The convolution. -/
theorem Src.Good.conv (H : S.Good I b t) (a : Fin 3) (h : Fin 8) (r : Fin 256) (d : Fin 128) :
    (Dn.conv (S.halo (hd24 a h)) (S.x a h) (S.w 0 (hd24 a h)) (S.w 1 (hd24 a h)) (S.w 2 (hd24 a h)) (S.w 3 (hd24 a h)) (ix2 r d) : EReal) =
      ((I.cv b (256 * t.val + r.val) (colOf a h d) : ℝ) : EReal) := by
  rw [conv_apply, tap_apply _ _ _ _ ⟨7 + r.val, by omega⟩ (show 8 + r.val = 7 + r.val + 1 by omega), tap_apply _ _ _ _ ⟨6 + r.val, by omega⟩ (show 7 + r.val = 6 + r.val + 1 by omega),
    tap_apply _ _ _ _ ⟨5 + r.val, by omega⟩ (show 6 + r.val = 5 + r.val + 1 by omega), first_apply, H.w, H.w, H.w, H.w,
    H.cat a h _ r.val (show 5 + r.val = _ by omega), H.cat a h _ (r.val + 1) (show 6 + r.val = _ by omega), H.cat a h _ (r.val + 2) (show 7 + r.val = _ by omega),
    H.cat a h _ (r.val + 3) (show 8 + r.val = _ by omega), ← EReal.coe_mul, ← EReal.coe_mul, ← EReal.coe_mul, ← EReal.coe_mul, ← EReal.coe_add, ← EReal.coe_add, ← EReal.coe_add]
  rw [Inp.cv]
  simp only [Nat.add_assoc, mul_comm]

/-- Its activation. -/
theorem Src.Good.y (H : S.Good I b t) (a : Fin 3) (h : Fin 8) (r : Fin 256) (d : Fin 128) :
    (S.y a h (ix2 r d) : EReal) = ((I.y b (256 * t.val + r.val) (colOf a h d) : ℝ) : EReal) := by
  have := H.conv a h r d
  show (_ : EReal) * Ideal.logistic _ = _
  rw [this, Ideal.logistic_coe, ← EReal.coe_mul]
  rfl

/-- The normalised rows are the real ones. -/
theorem Src.Good.nrm (H : S.Good I b t) (g : BitVec 32) (a : Fin 3) (h : Fin 8) (r : Fin 256) (d : Fin 128) :
    (Dn.nrm g (S.y a h) (ix2 r d) : EReal) = ((I.y b (256 * t.val + r.val) (colOf a h d) : ℝ) : EReal) * (((I.len b a h (256 * t.val + r.val) : ℝ) : EReal) * Ideal.ofBits .f32 g) := by
  have hs : (∑ x, (S.y a h (ix2 r x) : EReal) * S.y a h (ix2 r x)) = ((∑ x, I.y b (256 * t.val + r.val) (colOf a h x) * I.y b (256 * t.val + r.val) (colOf a h x) : ℝ) : EReal) := by
    rw [← coe_sum']; exact Finset.sum_congr rfl fun x _ => by rw [H.y, EReal.coe_mul]
  rw [nrm_apply, hs, H.y, eps_bits, ← EReal.coe_add, rsqrt_coe' _ (add_pos_of_nonneg_of_pos (Finset.sum_nonneg fun x _ => mul_self_nonneg _) eps_pos)]
  rfl

/-- What is stored for a head. -/
theorem Src.Good.pay (H : S.Good I b t) (a : Fin 3) (h : Fin 8) (r : Fin 256) (d : Fin 128) :
    (S.pay a h (ix2 r d) : EReal) = ((I.qkv b a h (256 * t.val + r.val) d : ℝ) : EReal) := by
  rw [Src.pay, cast256]
  match a with
  | 0 =>
    show (Dn.nrm 0x3DB504F3#32 (S.y 0 h) (ix2 r d) : EReal) = ((I.q b h (256 * t.val + r.val) d : ℝ) : EReal)
    rw [H.nrm, gain_bits, ← EReal.coe_mul, ← EReal.coe_mul, Inp.q, mul_assoc]
  | 1 =>
    show (Dn.nrm 0x3F800000#32 (S.y 1 h) (ix2 r d) : EReal) = ((I.k b h (256 * t.val + r.val) d : ℝ) : EReal)
    rw [H.nrm, one_bits, ← EReal.coe_mul, ← EReal.coe_mul, Inp.k, mul_one]
  | 2 => exact H.y 2 h r d

/-- The transposed gate columns are the real ones. -/
theorem Src.Good.baT (H : S.Good I b t) (p : Fin 2) (i : Fin 16) (r : Fin 128) : (S.baT p (ix2 i r) : EReal) = ((I.BA b (rowT t p r) ⟨i.val, by omega⟩ : ℝ) : EReal) := by
  rw [baT_apply, H.ba]

/-- The logarithms of the decays are the real ones. -/
theorem Src.Good.g (H : S.Good I b t) (p : Fin 2) (h : Fin 8) (r : Fin 128) : (S.g p (ix2 ⟨8 + h.val, by omega⟩ r) : EReal) = ((I.g b h (rowT t p r) : ℝ) : EReal) := by
  rw [g_apply, H.baT, H.ha, H.hd, ← EReal.coe_add, show I.BA b (rowT t p r) ⟨8 + h.val, by omega⟩ + I.dt h = I.gx b h (rowT t p r) from rfl, abs_coe', Ideal.exp_coe, ← EReal.coe_zero,
    ← EReal.coe_sub, ← EReal.coe_sub, Ideal.exp_coe, log1p_coe _ (Real.exp_pos _), max_coe', ← EReal.coe_add, ← EReal.coe_mul, zero_sub, zero_sub]
  rfl

/-- The running sums. -/
theorem Src.Good.gsum (H : S.Good I b t) (p : Fin 2) (h : Fin 8) (r : Fin 128) : (S.gsum p (ix2 ⟨8 + h.val, by omega⟩ r) : EReal) = ((I.G b h (chT t p r) (plT r) : ℝ) : EReal) := by
  rw [gsum_apply]
  have : ∀ s : Fin 128, (S.g p (ix2 ⟨8 + h.val, by omega⟩ s) : EReal) * (((if s.val / 64 = r.val / 64 ∧ s.val ≤ r.val then 1 else 0 : ℝ) : ℝ) : EReal) =
      ((if s.val / 64 = r.val / 64 ∧ s.val ≤ r.val then I.g b h (rowT t p s) else 0 : ℝ) : EReal) := fun s => by
    rw [H.g, ← EReal.coe_mul]; split <;> simp
  rw [Finset.sum_congr rfl fun s _ => this s, coe_sum', sum_rw64 ⟨r.val / 64, by omega⟩ _ (fun j hj => if_neg fun hc => hj hc.1), Inp.G]
  congr 1
  refine Finset.sum_congr rfl fun s _ => ?_
  have h1 : (rw64 ⟨r.val / 64, by omega⟩ s).val / 64 = r.val / 64 := by show (64 * (r.val / 64) + s.val) / 64 = _; omega
  have h2 : rowT t p (rw64 ⟨r.val / 64, by omega⟩ s) = rowOf (chT t p r) s := Fin.ext (by
    show 256 * t.val + 128 * p.val + (64 * (r.val / 64) + s.val) = 64 * (4 * t.val + 2 * p.val + r.val / 64) + s.val; omega)
  have h3 : (rw64 ⟨r.val / 64, by omega⟩ s).val ≤ r.val ↔ s ≤ plT r := by
    show 64 * (r.val / 64) + s.val ≤ r.val ↔ s.val ≤ r.val % 64; omega
  rw [h2]
  by_cases hc : s ≤ plT r
  · rw [if_pos ⟨h1, h3.2 hc⟩, if_pos hc]
  · rw [if_neg fun hh => hc (h3.1 hh.2), if_neg hc]

/-- The gates' columns. -/
theorem Src.Good.gateB (H : S.Good I b t) (p : Fin 2) (h : Fin 8) (r : Fin 128) : (S.gate p (ix2 r ⟨h.val, by omega⟩) : EReal) = ((I.be b h (rowT t p r) : ℝ) : EReal) := by
  have := gate_apply S p r ⟨h.val, by omega⟩
  rw [if_pos h.isLt] at this
  refine this.trans ?_
  rw [H.baT, Ideal.logistic_coe]; rfl
/-- The packed running sums are the real ones. -/
theorem Src.Good.gateG (H : S.Good I b t) (p : Fin 2) (h : Fin 8) (r : Fin 128) : (S.gate p (ix2 r ⟨8 + h.val, by omega⟩) : EReal) = ((I.G b h (chT t p r) (plT r) : ℝ) : EReal) := by
  have := gate_apply S p r ⟨8 + h.val, by omega⟩
  rw [if_neg (show ¬ 8 + h.val < 8 by omega)] at this
  exact this.trans (H.gsum p h r)

/-- What the units of tile `t` read is real. -/
structure Ld.Good (L : Ld Ideal) (I : Inp) (b : Fin 4) (t : Fin 16) : Prop where
  q : ∀ p h r d, (L.q p h (ix2 r d) : EReal) = ((I.q b h (rowT t p r).val d : ℝ) : EReal)
  k : ∀ p h r d, (L.k p h (ix2 r d) : EReal) = ((I.k b h (rowT t p r).val d : ℝ) : EReal)
  v : ∀ p h r d, (L.v p h (ix2 r d) : EReal) = ((I.v b h (rowT t p r).val d : ℝ) : EReal)
  be : ∀ p (h : Fin 8) r, (L.gt p (ix2 r ⟨h.val, by omega⟩) : EReal) = ((I.be b h (rowT t p r) : ℝ) : EReal)
  gc : ∀ p (h : Fin 8) r, (L.gt p (ix2 r ⟨8 + h.val, by omega⟩) : EReal) = ((I.G b h (chT t p r) (plT r) : ℝ) : EReal)
  gr : ∀ p (h : Fin 8) r, (L.gr p (ix3 0 ⟨8 + h.val, by omega⟩ r) : EReal) = ((I.G b h (chT t p r) (plT r) : ℝ) : EReal)
  st : ∀ h i j, (L.st h (ix3 0 i j) : EReal) = ((I.S b h (4 * t.val) i j : ℝ) : EReal)
end Cert.Dn
end
-- ==== Proof.Dn.Core.lean ====
module
public import proofs.«01_k».proof.Proof.Dn.Mask
public import proofs.«01_k».proof.Proof.Dn.Spec
public import proofs.«01_k».proof.Proof.Dn.Sum
@[expose] public section

/-! A unit of the gated DeltaNet call on real data: its operations on whole vectors are those of the chunks. -/

set_option maxRecDepth 16384
noncomputable section
namespace Cert.Dn
open Cert.DeltaIdeal Cert.DeltaIdeal.Gen Idealize.ShloMosaic Idealize.ShloMosaic.TcCoe Idealize.SL.Sem

/-- A vector of 128 by 128 holds the real matrix `A`. -/
def Holds (a : FVec Ideal S128x128 .f32) (A : M128) : Prop := ∀ i j, (a (ix2 i j) : EReal) = ((A i j : ℝ) : EReal)

/-- A product of two matrices, at an entry. -/
theorem mm_apply (a b : FVec Ideal S128x128 .f32) (i j : Fin 128) : (mm a b (ix2 i j) : EReal) = ∑ x, (a (ix2 i x) : EReal) * b (ix2 x j) := by
  pointwise [mm]

/-- The product of two vectors that hold real matrices holds the product. -/
theorem Holds.mm {a b : FVec Ideal S128x128 .f32} {A B : M128} (ha : Holds a A) (hb : Holds b B) : Holds (mm a b) (A * B) := fun i j => by
  rw [mm_apply, Matrix.mul_apply, ← coe_sum']
  exact Finset.sum_congr rfl fun x _ => by rw [ha, hb, EReal.coe_mul]

/-- The zero literal's value. -/
theorem zero_bits : Ideal.ofBits .f32 0#32 = 0 := by simp

/-- A merge of diagonal blocks, on vectors that hold real matrices, holds the merge of the matrices. -/
theorem Holds.merge {a l r : FVec Ideal S128x128 .f32} {L R : M128} (msk : IVec S128x128 1) (n : ℕ)
    (hm : ∀ i j : Fin 128, msk (ix2 i j) = if i.val / (2 * n) = j.val / (2 * n) ∧ ¬ i.val / n = j.val / n then 1#1 else 0#1)
    (hl : Holds l L) (hr : Holds r R) : Holds (merge msk l r) (mergeR n L R) := by
  have hs : Holds (select msk l zero128) (between' n L) := fun i j => by
    show Scalar.select (msk (ix2 i j)) (l (ix2 i j)) (zero128 (F := Ideal) (ix2 i j)) = _
    rw [hm, sel_if, hl, between']
    split
    · rfl
    · pointwise [zero128]
      simp
  intro i j
  show (r (ix2 i j) : EReal) - Dn.mm (Dn.mm r (select msk l zero128)) r (ix2 i j) = _
  rw [((hr.mm hs).mm hr) i j, hr i j, ← EReal.coe_sub]
  rfl

/-- The identity vector holds the identity matrix. -/
theorem Holds.eye : Holds (eye (F := Ideal)) 1 := fun i j => by
  rw [eye_apply, Matrix.one_apply]; split <;> simp

/-- The series' start holds the negative of the part inside the blocks of 8. -/
theorem Holds.base {l : FVec Ideal S128x128 .f32} {L : M128} (hl : Holds l L) : Holds (base l) (-(inBlk 8 L)) := fun i j => by
  show (zero128 (F := Ideal) (ix2 i j) : EReal) - Scalar.select (same 8#32 (ix2 i j)) (l (ix2 i j)) (zero128 (F := Ideal) (ix2 i j)) = _
  rw [same8, sel_if, hl]
  have : (zero128 (F := Ideal) (ix2 i j) : EReal) = ((0 : ℝ) : EReal) := by pointwise [zero128]; simp
  rw [this]
  show _ = ((-(inBlk 8 L i j) : ℝ) : EReal)
  unfold inBlk
  split
  · rw [← EReal.coe_sub, zero_sub]
  · rw [← EReal.coe_sub]; simp

/-- The first correction of the series, at an entry. -/
theorem neu1_apply (x : FVec Ideal S128x128 .f32) (i j : Fin 128) : (neu1 x (ix2 i j) : EReal) =
    ((eye (F := Ideal) (ix2 i j) : EReal) + x (ix2 i j)) + ∑ y, ((eye (F := Ideal) (ix2 i y) : EReal) + x (ix2 i y)) * mm x x (ix2 y j) := by
  pointwise [neu1, pr1]
/-- The second correction of the series, at an entry. -/
theorem pr2_apply (x : FVec Ideal S128x128 .f32) (i j : Fin 128) :
    (extractStridedSlice S128x128 ![128, 0] (pr1 x) slices_S256x128_o128_0_S128x128 (ix2 i j) : EReal) = ∑ y, (mm x x (ix2 i y) : EReal) * mm x x (ix2 y j) := by
  pointwise [pr1]

/-- The series of a vector that holds a real matrix holds the series of the matrix. -/
theorem Holds.neu {x : FVec Ideal S128x128 .f32} {X : M128} (hx : Holds x X) : Holds (neu x) (neuR X) := by
  have h1 : Holds (neu1 x) ((1 + X) + (1 + X) * (X * X)) := fun i j => by
    rw [neu1_apply]
    have : ∀ i j, (Dn.eye (F := Ideal) (ix2 i j) : EReal) + x (ix2 i j) = (((1 + X) i j : ℝ) : EReal) := fun i j => by
      rw [Holds.eye i j, hx i j, ← EReal.coe_add]; rfl
    rw [Matrix.add_apply, Matrix.mul_apply, EReal.coe_add, this, ← coe_sum']
    congr 1
    exact Finset.sum_congr rfl fun y _ => by rw [this, (hx.mm hx) y j, EReal.coe_mul]
  have h2 : Holds (extractStridedSlice S128x128 ![128, 0] (pr1 x) slices_S256x128_o128_0_S128x128) ((X * X) * (X * X)) := fun i j => by
    rw [pr2_apply, Matrix.mul_apply, ← coe_sum']
    exact Finset.sum_congr rfl fun y _ => by rw [(hx.mm hx) i y, (hx.mm hx) y j, EReal.coe_mul]
  intro i j
  show (neu1 x (ix2 i j) : EReal) + Dn.mm (neu1 x) _ (ix2 i j) = _
  rw [(h1.mm h2) i j, h1 i j, ← EReal.coe_add]
  rfl

/-- The inverse as the call computes it holds the blockwise inverse. -/
theorem Holds.inv {l : FVec Ideal S128x128 .f32} {L : M128} (hl : Holds l L) : Holds (inv l) (invR L) := by
  refine Holds.merge (a := l) _ 32 btw64 hl (Holds.merge (a := l) _ 16 btw32 hl (Holds.merge (a := l) _ 8 btw16 hl hl.base.neu))

section unit
variable {q k v : FVec Ideal S128x128 .f32} {beta gc : FVec Ideal S128x1 .f32} {gr : FVec Ideal S1x128 .f32}
  {Q K V : Fin 128 → Fin 128 → ℝ} {B G : Fin 128 → ℝ}

/-- The unit's operands hold real data. -/
structure UnitHolds (q k v : FVec Ideal S128x128 .f32) (beta gc : FVec Ideal S128x1 .f32) (gr : FVec Ideal S1x128 .f32)
    (Q K V : Fin 128 → Fin 128 → ℝ) (B G : Fin 128 → ℝ) : Prop where
  q : ∀ i j, (q (ix2 i j) : EReal) = ((Q i j : ℝ) : EReal)
  k : ∀ i j, (k (ix2 i j) : EReal) = ((K i j : ℝ) : EReal)
  v : ∀ i j, (v (ix2 i j) : EReal) = ((V i j : ℝ) : EReal)
  b : ∀ i, (beta (ix2 i 0) : EReal) = ((B i : ℝ) : EReal)
  g : ∀ i, (gc (ix2 i 0) : EReal) = ((G i : ℝ) : EReal)
  r : ∀ i, (gr (ix2 0 i) : EReal) = ((G i : ℝ) : EReal)

/-- The decays, at an entry. -/
theorem decay_apply (H : UnitHolds q k v beta gc gr Q K V B G) (i j : Fin 128) :
    (decay gc gr (ix2 i j) : EReal) = (((if i.val / 64 = j.val / 64 ∧ j.val ≤ i.val then Real.exp (G i - G j) else 0 : ℝ)) : EReal) := by
  have : (decay gc gr (ix2 i j) : EReal) = Ideal.exp (Scalar.select (tril (ix2 i j)) ((gc (ix2 i 0) : EReal) - gr (ix2 0 j)) (Ideal.ofBits .f32 4286578688#32)) := by
    pointwise [decay, col]
  rw [this, tril_apply, sel_if, H.g, H.r, ← EReal.coe_sub]
  split
  · rw [Ideal.exp_coe]
  · rw [show Ideal.ofBits .f32 4286578688#32 = ⊥ by simp [Ideal.ofBits, Ideal.ieee], Ideal.exp_bot]; simp

/-- The system's matrix holds the two chunks' strictly lower triangular matrices. -/
theorem lmat_apply (H : UnitHolds q k v beta gc gr Q K V B G) : Holds (lmat q k beta gc gr) (L128 K B G) := fun i j => by
  have : (lmat q k beta gc gr (ix2 i j) : EReal) = (∑ x, ((k (ix2 i x) : EReal) * beta (ix2 i 0)) * k (ix2 j x)) *
      Scalar.select (strict (ix2 i j)) (decay gc gr (ix2 i j)) 0 := by
    pointwise [lmat, aq, zero128, col]
    try simp
  rw [this, decay_apply H, strict_apply, sel_if, L128, EReal.coe_mul, ← coe_sum']
  congr 1
  · exact Finset.sum_congr rfl fun x _ => by rw [H.k, H.k, H.b, EReal.coe_mul, EReal.coe_mul]
  · by_cases h : i.val / 64 = j.val / 64 ∧ j.val < i.val
    · rw [if_pos h, if_pos h, if_pos ⟨h.1, h.2.le⟩]
    · rw [if_neg h, if_neg h]; simp

/-- The attention weights inside the chunks, at an entry. -/
theorem intra_apply (H : UnitHolds q k v beta gc gr Q K V B G) (i j : Fin 128) :
    (intra q k beta gc gr (ix2 i j) : EReal) = (((∑ x, Q i x * K j x) * (if i.val / 64 = j.val / 64 ∧ j.val ≤ i.val then Real.exp (G i - G j) else 0) : ℝ) : EReal) := by
  have : (intra q k beta gc gr (ix2 i j) : EReal) = (∑ x, (q (ix2 i x) : EReal) * k (ix2 j x)) * decay gc gr (ix2 i j) := by
    pointwise [intra, aq, col]
  rw [this, decay_apply H, EReal.coe_mul, ← coe_sum']
  congr 1
  exact Finset.sum_congr rfl fun x _ => by rw [H.k, H.q, EReal.coe_mul]

/-- The solution's value columns are the chunk's. -/
theorem solU_apply (H : UnitHolds q k v beta gc gr Q K V B G) (ci : Fin 2) (i : Fin 64) (e : Fin 128) :
    (sol q k v beta gc gr (ix2 (rw64 ci i) ⟨e.val, by omega⟩) : EReal) = (((chOf Q K V B G ci).u i e : ℝ) : EReal) := by
  have : (sol q k v beta gc gr (ix2 (rw64 ci i) ⟨e.val, by omega⟩) : EReal) = ∑ x, (inv (lmat q k beta gc gr) (ix2 (rw64 ci i) x) : EReal) * ((v (ix2 x e) : EReal) * beta (ix2 x 0)) := by
    pointwise [sol, col]
  rw [this]
  have h2 := inv_solve Q K V B G ci (fun j e => V j e * B j) i e
  rw [show (chOf Q K V B G ci).u i e = _ from h2.symm, ← coe_sum']
  exact Finset.sum_congr rfl fun x _ => by rw [(lmat_apply H).inv _ _, H.v, H.b, EReal.coe_mul, EReal.coe_mul]

/-- The solution's key columns are the chunk's. -/
theorem solW_apply (H : UnitHolds q k v beta gc gr Q K V B G) (ci : Fin 2) (i : Fin 64) (e : Fin 128) :
    (sol q k v beta gc gr (ix2 (rw64 ci i) ⟨128 + e.val, by omega⟩) : EReal) = (((chOf Q K V B G ci).w i e : ℝ) : EReal) := by
  have : (sol q k v beta gc gr (ix2 (rw64 ci i) ⟨128 + e.val, by omega⟩) : EReal) =
      ∑ x, (inv (lmat q k beta gc gr) (ix2 (rw64 ci i) x) : EReal) * (((k (ix2 x e) : EReal) * beta (ix2 x 0)) * Ideal.exp (gc (ix2 x 0))) := by
    pointwise [sol, col]
  rw [this]
  have h2 := inv_solve Q K V B G ci (fun j e => K j e * B j * Real.exp (G j)) i e
  rw [show (chOf Q K V B G ci).w i e = _ from h2.symm, ← coe_sum']
  exact Finset.sum_congr rfl fun x _ => by rw [(lmat_apply H).inv _ _, H.k, H.b, H.g, Ideal.exp_coe, EReal.coe_mul, EReal.coe_mul, EReal.coe_mul]

variable {st : FVec Ideal S128x128 .f32} {S : Fin 128 → Fin 128 → ℝ}

/-- The rows of a chunk's keys times the state, then its queries times the state. -/
theorem wqW_apply (H : UnitHolds q k v beta gc gr Q K V B G) (hs : Holds st S) (ci : Fin 2) (i : Fin 64) (e : Fin 128) :
    (wq ci q gc (sol q k v beta gc gr) st (ix2 ⟨i.val, by omega⟩ e) : EReal) = ((∑ d, (chOf Q K V B G ci).w i d * S d e : ℝ) : EReal) := by
  rw [wq, mm_apply, ← coe_sum']
  refine Finset.sum_congr rfl fun d _ => ?_
  rw [hs, EReal.coe_mul, ← solW_apply H ci i d]
  congr 1
  generalize sol q k v beta gc gr = ss
  pointwise [rw64]

/-- The queries' part of the product with the state, at an entry. -/
theorem wqQ_apply (H : UnitHolds q k v beta gc gr Q K V B G) (hs : Holds st S) (ci : Fin 2) (i : Fin 64) (e : Fin 128) :
    (wq ci q gc (sol q k v beta gc gr) st (ix2 ⟨64 + i.val, by omega⟩ e) : EReal) = ((∑ d, (chOf Q K V B G ci).q i d * Real.exp ((chOf Q K V B G ci).g i) * S d e : ℝ) : EReal) := by
  rw [wq, mm_apply, ← coe_sum']
  refine Finset.sum_congr rfl fun d _ => ?_
  rw [hs, EReal.coe_mul, EReal.coe_mul]
  congr 1
  generalize sol q k v beta gc gr = ss
  have h1 := H.q (rw64 ci i) d
  have h2 := H.g (rw64 ci i)
  show _ = ((Q (rw64 ci i) d : ℝ) : EReal) * ((Real.exp (G (rw64 ci i)) : ℝ) : EReal)
  rw [← Ideal.exp_coe, ← h1, ← h2]
  pointwise [rw64, col]

/-- The values a chunk writes, at an entry. -/
theorem vnew_apply (H : UnitHolds q k v beta gc gr Q K V B G) (hs : Holds st S) (ci : Fin 2) (i : Fin 64) (e : Fin 128) :
    (vnew ci (sol q k v beta gc gr) (wq ci q gc (sol q k v beta gc gr) st) (ix2 i e) : EReal) = (((chOf Q K V B G ci).vn S i e : ℝ) : EReal) := by
  rw [Ch.vn, EReal.coe_sub, ← solU_apply H, ← wqW_apply H hs]
  generalize wq ci q gc (sol q k v beta gc gr) st = ww
  generalize sol q k v beta gc gr = ss
  pointwise [vnew, rw64]

/-- The state after a chunk holds the chunk's next state. -/
theorem stNext_apply (H : UnitHolds q k v beta gc gr Q K V B G) (hs : Holds st S) (ci : Fin 2) {vn : FVec Ideal S64x128 .f32}
    (hv : ∀ i e, (vn (ix2 i e) : EReal) = (((chOf Q K V B G ci).vn S i e : ℝ) : EReal)) :
    Holds (stNext ci k gc st vn) ((chOf Q K V B G ci).next S) := fun d e => by
  have : (stNext ci k gc st vn (ix2 d e) : EReal) = (st (ix2 d e) : EReal) * Ideal.exp (gc (ix2 (rw64 ci 63) 0)) +
      ∑ x, ((k (ix2 (rw64 ci x) d) : EReal) * Ideal.exp ((gc (ix2 (rw64 ci 63) 0) : EReal) - gc (ix2 (rw64 ci x) 0))) * vn (ix2 x e) := by
    pointwise [stNext, kd, rw64]
  rw [this, hs, H.g, Ideal.exp_coe, Ch.next, EReal.coe_add, EReal.coe_mul, ← coe_sum']
  congr 1
  exact Finset.sum_congr rfl fun x _ => by rw [H.k, H.g, hv, ← EReal.coe_sub, Ideal.exp_coe, EReal.coe_mul, EReal.coe_mul]; rfl

/-- The outputs before the norm, at an entry: what the state gives plus what the chunk gives. -/
theorem oraw_form (ci : Fin 2) (w a : FVec Ideal S128x128 .f32) (vn : FVec Ideal S64x128 .f32) (i : Fin 64) (e : Fin 128) :
    (oraw ci w a vn (ix2 i e) : EReal) = (w (ix2 ⟨64 + i.val, by omega⟩ e) : EReal) + ∑ x, (a (ix2 (rw64 ci i) x) : EReal) * vpad ci vn (ix2 x e) := by
  pointwise [oraw, rw64]

/-- The written values padded to both chunks, at an entry. -/
theorem vpad_apply (ci : Fin 2) (vn : FVec Ideal S64x128 .f32) (x : Fin 128) (e : Fin 128) :
    (vpad ci vn (ix2 x e) : EReal) = if x.val / 64 = ci.val then vn (ix2 ⟨x.val % 64, by omega⟩ e) else 0 := by
  have h1 : (vpad ci vn (ix2 x e) : EReal) = if h : x.val < 64 then (![vn, zero64] : Fin 2 → FVec Ideal S64x128 .f32) ci (ix2 ⟨x.val, h⟩ e)
      else (![zero64, vn] : Fin 2 → FVec Ideal S64x128 .f32) ci (ix2 ⟨x.val - 64, by omega⟩ e) := by
    pointwise [vpad]
  have hz : ∀ y, (zero64 (F := Ideal) (ix2 y e) : EReal) = 0 := fun y => by pointwise [zero64]
  rw [h1]
  match ci with
  | 0 =>
    by_cases h : x.val < 64
    · rw [dif_pos h, if_pos (by simp; omega)]
      show vn _ = vn _
      congr 2; exact Fin.ext (by simp; omega)
    · rw [dif_neg h, if_neg (by simp; omega)]
      exact hz ⟨x.val - 64, by omega⟩
  | 1 =>
    by_cases h : x.val < 64
    · rw [dif_pos h, if_neg (by simp; omega)]
      exact hz ⟨x.val, h⟩
    · rw [dif_neg h, if_pos (by simp; omega)]
      show vn _ = vn _
      congr 2; exact Fin.ext (by simp; omega)

/-- The outputs before the norm are the chunk's. -/
theorem oraw_apply (H : UnitHolds q k v beta gc gr Q K V B G) (hs : Holds st S) (ci : Fin 2) {vn : FVec Ideal S64x128 .f32}
    (hv : ∀ i e, (vn (ix2 i e) : EReal) = (((chOf Q K V B G ci).vn S i e : ℝ) : EReal)) (i : Fin 64) (e : Fin 128) :
    (oraw ci (wq ci q gc (sol q k v beta gc gr) st) (intra q k beta gc gr) vn (ix2 i e) : EReal) = (((chOf Q K V B G ci).o S i e : ℝ) : EReal) := by
  rw [oraw_form, wqQ_apply H hs, Ch.o, EReal.coe_add]
  congr 1
  have : ∀ x : Fin 128, (intra q k beta gc gr (ix2 (rw64 ci i) x) : EReal) * vpad ci vn (ix2 x e) =
      ((((∑ y, Q (rw64 ci i) y * K x y) * (if (rw64 ci i).val / 64 = x.val / 64 ∧ x.val ≤ (rw64 ci i).val then Real.exp (G (rw64 ci i) - G x) else 0)) *
        (if x.val / 64 = ci.val then (chOf Q K V B G ci).vn S ⟨x.val % 64, by omega⟩ e else 0) : ℝ) : EReal) := fun x => by
    rw [intra_apply H, vpad_apply, EReal.coe_mul (_ * _)]
    congr 1
    by_cases h : x.val / 64 = ci.val
    · rw [if_pos h, if_pos h]; exact hv _ _
    · rw [if_neg h, if_neg h]; simp
  rw [Finset.sum_congr rfl fun x _ => this x, coe_sum', sum_rw64 ci]
  · congr 1
    refine Finset.sum_congr rfl fun s _ => ?_
    rw [if_pos (show (rw64 ci s).val / 64 = ci.val by simp only [rw64]; omega)]
    congr 1
    · simp only [Ch.a, chOf]
      congr 1
      have : ((rw64 ci i).val / 64 = (rw64 ci s).val / 64 ∧ (rw64 ci s).val ≤ (rw64 ci i).val) ↔ s ≤ i := by
        simp only [rw64, Fin.le_def]; omega
      by_cases h : s ≤ i
      · rw [if_pos h, if_pos (this.2 h)]
      · rw [if_neg h, if_neg (fun hh => h (this.1 hh))]
    · congr 1
      exact Fin.ext (by simp only [rw64]; omega)
  · intro j hj
    rw [if_neg hj, mul_zero]

end unit
end Cert.Dn
end
-- ==== Proof.Dn.Units.lean ====
module
public import proofs.«01_k».proof.Proof.Dn.Prep
public import proofs.«01_k».proof.Proof.Dn.Core
@[expose] public section

/-! The units of a tile on real data: the states after its chunks, and the outputs. -/

set_option maxRecDepth 65536
noncomputable section
namespace Cert.Dn
open Cert.DeltaIdeal Cert.DeltaIdeal.Gen Idealize.ShloMosaic Idealize.ShloMosaic.TcCoe Idealize.SL.Sem

variable {L : Ld Ideal} {I : Inp} {b : Fin 4} {t : Fin 16}

/-- A head's write gate, at a row. -/
theorem beta_apply (L : Ld Ideal) (p : Fin 2) (h : Fin 8) (r : Fin 128) : (L.beta p h (ix2 r 0) : EReal) = L.gt p (ix2 r ⟨h.val, by omega⟩) := by
  show L.gt p _ = _
  refine congrArg (L.gt p) (funext fun a => ?_)
  match a with
  | ⟨0, _⟩ => exact Fin.ext (show 0 + r.val = r.val by omega)
  | ⟨1, _⟩ => exact Fin.ext (show h.val + 0 = h.val by omega)
/-- A head's running sums as a column, at a row. -/
theorem gc_apply (L : Ld Ideal) (p : Fin 2) (h : Fin 8) (r : Fin 128) : (L.gc p h (ix2 r 0) : EReal) = L.gt p (ix2 r ⟨8 + h.val, by omega⟩) := by
  show L.gt p _ = _
  refine congrArg (L.gt p) (funext fun a => ?_)
  match a with
  | ⟨0, _⟩ => exact Fin.ext (show 0 + r.val = r.val by omega)
  | ⟨1, _⟩ => exact Fin.ext (show h.val + 8 + 0 = 8 + h.val by omega)
/-- The running sums without their leading axis, at an element. -/
theorem cast16 (x : Vec Ideal S1x16x128 .f32) (i : Fin 16) (r : Fin 128) : (shapeCast S16x128 x shapeCasts_S1x16x128_S16x128 (ix2 i r) : EReal) = x (ix3 0 i r) := by
  pointwise
/-- A head's running sums as a row, at an element. -/
theorem grow_apply (L : Ld Ideal) (p : Fin 2) (h : Fin 8) (r : Fin 128) : (L.grow p h (ix2 0 r) : EReal) = L.gr p (ix3 0 ⟨8 + h.val, by omega⟩ r) := by
  rw [← cast16 (L.gr p)]
  show shapeCast S16x128 (L.gr p) shapeCasts_S1x16x128_S16x128 _ = _
  refine congrArg _ (funext fun a => ?_)
  match a with
  | ⟨0, _⟩ => exact Fin.ext (show h.val + 8 + 0 = 8 + h.val by omega)
  | ⟨1, _⟩ => exact Fin.ext (show 0 + r.val = r.val by omega)
/-- A head's state before the tile, at an entry. -/
theorem s0_apply (L : Ld Ideal) (h : Fin 8) (i j : Fin 128) : (L.s0 h (ix2 i j) : EReal) = L.st h (ix3 0 i j) := by
  pointwise [Ld.s0]

/-- A unit's operands hold the pair's data. -/
theorem Ld.Good.unit (H : L.Good I b t) (p : Fin 2) (h : Fin 8) :
    UnitHolds (L.q p h) (L.k p h) (L.v p h) (L.beta p h) (L.gc p h) (L.grow p h) (fun r d => I.q b h (rowT t p r).val d) (fun r d => I.k b h (rowT t p r).val d)
      (fun r d => I.v b h (rowT t p r).val d) (fun r => I.be b h (rowT t p r)) (fun r => I.G b h (chT t p r) (plT r)) where
  q := H.q p h
  k := H.k p h
  v := H.v p h
  b r := (beta_apply L p h r).trans (H.be p h r)
  g r := (gc_apply L p h r).trans (H.gc p h r)
  r r := (grow_apply L p h r).trans (H.gr p h r)

/-- The chunk of a pair is a chunk of the sequence. -/
theorem chOf_eq (I : Inp) (b : Fin 4) (t : Fin 16) (p : Fin 2) (h : Fin 8) (ci : Fin 2) :
    chOf (fun r d => I.q b h (rowT t p r).val d) (fun r d => I.k b h (rowT t p r).val d) (fun r d => I.v b h (rowT t p r).val d) (fun r => I.be b h (rowT t p r))
      (fun r => I.G b h (chT t p r) (plT r)) ci = I.ch b h ⟨4 * t.val + 2 * p.val + ci.val, by omega⟩ := by
  have h1 : ∀ i, rowT t p (rw64 ci i) = rowOf ⟨4 * t.val + 2 * p.val + ci.val, by omega⟩ i := fun i => Fin.ext (by
    show 256 * t.val + 128 * p.val + (64 * ci.val + i.val) = 64 * (4 * t.val + 2 * p.val + ci.val) + i.val; omega)
  have h2 : ∀ i, chT t p (rw64 ci i) = ⟨4 * t.val + 2 * p.val + ci.val, by omega⟩ := fun i => Fin.ext (by
    show 4 * t.val + 2 * p.val + (64 * ci.val + i.val) / 64 = 4 * t.val + 2 * p.val + ci.val; omega)
  have h3 : ∀ i, plT (rw64 ci i) = i := fun i => Fin.ext (by show (64 * ci.val + i.val) % 64 = i.val; omega)
  unfold chOf Inp.ch
  simp only [h1, h2, h3]

/-- The state after a chunk is the chunk's next one. -/
theorem Inp.S_succ (I : Inp) (b : Fin 4) (h : Fin 8) (n : Fin 64) : I.S b h (n.val + 1) = (I.ch b h n).next (I.S b h n.val) := by
  show (I.ch b h ⟨n.val % 64, _⟩).next _ = _
  congr 2
  exact Fin.ext (Nat.mod_eq_of_lt n.isLt)

variable (H : L.Good I b t)
include H

/-- The values a unit writes are its chunk's. -/
theorem Ld.Good.vn (p ci : Fin 2) (h : Fin 8) {st : FVec Ideal S128x128 .f32} {n : ℕ} (hn : n = 4 * t.val + 2 * p.val + ci.val) (hs : Holds st (I.S b h n)) (i : Fin 64) (e : Fin 128) :
    (L.vn p ci h st (ix2 i e) : EReal) = (((chOf (fun r d => I.q b h (rowT t p r).val d) (fun r d => I.k b h (rowT t p r).val d) (fun r d => I.v b h (rowT t p r).val d) (fun r => I.be b h (rowT t p r))
      (fun r => I.G b h (chT t p r) (plT r)) ci).vn (I.S b h n) i e : ℝ) : EReal) :=
  vnew_apply (H.unit p h) hs ci i e

/-- One chunk's step. -/
theorem Ld.Good.step (p ci : Fin 2) (h : Fin 8) {st : FVec Ideal S128x128 .f32} {n : ℕ} (hn : n = 4 * t.val + 2 * p.val + ci.val) (hs : Holds st (I.S b h n)) :
    Holds (L.step p ci h st) (I.S b h (n + 1)) := by
  have := stNext_apply (H.unit p h) hs ci (H.vn p ci h hn hs)
  rw [chOf_eq] at this
  subst hn
  exact (I.S_succ b h ⟨4 * t.val + 2 * p.val + ci.val, by omega⟩).symm ▸ this

/-- What a chunk's queries read. -/
theorem Ld.Good.oraw (p ci : Fin 2) (h : Fin 8) {st : FVec Ideal S128x128 .f32} (n : Fin 64) (hn : n.val = 4 * t.val + 2 * p.val + ci.val) (hs : Holds st (I.S b h n.val)) (i : Fin 64) (e : Fin 128) :
    (L.oraw p ci h st (ix2 i e) : EReal) = ((I.O b h n i e : ℝ) : EReal) := by
  have := oraw_apply (H.unit p h) hs ci (H.vn p ci h hn hs) i e
  rw [chOf_eq] at this
  rw [show (⟨4 * t.val + 2 * p.val + ci.val, by omega⟩ : Fin 64) = n from Fin.ext hn.symm] at this
  exact this

/-- The state before the tile holds the real one. -/
theorem Ld.Good.s0 (h : Fin 8) : Holds (L.s0 h) (I.S b h (4 * t.val)) := fun i j => (s0_apply L h i j).trans (H.st h i j)
/-- The state after the first chunk holds the real one. -/
theorem Ld.Good.s1 (h : Fin 8) : Holds (L.s1 h) (I.S b h (4 * t.val + 1)) := H.step 0 0 h rfl (H.s0 h)
/-- The state after the second chunk holds the real one. -/
theorem Ld.Good.s2 (h : Fin 8) : Holds (L.s2 h) (I.S b h (4 * t.val + 2)) := H.step 0 1 h rfl (H.s1 h)
/-- The state after the third chunk holds the real one. -/
theorem Ld.Good.s3 (h : Fin 8) : Holds (L.s3 h) (I.S b h (4 * t.val + 3)) := H.step 1 0 h rfl (H.s2 h)
/-- The state after the fourth chunk holds the real one. -/
theorem Ld.Good.s4 (h : Fin 8) : Holds (L.s4 h) (I.S b h (4 * t.val + 4)) := H.step 1 1 h rfl (H.s3 h)

/-- The state chunk `n` of a tile reads. -/
theorem Ld.Good.sAt (n : Fin 4) (h : Fin 8) : Holds (L.sAt n h) (I.S b h (4 * t.val + n.val)) :=
  match n with
  | 0 => H.s0 h
  | 1 => H.s1 h
  | 2 => H.s2 h
  | 3 => H.s3 h

/-- The output of chunk `n` of a tile. -/
theorem Ld.Good.out (n : Fin 4) (h : Fin 8) (wn : Vec Ideal S1x128 .f32) (z : Vec Ideal S1x64x128 .f32) (r : Fin 64) (d : Fin 128) :
    (outp (L.oraw ⟨n.val / 2, by omega⟩ ⟨n.val % 2, by omega⟩ h (L.sAt n h)) wn z (ix3 0 r d) : EReal) =
      fin (fun e => ((I.O b h ⟨4 * t.val + n.val, by omega⟩ r e : ℝ) : EReal)) (wn (ix2 0 d)) (z (ix3 0 r d)) d := by
  rw [outp_apply]
  congr 1
  funext e
  exact H.oraw _ _ h ⟨4 * t.val + n.val, by omega⟩ (show 4 * t.val + n.val = 4 * t.val + 2 * (n.val / 2) + n.val % 2 by omega) (H.sAt n h) r e
end Cert.Dn
end
-- ==== Proof.Dn.Carry.lean ====
module
public import proofs.«01_k».proof.Proof.Dn.Tile
public import proofs.«01_k».proof.Proof.Dn.Units
public import Idealize.ShloMosaic.Lib.Pipeline.ValueKit.Tiles
public import Idealize.ShloMosaic.Lib.Pipeline.ValueKit.Basic
@[expose] public section

/-! What a tile finds in its operands and in the buffers carried from tile to tile, and what it leaves there. -/

set_option maxRecDepth 65536
noncomputable section
namespace Cert.Dn
open Cert.DeltaIdeal Cert.DeltaIdeal.Gen Idealize.ShloMosaic Idealize.ShloMosaic.TcCoe Idealize.SL.Sem

/-- Under a list that covers an index, what was written before it is not seen. -/
theorem canon_under {Val : EltTy → Type} [∀ e, Nonempty (Val e)] {S : Shape} {e : EltTy} (L' : List (View.Piece Val S e)) (y : S.Idx) :
    ∀ (L : List (View.Piece Val S e)) (_ : ∃ p ∈ L, y ∈ p.1.set), View.canon (L ++ L') y = View.canon L y
  | [], hy => by obtain ⟨p, hp, _⟩ := hy; simp at hp
  | p :: L, hy => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans ((canon_under L' y L ?_).trans (View.canon_cons_of_not_mem p L hm).symm)
      obtain ⟨q, hq, hy⟩ := hy
      rcases List.mem_cons.1 hq with rfl | h
      · exact absurd hy hm
      · exact ⟨q, h, hy⟩
/-- Tiles written last, read at an index they cover. -/
theorem canon_tiles_append {Val : EltTy → Type} [∀ e, Nonempty (Val e)] {S : Shape} {e : EltTy} {N : ℕ} (off : Fin N → Fin S.rank → ℕ) (size : Fin S.rank → ℕ)
    (inb : ∀ k a, off k a + size a ≤ S.size a) (P : Fin N → (⟨S.rank, size⟩ : Shape).Idx → Val e) (L' : List (View.Piece Val S e)) (y : S.Idx) (v : Val e)
    (hc : ∃ k, ∀ a, off k a ≤ y a ∧ (y a : ℕ) < off k a + size a) (h : ∀ k, ∀ x : (⟨S.rank, size⟩ : Shape).Idx, (∀ a, (y a : ℕ) = off k a + x a) → P k x = v) :
    View.canon ((List.ofFn fun k => (⟨Rect.unit (off k) size (inb k), P k⟩ : View.Piece Val S e)) ++ L') y = v := by
  rw [canon_under]
  · exact View.canon_ofFn_unit_eq_of_forall off size inb P y v hc h
  · obtain ⟨k, hk⟩ := hc
    exact ⟨⟨Rect.unit (off k) size (inb k), P k⟩, List.mem_ofFn.2 ⟨k, rfl⟩, (show y ∈ (Rect.unit (off k) size (inb k)).set from Rect.mem_set_unit.2 hk)⟩

/-- A two-axis index is given by its coordinates. -/
theorem ix2_of {n0 n1 : ℕ} (x : (⟨2, ![n0, n1]⟩ : Shape).Idx) (i : Fin n0) (j : Fin n1) (h0 : (x 0).val = i.val) (h1 : (x 1).val = j.val) : x = ix2 i j :=
  funext fun a => match a with | 0 => Fin.ext h0 | 1 => Fin.ext h1
/-- A three-axis index is given by its coordinates. -/
theorem ix3_of {n0 n1 n2 : ℕ} (x : (⟨3, ![n0, n1, n2]⟩ : Shape).Idx) (i : Fin n0) (j : Fin n1) (k : Fin n2) (h0 : (x 0).val = i.val) (h1 : (x 1).val = j.val)
    (h2 : (x 2).val = k.val) : x = ix3 i j k :=
  funext fun a => match a with | 0 => Fin.ext h0 | 1 => Fin.ext h1 | 2 => Fin.ext h2

/-- The operands of the preparation of tile `t` of sequence `b`. -/
structure Blk (I : Inp) (b : Fin 4) (t : Fin 16) (Xq Xk Xv : Vec Ideal S1x256x1024 .f32) (Xb : Vec Ideal S1x256x128 .f32) : Prop where
  x : ∀ (a : Fin 3) (r : Fin 256) (c : Fin 1024), ((![Xq, Xk, Xv] : Fin 3 → Vec Ideal S1x256x1024 .f32) a (ix3 0 r c) : EReal) = ((I.P b ⟨256 * t.val + r.val, by omega⟩ ⟨1024 * a.val + c.val, by omega⟩ : ℝ) : EReal)
  ba : ∀ (r : Fin 256) (i : Fin 128), (Xb (ix3 0 r i) : EReal) = ((I.BA b ⟨256 * t.val + r.val, by omega⟩ i : ℝ) : EReal)
/-- The operands that are the same for all tiles. -/
structure Par (I : Inp) (Xw : Vec Ideal S4x3072 .f32) (Xh : Vec Ideal S16x2 .f32) : Prop where
  w : ∀ i c, (Xw (ix2 i c) : EReal) = ((I.W i c : ℝ) : EReal)
  ha : ∀ h : Fin 8, (Xh (ix2 ⟨8 + h.val, by omega⟩ 0) : EReal) = ((I.al h : ℝ) : EReal)
  hd : ∀ h : Fin 8, (Xh (ix2 ⟨8 + h.val, by omega⟩ 1) : EReal) = ((I.dt h : ℝ) : EReal)
/-- The rows the preparation of tile `t` looks back to (the last three of eight are read). -/
def Halo (I : Inp) (b : Fin 4) (n : ℕ) (Xl : Vec Ideal S8x3072 .f32) : Prop :=
  ∀ (r : Fin 8) (c : Fin 3072), 5 ≤ r.val → (Xl (ix2 r c) : EReal) = ((I.pad b (256 * n + (r.val - 5)) c : ℝ) : EReal)
/-- The prepared tile. -/
structure Car (I : Inp) (b : Fin 4) (t : Fin 16) (X1 : Vec Ideal S256x3072 .f32) (X2 : Vec Ideal S256x128 .f32) (X3 : Vec Ideal S2x16x128 .f32) : Prop where
  c : ∀ a h (r : Fin 256) d, (X1 (ix2 r (colOf a h d)) : EReal) = ((I.qkv b a h (256 * t.val + r.val) d : ℝ) : EReal)
  be : ∀ p (h : Fin 8) (r : Fin 128), (X2 (ix2 (⟨128 * p.val + r.val, by omega⟩ : Fin 256) ⟨h.val, by omega⟩) : EReal) = ((I.be b h (rowT t p r) : ℝ) : EReal)
  gc : ∀ (p : Fin 2) (h : Fin 8) (r : Fin 128), (X2 (ix2 (⟨128 * p.val + r.val, by omega⟩ : Fin 256) ⟨8 + h.val, by omega⟩) : EReal) = ((I.G b h (chT t p r) (plT r) : ℝ) : EReal)
  gr : ∀ (p : Fin 2) (h : Fin 8) (r : Fin 128), (X3 (ix3 p ⟨8 + h.val, by omega⟩ r) : EReal) = ((I.G b h (chT t p r) (plT r) : ℝ) : EReal)
/-- The states before chunk `n`. -/
def Sta (I : Inp) (b : Fin 4) (n : ℕ) (X4 : Vec Ideal S8x128x128 .f32) : Prop := ∀ h i j, (X4 (ix3 h i j) : EReal) = ((I.S b h n i j : ℝ) : EReal)

variable {I : Inp} {b : Fin 4} {t : Fin 16}

/-- What the preparation of a tile reads is the tile's real inputs, when the operands and the halo hold them. -/
theorem srcOf_good {Xq Xk Xv : Vec Ideal S1x256x1024 .f32} {Xb : Vec Ideal S1x256x128 .f32} {Xw : Vec Ideal S4x3072 .f32} {Xh : Vec Ideal S16x2 .f32} {Xl : Vec Ideal S8x3072 .f32}
    (HB : Blk I b t Xq Xk Xv Xb) (HP : Par I Xw Xh) (HH : Halo I b t.val Xl) : (srcOf Xq Xk Xv Xb Xw Xh Xl).Good I b t where
  x a h r d := by
    refine (View.ld_unit_apply_of _ _ _ _ (ix3 0 r d) (ix3 0 r (⟨128 * h.val + d.val, by omega⟩ : Fin 1024)) fun ax => by fin_cases ax <;> simp).trans ((HB.x a r _).trans ?_)
    unfold Inp.pad
    rw [dif_pos (show 3 ≤ 256 * t.val + r.val + 3 ∧ 256 * t.val + r.val + 3 - 3 < 4096 by omega)]
    congr 2
    exact Fin.ext (show 1024 * a.val + (128 * h.val + d.val) = 1024 * a.val + 128 * h.val + d.val by omega)
  halo a h r d hr := by
    show (View.ld Xl (Rect.unit (s := S8x3072) ![0, 128 * (hd24 a h).val] S8x128.size (inH (hd24 a h))) (ix2 r d) : EReal) = _
    refine (View.ld_unit_apply_of Xl ![0, 128 * (hd24 a h).val] S8x128.size (inH (hd24 a h)) (ix2 r d) (ix2 r (colOf a h d)) fun ax => by fin_cases ax <;> simp [colOf, hd24]; try omega).trans (HH r _ hr)
  w i a h d := by
    show (View.ld Xw (Rect.unit (s := S4x3072) ![i.val, 128 * (hd24 a h).val] S1x128.size (inW i (hd24 a h))) (ix2 0 d) : EReal) = _
    refine (View.ld_unit_apply_of Xw ![i.val, 128 * (hd24 a h).val] S1x128.size (inW i (hd24 a h)) (ix2 0 d) (ix2 i (colOf a h d)) fun ax => by fin_cases ax <;> simp [colOf, hd24]; try omega).trans (HP.w i _)
  ba p r i := by
    refine (View.ld_unit_apply_of _ _ _ _ (ix3 0 r i) (ix3 0 (⟨128 * p.val + r.val, by omega⟩ : Fin 256) i) fun ax => by fin_cases ax <;> simp).trans ((HB.ba _ i).trans ?_)
    congr 2
    exact Fin.ext (show 256 * t.val + (128 * p.val + r.val) = 256 * t.val + 128 * p.val + r.val by omega)
  ha h := (View.ld_unit_apply_of _ _ _ _ (ix2 ⟨8 + h.val, by omega⟩ 0) (ix2 ⟨8 + h.val, by omega⟩ 0) fun ax => by fin_cases ax <;> simp).trans (HP.ha h)
  hd h := (View.ld_unit_apply_of _ _ _ _ (ix2 ⟨8 + h.val, by omega⟩ 0) (ix2 ⟨8 + h.val, by omega⟩ 1) fun ax => by fin_cases ax <;> simp).trans (HP.hd h)

/-- What a tile's units read is the prepared tile and the states, when the carried buffers hold them. -/
theorem ldOf_good {X1 : Vec Ideal S256x3072 .f32} {X2 : Vec Ideal S256x128 .f32} {X3 : Vec Ideal S2x16x128 .f32} {X4 : Vec Ideal S8x128x128 .f32}
    (HC : Car I b t X1 X2 X3) (HS : Sta I b (4 * t.val) X4) : (ldOf X1 X2 X3 X4).Good I b t := by
  have hc : ∀ a p h r d, (View.ld X1 (Rect.unit (s := S256x3072) ![128 * p.val, 128 * (hd24 a h).val] S128x128.size (inQ p (hd24 a h))) (ix2 r d) : EReal) =
      ((I.qkv b a h (rowT t p r).val d : ℝ) : EReal) := fun a p h r d => by
    refine (View.ld_unit_apply_of _ _ _ _ (ix2 r d) (ix2 (⟨128 * p.val + r.val, by omega⟩ : Fin 256) (colOf a h d)) fun ax => by fin_cases ax <;> simp [colOf, hd24]; try omega).trans ((HC.c a h _ d).trans ?_)
    congr 2
    show 256 * t.val + (128 * p.val + r.val) = 256 * t.val + 128 * p.val + r.val
    omega
  exact {
    q := fun p h r d => hc 0 p h r d
    k := fun p h r d => hc 1 p h r d
    v := fun p h r d => hc 2 p h r d
    be := fun p h r => (View.ld_unit_apply_of _ _ _ _ (ix2 r ⟨h.val, by omega⟩) (ix2 (⟨128 * p.val + r.val, by omega⟩ : Fin 256) ⟨h.val, by omega⟩) fun ax => by fin_cases ax <;> simp).trans (HC.be p h r)
    gc := fun p h r => (View.ld_unit_apply_of _ _ _ _ (ix2 r ⟨8 + h.val, by omega⟩) (ix2 (⟨128 * p.val + r.val, by omega⟩ : Fin 256) ⟨8 + h.val, by omega⟩) fun ax => by fin_cases ax <;> simp).trans (HC.gc p h r)
    gr := fun p h r => (View.ld_unit_apply_of _ _ _ _ (ix3 0 ⟨8 + h.val, by omega⟩ r) (ix3 p ⟨8 + h.val, by omega⟩ r) fun ax => by fin_cases ax <;> simp).trans (HC.gr p h r)
    st := fun h i j => (show (View.ld X4 (Rect.unit (s := S8x128x128) ![h.val, 0, 0] S1x128x128.size (inS h)) (ix3 0 i j) : EReal) = X4 (ix3 h i j) from View.ld_unit_apply_of _ _ _ _ (ix3 0 i j) (ix3 h i j) fun ax => by fin_cases ax <;> simp).trans (HS h i j) }

variable {S : Src Ideal} {L : Ld Ideal}

/-- The running sums given a leading axis, at an element. -/
theorem rowCast (g : FVec Ideal S16x128 .f32) (i : Fin 16) (r : Fin 128) : (shapeCast S1x16x128 g shapeCasts_S16x128_S1x16x128 (ix3 0 i r) : EReal) = g (ix2 i r) := by
  pointwise
/-- A state given a leading axis, at an element. -/
theorem stCast (g : FVec Ideal S128x128 .f32) (i r : Fin 128) : (shapeCast S1x128x128 g shapeCasts_S128x128_S1x128x128 (ix3 0 i r) : EReal) = g (ix2 i r) := by
  pointwise
/-- The halo's rows without their leading axis, at an element. -/
theorem haloCast (g : FVec Ideal S1x8x1024 .f32) (i : Fin 8) (r : Fin 1024) :
    (shapeCast S8x1024 (shapeCast S8x1024 g shapeCasts_S1x8x1024_S8x1024) shapeCasts_S8x1024_S8x1024 (ix2 i r) : EReal) = g (ix3 0 i r) := by
  pointwise

/-- The preparation leaves a prepared tile. -/
theorem car_of (H : S.Good I b t) (Y1 : List (View.Piece (Elt Ideal) S256x3072 .f32)) (Y2 : List (View.Piece (Elt Ideal) S256x128 .f32)) (Y3 : List (View.Piece (Elt Ideal) S2x16x128 .f32)) :
    Car I b t (View.canon (convPieces S ++ Y1)) (View.canon (gatePieces S ++ Y2)) (View.canon (rowPieces S ++ Y3)) := by
  have hg : ∀ (p : Fin 2) (r i : Fin 128) (v : EReal), (S.gate p (ix2 r i) : EReal) = v →
      (View.canon (gatePieces S ++ Y2) (ix2 (⟨128 * p.val + r.val, by omega⟩ : Fin 256) i) : EReal) = v := fun p r i v hv => by
    refine canon_tiles_append (Val := Elt Ideal) (S := S256x128) (e := .f32) (fun n : Fin 2 => ![128 * (⟨1 - n.val, by omega⟩ : Fin 2).val, 0]) S128x128.size (fun n => inG ⟨1 - n.val, by omega⟩) (fun n => S.gate ⟨1 - n.val, by omega⟩) Y2 _ v ⟨⟨1 - p.val, by omega⟩, ?_⟩ ?_
    · intro ax; fin_cases ax
      · show 128 * (1 - (1 - p.val)) ≤ 128 * p.val + r.val ∧ 128 * p.val + r.val < 128 * (1 - (1 - p.val)) + 128; omega
      · show 0 ≤ i.val ∧ i.val < 0 + 128; omega
    · intro n x hx
      have h0 : 128 * p.val + r.val = 128 * (1 - n.val) + (x 0).val := hx 0
      have h1 : i.val = 0 + (x 1).val := hx 1
      have hx0 : (x 0).val < 128 := (x 0).isLt
      have e : (⟨1 - n.val, by omega⟩ : Fin 2) = p := Fin.ext (show 1 - n.val = p.val by omega)
      have e2 : x = ix2 r i := ix2_of x _ _ (show (x 0).val = r.val by omega) (show (x 1).val = i.val by omega)
      show S.gate ⟨1 - n.val, _⟩ x = v
      rw [e, e2]; exact hv
  refine ⟨fun a h r d => ?_, fun p h r => hg p r _ _ (H.gateB p h r), fun p h r => hg p r _ _ (H.gateG p h r), fun p h r => ?_⟩
  · refine canon_tiles_append (Val := Elt Ideal) (S := S256x3072) (e := .f32) (fun n : Fin 24 => ![0, 128 * (hd24 ⟨(23 - n.val) % 3, by omega⟩ ⟨(23 - n.val) / 3, by omega⟩).val]) S256x128.size (fun n => inC _)
      (fun n => S.pay ⟨(23 - n.val) % 3, by omega⟩ ⟨(23 - n.val) / 3, by omega⟩) Y1 _ _ ⟨⟨23 - (3 * h.val + a.val), by omega⟩, ?_⟩ ?_
    · intro ax; fin_cases ax
      · show 0 ≤ r.val ∧ r.val < 0 + 256; omega
      · show 128 * (8 * ((23 - (23 - (3 * h.val + a.val))) % 3) + (23 - (23 - (3 * h.val + a.val))) / 3) ≤ 1024 * a.val + 128 * h.val + d.val ∧
          1024 * a.val + 128 * h.val + d.val < 128 * (8 * ((23 - (23 - (3 * h.val + a.val))) % 3) + (23 - (23 - (3 * h.val + a.val))) / 3) + 128
        omega
    · intro n x hx
      have h0 : r.val = 0 + (x 0).val := hx 0
      have h1 : 1024 * a.val + 128 * h.val + d.val = 128 * (8 * ((23 - n.val) % 3) + (23 - n.val) / 3) + (x 1).val := hx 1
      have hx1 : (x 1).val < 128 := (x 1).isLt
      have e : (⟨(23 - n.val) % 3, by omega⟩ : Fin 3) = a := Fin.ext (show (23 - n.val) % 3 = a.val by omega)
      have e1 : (⟨(23 - n.val) / 3, by omega⟩ : Fin 8) = h := Fin.ext (show (23 - n.val) / 3 = h.val by omega)
      have e2 : x = ix2 r d := ix2_of x _ _ (show (x 0).val = r.val by omega) (show (x 1).val = d.val by omega)
      show S.pay ⟨(23 - n.val) % 3, _⟩ ⟨(23 - n.val) / 3, _⟩ x = _
      rw [e, e1, e2]; exact H.pay a h r d
  · refine canon_tiles_append (Val := Elt Ideal) (S := S2x16x128) (e := .f32) (fun n : Fin 2 => ![(⟨1 - n.val, by omega⟩ : Fin 2).val, 0, 0]) S1x16x128.size (fun n => inR ⟨1 - n.val, by omega⟩)
      (fun n => shapeCast S1x16x128 (S.gsum ⟨1 - n.val, by omega⟩) shapeCasts_S16x128_S1x16x128) Y3 _ _ ⟨⟨1 - p.val, by omega⟩, ?_⟩ ?_
    · intro ax; fin_cases ax
      · show 1 - (1 - p.val) ≤ p.val ∧ p.val < 1 - (1 - p.val) + 1; omega
      · show 0 ≤ 8 + h.val ∧ 8 + h.val < 0 + 16; omega
      · show 0 ≤ r.val ∧ r.val < 0 + 128; omega
    · have h8 : 8 + h.val < 16 := by omega
      intro n x hx
      have h0 : p.val = 1 - n.val + (x 0).val := hx 0
      have h1 : 8 + h.val = 0 + (x 1).val := hx 1
      have h2 : r.val = 0 + (x 2).val := hx 2
      have hx0 : (x 0).val < 1 := (x 0).isLt
      have e : (⟨1 - n.val, by omega⟩ : Fin 2) = p := Fin.ext (show 1 - n.val = p.val by omega)
      have e2 : x = ix3 0 ⟨8 + h.val, h8⟩ r := ix3_of x _ _ _ (show (x 0).val = 0 by omega) (show (x 1).val = 8 + h.val by omega) (show (x 2).val = r.val by omega)
      show shapeCast S1x16x128 (S.gsum ⟨1 - n.val, _⟩) _ x = _
      rw [e, e2, rowCast]; exact H.gsum p h r

/-- … and the rows the next preparation looks back to. -/
theorem halo_of {Xq Xk Xv : Vec Ideal S1x256x1024 .f32} {Xb : Vec Ideal S1x256x128 .f32} {Xw : Vec Ideal S4x3072 .f32} {Xh : Vec Ideal S16x2 .f32} {Xl : Vec Ideal S8x3072 .f32}
    (HB : Blk I b t Xq Xk Xv Xb) (Y : List (View.Piece (Elt Ideal) S8x3072 .f32)) : Halo I b (t.val + 1) (View.canon (haloPieces (srcOf Xq Xk Xv Xb Xw Xh Xl) ++ Y)) := fun r c hr => by
  refine canon_tiles_append (Val := Elt Ideal) (S := S8x3072) (e := .f32) (fun n : Fin 3 => ![0, 1024 * (⟨2 - n.val, by omega⟩ : Fin 3).val]) S8x1024.size (fun n => inHS ⟨2 - n.val, by omega⟩)
    (fun n => shapeCast S8x1024 (shapeCast S8x1024 ((srcOf Xq Xk Xv Xb Xw Xh Xl).last ⟨2 - n.val, by omega⟩) shapeCasts_S1x8x1024_S8x1024) shapeCasts_S8x1024_S8x1024) Y _ _ ⟨⟨2 - c.val / 1024, by omega⟩, ?_⟩ ?_
  · intro ax; fin_cases ax
    · show 0 ≤ r.val ∧ r.val < 0 + 8; omega
    · show 1024 * (2 - (2 - c.val / 1024)) ≤ c.val ∧ c.val < 1024 * (2 - (2 - c.val / 1024)) + 1024; omega
  · intro n x hx
    have h0 : r.val = 0 + (x 0).val := hx 0
    have h1 : c.val = 1024 * (2 - n.val) + (x 1).val := hx 1
    have hx1 : (x 1).val < 1024 := (x 1).isLt
    show shapeCast S8x1024 (shapeCast S8x1024 ((srcOf Xq Xk Xv Xb Xw Xh Xl).last ⟨2 - n.val, _⟩) _) _ x = _
    rw [ix2_of (n0 := 8) (n1 := 1024) x r ⟨(x 1).val, hx1⟩ (by omega) rfl, haloCast]
    show (View.ld ((![Xq, Xk, Xv] : Fin 3 → Vec Ideal S1x256x1024 .f32) ⟨2 - n.val, by omega⟩) (Rect.unit (s := S1x256x1024) ![0, 248, 0] S1x8x1024.size inb_S1x256x1024_S1x8x1024_0_248_0) (ix3 0 r (⟨(x 1).val, hx1⟩ : Fin 1024)) : EReal) = _
    refine (View.ld_unit_apply_of _ _ _ _ (ix3 0 r (⟨(x 1).val, hx1⟩ : Fin 1024)) (ix3 0 (⟨248 + r.val, by omega⟩ : Fin 256) (⟨(x 1).val, hx1⟩ : Fin 1024)) fun ax => by fin_cases ax <;> simp).trans ((HB.x _ _ _).trans ?_)
    unfold Inp.pad
    · rw [dif_pos (show 3 ≤ 256 * (t.val + 1) + (r.val - 5) ∧ 256 * (t.val + 1) + (r.val - 5) - 3 < 4096 by omega)]
      congr 2
      · exact Fin.ext (show 256 * t.val + (248 + r.val) = 256 * (t.val + 1) + (r.val - 5) - 3 by omega)
      · exact Fin.ext (show 1024 * (2 - n.val) + (x 1).val = c.val by omega)

/-- The states after a tile. -/
theorem sta_of (H : L.Good I b t) (Y : List (View.Piece (Elt Ideal) S8x128x128 .f32)) : Sta I b (4 * (t.val + 1)) (View.canon (statePieces L ++ Y)) := fun h i j => by
  refine canon_tiles_append (Val := Elt Ideal) (S := S8x128x128) (e := .f32) (fun n : Fin 8 => ![(⟨7 - n.val, by omega⟩ : Fin 8).val, 0, 0]) S1x128x128.size (fun n => inS ⟨7 - n.val, by omega⟩)
    (fun n => shapeCast S1x128x128 (L.s4 ⟨7 - n.val, by omega⟩) shapeCasts_S128x128_S1x128x128) Y _ _ ⟨⟨7 - h.val, by omega⟩, ?_⟩ ?_
  · intro ax; fin_cases ax
    · show 7 - (7 - h.val) ≤ h.val ∧ h.val < 7 - (7 - h.val) + 1; omega
    · show 0 ≤ i.val ∧ i.val < 0 + 128; omega
    · show 0 ≤ j.val ∧ j.val < 0 + 128; omega
  · intro n x hx
    have h0 : h.val = 7 - n.val + (x 0).val := hx 0
    have h1 : i.val = 0 + (x 1).val := hx 1
    have h2 : j.val = 0 + (x 2).val := hx 2
    have hx0 : (x 0).val < 1 := (x 0).isLt
    have e : (⟨7 - n.val, by omega⟩ : Fin 8) = h := Fin.ext (show 7 - n.val = h.val by omega)
    have e2 : x = ix3 0 i j := ix3_of x _ _ _ (show (x 0).val = 0 by omega) (show (x 1).val = i.val by omega) (show (x 2).val = j.val by omega)
    show shapeCast S1x128x128 (L.s4 ⟨7 - n.val, _⟩) _ x = _
    rw [e, e2, stCast]; exact H.s4 h i j

/-- The outputs of a tile. -/
theorem out_of (H : L.Good I b t) (wn : Vec Ideal S1x128 .f32) (Z : Vec Ideal S1x256x1024 .f32) (n : Fin 4) (h : Fin 8) (r : Fin 64) (d : Fin 128) :
    (View.canon (outPieces L (wnOf wn) (zOf Z)) (ix3 0 (⟨64 * n.val + r.val, by omega⟩ : Fin 256) (⟨128 * h.val + d.val, by omega⟩ : Fin 1024)) : EReal) =
      fin (fun e => ((I.O b h ⟨4 * t.val + n.val, by omega⟩ r e : ℝ) : EReal)) (wn (ix2 0 d)) (Z (ix3 0 (⟨64 * n.val + r.val, by omega⟩ : Fin 256) (⟨128 * h.val + d.val, by omega⟩ : Fin 1024))) d := by
  rw [← List.append_nil (outPieces L (wnOf wn) (zOf Z))]
  refine canon_tiles_append (Val := Elt Ideal) (S := S1x256x1024) (e := .bf16) (fun n : Fin 32 => ![0, 64 * (⟨(31 - n.val) / 8, by omega⟩ : Fin 4).val, 128 * (⟨(31 - n.val) % 8, by omega⟩ : Fin 8).val]) S1x64x128.size (fun n => inO ⟨(31 - n.val) / 8, by omega⟩ ⟨(31 - n.val) % 8, by omega⟩)
    (fun n => outp (L.oraw ⟨(31 - n.val) / 16, by omega⟩ ⟨(31 - n.val) / 8 % 2, by omega⟩ ⟨(31 - n.val) % 8, by omega⟩ (L.sAt ⟨(31 - n.val) / 8, by omega⟩ ⟨(31 - n.val) % 8, by omega⟩)) (wnOf wn)
      (zOf Z ⟨(31 - n.val) / 8, by omega⟩ ⟨(31 - n.val) % 8, by omega⟩)) [] _ _ ⟨⟨31 - (8 * n.val + h.val), by omega⟩, ?_⟩ ?_
  · intro ax; fin_cases ax
    · show 0 ≤ 0 ∧ 0 < 0 + 1; omega
    · show 64 * ((31 - (31 - (8 * n.val + h.val))) / 8) ≤ 64 * n.val + r.val ∧ 64 * n.val + r.val < 64 * ((31 - (31 - (8 * n.val + h.val))) / 8) + 64; omega
    · show 128 * ((31 - (31 - (8 * n.val + h.val))) % 8) ≤ 128 * h.val + d.val ∧ 128 * h.val + d.val < 128 * ((31 - (31 - (8 * n.val + h.val))) % 8) + 128; omega
  · have hn2 : n.val / 2 < 2 := by omega
    have hm2 : n.val % 2 < 2 := by omega
    intro k x hx
    have h1 : 64 * n.val + r.val = 64 * ((31 - k.val) / 8) + (x 1).val := hx 1
    have h2 : 128 * h.val + d.val = 128 * ((31 - k.val) % 8) + (x 2).val := hx 2
    have hx0 : (x 0).val < 1 := (x 0).isLt
    have hx1 : (x 1).val < 64 := (x 1).isLt
    have hx2 : (x 2).val < 128 := (x 2).isLt
    have e : (⟨(31 - k.val) / 8, by omega⟩ : Fin 4) = n := Fin.ext (show (31 - k.val) / 8 = n.val by omega)
    have e1 : (⟨(31 - k.val) % 8, by omega⟩ : Fin 8) = h := Fin.ext (show (31 - k.val) % 8 = h.val by omega)
    have e3 : (⟨(31 - k.val) / 16, by omega⟩ : Fin 2) = ⟨n.val / 2, hn2⟩ := Fin.ext (show (31 - k.val) / 16 = n.val / 2 by omega)
    have e4 : (⟨(31 - k.val) / 8 % 2, by omega⟩ : Fin 2) = ⟨n.val % 2, hm2⟩ := Fin.ext (show (31 - k.val) / 8 % 2 = n.val % 2 by omega)
    have e2 : x = ix3 0 r d := ix3_of x _ _ _ (show (x 0).val = 0 by omega) (show (x 1).val = r.val by omega) (show (x 2).val = d.val by omega)
    show outp (L.oraw ⟨(31 - k.val) / 16, _⟩ ⟨(31 - k.val) / 8 % 2, _⟩ ⟨(31 - k.val) % 8, _⟩ (L.sAt ⟨(31 - k.val) / 8, _⟩ ⟨(31 - k.val) % 8, _⟩)) (wnOf wn) (zOf Z ⟨(31 - k.val) / 8, _⟩ ⟨(31 - k.val) % 8, _⟩) x = _
    rw [e, e1, e3, e4, e2]
    refine (H.out n h _ _ r d).trans ?_
    rw [show (wnOf wn (ix2 0 d) : EReal) = wn (ix2 0 d) from View.ld_unit_apply_of _ _ _ _ (ix2 0 d) (ix2 0 d) fun ax => by fin_cases ax <;> simp,
      show (zOf Z n h (ix3 0 r d) : EReal) = Z (ix3 0 (⟨64 * n.val + r.val, by omega⟩ : Fin 256) (⟨128 * h.val + d.val, by omega⟩ : Fin 1024)) from
        View.ld_unit_apply_of _ _ _ _ (ix3 0 r d) (ix3 0 (⟨64 * n.val + r.val, by omega⟩ : Fin 256) (⟨128 * h.val + d.val, by omega⟩ : Fin 1024)) fun ax => by fin_cases ax <;> simp]
end Cert.Dn
end
-- ==== Proof.Dn.Point.lean ====
module
public import proofs.«01_k».proof.Proof.Dn.Carry
public import proofs.«01_k».proof.Proof.Gen.DeltaIdeal.Value
@[expose] public section

/-! What a tile of the DeltaNet call leaves in the output and in the buffers carried to the next, as functions of what it reads. -/

set_option maxRecDepth 65536
noncomputable section
namespace Cert.Dn
open Cert.DeltaIdeal Cert.DeltaIdeal.Gen Idealize.ShloMosaic Idealize.ShloMosaic.TcCoe Idealize.SL.Sem
variable {F : FTy → Type} [FloatOps F]

/-- The stores before the first tile's. -/
def zHalo : List (View.Piece (Elt F) S8x3072 .f32) := [⟨Rect.unit (s := S8x3072) ![0, 0] S8x3072.size inb_S8x3072_S8x3072_0_0, k0_pay2⟩]
/-- The zeros the first tile puts into the states. -/
def zState : List (View.Piece (Elt F) S8x128x128 .f32) := [⟨Rect.unit (s := S8x128x128) ![0, 0, 0] S8x128x128.size inb_S8x128x128_S8x128x128_0_0_0, k0_pay3⟩]

section B
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : ¬cond0_0 i) (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32) (xs0 : Vec F S8x3072 .f32) (xs1 : Vec F S256x3072 .f32) (xs2 : Vec F S256x128 .f32) (xs3 : Vec F S2x16x128 .f32) (xs4 : Vec F S8x128x128 .f32)
/-- What a later tile stores in the result. -/
theorem out0_B_12_eq : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4 = View.canon (outPieces (ldOf xs1 xs2 xs3 xs4) (wnOf x11) (zOf x8)) := by
  unfold out0_B_12
  rw [out_B, View.read_writes_junk_eq_canon]
  simp only [Memref.IsWhole.read_unread]
/-- What a later tile leaves in the buffer of the halo. -/
theorem sout0_B_0_eq : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4 = View.canon (haloPieces (srcOf x4 x5 x6 x7 x9 x10 xs0)) := by
  unfold sout0_B_0
  rw [halo_B, View.read_writes_junk_eq_canon]
  simp only [Memref.IsWhole.read_unread]
/-- What a later tile leaves in the buffer of the prepared rows. -/
theorem sout0_B_1_eq : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4 = View.canon (convPieces (srcOf x4 x5 x6 x7 x9 x10 xs0)) := by
  unfold sout0_B_1
  rw [conv_B, View.read_writes_junk_eq_canon]
  simp only [Memref.IsWhole.read_unread]
/-- What a later tile leaves in the buffer of the gates. -/
theorem sout0_B_2_eq : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4 = View.canon (gatePieces (srcOf x4 x5 x6 x7 x9 x10 xs0)) := by
  unfold sout0_B_2
  rw [gate_B, View.read_writes_junk_eq_canon]
  simp only [Memref.IsWhole.read_unread]
/-- What a later tile leaves in the buffer of the running sums. -/
theorem sout0_B_3_eq : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4 = View.canon (rowPieces (srcOf x4 x5 x6 x7 x9 x10 xs0)) := by
  unfold sout0_B_3
  rw [row_B, View.read_writes_junk_eq_canon]
  simp only [Memref.IsWhole.read_unread]
/-- What a later tile leaves in the buffer of the states. -/
theorem sout0_B_4_eq : sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 xs0 xs1 xs2 xs3 xs4 = View.canon (statePieces (ldOf xs1 xs2 xs3 xs4)) := by
  unfold sout0_B_4
  rw [state_B, View.read_writes_junk_eq_canon]
  simp only [Memref.IsWhole.read_unread]
end B

section A
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S1x256x1024 .f32) (harg10 : arg10.IsWhole) (arg11 : Memref sig .tc .vmem S4x3072 .f32) (harg11 : arg11.IsWhole) (arg12 : Memref sig .tc .vmem S16x2 .f32) (harg12 : arg12.IsWhole) (arg13 : Memref sig .tc .vmem S1x128 .f32) (harg13 : arg13.IsWhole) (arg14 : Memref sig .tc .vmem S1x256x1024 .bf16) (harg14 : arg14.IsWhole) (arg15 : Memref sig .tc .vmem S8x3072 .f32) (harg15 : arg15.IsWhole) (arg16 : Memref sig .tc .vmem S256x3072 .f32) (harg16 : arg16.IsWhole) (arg17 : Memref sig .tc .vmem S256x128 .f32) (harg17 : arg17.IsWhole) (arg18 : Memref sig .tc .vmem S2x16x128 .f32) (harg18 : arg18.IsWhole) (arg19 : Memref sig .tc .vmem S8x128x128 .f32) (harg19 : arg19.IsWhole) (hc0 : cond0_0 i) (x0 : Vec F S1x256x1024 .f32) (x1 : Vec F S1x256x1024 .f32) (x2 : Vec F S1x256x1024 .f32) (x3 : Vec F S1x256x128 .f32) (x4 : Vec F S1x256x1024 .f32) (x5 : Vec F S1x256x1024 .f32) (x6 : Vec F S1x256x1024 .f32) (x7 : Vec F S1x256x128 .f32) (x8 : Vec F S1x256x1024 .f32) (x9 : Vec F S4x3072 .f32) (x10 : Vec F S16x2 .f32) (x11 : Vec F S1x128 .f32)
/-- What a sequence's first tile stores in the result. -/
theorem out0_A_12_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (outPieces (ldOf (View.canon (convPieces (srcOf x0 x1 x2 x3 x9 x10 (View.canon zHalo)))) (View.canon (gatePieces (srcOf x0 x1 x2 x3 x9 x10 (View.canon zHalo)))) (View.canon (rowPieces (srcOf x0 x1 x2 x3 x9 x10 (View.canon zHalo)))) (View.canon zState)) (wnOf x11) (zOf x8)) := by
  unfold out0_A_12
  rw [out_A, View.read_writes_junk_eq_canon]
  simp only [View.read_writes_junk_eq_canon, Memref.IsWhole.read_unread]
  rfl
/-- What a sequence's first tile leaves in the buffer of the halo. -/
theorem sout0_A_0_eq : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (haloPieces (srcOf x4 x5 x6 x7 x9 x10 (View.canon (haloPieces (srcOf x0 x1 x2 x3 x9 x10 (View.canon zHalo)) ++ zHalo))) ++ (haloPieces (srcOf x0 x1 x2 x3 x9 x10 (View.canon zHalo)) ++ zHalo)) := by
  unfold sout0_A_0
  rw [halo_A, View.read_writes_junk_eq_canon]
  simp only [View.read_writes_junk_eq_canon, Memref.IsWhole.read_unread]
  rfl
/-- What a sequence's first tile leaves in the buffer of the prepared rows. -/
theorem sout0_A_1_eq : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (convPieces (srcOf x4 x5 x6 x7 x9 x10 (View.canon (haloPieces (srcOf x0 x1 x2 x3 x9 x10 (View.canon zHalo)) ++ zHalo))) ++ convPieces (srcOf x0 x1 x2 x3 x9 x10 (View.canon zHalo))) := by
  unfold sout0_A_1
  rw [conv_A, View.read_writes_junk_eq_canon]
  simp only [View.read_writes_junk_eq_canon, Memref.IsWhole.read_unread]
  rfl
/-- What a sequence's first tile leaves in the buffer of the gates. -/
theorem sout0_A_2_eq : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (gatePieces (srcOf x4 x5 x6 x7 x9 x10 (View.canon (haloPieces (srcOf x0 x1 x2 x3 x9 x10 (View.canon zHalo)) ++ zHalo))) ++ gatePieces (srcOf x0 x1 x2 x3 x9 x10 (View.canon zHalo))) := by
  unfold sout0_A_2
  rw [gate_A, View.read_writes_junk_eq_canon]
  simp only [View.read_writes_junk_eq_canon, Memref.IsWhole.read_unread]
  rfl
/-- What a sequence's first tile leaves in the buffer of the running sums. -/
theorem sout0_A_3_eq : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (rowPieces (srcOf x4 x5 x6 x7 x9 x10 (View.canon (haloPieces (srcOf x0 x1 x2 x3 x9 x10 (View.canon zHalo)) ++ zHalo))) ++ rowPieces (srcOf x0 x1 x2 x3 x9 x10 (View.canon zHalo))) := by
  unfold sout0_A_3
  rw [row_A, View.read_writes_junk_eq_canon]
  simp only [View.read_writes_junk_eq_canon, Memref.IsWhole.read_unread]
  rfl
/-- What a sequence's first tile leaves in the buffer of the states. -/
theorem sout0_A_4_eq : sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 = View.canon (statePieces (ldOf (View.canon (convPieces (srcOf x0 x1 x2 x3 x9 x10 (View.canon zHalo)))) (View.canon (gatePieces (srcOf x0 x1 x2 x3 x9 x10 (View.canon zHalo)))) (View.canon (rowPieces (srcOf x0 x1 x2 x3 x9 x10 (View.canon zHalo)))) (View.canon zState)) ++ zState) := by
  unfold sout0_A_4
  rw [state_A, View.read_writes_junk_eq_canon]
  simp only [View.read_writes_junk_eq_canon, Memref.IsWhole.read_unread]
  rfl
end A
end Cert.Dn
end
-- ==== Proof.Dn.Blocks.lean ====
module
public import proofs.«01_k».proof.Proof.Dn.Carry
public import proofs.«01_k».proof.Proof.Gen.DeltaIdeal.Value
@[expose] public section

/-! The blocks the DeltaNet call's operands hold at each point of its grid. -/

set_option maxRecDepth 65536
noncomputable section
namespace Cert.Dn
open Cert.DeltaIdeal Cert.DeltaIdeal.Gen Idealize.ShloMosaic Idealize.ShloMosaic.TcCoe Idealize.SL.Sem
variable (m : (ℓ : Loc nD τ sig) → Buf (Elt Ideal) ℓ) (c : Dev nD)

/-- The block each operand and the result hold at each of the 64 points. -/
theorem idx : ∀ t : Fin cfg0.N, win0_0.index t = ![t.val / 16, 0, 0] ∧ win0_1.index t = ![t.val / 16, 0, 1] ∧ win0_2.index t = ![t.val / 16, 0, 2] ∧ win0_3.index t = ![t.val / 16, 0, 0]
    ∧ win0_4.index t = ![t.val / 16, min (t.val % 16 + 1) 15, 0] ∧ win0_5.index t = ![t.val / 16, min (t.val % 16 + 1) 15, 1] ∧ win0_6.index t = ![t.val / 16, min (t.val % 16 + 1) 15, 2]
    ∧ win0_7.index t = ![t.val / 16, min (t.val % 16 + 1) 15, 0] ∧ win0_8.index t = ![t.val / 16, t.val % 16, 3] ∧ win0_9.index t = ![0, 0] ∧ win0_10.index t = ![0, 0] ∧ win0_11.index t = ![0, 0] :=
  (by decide +kernel : ∀ t : Fin grid0.N, _)

/-- The query columns of a sequence's first tile, at an element. -/
theorem blk0 (t : Fin cfg0.N) (b : Fin 4) (hb : b.val = t.val / 16) (r : Fin 256) (k : Fin 1024) (R : Fin 4096) (K : Fin 4096) (hR : R.val = r.val) (hK : K.val = k.val) :
    (iblk m c 0 t (ix3 0 r k) : EReal) = m ((c.tc : Thread nD τ).loc main_arg0) (ix3 b R K) := by
  have hV : V m c main_arg0 = m ((c.tc : Thread nD τ).loc main_arg0) := rfl
  rw [← hV]
  blk_point [iblk, idx t]
/-- The key columns of a sequence's first tile, at an element. -/
theorem blk1 (t : Fin cfg0.N) (b : Fin 4) (hb : b.val = t.val / 16) (r : Fin 256) (k : Fin 1024) (R : Fin 4096) (K : Fin 4096) (hR : R.val = r.val) (hK : K.val = 1 * 1024 + k.val) :
    (iblk m c 1 t (ix3 0 r k) : EReal) = m ((c.tc : Thread nD τ).loc main_arg0) (ix3 b R K) := by
  have hV : V m c main_arg0 = m ((c.tc : Thread nD τ).loc main_arg0) := rfl
  rw [← hV]
  blk_point [iblk, idx t]
/-- The value columns of a sequence's first tile, at an element. -/
theorem blk2 (t : Fin cfg0.N) (b : Fin 4) (hb : b.val = t.val / 16) (r : Fin 256) (k : Fin 1024) (R : Fin 4096) (K : Fin 4096) (hR : R.val = r.val) (hK : K.val = 2 * 1024 + k.val) :
    (iblk m c 2 t (ix3 0 r k) : EReal) = m ((c.tc : Thread nD τ).loc main_arg0) (ix3 b R K) := by
  have hV : V m c main_arg0 = m ((c.tc : Thread nD τ).loc main_arg0) := rfl
  rw [← hV]
  blk_point [iblk, idx t]
/-- The gate columns of a sequence's first tile, at an element. -/
theorem blk3 (t : Fin cfg0.N) (b : Fin 4) (hb : b.val = t.val / 16) (r : Fin 256) (k : Fin 128) (R : Fin 4096) (K : Fin 128) (hR : R.val = r.val) (hK : K.val = k.val) :
    (iblk m c 3 t (ix3 0 r k) : EReal) = m ((c.tc : Thread nD τ).loc main_arg1) (ix3 b R K) := by
  have hV : V m c main_arg1 = m ((c.tc : Thread nD τ).loc main_arg1) := rfl
  rw [← hV]
  blk_point [iblk, idx t]
/-- The query columns of the next tile (the last tile's are read again at the end), at an element. -/
theorem blk4 (t : Fin cfg0.N) (b : Fin 4) (hb : b.val = t.val / 16) (r : Fin 256) (k : Fin 1024) (R : Fin 4096) (K : Fin 4096) (hR : R.val = min (t.val % 16 + 1) 15 * 256 + r.val) (hK : K.val = k.val) :
    (iblk m c 4 t (ix3 0 r k) : EReal) = m ((c.tc : Thread nD τ).loc main_arg0) (ix3 b R K) := by
  have hV : V m c main_arg0 = m ((c.tc : Thread nD τ).loc main_arg0) := rfl
  rw [← hV]
  blk_point [iblk, idx t]
/-- The key columns of the next tile, at an element. -/
theorem blk5 (t : Fin cfg0.N) (b : Fin 4) (hb : b.val = t.val / 16) (r : Fin 256) (k : Fin 1024) (R : Fin 4096) (K : Fin 4096) (hR : R.val = min (t.val % 16 + 1) 15 * 256 + r.val) (hK : K.val = 1 * 1024 + k.val) :
    (iblk m c 5 t (ix3 0 r k) : EReal) = m ((c.tc : Thread nD τ).loc main_arg0) (ix3 b R K) := by
  have hV : V m c main_arg0 = m ((c.tc : Thread nD τ).loc main_arg0) := rfl
  rw [← hV]
  blk_point [iblk, idx t]
/-- The value columns of the next tile, at an element. -/
theorem blk6 (t : Fin cfg0.N) (b : Fin 4) (hb : b.val = t.val / 16) (r : Fin 256) (k : Fin 1024) (R : Fin 4096) (K : Fin 4096) (hR : R.val = min (t.val % 16 + 1) 15 * 256 + r.val) (hK : K.val = 2 * 1024 + k.val) :
    (iblk m c 6 t (ix3 0 r k) : EReal) = m ((c.tc : Thread nD τ).loc main_arg0) (ix3 b R K) := by
  have hV : V m c main_arg0 = m ((c.tc : Thread nD τ).loc main_arg0) := rfl
  rw [← hV]
  blk_point [iblk, idx t]
/-- The gate columns of the next tile, at an element. -/
theorem blk7 (t : Fin cfg0.N) (b : Fin 4) (hb : b.val = t.val / 16) (r : Fin 256) (k : Fin 128) (R : Fin 4096) (K : Fin 128) (hR : R.val = min (t.val % 16 + 1) 15 * 256 + r.val) (hK : K.val = k.val) :
    (iblk m c 7 t (ix3 0 r k) : EReal) = m ((c.tc : Thread nD τ).loc main_arg1) (ix3 b R K) := by
  have hV : V m c main_arg1 = m ((c.tc : Thread nD τ).loc main_arg1) := rfl
  rw [← hV]
  blk_point [iblk, idx t]
/-- The output gate's columns of the present tile, at an element. -/
theorem blk8 (t : Fin cfg0.N) (b : Fin 4) (hb : b.val = t.val / 16) (r : Fin 256) (k : Fin 1024) (R : Fin 4096) (K : Fin 4096) (hR : R.val = t.val % 16 * 256 + r.val) (hK : K.val = 3 * 1024 + k.val) :
    (iblk m c 8 t (ix3 0 r k) : EReal) = m ((c.tc : Thread nD τ).loc main_arg0) (ix3 b R K) := by
  have hV : V m c main_arg0 = m ((c.tc : Thread nD τ).loc main_arg0) := rfl
  rw [← hV]
  blk_point [iblk, idx t]
/-- Every point holds the whole array of convolution taps. -/
theorem blk9 (t : Fin cfg0.N) (i : Fin 4) (k : Fin 3072) : (iblk m c 9 t (ix2 i k) : EReal) = m ((c.tc : Thread nD τ).loc main_arg2) (ix2 i k) := by
  have hV : V m c main_arg2 = m ((c.tc : Thread nD τ).loc main_arg2) := rfl
  rw [← hV]
  blk_ext [iblk, idx t]
/-- Every point holds the whole array of head parameters. -/
theorem blk10 (t : Fin cfg0.N) (i : Fin 16) (k : Fin 2) : (iblk m c 10 t (ix2 i k) : EReal) = V m c main_v5 (ix2 i k) := by
  blk_ext [iblk, idx t]
/-- Every point holds the whole output norm weight. -/
theorem blk11 (t : Fin cfg0.N) (k : Fin 128) : (iblk m c 11 t (ix2 0 k) : EReal) = V m c main_v6 (ix2 0 k) := by
  blk_ext [iblk, idx t]
/-- Eight zeros in front of a head's parameter. -/
def pad8 (x : FVec Ideal S8 .f32) : FVec Ideal S16 .f32 :=
  (fun a b => concatenate S16 0 [⟨S8, a⟩, ⟨S8, b⟩] concatenates_S8_S8_S16_d0 : FVec Ideal S8 .f32 → FVec Ideal S8 .f32 → FVec Ideal S16 .f32) (broadcastInDim S8 ![] bcast_S_S8 (constant (F := Ideal) S_ .f32 0x00000000#32)) x
/-- The two parameters side by side. -/
def side (x y : FVec Ideal S8 .f32) : FVec Ideal S16x2 .f32 :=
  (fun a b => concatenate S16x2 1 [⟨S16x1, a⟩, ⟨S16x1, b⟩] concatenates_S16x1_S16x1_S16x2_d1 : FVec Ideal S16x1 .f32 → FVec Ideal S16x1 .f32 → FVec Ideal S16x2 .f32)
    (broadcastInDim S16x1 ![0] bcast_S16_S16x1_0 (pad8 x)) (broadcastInDim S16x1 ![0] bcast_S16_S16x1_0 (pad8 y))
/-- The array of head parameters is the host's stack of the two padded parameters. -/
theorem side_eq : V m c main_v5 = side (m ((c.tc : Thread nD τ).loc main_arg3)) (m ((c.tc : Thread nD τ).loc main_arg4)) := rfl
/-- The stack's first column holds the first parameter, after eight zeros. -/
theorem side_a (x y : FVec Ideal S8 .f32) (h : Fin 8) : (side x y (ix2 ⟨8 + h.val, by omega⟩ 0) : EReal) = x (ix1 h) := by
  pointwise [side, pad8]
/-- The stack's second column holds the second parameter, after eight zeros. -/
theorem side_d (x y : FVec Ideal S8 .f32) (h : Fin 8) : (side x y (ix2 ⟨8 + h.val, by omega⟩ 1) : EReal) = y (ix1 h) := by
  pointwise [side, pad8]
/-- The output norm weight as a row, at an element. -/
theorem wn_rd (k : Fin 128) : (V m c main_v6 (ix2 0 k) : EReal) = m ((c.tc : Thread nD τ).loc main_arg5) (ix1 k) := by
  have hV : V m c main_v6 = shapeCast S1x128 (m ((c.tc : Thread nD τ).loc main_arg5)) shapeCasts_S128_S1x128 := rfl
  rw [hV]
  pointwise
end Cert.Dn
end
-- ==== Proof.Dn.Grid.lean ====
module
public import proofs.«01_k».proof.Proof.Dn.Point
public import proofs.«01_k».proof.Proof.Dn.Blocks
@[expose] public section

/-! The DeltaNet call's grid: what every point leaves, and the call's result. -/

set_option maxRecDepth 65536
noncomputable section
namespace Cert.Dn
open Cert.DeltaIdeal Cert.DeltaIdeal.Gen Idealize.ShloMosaic Idealize.ShloMosaic.TcCoe Idealize.SL.Sem

/-- What tile `j` of sequence `b` leaves: its part of the output, the prepared next tile with its look-back rows, the states. -/
structure After (I : Inp) (b : Fin 4) (j : Fin 16) (wn : Fin 128 → EReal) (z : Fin 4096 → Fin 4096 → EReal) (y0 : Vec Ideal S1x256x1024 .bf16) (y1 : Vec Ideal S8x3072 .f32)
    (y2 : Vec Ideal S256x3072 .f32) (y3 : Vec Ideal S256x128 .f32) (y4 : Vec Ideal S2x16x128 .f32) (y5 : Vec Ideal S8x128x128 .f32) : Prop where
  out : ∀ (n : Fin 4) (h : Fin 8) (r : Fin 64) (d : Fin 128), (y0 (ix3 0 (⟨64 * n.val + r.val, by omega⟩ : Fin 256) (⟨128 * h.val + d.val, by omega⟩ : Fin 1024)) : EReal) =
    fin (fun e => ((I.O b h ⟨4 * j.val + n.val, by omega⟩ r e : ℝ) : EReal)) (wn d) (z ⟨256 * j.val + (64 * n.val + r.val), by omega⟩ ⟨3072 + (128 * h.val + d.val), by omega⟩) d
  halo : j.val + 1 < 16 → Halo I b (j.val + 1 + 1) y1
  car : ∀ h : j.val + 1 < 16, Car I b ⟨j.val + 1, h⟩ y2 y3 y4
  sta : Sta I b (4 * (j.val + 1)) y5

/-- What the operands hold at tile `j` of sequence `b`. -/
structure Ops (I : Inp) (b : Fin 4) (j : Fin 16) (wn : Fin 128 → EReal) (z : Fin 4096 → Fin 4096 → EReal) (x0 x1 x2 : Vec Ideal S1x256x1024 .f32) (x3 : Vec Ideal S1x256x128 .f32)
    (x4 x5 x6 : Vec Ideal S1x256x1024 .f32) (x7 : Vec Ideal S1x256x128 .f32) (x8 : Vec Ideal S1x256x1024 .f32) (x9 : Vec Ideal S4x3072 .f32) (x10 : Vec Ideal S16x2 .f32) (x11 : Vec Ideal S1x128 .f32) : Prop where
  first : Blk I b 0 x0 x1 x2 x3
  next : ∀ h : j.val + 1 < 16, Blk I b ⟨j.val + 1, h⟩ x4 x5 x6 x7
  par : Par I x9 x10
  wn : ∀ d, (x11 (ix2 0 d) : EReal) = wn d
  z : ∀ (r : Fin 256) (k : Fin 1024), (x8 (ix3 0 r k) : EReal) = z ⟨256 * j.val + r.val, by omega⟩ ⟨3072 + k.val, by omega⟩

/-- What a tile stores in the result, at an element. -/
theorem out_z {I : Inp} {b : Fin 4} {j : Fin 16} {wn : Fin 128 → EReal} {z : Fin 4096 → Fin 4096 → EReal} {x0 x1 x2 : Vec Ideal S1x256x1024 .f32} {x3 : Vec Ideal S1x256x128 .f32}
    {x4 x5 x6 : Vec Ideal S1x256x1024 .f32} {x7 : Vec Ideal S1x256x128 .f32} {x8 : Vec Ideal S1x256x1024 .f32} {x9 : Vec Ideal S4x3072 .f32} {x10 : Vec Ideal S16x2 .f32} {x11 : Vec Ideal S1x128 .f32}
    (O : Ops I b j wn z x0 x1 x2 x3 x4 x5 x6 x7 x8 x9 x10 x11) {X1 : Vec Ideal S256x3072 .f32} {X2 : Vec Ideal S256x128 .f32} {X3 : Vec Ideal S2x16x128 .f32} {X4 : Vec Ideal S8x128x128 .f32}
    (L : (ldOf X1 X2 X3 X4).Good I b j) (n : Fin 4) (h : Fin 8) (r : Fin 64) (d : Fin 128) :
    (View.canon (outPieces (ldOf X1 X2 X3 X4) (wnOf x11) (zOf x8)) (ix3 0 (⟨64 * n.val + r.val, by omega⟩ : Fin 256) (⟨128 * h.val + d.val, by omega⟩ : Fin 1024)) : EReal) =
    fin (fun e => ((I.O b h ⟨4 * j.val + n.val, by omega⟩ r e : ℝ) : EReal)) (wn d) (z ⟨256 * j.val + (64 * n.val + r.val), by omega⟩ ⟨3072 + (128 * h.val + d.val), by omega⟩) d :=
  (out_of L x11 x8 n h r d).trans (congrArg₂ (fun s t => fin _ s t d) (O.wn d) (O.z _ _))

/-- A tile that is not a sequence's first. -/
theorem after_B {I : Inp} {b : Fin 4} {j : Fin 16} {wn : Fin 128 → EReal} {z : Fin 4096 → Fin 4096 → EReal} {x0 x1 x2 : Vec Ideal S1x256x1024 .f32} {x3 : Vec Ideal S1x256x128 .f32}
    {x4 x5 x6 : Vec Ideal S1x256x1024 .f32} {x7 : Vec Ideal S1x256x128 .f32} {x8 : Vec Ideal S1x256x1024 .f32} {x9 : Vec Ideal S4x3072 .f32} {x10 : Vec Ideal S16x2 .f32} {x11 : Vec Ideal S1x128 .f32}
    (O : Ops I b j wn z x0 x1 x2 x3 x4 x5 x6 x7 x8 x9 x10 x11) {s0 : Vec Ideal S8x3072 .f32} {s1 : Vec Ideal S256x3072 .f32} {s2 : Vec Ideal S256x128 .f32} {s3 : Vec Ideal S2x16x128 .f32} {s4 : Vec Ideal S8x128x128 .f32}
    (HH : Halo I b (j.val + 1) s0) (HC : Car I b j s1 s2 s3) (HS : Sta I b (4 * j.val) s4) :
    After I b j wn z (View.canon (outPieces (ldOf s1 s2 s3 s4) (wnOf x11) (zOf x8))) (View.canon (haloPieces (srcOf x4 x5 x6 x7 x9 x10 s0))) (View.canon (convPieces (srcOf x4 x5 x6 x7 x9 x10 s0)))
      (View.canon (gatePieces (srcOf x4 x5 x6 x7 x9 x10 s0))) (View.canon (rowPieces (srcOf x4 x5 x6 x7 x9 x10 s0))) (View.canon (statePieces (ldOf s1 s2 s3 s4))) where
  out := out_z O (ldOf_good HC HS)
  halo h := by
    rw [← List.append_nil (haloPieces _)]
    exact halo_of (O.next h) []
  car h := by
    rw [← List.append_nil (convPieces _), ← List.append_nil (gatePieces _), ← List.append_nil (rowPieces _)]
    exact car_of (srcOf_good (O.next h) O.par HH) [] [] []
  sta := by
    rw [← List.append_nil (statePieces _)]
    exact sta_of (ldOf_good HC HS) []

/-- The zeros the first tile puts into the halo are the rows before the sequence. -/
theorem zHalo_ok (I : Inp) (b : Fin 4) : Halo I b 0 (View.canon (zHalo (F := Ideal))) := fun r k hr => by
  unfold zHalo
  rw [View.canon_cons_unit_lit _ _ _ (by decide)]
  have h1 : (k0_pay2 (F := Ideal) (ix2 r k) : EReal) = 0 := by pointwise [k0_pay2]
  refine Eq.trans h1 ?_
  rw [Inp.pad, dif_neg (by omega)]; rfl
/-- The zeros the first tile puts into the states are the states before the first chunk. -/
theorem zState_ok (I : Inp) (b : Fin 4) : Sta I b 0 (View.canon (zState (F := Ideal))) := fun h i k => by
  unfold zState
  rw [View.canon_cons_unit_lit _ _ _ (by decide)]
  have h1 : (k0_pay3 (F := Ideal) (ix3 h i k) : EReal) = 0 := by pointwise [k0_pay3]
  exact Eq.trans h1 rfl

/-- A sequence's first tile. -/
theorem after_A {I : Inp} {b : Fin 4} {j : Fin 16} (hj : j = 0) {wn : Fin 128 → EReal} {z : Fin 4096 → Fin 4096 → EReal} {x0 x1 x2 : Vec Ideal S1x256x1024 .f32} {x3 : Vec Ideal S1x256x128 .f32}
    {x4 x5 x6 : Vec Ideal S1x256x1024 .f32} {x7 : Vec Ideal S1x256x128 .f32} {x8 : Vec Ideal S1x256x1024 .f32} {x9 : Vec Ideal S4x3072 .f32} {x10 : Vec Ideal S16x2 .f32} {x11 : Vec Ideal S1x128 .f32}
    (O : Ops I b j wn z x0 x1 x2 x3 x4 x5 x6 x7 x8 x9 x10 x11) {S0 S1 : Src Ideal} {L : Ld Ideal}
    (h0 : S0 = srcOf x0 x1 x2 x3 x9 x10 (View.canon zHalo)) (h1 : S1 = srcOf x4 x5 x6 x7 x9 x10 (View.canon (haloPieces S0 ++ zHalo)))
    (hL : L = ldOf (View.canon (convPieces S0)) (View.canon (gatePieces S0)) (View.canon (rowPieces S0)) (View.canon zState)) :
    After I b j wn z (View.canon (outPieces L (wnOf x11) (zOf x8))) (View.canon (haloPieces S1 ++ (haloPieces S0 ++ zHalo))) (View.canon (convPieces S1 ++ convPieces S0))
      (View.canon (gatePieces S1 ++ gatePieces S0)) (View.canon (rowPieces S1 ++ rowPieces S0)) (View.canon (statePieces L ++ zState)) := by
  subst hj
  have hg : S0.Good I b 0 := h0 ▸ srcOf_good O.first O.par (zHalo_ok I b)
  have hh : Halo I b 1 (View.canon (haloPieces S0 ++ zHalo)) := h0 ▸ halo_of O.first zHalo
  have hc : Car I b 0 (View.canon (convPieces S0)) (View.canon (gatePieces S0)) (View.canon (rowPieces S0)) := by
    rw [← List.append_nil (convPieces _), ← List.append_nil (gatePieces _), ← List.append_nil (rowPieces _)]
    exact car_of hg [] [] []
  have hl : L.Good I b 0 := hL ▸ ldOf_good hc (zState_ok I b)
  refine ⟨?_, fun h => ?_, fun h => ?_, sta_of hl zState⟩
  · subst hL; exact out_z O hl
  · subst h1; exact halo_of (O.next h) _
  · subst h1; exact car_of (srcOf_good (O.next h) O.par hh) _ _ _

variable (m : (ℓ : Loc nD τ sig) → Buf (Elt Ideal) ℓ) (c : Dev nD)

/-- The operands at a point of the grid. -/
theorem ops_at {I : Inp} (H : InpHolds I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (t : Fin cfg0.N) (b : Fin 4) (j : Fin 16) (ht : t.val = 16 * b.val + j.val) :
    Ops I b j (fun d => m ((c.tc : Thread nD τ).loc main_arg5) (ix1 d)) (fun r k => m ((c.tc : Thread nD τ).loc main_arg0) (ix3 b r k)) (iblk m c 0 t) (iblk m c 1 t) (iblk m c 2 t) (iblk m c 3 t)
      (iblk m c 4 t) (iblk m c 5 t) (iblk m c 6 t) (iblk m c 7 t) (iblk m c 8 t) (iblk m c 9 t) (iblk m c 10 t) (iblk m c 11 t) where
  first := by
    refine ⟨fun a r k => ?_, fun r i => (blk3 m c t b (by omega) r i _ _ (by simp) rfl).trans (H.ba _ _ _)⟩
    fin_cases a
    · exact (blk0 m c t b (by omega) r k _ _ (by simp) (by simp)).trans (H.p _ _ _)
    · exact (blk1 m c t b (by omega) r k _ _ (by simp) (by simp)).trans (H.p _ _ _)
    · exact (blk2 m c t b (by omega) r k _ _ (by simp) (by simp)).trans (H.p _ _ _)
  next h := by
    refine ⟨fun a r k => ?_, fun r i => (blk7 m c t b (by omega) r i _ _ (by simp only []; omega) rfl).trans (H.ba _ _ _)⟩
    fin_cases a
    · exact (blk4 m c t b (by omega) r k _ _ (by simp only []; omega) (by simp)).trans (H.p _ _ _)
    · exact (blk5 m c t b (by omega) r k _ _ (by simp only []; omega) (by simp)).trans (H.p _ _ _)
    · exact (blk6 m c t b (by omega) r k _ _ (by simp only []; omega) (by simp)).trans (H.p _ _ _)
  par := ⟨fun i k => (blk9 m c t i k).trans (H.w i k), fun h => (blk10 m c t _ _).trans ((congrFun (side_eq m c) _).trans ((side_a _ _ h).trans (H.al h))),
    fun h => (blk10 m c t _ _).trans ((congrFun (side_eq m c) _).trans ((side_d _ _ h).trans (H.dt h)))⟩
  wn d := (blk11 m c t d).trans (wn_rd m c d)
  z r k := blk8 m c t b (by omega) r k _ _ (by simp only []; omega) (by simp)

/-- What point `n` of the grid leaves, being tile `j` of sequence `b`. -/
def AfterAt (I : Inp) (b : Fin 4) (j : Fin 16) (n : ℕ) (hn : n < cfg0.N) : Prop :=
  After I b j (fun d => m ((c.tc : Thread nD τ).loc main_arg5) (ix1 d)) (fun r k => m ((c.tc : Thread nD τ).loc main_arg0) (ix3 b r k)) (outsAt0 m c n hn).1 (outsAt0 m c n hn).2.1
      (outsAt0 m c n hn).2.2.1 (outsAt0 m c n hn).2.2.2.1 (outsAt0 m c n hn).2.2.2.2.1 (outsAt0 m c n hn).2.2.2.2.2
/-- A sequence's first tile leaves what a tile leaves. -/
theorem point_A {I : Inp} (H : InpHolds I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (t : Fin cfg0.N) (b : Fin 4) (j : Fin 16) (ht : t.val = 16 * b.val + j.val) (hj : j = 0) : AfterAt m c I b j t.val t.isLt := by
  have hj' : j.val = 0 := by rw [hj]; rfl
  unfold AfterAt
  rw [outsAt0_A m c t (by omega)]
  dsimp only
  rw [out0_A_12_eq, sout0_A_0_eq, sout0_A_1_eq, sout0_A_2_eq, sout0_A_3_eq, sout0_A_4_eq]
  exact after_A hj (ops_at m c H t b j ht) rfl rfl rfl
/-- A later tile leaves what a tile leaves, when the tile before it does. -/
theorem point_B {I : Inp} (H : InpHolds I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (t : Fin cfg0.N) (b : Fin 4) (j : Fin 16) (ht : t.val = 16 * b.val + j.val) (hj : j.val ≠ 0)
    (hp : AfterAt m c I b ⟨j.val - 1, by omega⟩ (t.val - 1) (Nat.lt_of_le_of_lt (Nat.sub_le _ _) t.isLt)) : AfterAt m c I b j t.val t.isLt := by
  have e1 : j.val - 1 + 1 = j.val := by omega
  have hh : Halo I b (j.val - 1 + 1 + 1) _ := hp.halo (by show j.val - 1 + 1 < 16; omega)
  have hc : Car I b (⟨j.val - 1 + 1, by omega⟩ : Fin 16) _ _ _ := hp.car (by show j.val - 1 + 1 < 16; omega)
  have hs : Sta I b (4 * (j.val - 1 + 1)) _ := hp.sta
  have ej : (⟨j.val - 1 + 1, by omega⟩ : Fin 16) = j := Fin.ext e1
  rw [e1] at hh hs
  rw [ej] at hc
  unfold AfterAt
  rw [outsAt0_B m c t (by omega)]
  dsimp only
  rw [out0_B_12_eq, sout0_B_0_eq, sout0_B_1_eq, sout0_B_2_eq, sout0_B_3_eq, sout0_B_4_eq]
  exact after_B (ops_at m c H t b j ht) hh hc hs
/-- Every point of the grid. -/
theorem after_at {I : Inp} (H : InpHolds I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (n : ℕ) : ∀ (hn : n < cfg0.N) (b : Fin 4) (j : Fin 16), n = 16 * b.val + j.val → AfterAt m c I b j n hn := by
  induction n with
  | zero => intro hn b j h; exact point_A m c H ⟨0, hn⟩ b j h (Fin.ext (by show j.val = 0; omega))
  | succ n ih =>
    intro hn b j h
    by_cases hj : j = 0
    · exact point_A m c H ⟨n + 1, hn⟩ b j h hj
    have hj' : j.val ≠ 0 := fun e => hj (Fin.ext e)
    exact point_B m c H ⟨n + 1, hn⟩ b j h hj' (ih (Nat.lt_of_succ_lt hn) b ⟨j.val - 1, by omega⟩ (by show n = 16 * b.val + (j.val - 1); omega))

/-- The call's result, entry by entry: of sequence `b`, chunk `n`, row `r`, head `h`, column `d`. -/
theorem array {I : Inp} (H : InpHolds I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (b : Fin 4) (n r : Fin 64) (h : Fin 8) (d : Fin 128) :
    (Value.G12 m c (ix3 b (rowOf n r) (⟨128 * h.val + d.val, by omega⟩ : Fin 1024)) : EReal) =
      fin (fun e => ((I.O b h n r e : ℝ) : EReal)) (m ((c.tc : Thread nD τ).loc main_arg5) (ix1 d)) (m ((c.tc : Thread nD τ).loc main_arg0) (ix3 b (rowOf n r) ⟨3072 + (128 * h.val + d.val), by omega⟩)) d := by
  have hN : cfg0.N = 64 := N_0
  have hpt : Value.pt12Of (ix3 b (rowOf n r) (⟨128 * h.val + d.val, by omega⟩ : Fin 1024)) = 16 * b.val + n.val / 4 := by
    show 16 * (b.val / 1 - 0) + 1 * ((64 * n.val + r.val) / 256 - 0) + 1 * ((128 * h.val + d.val) / 1024 - 0) = _
    omega
  have hloc : Value.loc12Of (ix3 b (rowOf n r) (⟨128 * h.val + d.val, by omega⟩ : Fin 1024)) = ix3 0 (⟨64 * (n.val % 4) + r.val, by omega⟩ : Fin 256) (⟨128 * h.val + d.val, by omega⟩ : Fin 1024) := by
    funext a; fin_cases a
    · exact Fin.ext (show b.val % 1 = 0 by omega)
    · exact Fin.ext (show (64 * n.val + r.val) % 256 = 64 * (n.val % 4) + r.val by omega)
    · exact Fin.ext (show (128 * h.val + d.val) % 1024 = 128 * h.val + d.val by omega)
  have hlt : Value.pt12Of (ix3 b (rowOf n r) (⟨128 * h.val + d.val, by omega⟩ : Fin 1024)) < cfg0.N := by rw [hpt, hN]; omega
  unfold Value.G12
  rw [dif_pos hlt, ← Value.outsAt0_sweep, hloc]
  refine ((after_at m c H _ hlt b ⟨n.val / 4, by omega⟩ hpt).out ⟨n.val % 4, by omega⟩ h r d).trans ?_
  have e1 : (⟨4 * (n.val / 4) + n.val % 4, by omega⟩ : Fin 64) = n := Fin.ext (by simp only []; omega)
  have e2 : (⟨256 * (n.val / 4) + (64 * (n.val % 4) + r.val), by omega⟩ : Fin 4096) = rowOf n r := Fin.ext (by simp only [rowOf]; omega)
  simp only [e1, e2]
end Cert.Dn
end
-- ==== Proof.Dn.Real.lean ====
module
public import proofs.«01_k».proof.Pre_all_real
public import proofs.«01_k».proof.Proof.Dn.Data
@[expose] public section

/-! The precondition: arrays it holds of hold real numbers. -/

set_option maxRecDepth 65536
noncomputable section
namespace Cert.Dn.Real
open Idealize.ShloMosaic Cert.Pre_all_real

/-- The predicate's side conditions. -/
theorem facts : Cert.Pre_all_real.Facts := ⟨by decide, by decide, by decide, by decide, by decide⟩

section
variable [Cert.Pre_all_real.Facts]
open Cert.Pre_all_real.Facts
variable (a0 : FVec Ideal S4x4096x4096 .f32) (a1 : FVec Ideal S4x4096x128 .f32) (a2 : FVec Ideal S4x3072 .f32) (a3 a4 : FVec Ideal S8 .f32) (a5 : FVec Ideal S128 .f32)

/-- The five arrays side by side. -/
def cat : FVec Ideal S4x4096x7312 .f32 :=
  concatenate S4x4096x7312 2 [⟨S4x4096x4096, a0⟩, ⟨S4x4096x128, a1⟩, ⟨S4x4096x3072, broadcastInDim S4x4096x3072 ![0, 1, 2] bcast_S4x1x3072_S4x4096x3072_0_1_2 (broadcastInDim S4x1x3072 ![0, 2] bcast_S4x3072_S4x1x3072_0_2 a2)⟩, ⟨S4x4096x8, broadcastInDim S4x4096x8 ![2] bcast_S8_S4x4096x8_2 a3⟩, ⟨S4x4096x8, broadcastInDim S4x4096x8 ![2] bcast_S8_S4x4096x8_2 a4⟩] concatenates_S4x4096x4096_S4x4096x128_S4x4096x3072_S4x4096x8_S4x4096x8_S4x4096x7312_d2

/-- The joined array's first columns are the projections. -/
theorem cat0 (b : Fin 4) (r c : Fin 4096) : (cat a0 a1 a2 a3 a4 (ix3 b r (⟨c.val, by omega⟩ : Fin 7312)) : EReal) = a0 (ix3 b r c) := by
  pointwise [cat]
/-- The next columns are the gate columns. -/
theorem cat1 (b : Fin 4) (r : Fin 4096) (c : Fin 128) : (cat a0 a1 a2 a3 a4 (ix3 b r (⟨4096 + c.val, by omega⟩ : Fin 7312)) : EReal) = a1 (ix3 b r c) := by
  pointwise [cat]
/-- The next columns are the convolution's taps, repeated over the rows. -/
theorem cat2 (t : Fin 4) (c : Fin 3072) : (cat a0 a1 a2 a3 a4 (ix3 t (0 : Fin 4096) (⟨4224 + c.val, by omega⟩ : Fin 7312)) : EReal) = a2 (ix2 t c) := by
  have e : 4224 + c.val - 4096 - 128 = c.val := by omega
  pointwise [cat]
  rw [dif_neg (by omega), dif_neg (by omega), dif_pos (by omega)]
  simp only [e]
/-- The next columns are the first head parameter, repeated. -/
theorem cat3 (h : Fin 8) : (cat a0 a1 a2 a3 a4 (ix3 (0 : Fin 4) (0 : Fin 4096) (⟨7296 + h.val, by omega⟩ : Fin 7312)) : EReal) = a3 (ix1 h) := by
  have e : 7296 + h.val - 4096 - 128 - 3072 = h.val := by omega
  pointwise [cat]
  rw [dif_neg (by omega), dif_neg (by omega), dif_neg (by omega), dif_pos (by omega)]
  simp only [e]
/-- The last columns are the second head parameter, repeated. -/
theorem cat4 (h : Fin 8) : (cat a0 a1 a2 a3 a4 (ix3 (0 : Fin 4) (0 : Fin 4096) (⟨7304 + h.val, by omega⟩ : Fin 7312)) : EReal) = a4 (ix1 h) := by
  have e : 7304 + h.val - 4096 - 128 - 3072 - 8 = h.val := by omega
  pointwise [cat]
  rw [dif_neg (by omega), dif_neg (by omega), dif_neg (by omega), dif_neg (by omega)]
  simp only [e]

/-- A number whose difference with itself is zero is real. -/
theorem coe_toReal (x : EReal) (h : x - x = 0) : x = ((x.toReal : ℝ) : EReal) := by
  induction x with
  | bot => simp at h
  | top => simp at h
  | coe r => rfl

/-- Where the precondition holds, the joined array holds real numbers. -/
theorem real_cat (h : fn (F := Ideal) a0 a1 a2 a3 a4 a5 = fun _ => 1#1) (i : S4x4096x7312.Idx) :
    (cat a0 a1 a2 a3 a4 i : EReal) = (((cat a0 a1 a2 a3 a4 i : EReal).toReal : ℝ) : EReal) := by
  apply coe_toReal
  have h1 : FloatOps.cmpf (F := Ideal) (φ := .f32) .oeq ((cat a0 a1 a2 a3 a4 i : EReal) - cat a0 a1 a2 a3 a4 i) (Ideal.ofBits .f32 0x00000000#32) = 1#1 := congrFun h i
  have h0 : Ideal.ofBits .f32 0x00000000#32 = 0 := by simp [Ideal.ofBits, Ideal.ieee]
  rw [h0] at h1
  by_contra hn
  revert h1
  simp [FloatOps.cmpf, Ideal.cmp, hn]

/-- The real inputs the arrays hold. -/
theorem holds (h : fn (F := Ideal) a0 a1 a2 a3 a4 a5 = fun _ => 1#1) : ∃ I, InpHolds I a0 a1 a2 a3 a4 := by
  have k := real_cat a0 a1 a2 a3 a4 a5 h
  refine ⟨⟨fun b r c => (a0 (ix3 b r c) : EReal).toReal, fun b r c => (a1 (ix3 b r c) : EReal).toReal, fun t c => (a2 (ix2 t c) : EReal).toReal,
    fun h => (a3 (ix1 h) : EReal).toReal, fun h => (a4 (ix1 h) : EReal).toReal⟩, ⟨fun b r c => ?_, fun b r c => ?_, fun t c => ?_, fun h => ?_, fun h => ?_⟩⟩
  · have := k (ix3 b r (⟨c.val, by omega⟩ : Fin 7312)); rwa [cat0] at this
  · have := k (ix3 b r (⟨4096 + c.val, by omega⟩ : Fin 7312)); rwa [cat1] at this
  · have := k (ix3 t (0 : Fin 4096) (⟨4224 + c.val, by omega⟩ : Fin 7312)); rwa [cat2] at this
  · have := k (ix3 (0 : Fin 4) (0 : Fin 4096) (⟨7296 + h.val, by omega⟩ : Fin 7312)); rwa [cat3] at this
  · have := k (ix3 (0 : Fin 4) (0 : Fin 4096) (⟨7304 + h.val, by omega⟩ : Fin 7312)); rwa [cat4] at this
end
end Cert.Dn.Real
end
-- ==== Proof.Dn.Loop.lean ====
module
public import proofs.«01_k».proof.Proof.Gen.RefDeltaIdeal.Step
public import proofs.«01_k».proof.Proof.Gen.RefDeltaIdeal.Run
public import Idealize.ShloMosaic.Lib.Tactic
@[expose] public section

/-! The reference's run: its result as the trips iterated from the values before the loop. -/

set_option maxRecDepth 65536
noncomputable section
namespace Cert.Dn.Ref
open Cert.RefDeltaIdeal Cert.RefDeltaIdeal.Gen Cert.RefDeltaIdeal.Step Cert.RefDeltaIdeal.Value Idealize.ShloMosaic Idealize.ShloMosaic.TcCoe Idealize.SL.Sem
variable {F : FTy → Type} [FloatOps F]

/-- The loop's state as the contents of the buffers it is carried in. -/
def stOf (V : Valuation τ sig (Elt F)) : State F where
  main_v510_7 := V (Proc.devRef .tc main_v510_7)
  main_v510_8 := V (Proc.devRef .tc main_v510_8)
  main_v510_0 := V (Proc.devRef .tc main_v510_0)
  main_v510_1 := V (Proc.devRef .tc main_v510_1)
  main_v510_2 := V (Proc.devRef .tc main_v510_2)
  main_v510_3 := V (Proc.devRef .tc main_v510_3)
  main_v510_4 := V (Proc.devRef .tc main_v510_4)
  main_v510_5 := V (Proc.devRef .tc main_v510_5)

/-- A trip's new state of the recurrence is a function of the trip's state. -/
theorem st7 (V : Valuation τ sig (Elt F)) (j : ℕ) (h : V (Proc.devRef .tc main_v510_6) = constantI S_ 32 (BitVec.ofNat 32 j)) :
    step_main_v510_7 V = b58 j (stOf V) := by
  simp only [Value.step_main_v510_7, res_main_while0b_v537, res_main_while0b_v539, res_main_while0b_v548, h]
  sl_kernel_rfl

/-- A trip's new outputs are a function of the trip's state. -/
theorem st8 (V : Valuation τ sig (Elt F)) (j : ℕ) (h : V (Proc.devRef .tc main_v510_6) = constantI S_ 32 (BitVec.ofNat 32 j)) :
    step_main_v510_8 V = b64 j (stOf V) := by
  simp only [Value.step_main_v510_8, res_main_while0b_v537, res_main_while0b_v539, res_main_while0b_v548, h]
  sl_kernel_rfl

/-- A trip's counter is one more than before. -/
theorem st6 (V : Valuation τ sig (Elt F)) (j : ℕ) (h : V (Proc.devRef .tc main_v510_6) = constantI S_ 32 (BitVec.ofNat 32 j)) :
    step_main_v510_6 V = constantI S_ 32 (BitVec.ofNat 32 (j + 1)) := by
  unfold step_main_v510_6
  rw [h]
  funext i
  show BitVec.ofNat 32 j + 1#32 = BitVec.ofNat 32 (j + 1)
  rw [BitVec.ofNat_add]

/-- One trip takes the state to the next, and the counter to its successor. -/
theorem stOf_step (V : Valuation τ sig (Elt F)) (j : ℕ) (h : V (Proc.devRef .tc main_v510_6) = constantI S_ 32 (BitVec.ofNat 32 j)) :
    stOf (STEP V) = step j (stOf V) ∧ STEP V (Proc.devRef .tc main_v510_6) = constantI S_ 32 (BitVec.ofNat 32 (j + 1)) := by
  refine ⟨?_, (STEP_main_v510_6 V).trans (st6 V j h)⟩
  unfold stOf
  rw [STEP_main_v510_0, STEP_main_v510_1, STEP_main_v510_2, STEP_main_v510_3, STEP_main_v510_4, STEP_main_v510_5, STEP_main_v510_7, STEP_main_v510_8, st7 V j h, st8 V j h]
  rfl

variable (m : (ℓ : Loc nD τ sig) → Buf (Elt F) ℓ) (c : Dev nD)

end Cert.Dn.Ref
end
-- ==== Proof.Dn.Entry.lean ====
module
public import proofs.«01_k».proof.Proof.Dn.Loop
@[expose] public section

/-! The state the reference's loop starts from: the values before the substitution, the substitution's 64 steps, the
values after it, each read off the operations between. -/

set_option maxRecDepth 65536
noncomputable section
namespace Cert.Dn.Ref
open Idealize.ShloMosaic.StableHlo Cert.RefDeltaIdeal Cert.RefDeltaIdeal.Gen Cert.RefDeltaIdeal.Step Cert.RefDeltaIdeal.Value Idealize.ShloMosaic Idealize.ShloMosaic.TcCoe Idealize.SL.Sem
variable {F : FTy → Type} [FloatOps F]

/-- The values the substitution and what follows it use. -/
structure Pre (F : FTy → Type) [FloatOps F] where
  i : (⟨S64, .i32⟩ : BufTy).Contents (Elt F)
  L : (⟨S4x8x64x64x64, .f32⟩ : BufTy).Contents (Elt F)
  R : (⟨S4x8x64x64x256, .f32⟩ : BufTy).Contents (Elt F)
  q : (⟨S4x8x64x64x128, .f32⟩ : BufTy).Contents (Elt F)
  k : (⟨S4x8x64x64x128, .f32⟩ : BufTy).Contents (Elt F)
  g : (⟨S4x8x64x64, .f32⟩ : BufTy).Contents (Elt F)
  d : (⟨S4x8x64x64x64, .f32⟩ : BufTy).Contents (Elt F)

/-- Their buffers. -/
def hold (V : Valuation τ sig (Elt F)) : Pre F where
  i := V (Proc.devRef .tc main_v81)
  L := V (Proc.devRef .tc main_v104)
  R := V (Proc.devRef .tc main_v112)
  q := V (Proc.devRef .tc main_v48)
  k := V (Proc.devRef .tc main_v58)
  g := V (Proc.devRef .tc main_v80)
  d := V (Proc.devRef .tc main_v98)

/-- One step of the substitution: row `c` of the unknowns. -/
def sub1 (p : Pre F) (c : ℕ) (x : (⟨S4x8x64x64x256, .f32⟩ : BufTy).Contents (Elt F)) : (⟨S4x8x64x64x256, .f32⟩ : BufTy).Contents (Elt F) :=
  select (broadcastInDim S4x8x64x64x256 ![3, 4] bcast_S64x1_S4x8x64x64x256_3_4 (broadcastInDim S64x1 ![0] bcast_S64_S64x1_0
    (cmpi .eq p.i (broadcastInDim S64 ![] bcast_S_S64 (constantI S_ 32 (BitVec.ofNat 32 c))))))
    (subf p.R (Host.dotGeneral dot_S4x8x64x64x64_S4x8x64x64x256_S4x8x64x64x256_4_3_3_4_012_012 none p.L x)) x
/-- `n` steps from row `c` on. -/
def subs (p : Pre F) (c : ℕ) : ℕ → (⟨S4x8x64x64x256, .f32⟩ : BufTy).Contents (Elt F) → (⟨S4x8x64x64x256, .f32⟩ : BufTy).Contents (Elt F)
  | 0, x => x
  | n + 1, x => sub1 p (c + n) (subs p c n x)

/-- The state at the loop's start, of the values before and the solution. -/
def start (p : Pre F) (x : (⟨S4x8x64x64x256, .f32⟩ : BufTy).Contents (Elt F)) : State F where
  main_v510_7 := broadcastInDim S4x8x128x128 ![] bcast_S_S4x8x128x128 (constant S_ .f32 0x00000000#32)
  main_v510_8 := broadcastInDim S64x4x8x64x128 ![] bcast_S_S64x4x8x64x128 (constant S_ .f32 0x00000000#32)
  main_v510_0 := transpose S64x4x8x64x128 [2, 0, 1, 3, 4] p.q transposes_S4x8x64x64x128_S64x4x8x64x128_2_0_1_3_4
  main_v510_1 := transpose S64x4x8x64x128 [2, 0, 1, 3, 4] p.k transposes_S4x8x64x64x128_S64x4x8x64x128_2_0_1_3_4
  main_v510_2 := transpose S64x4x8x64x128 [2, 0, 1, 3, 4] (extractStridedSlice S4x8x64x64x128 ![0, 0, 0, 0, 0] x slices_S4x8x64x64x256_S4x8x64x64x128_0_0_0_0_0) transposes_S4x8x64x64x128_S64x4x8x64x128_2_0_1_3_4
  main_v510_3 := transpose S64x4x8x64x128 [2, 0, 1, 3, 4] (extractStridedSlice S4x8x64x64x128 ![0, 0, 0, 0, 128] x slices_S4x8x64x64x256_S4x8x64x64x128_0_0_0_0_128) transposes_S4x8x64x64x128_S64x4x8x64x128_2_0_1_3_4
  main_v510_4 := transpose S64x4x8x64x64 [2, 0, 1, 3, 4] (mulf (Host.dotGeneral dot_S4x8x64x64x128_S4x8x64x64x128_S4x8x64x64x64_4_4_3_3_012_012 none p.q p.k) p.d) transposes_S4x8x64x64x64_S64x4x8x64x64_2_0_1_3_4
  main_v510_5 := transpose S64x4x8x64 [2, 0, 1, 3] p.g transposes_S4x8x64x64_S64x4x8x64_2_0_1_3

/-- Nine steps' operations, counted from the second step. -/
abbrev seg (j : ℕ) : List (List (HloOp τ sig (Elt F))) := (preI.drop (14 + 18 * j)).take 18

/-- The first stretch of nine steps is nine steps of the substitution. -/
theorem seg_1 (V : Valuation τ sig (Elt F)) : afterL (seg 0) V (Proc.devRef .tc main_v173) = subs (hold V) 1 9 (V (Proc.devRef .tc main_v119)) := by
  sl_kernel_rfl
/-- The first stretch leaves the values before the substitution. -/
theorem hold_1 (V : Valuation τ sig (Elt F)) : hold (afterL (seg 0) V) = hold V := by
  sl_kernel_rfl
/-- The second stretch of nine steps is nine steps of the substitution. -/
theorem seg_2 (V : Valuation τ sig (Elt F)) : afterL (seg 1) V (Proc.devRef .tc main_v227) = subs (hold V) 10 9 (V (Proc.devRef .tc main_v173)) := by
  sl_kernel_rfl
/-- The second stretch leaves the values before the substitution. -/
theorem hold_2 (V : Valuation τ sig (Elt F)) : hold (afterL (seg 1) V) = hold V := by
  sl_kernel_rfl
/-- The third stretch of nine steps is nine steps of the substitution. -/
theorem seg_3 (V : Valuation τ sig (Elt F)) : afterL (seg 2) V (Proc.devRef .tc main_v281) = subs (hold V) 19 9 (V (Proc.devRef .tc main_v227)) := by
  sl_kernel_rfl
/-- The third stretch leaves the values before the substitution. -/
theorem hold_3 (V : Valuation τ sig (Elt F)) : hold (afterL (seg 2) V) = hold V := by
  sl_kernel_rfl
/-- The fourth stretch of nine steps is nine steps of the substitution. -/
theorem seg_4 (V : Valuation τ sig (Elt F)) : afterL (seg 3) V (Proc.devRef .tc main_v335) = subs (hold V) 28 9 (V (Proc.devRef .tc main_v281)) := by
  sl_kernel_rfl
/-- The fourth stretch leaves the values before the substitution. -/
theorem hold_4 (V : Valuation τ sig (Elt F)) : hold (afterL (seg 3) V) = hold V := by
  sl_kernel_rfl
/-- The fifth stretch of nine steps is nine steps of the substitution. -/
theorem seg_5 (V : Valuation τ sig (Elt F)) : afterL (seg 4) V (Proc.devRef .tc main_v389) = subs (hold V) 37 9 (V (Proc.devRef .tc main_v335)) := by
  sl_kernel_rfl
/-- The fifth stretch leaves the values before the substitution. -/
theorem hold_5 (V : Valuation τ sig (Elt F)) : hold (afterL (seg 4) V) = hold V := by
  sl_kernel_rfl
/-- The sixth stretch of nine steps is nine steps of the substitution. -/
theorem seg_6 (V : Valuation τ sig (Elt F)) : afterL (seg 5) V (Proc.devRef .tc main_v443) = subs (hold V) 46 9 (V (Proc.devRef .tc main_v389)) := by
  sl_kernel_rfl
/-- The sixth stretch leaves the values before the substitution. -/
theorem hold_6 (V : Valuation τ sig (Elt F)) : hold (afterL (seg 5) V) = hold V := by
  sl_kernel_rfl
/-- The seventh stretch of nine steps is nine steps of the substitution. -/
theorem seg_7 (V : Valuation τ sig (Elt F)) : afterL (seg 6) V (Proc.devRef .tc main_v497) = subs (hold V) 55 9 (V (Proc.devRef .tc main_v443)) := by
  sl_kernel_rfl
/-- The seventh stretch leaves the values before the substitution. -/
theorem hold_7 (V : Valuation τ sig (Elt F)) : hold (afterL (seg 6) V) = hold V := by
  sl_kernel_rfl
/-- The operations after the substitution make the loop's first state of its solution. -/
theorem seg_8 (V : Valuation τ sig (Elt F)) : stOf (after hostOps0_140 V) = start (hold V) (V (Proc.devRef .tc main_v497)) := by
  sl_kernel_rfl
/-- The loop's counter starts at zero. -/
theorem entry6 (V : Valuation τ sig (Elt F)) : after hostOps0_140 V (Proc.devRef .tc main_v510_6) = constantI S_ 32 (BitVec.ofNat 32 0) := by
  sl_kernel_rfl

/-- Steps after steps are steps. -/
theorem subs_add (p : Pre F) (c n : ℕ) (x : (⟨S4x8x64x64x256, .f32⟩ : BufTy).Contents (Elt F)) : ∀ k, subs p (c + n) k (subs p c n x) = subs p c (n + k) x
  | 0 => rfl
  | k + 1 => by
    show sub1 p (c + n + k) (subs p (c + n) k (subs p c n x)) = sub1 p (c + (n + k)) (subs p c (n + k) x)
    rw [subs_add p c n x k, Nat.add_assoc]
/-- A list of stretches of operations runs as its first part and then the rest. -/
theorem afterL_split (k : ℕ) : ∀ (L : List (List (HloOp τ sig (Elt F)))) (V : Valuation τ sig (Elt F)), afterL L V = afterL (L.drop k) (afterL (L.take k) V) := by
  induction k with
  | zero => intro L V; rfl
  | succ k ih => intro L V; cases L with
    | nil => rfl
    | cons l L => exact ih L (after l V)
/-- The operations from one stretch on are that stretch and the operations from the next one on. -/
theorem next_seg (j : ℕ) (V : Valuation τ sig (Elt F)) : afterL (preI.drop (14 + 18 * j)) V = afterL (preI.drop (14 + 18 * (j + 1))) (afterL (seg j) V) := by
  rw [afterL_split 18, List.drop_drop, show 14 + 18 * (j + 1) = 14 + 18 * j + 18 by omega]

/-- From the values before the substitution to the loop's start. -/
theorem solved (V : Valuation τ sig (Elt F)) : stOf (afterL (preI.drop 14) V) = start (hold V) (subs (hold V) 1 63 (V (Proc.devRef .tc main_v119))) ∧
    afterL (preI.drop 14) V (Proc.devRef .tc main_v510_6) = constantI S_ 32 (BitVec.ofNat 32 0) := by
  rw [show (14 : ℕ) = 14 + 18 * 0 from rfl, next_seg 0, next_seg 1, next_seg 2, next_seg 3, next_seg 4, next_seg 5, next_seg 6]
  show stOf (after hostOps0_140 _) = _ ∧ after hostOps0_140 _ _ = _
  refine ⟨?_, entry6 _⟩
  rw [seg_8]
  have h1 := hold_1 V
  have k1 := seg_1 V
  generalize afterL (seg 0) V = V1 at *
  have h2 := (hold_2 V1).trans h1
  have k2 := seg_2 V1
  rw [k1, h1] at k2
  replace k2 := k2.trans (subs_add (hold V) 1 9 _ 9)
  generalize afterL (seg 1) V1 = V2 at *
  have h3 := (hold_3 V2).trans h2
  have k3 := seg_3 V2
  rw [k2, h2] at k3
  replace k3 := k3.trans (subs_add (hold V) 1 18 _ 9)
  generalize afterL (seg 2) V2 = V3 at *
  have h4 := (hold_4 V3).trans h3
  have k4 := seg_4 V3
  rw [k3, h3] at k4
  replace k4 := k4.trans (subs_add (hold V) 1 27 _ 9)
  generalize afterL (seg 3) V3 = V4 at *
  have h5 := (hold_5 V4).trans h4
  have k5 := seg_5 V4
  rw [k4, h4] at k5
  replace k5 := k5.trans (subs_add (hold V) 1 36 _ 9)
  generalize afterL (seg 4) V4 = V5 at *
  have h6 := (hold_6 V5).trans h5
  have k6 := seg_6 V5
  rw [k5, h5] at k6
  replace k6 := k6.trans (subs_add (hold V) 1 45 _ 9)
  generalize afterL (seg 5) V5 = V6 at *
  have h7 := (hold_7 V6).trans h6
  have k7 := seg_7 V6
  rw [k6, h6] at k7
  replace k7 := k7.trans (subs_add (hold V) 1 54 _ 9)
  generalize afterL (seg 6) V6 = V7 at *
  rw [h7, k7]
end Cert.Dn.Ref
end
-- ==== Proof.Dn.Entry0.lean ====
module
public import proofs.«01_k».proof.Proof.Dn.Entry
@[expose] public section

/-! The reference's values before the substitution, read off its operations stretch by stretch. -/

set_option maxRecDepth 65536
noncomputable section
namespace Cert.Dn.Ref
open Idealize.ShloMosaic.StableHlo Cert.RefDeltaIdeal Cert.RefDeltaIdeal.Gen Cert.RefDeltaIdeal.Step Cert.RefDeltaIdeal.Value Idealize.ShloMosaic Idealize.ShloMosaic.TcCoe Idealize.SL.Sem
variable {F : FTy → Type} [FloatOps F]

/-- A valuation with one buffer's contents named. -/
abbrev put (V : Valuation τ sig (Elt F)) (r : Ref sig .tc) (y : (Proc.devRef (τ := τ) .tc r).ty.Contents (Elt F)) : Valuation τ sig (Elt F) := Function.update V (Proc.devRef .tc r) y
/-- Writing a value that is there already changes nothing. -/
theorem put_eq (V : Valuation τ sig (Elt F)) (r : Ref sig .tc) {y : (Proc.devRef (τ := τ) .tc r).ty.Contents (Elt F)} (h : V (Proc.devRef .tc r) = y) : put V r y = V := by
  subst h; exact Function.update_eq_self _ _

section
variable (V : Valuation τ sig (Elt F)) (a0 : (⟨S4x4096x4096, .f32⟩ : BufTy).Contents (Elt F)) (a1 : (⟨S4x4096x128, .f32⟩ : BufTy).Contents (Elt F)) (a2 : (⟨S4x3072, .f32⟩ : BufTy).Contents (Elt F))
    (a3 a4 : (⟨S8, .f32⟩ : BufTy).Contents (Elt F))

/-- The first stretch leaves the convolved and activated projections. -/
theorem p1_v33 : afterL (preI.take 4) (put (put (put (put (put V main_arg0 a0) main_arg1 a1) main_arg2 a2) main_arg3 a3) main_arg4 a4) (Proc.devRef .tc main_v33) = A_main_v33 a0 a1 a2 a3 a4 := by
  sl_kernel_rfl
/-- The first stretch leaves the columns of the write gate. -/
theorem p1_v1 : afterL (preI.take 4) (put (put (put (put (put V main_arg0 a0) main_arg1 a1) main_arg2 a2) main_arg3 a3) main_arg4 a4) (Proc.devRef .tc main_v1) = A_main_v1 a0 a1 a2 a3 a4 := by
  sl_kernel_rfl
/-- The first stretch leaves the columns of the decay. -/
theorem p1_v2 : afterL (preI.take 4) (put (put (put (put (put V main_arg0 a0) main_arg1 a1) main_arg2 a2) main_arg3 a3) main_arg4 a4) (Proc.devRef .tc main_v2) = A_main_v2 a0 a1 a2 a3 a4 := by
  sl_kernel_rfl
/-- The first stretch leaves the first head parameter unchanged. -/
theorem p1_keep_arg3 : afterL (preI.take 4) V (Proc.devRef .tc main_arg3) = V (Proc.devRef .tc main_arg3) := by
  sl_kernel_rfl
/-- The first stretch leaves the second head parameter unchanged. -/
theorem p1_keep_arg4 : afterL (preI.take 4) V (Proc.devRef .tc main_arg4) = V (Proc.devRef .tc main_arg4) := by
  sl_kernel_rfl
/-- The second stretch leaves the queries. -/
theorem p2_v48 : after hostOps0_4 (put (put (put (put (put V main_v33 (A_main_v33 a0 a1 a2 a3 a4)) main_v1 (A_main_v1 a0 a1 a2 a3 a4)) main_v2 (A_main_v2 a0 a1 a2 a3 a4)) main_arg3 a3) main_arg4 a4) (Proc.devRef .tc main_v48) = A_main_v48 a0 a1 a2 a3 a4 := by
  sl_kernel_rfl
/-- The second stretch leaves the keys. -/
theorem p2_v58 : after hostOps0_4 (put (put (put (put (put V main_v33 (A_main_v33 a0 a1 a2 a3 a4)) main_v1 (A_main_v1 a0 a1 a2 a3 a4)) main_v2 (A_main_v2 a0 a1 a2 a3 a4)) main_arg3 a3) main_arg4 a4) (Proc.devRef .tc main_v58) = A_main_v58 a0 a1 a2 a3 a4 := by
  sl_kernel_rfl
/-- The second stretch leaves the values. -/
theorem p2_v60 : after hostOps0_4 (put (put (put (put (put V main_v33 (A_main_v33 a0 a1 a2 a3 a4)) main_v1 (A_main_v1 a0 a1 a2 a3 a4)) main_v2 (A_main_v2 a0 a1 a2 a3 a4)) main_arg3 a3) main_arg4 a4) (Proc.devRef .tc main_v60) = A_main_v60 a0 a1 a2 a3 a4 := by
  sl_kernel_rfl
/-- The second stretch leaves the write gate. -/
theorem p2_v68 : after hostOps0_4 (put (put (put (put (put V main_v33 (A_main_v33 a0 a1 a2 a3 a4)) main_v1 (A_main_v1 a0 a1 a2 a3 a4)) main_v2 (A_main_v2 a0 a1 a2 a3 a4)) main_arg3 a3) main_arg4 a4) (Proc.devRef .tc main_v68) = A_main_v68 a0 a1 a2 a3 a4 := by
  sl_kernel_rfl
/-- The second stretch leaves the first factor of the decay. -/
theorem p2_v70 : after hostOps0_4 (put (put (put (put (put V main_v33 (A_main_v33 a0 a1 a2 a3 a4)) main_v1 (A_main_v1 a0 a1 a2 a3 a4)) main_v2 (A_main_v2 a0 a1 a2 a3 a4)) main_arg3 a3) main_arg4 a4) (Proc.devRef .tc main_v70) = A_main_v70 a0 a1 a2 a3 a4 := by
  sl_kernel_rfl
/-- The second stretch leaves the argument of the decay. -/
theorem p2_v73 : after hostOps0_4 (put (put (put (put (put V main_v33 (A_main_v33 a0 a1 a2 a3 a4)) main_v1 (A_main_v1 a0 a1 a2 a3 a4)) main_v2 (A_main_v2 a0 a1 a2 a3 a4)) main_arg3 a3) main_arg4 a4) (Proc.devRef .tc main_v73) = A_main_v73 a0 a1 a2 a3 a4 := by
  sl_kernel_rfl
/-- The third stretch leaves the running sums of the decays. -/
theorem p3_v80 : afterL ((preI.drop 5).take 3) (put (put V main_v70 (A_main_v70 a0 a1 a2 a3 a4)) main_v73 (A_main_v73 a0 a1 a2 a3 a4)) (Proc.devRef .tc main_v80) = A_main_v80 a0 a1 a2 a3 a4 := by
  sl_kernel_rfl
/-- The third stretch leaves the queries unchanged. -/
theorem p3_keep_v48 : afterL ((preI.drop 5).take 3) V (Proc.devRef .tc main_v48) = V (Proc.devRef .tc main_v48) := by
  sl_kernel_rfl
/-- The third stretch leaves the keys unchanged. -/
theorem p3_keep_v58 : afterL ((preI.drop 5).take 3) V (Proc.devRef .tc main_v58) = V (Proc.devRef .tc main_v58) := by
  sl_kernel_rfl
/-- The third stretch leaves the values unchanged. -/
theorem p3_keep_v60 : afterL ((preI.drop 5).take 3) V (Proc.devRef .tc main_v60) = V (Proc.devRef .tc main_v60) := by
  sl_kernel_rfl
/-- The third stretch leaves the write gate unchanged. -/
theorem p3_keep_v68 : afterL ((preI.drop 5).take 3) V (Proc.devRef .tc main_v68) = V (Proc.devRef .tc main_v68) := by
  sl_kernel_rfl
/-- The fourth stretch leaves the decays between two rows. -/
theorem p4_v98 : afterL ((preI.drop 8).take 6) (put (put (put (put V main_v58 (A_main_v58 a0 a1 a2 a3 a4)) main_v60 (A_main_v60 a0 a1 a2 a3 a4)) main_v68 (A_main_v68 a0 a1 a2 a3 a4)) main_v80 (A_main_v80 a0 a1 a2 a3 a4)) (Proc.devRef .tc main_v98) = A_main_v98 a0 a1 a2 a3 a4 := by
  sl_kernel_rfl
/-- The fourth stretch leaves the system's matrix. -/
theorem p4_v104 : afterL ((preI.drop 8).take 6) (put (put (put (put V main_v58 (A_main_v58 a0 a1 a2 a3 a4)) main_v60 (A_main_v60 a0 a1 a2 a3 a4)) main_v68 (A_main_v68 a0 a1 a2 a3 a4)) main_v80 (A_main_v80 a0 a1 a2 a3 a4)) (Proc.devRef .tc main_v104) = A_main_v104 a0 a1 a2 a3 a4 := by
  sl_kernel_rfl
/-- The fourth stretch leaves the right sides. -/
theorem p4_v112 : afterL ((preI.drop 8).take 6) (put (put (put (put V main_v58 (A_main_v58 a0 a1 a2 a3 a4)) main_v60 (A_main_v60 a0 a1 a2 a3 a4)) main_v68 (A_main_v68 a0 a1 a2 a3 a4)) main_v80 (A_main_v80 a0 a1 a2 a3 a4)) (Proc.devRef .tc main_v112) = A_main_v112 a0 a1 a2 a3 a4 := by
  sl_kernel_rfl
/-- The fourth stretch leaves the substitution's first step. -/
theorem p4_v119 : afterL ((preI.drop 8).take 6) (put (put (put (put V main_v58 (A_main_v58 a0 a1 a2 a3 a4)) main_v60 (A_main_v60 a0 a1 a2 a3 a4)) main_v68 (A_main_v68 a0 a1 a2 a3 a4)) main_v80 (A_main_v80 a0 a1 a2 a3 a4)) (Proc.devRef .tc main_v119) = A_main_v119 a0 a1 a2 a3 a4 := by
  sl_kernel_rfl
/-- The fourth stretch leaves the row numbers. -/
theorem p4_v81 : afterL ((preI.drop 8).take 6) V (Proc.devRef .tc main_v81) = K_main_v81 := by
  sl_kernel_rfl
/-- The fourth stretch leaves the queries unchanged. -/
theorem p4_keep_v48 : afterL ((preI.drop 8).take 6) V (Proc.devRef .tc main_v48) = V (Proc.devRef .tc main_v48) := by
  sl_kernel_rfl
/-- The fourth stretch leaves the keys unchanged. -/
theorem p4_keep_v58 : afterL ((preI.drop 8).take 6) V (Proc.devRef .tc main_v58) = V (Proc.devRef .tc main_v58) := by
  sl_kernel_rfl
/-- The fourth stretch leaves the running sums unchanged. -/
theorem p4_keep_v80 : afterL ((preI.drop 8).take 6) V (Proc.devRef .tc main_v80) = V (Proc.devRef .tc main_v80) := by
  sl_kernel_rfl

/-- The values before the substitution, of the arguments. -/
def pre0 : Pre F := ⟨K_main_v81, A_main_v104 a0 a1 a2 a3 a4, A_main_v112 a0 a1 a2 a3 a4, A_main_v48 a0 a1 a2 a3 a4, A_main_v58 a0 a1 a2 a3 a4, A_main_v80 a0 a1 a2 a3 a4, A_main_v98 a0 a1 a2 a3 a4⟩

variable {V a0 a1 a2 a3 a4}
/-- The first fourteen stretches leave them, and the first step of the substitution. -/
theorem pre_all (h0 : V (Proc.devRef .tc main_arg0) = a0) (h1 : V (Proc.devRef .tc main_arg1) = a1) (h2 : V (Proc.devRef .tc main_arg2) = a2) (h3 : V (Proc.devRef .tc main_arg3) = a3)
    (h4 : V (Proc.devRef .tc main_arg4) = a4) :
    hold (afterL (preI.take 14) V) = pre0 a0 a1 a2 a3 a4 ∧ afterL (preI.take 14) V (Proc.devRef .tc main_v119) = A_main_v119 a0 a1 a2 a3 a4 := by
  have e : afterL (preI.take 14) V = afterL ((preI.drop 8).take 6) (afterL ((preI.drop 5).take 3) (after hostOps0_4 (afterL (preI.take 4) V))) := rfl
  have q1 := p1_v33 V a0 a1 a2 a3 a4
  have q2 := p1_v1 V a0 a1 a2 a3 a4
  have q3 := p1_v2 V a0 a1 a2 a3 a4
  rw [put_eq V _ h0, put_eq V _ h1, put_eq V _ h2, put_eq V _ h3, put_eq V _ h4] at q1 q2 q3
  have q4 := (p1_keep_arg3 V).trans h3
  have q5 := (p1_keep_arg4 V).trans h4
  rw [e]
  generalize afterL (preI.take 4) V = V1 at *
  have r1 := p2_v48 V1 a0 a1 a2 a3 a4
  have r2 := p2_v58 V1 a0 a1 a2 a3 a4
  have r3 := p2_v60 V1 a0 a1 a2 a3 a4
  have r4 := p2_v68 V1 a0 a1 a2 a3 a4
  have r5 := p2_v70 V1 a0 a1 a2 a3 a4
  have r6 := p2_v73 V1 a0 a1 a2 a3 a4
  rw [put_eq V1 _ q1, put_eq V1 _ q2, put_eq V1 _ q3, put_eq V1 _ q4, put_eq V1 _ q5] at r1 r2 r3 r4 r5 r6
  generalize after hostOps0_4 V1 = V2 at *
  have s1 := p3_v80 V2 a0 a1 a2 a3 a4
  rw [put_eq V2 _ r5, put_eq V2 _ r6] at s1
  have s2 := (p3_keep_v48 V2).trans r1
  have s3 := (p3_keep_v58 V2).trans r2
  have s4 := (p3_keep_v60 V2).trans r3
  have s5 := (p3_keep_v68 V2).trans r4
  generalize afterL ((preI.drop 5).take 3) V2 = V3 at *
  have t1 := p4_v98 V3 a0 a1 a2 a3 a4
  have t2 := p4_v104 V3 a0 a1 a2 a3 a4
  have t3 := p4_v112 V3 a0 a1 a2 a3 a4
  have t4 := p4_v119 V3 a0 a1 a2 a3 a4
  rw [put_eq V3 _ s3, put_eq V3 _ s4, put_eq V3 _ s5, put_eq V3 _ s1] at t1 t2 t3 t4
  refine ⟨?_, t4⟩
  unfold hold pre0
  rw [t1, t2, t3, p4_v81, p4_keep_v48, p4_keep_v58, p4_keep_v80, s2, s3, s1]
end
end Cert.Dn.Ref
end
-- ==== Proof.Dn.RefG.lean ====
module
public import proofs.«01_k».proof.Proof.Dn.Data
public import proofs.«01_k».proof.Proof.Dn.Sum
public import proofs.«01_k».proof.Proof.Gen.RefDeltaIdeal.Step
@[expose] public section

/-! The reference's gates, entry by entry, on real inputs. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

variable {I : Inp} {a0 : FVec Ideal S4x4096x4096 .f32} {a1 : FVec Ideal S4x4096x128 .f32} {a2 : FVec Ideal S4x3072 .f32} {a3 a4 : FVec Ideal S8 .f32}

/-- The reference's write gate is the real one. -/
theorem v68_eq (H : InpHolds I a0 a1 a2 a3 a4) (b : Fin 4) (h : Fin 8) (n c : Fin 64) :
    (A_main_v68 (F := Ideal) a0 a1 a2 a3 a4 (ix4 b h n c) : EReal) = ((I.be b h (rowOf n c) : ℝ) : EReal) := by
  pointwise [A_main_v68, A_main_v67, A_main_v66, A_main_v64, A_main_v62, A_main_v61, A_main_v1, K_main_v63, K_main_v65, K_main_cst_5, K_main_cst_6]
  rw [H.ba, div_sig, Inp.be]
  have : (⟨n.val * 64 + c.val, by omega⟩ : Fin 4096) = rowOf n c := Fin.ext (by simp [rowOf]; omega)
  rw [this]
/-- The reference's logarithms of the decays are the real ones. -/
theorem v79_eq (H : InpHolds I a0 a1 a2 a3 a4) (b : Fin 4) (h : Fin 8) (n c : Fin 64) :
    (A_main_v79 (F := Ideal) a0 a1 a2 a3 a4 (ix4 b h n c) : EReal) = ((I.g b h (rowOf n c) : ℝ) : EReal) := by
  pointwise [A_main_v79, A_main_v78, A_main_v77, A_main_v76, A_main_v75, A_main_v74, A_main_v70, A_main_v69, A_main_v73, A_main_v72, A_main_v71, A_main_v2, A_main_call2_v11, A_main_call2_v10, A_main_call2_v9, A_main_call2_v8, A_main_call2_v7, A_main_call2_v6, A_main_call2_v4, A_main_call2_v3, A_main_call2_v1, K_main_call2_v0, K_main_call2_v2, K_main_call2_v5, K_main_call2_cst]
  rw [H.ba, H.al, H.dt, if_neg (fun h => h rfl)]
  have : (⟨n.val * 64 + c.val, by omega⟩ : Fin 4096) = rowOf n c := Fin.ext (by simp [rowOf]; omega)
  rw [this, ← EReal.coe_add, show I.BA b (rowOf n c) ⟨8 + h.val, by omega⟩ + I.dt h = I.gx b h (rowOf n c) from rfl, abs_coe', ← EReal.coe_neg, Ideal.exp_coe, Ideal.exp_coe, log1p_coe _ (Real.exp_pos _), ← EReal.coe_zero,
    max_coe', ← EReal.coe_add, ← EReal.coe_neg, ← EReal.coe_mul]
  rfl
end Cert.Dn.Ref
end
-- ==== Proof.Dn.RefY.lean ====
module
public import proofs.«01_k».proof.Proof.Dn.Data
public import proofs.«01_k».proof.Proof.Dn.Sum
public import proofs.«01_k».proof.Proof.Gen.RefDeltaIdeal.Step
@[expose] public section

/-! The reference's convolution and its split into heads, entry by entry, on real inputs. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

variable {I : Inp} {a0 : FVec Ideal S4x4096x4096 .f32} {a1 : FVec Ideal S4x4096x128 .f32} {a2 : FVec Ideal S4x3072 .f32} {a3 a4 : FVec Ideal S8 .f32}

/-- The padded projections are the real ones. -/
theorem v3_eq (H : InpHolds I a0 a1 a2 a3 a4) (b : Fin 4) (r : Fin 4099) (c : Fin 3072) :
    (A_main_v3 (F := Ideal) a0 a1 a2 a3 a4 (ix3 b r c) : EReal) = ((I.pad b r.val c : ℝ) : EReal) := by
  pointwise [A_main_v3, A_main_v0, K_main_call0_v0, K_main_c]
  unfold Inp.pad
  by_cases h : 3 ≤ r.val ∧ r.val - 3 < 4096
  · rw [dif_pos h, dif_pos h]; exact H.p _ _ _
  · rw [dif_neg h, dif_neg h]
    show (((0#32 : BitVec 32).toInt : ℝ) : EReal) = _
    rw [show (0#32 : BitVec 32).toInt = 0 from by decide]; norm_num

/-- The convolution is the real one. -/
theorem v32_eq (H : InpHolds I a0 a1 a2 a3 a4) (b : Fin 4) (s : Fin 4096) (c : Fin 3072) :
    (A_main_v32 (F := Ideal) a0 a1 a2 a3 a4 (ix3 b s c) : EReal) = ((I.cv b s.val c : ℝ) : EReal) := by
  pointwise [A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v9, A_main_v8, A_main_v7, A_main_v6, A_main_v5, A_main_v4, K_main_v10, K_main_cst]
  rw [v3_eq H, v3_eq H, v3_eq H, v3_eq H, H.w, H.w, H.w, H.w]
  simp only [← EReal.coe_mul, ← EReal.coe_add, Inp.cv, Nat.add_comm]

/-- The activated convolution is the real one. -/
theorem v33_eq (H : InpHolds I a0 a1 a2 a3 a4) (b : Fin 4) (s : Fin 4096) (c : Fin 3072) :
    (A_main_v33 (F := Ideal) a0 a1 a2 a3 a4 (ix3 b s c) : EReal) = ((I.y b s.val c : ℝ) : EReal) := by
  pointwise [A_main_v33, A_main_call1_v5, A_main_call1_v3, A_main_call1_v1, A_main_call1_v0, K_main_call1_v2, K_main_call1_v4, K_main_call1_cst, K_main_call1_cst_0]
  rw [v32_eq H, div_sig, ← EReal.coe_mul]
  rfl

/-- The queries' columns, by chunks and heads. -/
theorem v38_eq (H : InpHolds I a0 a1 a2 a3 a4) (b : Fin 4) (h : Fin 8) (n c : Fin 64) (d : Fin 128) :
    (A_main_v38 (F := Ideal) a0 a1 a2 a3 a4 (ix5 b h n c d) : EReal) = ((I.y b (rowOf n c).val (colOf 0 h d) : ℝ) : EReal) := by
  pointwise [A_main_v38, A_main_v37, A_main_v34]
  rw [v33_eq H]
  congr 2 <;> simp [rowOf, colOf] <;> omega
/-- The keys' columns, by chunks and heads. -/
theorem v50_eq (H : InpHolds I a0 a1 a2 a3 a4) (b : Fin 4) (h : Fin 8) (n c : Fin 64) (d : Fin 128) :
    (A_main_v50 (F := Ideal) a0 a1 a2 a3 a4 (ix5 b h n c d) : EReal) = ((I.y b (rowOf n c).val (colOf 1 h d) : ℝ) : EReal) := by
  pointwise [A_main_v50, A_main_v49, A_main_v35]
  rw [v33_eq H]
  congr 2 <;> simp [rowOf, colOf] <;> omega
/-- The values' columns, by chunks and heads. -/
theorem v60_eq (H : InpHolds I a0 a1 a2 a3 a4) (b : Fin 4) (h : Fin 8) (n c : Fin 64) (d : Fin 128) :
    (A_main_v60 (F := Ideal) a0 a1 a2 a3 a4 (ix5 b h n c d) : EReal) = ((I.v b h (rowOf n c).val d : ℝ) : EReal) := by
  pointwise [A_main_v60, A_main_v59, A_main_v36]
  rw [v33_eq H, Inp.v]
  congr 2 <;> simp [rowOf, colOf] <;> omega
end Cert.Dn.Ref
end
-- ==== Proof.Dn.RefQ.lean ====
module
public import proofs.«01_k».proof.Proof.Dn.RefY
public import proofs.«01_k».proof.Proof.Dn.Sum
public import proofs.«01_k».proof.Proof.Gen.RefDeltaIdeal.Step
@[expose] public section

/-! The reference's queries and keys, entry by entry, on real inputs. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

/-- A sum of the queries' columns, at an element. -/
theorem sum_q (x : FVec Ideal S4x8x64x64x128 .f32) (b : Fin 4) (h : Fin 8) (n c : Fin 64) :
    (Host.reduceAdd x (K_main_cst_0 (F := Ideal)) reducesTo_S4x8x64x64x128_S4x8x64x64_d4 h_S_ (ix4 b h n c) : EReal) = ∑ y, (x (ix5 b h n c y) : EReal) := by
  pointwise [K_main_cst_0]
/-- A sum of the keys' columns, at an element. -/
theorem sum_k (x : FVec Ideal S4x8x64x64x128 .f32) (b : Fin 4) (h : Fin 8) (n c : Fin 64) :
    (Host.reduceAdd x (K_main_cst_3 (F := Ideal)) reducesTo_S4x8x64x64x128_S4x8x64x64_d4 h_S_ (ix4 b h n c) : EReal) = ∑ y, (x (ix5 b h n c y) : EReal) :=
  sum_q x b h n c
/-- A product of two arrays, at an element. -/
theorem sq_apply (x y : FVec Ideal S4x8x64x64x128 .f32) (i : S4x8x64x64x128.Idx) : (mulf x y i : EReal) = x i * y i := rfl
/-- A sum of squares of reals. -/
theorem sumsq (x : FVec Ideal S4x8x64x64x128 .f32) (f : Fin 128 → ℝ) (b : Fin 4) (h : Fin 8) (n c : Fin 64) (hx : ∀ y, (x (ix5 b h n c y) : EReal) = ((f y : ℝ) : EReal)) :
    (∑ y, (mulf x x (ix5 b h n c y) : EReal)) = ((∑ y, f y * f y : ℝ) : EReal) := by
  rw [← coe_sum']
  exact Finset.sum_congr rfl fun y _ => by rw [sq_apply, hx, ← EReal.coe_mul]

variable {I : Inp} {a0 : FVec Ideal S4x4096x4096 .f32} {a1 : FVec Ideal S4x4096x128 .f32} {a2 : FVec Ideal S4x3072 .f32} {a3 a4 : FVec Ideal S8 .f32}

/-- The queries' inverse length, at an element. -/
theorem v44_rd (b : Fin 4) (h : Fin 8) (n c : Fin 64) :
    (A_main_v44 (F := Ideal) a0 a1 a2 a3 a4 (ix5 b h n c 0) : EReal) = Ideal.rsqrt ((A_main_v40 (F := Ideal) a0 a1 a2 a3 a4 (ix4 b h n c) : EReal) + Ideal.ofBits .f32 0x358637BD#32) := by
  pointwise [A_main_v44, A_main_v43, A_main_v41, K_main_v42, K_main_cst_1]
/-- The queries' inverse length repeated along a row. -/
theorem v45_rd (b : Fin 4) (h : Fin 8) (n c : Fin 64) (d : Fin 128) :
    (A_main_v45 (F := Ideal) a0 a1 a2 a3 a4 (ix5 b h n c d) : EReal) = A_main_v44 (F := Ideal) a0 a1 a2 a3 a4 (ix5 b h n c 0) := by
  pointwise [A_main_v45]
/-- The queries' factor, at an element. -/
theorem v47_rd (b : Fin 4) (h : Fin 8) (n c : Fin 64) (d : Fin 128) :
    (K_main_v47 (F := Ideal) (ix5 b h n c d) : EReal) = Ideal.ofBits .f32 0x3DB504F3#32 := by
  pointwise [K_main_v47, K_main_cst_2]
/-- The queries, at an element. -/
theorem v48_rd (b : Fin 4) (h : Fin 8) (n c : Fin 64) (d : Fin 128) :
    (A_main_v48 (F := Ideal) a0 a1 a2 a3 a4 (ix5 b h n c d) : EReal) = A_main_v38 (F := Ideal) a0 a1 a2 a3 a4 (ix5 b h n c d) *
      Ideal.rsqrt ((A_main_v40 (F := Ideal) a0 a1 a2 a3 a4 (ix4 b h n c) : EReal) + Ideal.ofBits .f32 0x358637BD#32) * Ideal.ofBits .f32 0x3DB504F3#32 := by
  rw [A_main_v48, sq_apply, A_main_v46, sq_apply, v45_rd, v44_rd, v47_rd]
/-- The keys' inverse length, at an element. -/
theorem v56_rd (b : Fin 4) (h : Fin 8) (n c : Fin 64) :
    (A_main_v56 (F := Ideal) a0 a1 a2 a3 a4 (ix5 b h n c 0) : EReal) = Ideal.rsqrt ((A_main_v52 (F := Ideal) a0 a1 a2 a3 a4 (ix4 b h n c) : EReal) + Ideal.ofBits .f32 0x358637BD#32) := by
  pointwise [A_main_v56, A_main_v55, A_main_v53, K_main_v54, K_main_cst_4]
/-- The keys' inverse length repeated along a row. -/
theorem v57_rd (b : Fin 4) (h : Fin 8) (n c : Fin 64) (d : Fin 128) :
    (A_main_v57 (F := Ideal) a0 a1 a2 a3 a4 (ix5 b h n c d) : EReal) = A_main_v56 (F := Ideal) a0 a1 a2 a3 a4 (ix5 b h n c 0) := by
  pointwise [A_main_v57]
/-- The keys, at an element. -/
theorem v58_rd (b : Fin 4) (h : Fin 8) (n c : Fin 64) (d : Fin 128) :
    (A_main_v58 (F := Ideal) a0 a1 a2 a3 a4 (ix5 b h n c d) : EReal) = A_main_v50 (F := Ideal) a0 a1 a2 a3 a4 (ix5 b h n c d) *
      Ideal.rsqrt ((A_main_v52 (F := Ideal) a0 a1 a2 a3 a4 (ix4 b h n c) : EReal) + Ideal.ofBits .f32 0x358637BD#32) := by
  rw [A_main_v58, sq_apply, v57_rd, v56_rd]
/-- The queries' sum of squares is the real one. -/
theorem v40_eq (H : InpHolds I a0 a1 a2 a3 a4) (b : Fin 4) (h : Fin 8) (n c : Fin 64) :
    (A_main_v40 (F := Ideal) a0 a1 a2 a3 a4 (ix4 b h n c) : EReal) = ((∑ x, I.y b (rowOf n c).val (colOf 0 h x) * I.y b (rowOf n c).val (colOf 0 h x) : ℝ) : EReal) := by
  rw [A_main_v40, sum_q, A_main_v39]
  exact sumsq _ _ b h n c fun y => v38_eq H b h n c y
/-- The keys' sum of squares is the real one. -/
theorem v52_eq (H : InpHolds I a0 a1 a2 a3 a4) (b : Fin 4) (h : Fin 8) (n c : Fin 64) :
    (A_main_v52 (F := Ideal) a0 a1 a2 a3 a4 (ix4 b h n c) : EReal) = ((∑ x, I.y b (rowOf n c).val (colOf 1 h x) * I.y b (rowOf n c).val (colOf 1 h x) : ℝ) : EReal) := by
  rw [A_main_v52, sum_k, A_main_v51]
  exact sumsq _ _ b h n c fun y => v50_eq H b h n c y
/-- The reference's queries are the real ones. -/
theorem v48_eq (H : InpHolds I a0 a1 a2 a3 a4) (b : Fin 4) (h : Fin 8) (n c : Fin 64) (d : Fin 128) :
    (A_main_v48 (F := Ideal) a0 a1 a2 a3 a4 (ix5 b h n c d) : EReal) = ((I.q b h (rowOf n c).val d : ℝ) : EReal) := by
  rw [v48_rd, v38_eq H, v40_eq H, eps_bits, gain_bits, ← EReal.coe_add, rsqrt_coe' _ (add_pos_of_nonneg_of_pos (Finset.sum_nonneg fun x _ => mul_self_nonneg _) eps_pos), ← EReal.coe_mul, ← EReal.coe_mul]
  unfold Inp.q Inp.len
  with_reducible rfl
/-- The reference's keys are the real ones. -/
theorem v58_eq (H : InpHolds I a0 a1 a2 a3 a4) (b : Fin 4) (h : Fin 8) (n c : Fin 64) (d : Fin 128) :
    (A_main_v58 (F := Ideal) a0 a1 a2 a3 a4 (ix5 b h n c d) : EReal) = ((I.k b h (rowOf n c).val d : ℝ) : EReal) := by
  rw [v58_rd, v50_eq H, v52_eq H, eps_bits, ← EReal.coe_add, rsqrt_coe' _ (add_pos_of_nonneg_of_pos (Finset.sum_nonneg fun x _ => mul_self_nonneg _) eps_pos), ← EReal.coe_mul]
  unfold Inp.k Inp.len
  with_reducible rfl
end Cert.Dn.Ref
end
-- ==== Proof.Dn.RefW.lean ====
module
public import proofs.«01_k».proof.Proof.Dn.RefG
public import proofs.«01_k».proof.Proof.Dn.RefQ
public import proofs.«01_k».proof.Proof.Dn.RefY
@[expose] public section

/-! A running sum as a window reduction. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

variable {I : Inp} {a0 : FVec Ideal S4x4096x4096 .f32} {a1 : FVec Ideal S4x4096x128 .f32} {a2 : FVec Ideal S4x3072 .f32} {a3 a4 : FVec Ideal S8 .f32}

/-- Adding up a list of terms is their sum. -/
theorem foldl_sum (N : ℕ) (f : Fin N → EReal) (v : EReal) : (List.finRange N).foldl (fun r n => r + f n) v = v + ∑ n, f n := by
  rw [Fin.sum_univ_def]
  generalize List.finRange N = l
  induction l generalizing v with
  | nil => simp
  | cons a l ih => simp [ih, add_assoc]

/-- The four-axis index whose last coordinate alone moves. -/
def lastAx : Fin 64 ≃ (⟨4, ![1, 1, 1, 64]⟩ : Shape).Idx where
  toFun s := ix4 0 0 0 s
  invFun i := i 3
  left_inv _ := rfl
  right_inv i := by
    funext a; fin_cases a
    · exact Fin.ext (by have := (i 0).isLt; change (i 0).val < 1 at this; show 0 = (i 0).val; omega)
    · exact Fin.ext (by have := (i 1).isLt; change (i 1).val < 1 at this; show 0 = (i 1).val; omega)
    · exact Fin.ext (by have := (i 2).isLt; change (i 2).val < 1 at this; show 0 = (i 2).val; omega)
    · rfl

/-- The running sums. -/
theorem window (x : (⟨4, ![4, 8, 64, 64]⟩ : Shape).Idx → EReal) (hw : (⟨4, ![4, 8, 64, 64]⟩ : Shape).ReduceWindows ![1, 1, 1, 64] ![1, 1, 1, 1] ![0, 0, 0, 63] ![0, 0, 0, 0] (⟨4, ![4, 8, 64, 64]⟩ : Shape))
    (b : Fin 4) (h : Fin 8) (n c : Fin 64) :
    Ideal.hostReduceWindowAdd ![1, 1, 1, 64] ![1, 1, 1, 1] ![0, 0, 0, 63] ![0, 0, 0, 0] hw x 0 (ix4 b h n c) = ∑ s : Fin 64, if s ≤ c then x (ix4 b h n s) else 0 := by
  refine (foldl_sum _ _ _).trans ?_
  rw [zero_add]
  have hb : Function.Bijective (fun s : Fin 64 => (⟨(c.val + s.val + 1) % 64, Nat.mod_lt _ (by decide)⟩ : Fin 64)) := by
    refine (Finite.injective_iff_bijective).1 fun s s' e => ?_
    have := congrArg Fin.val e
    simp only [] at this
    exact Fin.ext (by omega)
  refine (Fintype.sum_bijective _ (hb.comp (((Shape.rowMajor (⟨4, ![1, 1, 1, 64]⟩ : Shape)).symm.trans lastAx.symm).bijective)) _ _ fun w' => ?_)
  show _ = if (⟨(c.val + (lastAx.symm ((Shape.rowMajor (⟨4, ![1, 1, 1, 64]⟩ : Shape)).symm w')).val + 1) % 64, Nat.mod_lt _ (by decide)⟩ : Fin 64) ≤ c then
    x (ix4 b h n ⟨(c.val + (lastAx.symm ((Shape.rowMajor (⟨4, ![1, 1, 1, 64]⟩ : Shape)).symm w')).val + 1) % 64, Nat.mod_lt _ (by decide)⟩) else 0
  obtain ⟨s, hw⟩ : ∃ s, (Shape.rowMajor (⟨4, ![1, 1, 1, 64]⟩ : Shape)).symm w' = lastAx s := ⟨lastAx.symm _, (Equiv.apply_symm_apply _ _).symm⟩
  have hq : lastAx.symm ((Shape.rowMajor (⟨4, ![1, 1, 1, 64]⟩ : Shape)).symm w') = s := by rw [hw, Equiv.symm_apply_apply]
  have v0 : ((Shape.rowMajor (⟨4, ![1, 1, 1, 64]⟩ : Shape)).symm w' (0 : Fin 4)).val = 0 := by rw [hw]; rfl
  have v1 : ((Shape.rowMajor (⟨4, ![1, 1, 1, 64]⟩ : Shape)).symm w' (1 : Fin 4)).val = 0 := by rw [hw]; rfl
  have v2 : ((Shape.rowMajor (⟨4, ![1, 1, 1, 64]⟩ : Shape)).symm w' (2 : Fin 4)).val = 0 := by rw [hw]; rfl
  have v3 : ((Shape.rowMajor (⟨4, ![1, 1, 1, 64]⟩ : Shape)).symm w' (3 : Fin 4)).val = s.val := by rw [hw]; rfl
  rw [hq]
  by_cases hs : 63 ≤ c.val + s.val
  · rw [dif_pos, if_pos]
    · refine congrArg x (funext fun a => ?_)
      fin_cases a
      · exact Fin.ext (show b.val * 1 + ((Shape.rowMajor (⟨4, ![1, 1, 1, 64]⟩ : Shape)).symm w' (0 : Fin 4)).val - 0 = b.val by omega)
      · exact Fin.ext (show h.val * 1 + ((Shape.rowMajor (⟨4, ![1, 1, 1, 64]⟩ : Shape)).symm w' (1 : Fin 4)).val - 0 = h.val by omega)
      · exact Fin.ext (show n.val * 1 + ((Shape.rowMajor (⟨4, ![1, 1, 1, 64]⟩ : Shape)).symm w' (2 : Fin 4)).val - 0 = n.val by omega)
      · exact Fin.ext (show c.val * 1 + ((Shape.rowMajor (⟨4, ![1, 1, 1, 64]⟩ : Shape)).symm w' (3 : Fin 4)).val - 63 = (c.val + s.val + 1) % 64 by omega)
    · exact Fin.mk_le_of_le_val (by show (c.val + s.val + 1) % 64 ≤ c.val; omega)
    · intro a; fin_cases a
      · show 0 ≤ b.val * 1 + ((Shape.rowMajor (⟨4, ![1, 1, 1, 64]⟩ : Shape)).symm w' (0 : Fin 4)).val ∧ b.val * 1 + ((Shape.rowMajor (⟨4, ![1, 1, 1, 64]⟩ : Shape)).symm w' (0 : Fin 4)).val - 0 < 4; omega
      · show 0 ≤ h.val * 1 + ((Shape.rowMajor (⟨4, ![1, 1, 1, 64]⟩ : Shape)).symm w' (1 : Fin 4)).val ∧ h.val * 1 + ((Shape.rowMajor (⟨4, ![1, 1, 1, 64]⟩ : Shape)).symm w' (1 : Fin 4)).val - 0 < 8; omega
      · show 0 ≤ n.val * 1 + ((Shape.rowMajor (⟨4, ![1, 1, 1, 64]⟩ : Shape)).symm w' (2 : Fin 4)).val ∧ n.val * 1 + ((Shape.rowMajor (⟨4, ![1, 1, 1, 64]⟩ : Shape)).symm w' (2 : Fin 4)).val - 0 < 64; omega
      · show 63 ≤ c.val * 1 + ((Shape.rowMajor (⟨4, ![1, 1, 1, 64]⟩ : Shape)).symm w' (3 : Fin 4)).val ∧ c.val * 1 + ((Shape.rowMajor (⟨4, ![1, 1, 1, 64]⟩ : Shape)).symm w' (3 : Fin 4)).val - 63 < 64; omega
  · rw [dif_neg, if_neg]
    · intro e
      have : (c.val + s.val + 1) % 64 ≤ c.val := e
      omega
    · intro e
      have : 63 ≤ c.val * 1 + ((Shape.rowMajor (⟨4, ![1, 1, 1, 64]⟩ : Shape)).symm w' (3 : Fin 4)).val := (e 3).1
      omega

end Cert.Dn.Ref
end
-- ==== Proof.Dn.RefC.lean ====
module
public import proofs.«01_k».proof.Proof.Dn.RefG
public import proofs.«01_k».proof.Proof.Dn.RefW
public import proofs.«01_k».proof.Proof.Dn.RefQ
public import proofs.«01_k».proof.Proof.Dn.RefY
@[expose] public section

/-! The reference's running sums, entry by entry, on real inputs. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

variable {I : Inp} {a0 : FVec Ideal S4x4096x4096 .f32} {a1 : FVec Ideal S4x4096x128 .f32} {a2 : FVec Ideal S4x3072 .f32} {a3 a4 : FVec Ideal S8 .f32}

/-- The reference's running sums are the real ones. -/
theorem v80_eq (H : InpHolds I a0 a1 a2 a3 a4) (b : Fin 4) (h : Fin 8) (n c : Fin 64) :
    (A_main_v80 (F := Ideal) a0 a1 a2 a3 a4 (ix4 b h n c) : EReal) = ((I.G b h n c : ℝ) : EReal) := by
  have h0 : (K_main_call3_call0_v0 (F := Ideal) (Shape.Idx.first h_S_) : EReal) = 0 := by
    show Ideal.ofBits .f32 0x00000000#32 = 0
    simp [Ideal.ofBits, Ideal.ieee]
  have e : A_main_v80 (F := Ideal) a0 a1 a2 a3 a4 = Ideal.hostReduceWindowAdd ![1, 1, 1, 64] ![1, 1, 1, 1] ![0, 0, 0, 63] ![0, 0, 0, 0] reduceWindows_S4x8x64x64_S4x8x64x64_w1s1p0_0_w1s1p0_0_w1s1p0_0_w64s1p63_0 (A_main_v79 (F := Ideal) a0 a1 a2 a3 a4) (K_main_call3_call0_v0 (F := Ideal) (Shape.Idx.first h_S_)) := rfl
  rw [e, h0]
  refine (window _ _ b h n c).trans ?_
  rw [Inp.G, ← coe_sum']
  refine Finset.sum_congr rfl fun s _ => ?_
  by_cases hs : s ≤ c
  · rw [if_pos hs, if_pos hs]; exact v79_eq H b h n s
  · rw [if_neg hs, if_neg hs]; rfl

end Cert.Dn.Ref
end
-- ==== Proof.Dn.RefM.lean ====
module
public import proofs.«01_k».proof.Proof.Dn.RefG
public import proofs.«01_k».proof.Proof.Dn.RefQ
public import proofs.«01_k».proof.Proof.Dn.RefY
@[expose] public section

/-! The reference's triangular masks, entry by entry. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

variable {I : Inp} {a0 : FVec Ideal S4x4096x4096 .f32} {a1 : FVec Ideal S4x4096x128 .f32} {a2 : FVec Ideal S4x3072 .f32} {a3 a4 : FVec Ideal S8 .f32}

/-- Comparisons of row and column numbers as words. -/
theorem cmp64 : ∀ i j : Fin 64, IntOp.cmpi .sge (BitVec.ofNat 32 i.val) (BitVec.ofNat 32 j.val) = (if j ≤ i then 1#1 else 0#1)
    ∧ IntOp.cmpi .sgt (BitVec.ofNat 32 i.val) (BitVec.ofNat 32 j.val) = (if j < i then 1#1 else 0#1)
    ∧ IntOp.cmpi .eq (BitVec.ofNat 32 i.val) (BitVec.ofNat 32 j.val) = (if i = j then 1#1 else 0#1) := by decide +kernel

/-- The mask of the lower triangle, at an element. -/
theorem m4_rd (b : Fin 4) (h : Fin 8) (n i s : Fin 64) : K_main_call4_v1 (F := Ideal) (ix5 b h n i s) = if s ≤ i then 1#1 else 0#1 := by
  pointwise [K_main_call4_v1, K_main_v86, K_main_v84, K_main_v85, K_main_v82, K_main_v83, K_main_v81]
  exact (cmp64 i s).1
/-- The mask of the strict lower triangle, at an element. -/
theorem m5_rd (b : Fin 4) (h : Fin 8) (n i s : Fin 64) : K_main_call5_v1 (F := Ideal) (ix5 b h n i s) = if s < i then 1#1 else 0#1 := by
  pointwise [K_main_call5_v1, K_main_v91, K_main_v89, K_main_v90, K_main_v87, K_main_v88, K_main_v81]
  exact (cmp64 i s).2.1
/-- What stands outside the lower triangle: minus infinity. -/
theorem c4_rd (b : Fin 4) (h : Fin 8) (n i s : Fin 64) : (K_main_call4_v2 (F := Ideal) (ix5 b h n i s) : EReal) = ⊥ := by
  show Ideal.ofBits .f32 0xFF800000#32 = ⊥
  simp [Ideal.ofBits, Ideal.ieee]
/-- What stands outside the strict lower triangle: zero. -/
theorem c5_rd (b : Fin 4) (h : Fin 8) (n i s : Fin 64) : (K_main_call5_v2 (F := Ideal) (ix5 b h n i s) : EReal) = 0 := by
  show Ideal.ofBits .f32 0x00000000#32 = 0
  simp [Ideal.ofBits, Ideal.ieee]
/-- The running sums repeated along the rows, at an element. -/
theorem v94_rd (b : Fin 4) (h : Fin 8) (n i s : Fin 64) : (A_main_v94 (F := Ideal) a0 a1 a2 a3 a4 (ix5 b h n i s) : EReal) = A_main_v80 (F := Ideal) a0 a1 a2 a3 a4 (ix4 b h n i) := by
  pointwise [A_main_v94, A_main_v92]
/-- The running sums repeated along the columns, at an element. -/
theorem v95_rd (b : Fin 4) (h : Fin 8) (n i s : Fin 64) : (A_main_v95 (F := Ideal) a0 a1 a2 a3 a4 (ix5 b h n i s) : EReal) = A_main_v80 (F := Ideal) a0 a1 a2 a3 a4 (ix4 b h n s) := by
  pointwise [A_main_v95, A_main_v93]
end Cert.Dn.Ref
end
-- ==== Proof.Dn.RefL.lean ====
module
public import proofs.«01_k».proof.Proof.Dn.RefC
public import proofs.«01_k».proof.Proof.Dn.RefM
public import proofs.«01_k».proof.Proof.Dn.RefQ
public import proofs.«01_k».proof.Proof.Dn.RefY
@[expose] public section

/-! The reference's decays and its triangular system, entry by entry, on real inputs. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

variable {I : Inp} {a0 : FVec Ideal S4x4096x4096 .f32} {a1 : FVec Ideal S4x4096x128 .f32} {a2 : FVec Ideal S4x3072 .f32} {a3 a4 : FVec Ideal S8 .f32}

/-- The chunk's queries. -/
theorem ch_q (I : Inp) (b : Fin 4) (h : Fin 8) (n i : Fin 64) (d : Fin 128) : (I.ch b h n).q i d = I.q b h (rowOf n i).val d := by simp only [Inp.ch]
/-- The chunk's keys. -/
theorem ch_k (I : Inp) (b : Fin 4) (h : Fin 8) (n i : Fin 64) (d : Fin 128) : (I.ch b h n).k i d = I.k b h (rowOf n i).val d := by simp only [Inp.ch]
/-- The chunk's values. -/
theorem ch_v (I : Inp) (b : Fin 4) (h : Fin 8) (n i : Fin 64) (d : Fin 128) : (I.ch b h n).v i d = I.v b h (rowOf n i).val d := by simp only [Inp.ch]
/-- The chunk's write gate. -/
theorem ch_b (I : Inp) (b : Fin 4) (h : Fin 8) (n i : Fin 64) : (I.ch b h n).b i = I.be b h (rowOf n i) := by simp only [Inp.ch]
/-- The chunk's running sums. -/
theorem ch_g (I : Inp) (b : Fin 4) (h : Fin 8) (n i : Fin 64) : (I.ch b h n).g i = I.G b h n i := by simp only [Inp.ch]

/-- The decays between two rows are the chunk's. -/
theorem v98_eq (H : InpHolds I a0 a1 a2 a3 a4) (b : Fin 4) (h : Fin 8) (n i s : Fin 64) :
    (A_main_v98 (F := Ideal) a0 a1 a2 a3 a4 (ix5 b h n i s) : EReal) = (((if s ≤ i then Real.exp (I.G b h n i - I.G b h n s) else 0) : ℝ) : EReal) := by
  show Ideal.exp (if K_main_call4_v1 (F := Ideal) (ix5 b h n i s) = 1#1 then (A_main_v94 (F := Ideal) a0 a1 a2 a3 a4 (ix5 b h n i s) : EReal) - A_main_v95 (F := Ideal) a0 a1 a2 a3 a4 (ix5 b h n i s) else K_main_call4_v2 (F := Ideal) (ix5 b h n i s)) = _
  rw [m4_rd, c4_rd, v94_rd, v95_rd, v80_eq H, v80_eq H]
  by_cases hs : s ≤ i
  · rw [if_pos hs, if_pos rfl, if_pos hs, ← EReal.coe_sub, Ideal.exp_coe]
  · rw [if_neg hs, if_neg (by decide), if_neg hs, Ideal.exp_bot]; rfl

/-- A product at an element. -/
theorem mul_at {s : Shape} (x y : FVec Ideal s .f32) (i : s.Idx) : (mulf x y i : EReal) = (x i : EReal) * y i := rfl

/-- The write gate repeated along a row, at an element. -/
theorem v100_rd (b : Fin 4) (h : Fin 8) (n i : Fin 64) (d : Fin 128) : (A_main_v100 (F := Ideal) a0 a1 a2 a3 a4 (ix5 b h n i d) : EReal) = A_main_v68 (F := Ideal) a0 a1 a2 a3 a4 (ix4 b h n i) := by
  pointwise [A_main_v100, A_main_v99]
/-- The keys times the write gate. -/
theorem v101_eq (H : InpHolds I a0 a1 a2 a3 a4) (b : Fin 4) (h : Fin 8) (n i : Fin 64) (d : Fin 128) :
    (A_main_v101 (F := Ideal) a0 a1 a2 a3 a4 (ix5 b h n i d) : EReal) = (((I.ch b h n).k i d * (I.ch b h n).b i : ℝ) : EReal) := by
  rw [A_main_v101, mul_at, v100_rd, v68_eq H, v58_eq H, ← EReal.coe_mul, ch_k, ch_b]
/-- Their products with the keys, at an element. -/
theorem v102_rd (b : Fin 4) (h : Fin 8) (n i s : Fin 64) :
    (A_main_v102 (F := Ideal) a0 a1 a2 a3 a4 (ix5 b h n i s) : EReal) = ∑ d : Fin 128, (A_main_v101 (F := Ideal) a0 a1 a2 a3 a4 (ix5 b h n i d) : EReal) * A_main_v58 (F := Ideal) a0 a1 a2 a3 a4 (ix5 b h n s d) := by
  pointwise [A_main_v102]
/-- The decays below the diagonal, at an element. -/
theorem v103_rd (b : Fin 4) (h : Fin 8) (n i s : Fin 64) :
    (A_main_v103 (F := Ideal) a0 a1 a2 a3 a4 (ix5 b h n i s) : EReal) = if K_main_call5_v1 (F := Ideal) (ix5 b h n i s) = 1#1 then (A_main_v98 (F := Ideal) a0 a1 a2 a3 a4 (ix5 b h n i s) : EReal) else K_main_call5_v2 (F := Ideal) (ix5 b h n i s) := by
  pointwise [A_main_v103]
  rfl
/-- The system's matrix is the chunk's. -/
theorem v104_eq (H : InpHolds I a0 a1 a2 a3 a4) (b : Fin 4) (h : Fin 8) (n i s : Fin 64) :
    (A_main_v104 (F := Ideal) a0 a1 a2 a3 a4 (ix5 b h n i s) : EReal) = (((I.ch b h n).L i s : ℝ) : EReal) := by
  rw [A_main_v104, mul_at, v103_rd]
  rw [v102_rd, m5_rd, c5_rd, v98_eq H]
  simp only [v101_eq H, v58_eq H, ← EReal.coe_mul]
  rw [coe_sum', Ch.L, ch_g, ch_g]
  simp only [ch_k]
  by_cases hs : s < i
  · rw [if_pos hs, if_pos rfl, if_pos (le_of_lt hs), if_pos hs, ← EReal.coe_mul]
  · rw [if_neg hs, if_neg (by decide), if_neg hs, mul_zero, mul_zero, EReal.coe_zero]

/-- The write gate repeated along a row of values, at an element. -/
theorem v106_rd (b : Fin 4) (h : Fin 8) (n i : Fin 64) (d : Fin 128) : (A_main_v106 (F := Ideal) a0 a1 a2 a3 a4 (ix5 b h n i d) : EReal) = A_main_v68 (F := Ideal) a0 a1 a2 a3 a4 (ix4 b h n i) := by
  pointwise [A_main_v106, A_main_v105]
/-- The exponential of the running sums repeated along a row, at an element. -/
theorem v110_rd (b : Fin 4) (h : Fin 8) (n i : Fin 64) (d : Fin 128) : (A_main_v110 (F := Ideal) a0 a1 a2 a3 a4 (ix5 b h n i d) : EReal) = Ideal.exp (A_main_v80 (F := Ideal) a0 a1 a2 a3 a4 (ix4 b h n i)) := by
  pointwise [A_main_v110, A_main_v109, A_main_v108]
/-- The right sides' value columns are the chunk's. -/
theorem v112_u (H : InpHolds I a0 a1 a2 a3 a4) (b : Fin 4) (h : Fin 8) (n i : Fin 64) (e : Fin 128) :
    (A_main_v112 (F := Ideal) a0 a1 a2 a3 a4 (ix5 b h n i (⟨e.val, by omega⟩ : Fin 256)) : EReal) = (((I.ch b h n).ru i e : ℝ) : EReal) := by
  have h1 : (A_main_v112 (F := Ideal) a0 a1 a2 a3 a4 (ix5 b h n i (⟨e.val, by omega⟩ : Fin 256)) : EReal) = A_main_v107 (F := Ideal) a0 a1 a2 a3 a4 (ix5 b h n i e) := by
    pointwise [A_main_v112]
  rw [h1, A_main_v107, mul_at, v106_rd, v68_eq H, v60_eq H, ← EReal.coe_mul, Ch.ru, ch_v, ch_b]
/-- The right sides' key columns are the chunk's. -/
theorem v112_w (H : InpHolds I a0 a1 a2 a3 a4) (b : Fin 4) (h : Fin 8) (n i : Fin 64) (e : Fin 128) :
    (A_main_v112 (F := Ideal) a0 a1 a2 a3 a4 (ix5 b h n i (⟨128 + e.val, by omega⟩ : Fin 256)) : EReal) = (((I.ch b h n).rw i e : ℝ) : EReal) := by
  have h1 : (A_main_v112 (F := Ideal) a0 a1 a2 a3 a4 (ix5 b h n i (⟨128 + e.val, by omega⟩ : Fin 256)) : EReal) = A_main_v111 (F := Ideal) a0 a1 a2 a3 a4 (ix5 b h n i e) := by
    pointwise [A_main_v112]
  rw [h1, A_main_v111, mul_at, v110_rd, v80_eq H, v101_eq H, Ideal.exp_coe, ← EReal.coe_mul, Ch.rw, ch_g]
end Cert.Dn.Ref
end
-- ==== Proof.Dn.Sub.lean ====
module
public import proofs.«01_k».proof.Proof.Dn.Entry
public import proofs.«01_k».proof.Proof.Dn.RefL
@[expose] public section

/-! The reference's forward substitution, entry by entry. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

/-- The substitution starts with zeros. -/
theorem zero_rd (b : Fin 4) (h : Fin 8) (n i : Fin 64) (w : Fin 256) : (K_main_v113 (F := Ideal) (ix5 b h n i w) : EReal) = 0 := by
  show Ideal.ofBits .f32 0x00000000#32 = 0
  simp [Ideal.ofBits, Ideal.ieee]
/-- One step solves one row. -/
theorem sub1_rd (p : Pre Ideal) (hp : p.i = K_main_v81) (c : Fin 64) (x : FVec Ideal S4x8x64x64x256 .f32) (b : Fin 4) (h : Fin 8) (n i : Fin 64) (w : Fin 256) :
    (sub1 p c.val x (ix5 b h n i w) : EReal) = if i = c then (p.R (ix5 b h n i w) : EReal) - ∑ s : Fin 64, (p.L (ix5 b h n i s) : EReal) * x (ix5 b h n s w) else x (ix5 b h n i w) := by
  rw [sub1, hp]
  pointwise [K_main_v81]
  rw [(cmp64 i c).2.2]
  by_cases hi : i = c
  · rw [if_pos hi, if_pos hi]; rfl
  · rw [if_neg hi, if_neg hi]; rfl

/-- The steps are forward substitution, in every column `f e`. -/
theorem subs_eq (p : Pre Ideal) (hp : p.i = K_main_v81) (b : Fin 4) (h : Fin 8) (n : Fin 64) (L : Fin 64 → Fin 64 → ℝ) (r : Fin 64 → Fin 128 → ℝ) (f : Fin 128 → Fin 256)
    (hL : ∀ i s, (p.L (ix5 b h n i s) : EReal) = ((L i s : ℝ) : EReal)) (hR : ∀ i e, (p.R (ix5 b h n i (f e)) : EReal) = ((r i e : ℝ) : EReal)) (k : ℕ) :
    k ≤ 64 → ∀ i e, (subs p 0 k (K_main_v113 (F := Ideal)) (ix5 b h n i (f e)) : EReal) = ((solveN L r k i e : ℝ) : EReal) := by
  induction k with
  | zero => intro _ i e; exact (zero_rd b h n i (f e)).trans rfl
  | succ k ih =>
    intro hk i e
    have e1 : subs p 0 (k + 1) (K_main_v113 (F := Ideal)) = sub1 p (⟨k, by omega⟩ : Fin 64).val (subs p 0 k (K_main_v113 (F := Ideal))) := by
      show sub1 p (0 + k) _ = sub1 p k _
      rw [Nat.zero_add]
    rw [e1, sub1_rd p hp]
    simp only [hL, hR, ih (by omega), ← EReal.coe_mul]
    rw [coe_sum', ← EReal.coe_sub]
    show _ = (((if i.val = k then r i e - ∑ s, L i s * solveN L r k s e else solveN L r k i e) : ℝ) : EReal)
    by_cases hi : i.val = k
    · rw [if_pos (Fin.ext hi), if_pos hi]
    · rw [if_neg (fun h => hi (congrArg Fin.val h)), if_neg hi]
end Cert.Dn.Ref
end
-- ==== Proof.Dn.Scan.lean ====
module
public import proofs.«01_k».proof.Proof.Dn.Loop
public import proofs.«01_k».proof.Proof.Dn.Data
public import proofs.«01_k».proof.Proof.Dn.Sum
public import Idealize.ShloMosaic.Lib.Pointwise
@[expose] public section

/-! The reference's loop over chunks, entry by entry, on real values. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

variable {α : Type}
/-- Taking element `j` of a stack. -/
theorem ds5 {A B C D : ℕ} (x : (⟨5, ![64, A, B, C, D]⟩ : Shape).Idx → α) (st : Fin 5 → Int) (j : Fin 64) (h0 : st 0 = (j.val : Int)) (h1 : st 1 = 0) (h2 : st 2 = 0) (h3 : st 3 = 0) (h4 : st 4 = 0)
    (hf : (⟨5, ![64, A, B, C, D]⟩ : Shape).Slices (fun _ => 0) ⟨5, ![1, A, B, C, D]⟩) (b : Fin A) (h : Fin B) (c : Fin C) (d : Fin D) :
    Host.dynamicSlice ⟨5, ![1, A, B, C, D]⟩ x st hf (ix5 0 b h c d) = x (ix5 j b h c d) := by
  rw [Host.dynamicSlice_apply]
  refine congrArg x (funext fun a => ?_)
  fin_cases a
  · exact Fin.ext (by
      show Host.clampedStart _ _ hf.1 st (0 : Fin 5) + 0 = j.val
      rw [Host.clampedStart_of_le hf.1 st (0 : Fin 5) j.val h0 (by show j.val + 1 ≤ 64; omega)]
      rfl)
  · exact Fin.ext (by
      show Host.clampedStart _ _ hf.1 st (1 : Fin 5) + b.val = b.val
      rw [Host.clampedStart_of_le hf.1 st (1 : Fin 5) 0 h1 (by show 0 + A ≤ A; omega), Nat.zero_add])
  · exact Fin.ext (by
      show Host.clampedStart _ _ hf.1 st (2 : Fin 5) + h.val = h.val
      rw [Host.clampedStart_of_le hf.1 st (2 : Fin 5) 0 h2 (by show 0 + B ≤ B; omega), Nat.zero_add])
  · exact Fin.ext (by
      show Host.clampedStart _ _ hf.1 st (3 : Fin 5) + c.val = c.val
      rw [Host.clampedStart_of_le hf.1 st (3 : Fin 5) 0 h3 (by show 0 + C ≤ C; omega), Nat.zero_add])
  · exact Fin.ext (by
      show Host.clampedStart _ _ hf.1 st (4 : Fin 5) + d.val = d.val
      rw [Host.clampedStart_of_le hf.1 st (4 : Fin 5) 0 h4 (by show 0 + D ≤ D; omega), Nat.zero_add])
/-- A slice of one chunk out of an array of four axes, at an element. -/
theorem ds4 {A B C : ℕ} (x : (⟨4, ![64, A, B, C]⟩ : Shape).Idx → α) (st : Fin 4 → Int) (j : Fin 64) (h0 : st 0 = (j.val : Int)) (h1 : st 1 = 0) (h2 : st 2 = 0) (h3 : st 3 = 0)
    (hf : (⟨4, ![64, A, B, C]⟩ : Shape).Slices (fun _ => 0) ⟨4, ![1, A, B, C]⟩) (b : Fin A) (h : Fin B) (c : Fin C) :
    Host.dynamicSlice ⟨4, ![1, A, B, C]⟩ x st hf (ix4 0 b h c) = x (ix4 j b h c) := by
  rw [Host.dynamicSlice_apply]
  refine congrArg x (funext fun a => ?_)
  fin_cases a
  · exact Fin.ext (by
      show Host.clampedStart _ _ hf.1 st (0 : Fin 4) + 0 = j.val
      rw [Host.clampedStart_of_le hf.1 st (0 : Fin 4) j.val h0 (by show j.val + 1 ≤ 64; omega)]
      rfl)
  · exact Fin.ext (by
      show Host.clampedStart _ _ hf.1 st (1 : Fin 4) + b.val = b.val
      rw [Host.clampedStart_of_le hf.1 st (1 : Fin 4) 0 h1 (by show 0 + A ≤ A; omega), Nat.zero_add])
  · exact Fin.ext (by
      show Host.clampedStart _ _ hf.1 st (2 : Fin 4) + h.val = h.val
      rw [Host.clampedStart_of_le hf.1 st (2 : Fin 4) 0 h2 (by show 0 + B ≤ B; omega), Nat.zero_add])
  · exact Fin.ext (by
      show Host.clampedStart _ _ hf.1 st (3 : Fin 4) + c.val = c.val
      rw [Host.clampedStart_of_le hf.1 st (3 : Fin 4) 0 h3 (by show 0 + C ≤ C; omega), Nat.zero_add])
/-- Setting element `j` of a stack. -/
theorem dus5 {A B C D : ℕ} (x : (⟨5, ![64, A, B, C, D]⟩ : Shape).Idx → α) (y : (⟨5, ![1, A, B, C, D]⟩ : Shape).Idx → α) (st : Fin 5 → Int) (j : Fin 64) (h0 : st 0 = (j.val : Int)) (h1 : st 1 = 0) (h2 : st 2 = 0)
    (h3 : st 3 = 0) (h4 : st 4 = 0) (hf : (⟨5, ![64, A, B, C, D]⟩ : Shape).Slices (fun _ => 0) ⟨5, ![1, A, B, C, D]⟩) (n : Fin 64) (b : Fin A) (h : Fin B) (c : Fin C) (d : Fin D) :
    Host.dynamicUpdateSlice x y st hf (ix5 n b h c d) = if n = j then y (ix5 0 b h c d) else x (ix5 n b h c d) := by
  have c0 := Host.clampedStart_of_le hf.1 st (0 : Fin 5) j.val h0 (by show j.val + 1 ≤ 64; omega)
  have c1 := Host.clampedStart_of_le hf.1 st (1 : Fin 5) 0 h1 (by show 0 + A ≤ A; omega)
  have c2 := Host.clampedStart_of_le hf.1 st (2 : Fin 5) 0 h2 (by show 0 + B ≤ B; omega)
  have c3 := Host.clampedStart_of_le hf.1 st (3 : Fin 5) 0 h3 (by show 0 + C ≤ C; omega)
  have c4 := Host.clampedStart_of_le hf.1 st (4 : Fin 5) 0 h4 (by show 0 + D ≤ D; omega)
  have hb := b.isLt
  have hh := h.isLt
  have hc := c.isLt
  have hd := d.isLt
  rw [Host.dynamicUpdateSlice_apply]
  by_cases hn : n = j
  · subst hn
    rw [dif_pos, if_pos rfl]
    · refine congrArg y (funext fun a => ?_)
      fin_cases a
      · exact Fin.ext (by show n.val - Host.clampedStart _ _ hf.1 st (0 : Fin 5) = 0; rw [c0]; omega)
      · exact Fin.ext (by show b.val - Host.clampedStart _ _ hf.1 st (1 : Fin 5) = b.val; rw [c1]; omega)
      · exact Fin.ext (by show h.val - Host.clampedStart _ _ hf.1 st (2 : Fin 5) = h.val; rw [c2]; omega)
      · exact Fin.ext (by show c.val - Host.clampedStart _ _ hf.1 st (3 : Fin 5) = c.val; rw [c3]; omega)
      · exact Fin.ext (by show d.val - Host.clampedStart _ _ hf.1 st (4 : Fin 5) = d.val; rw [c4]; omega)
    · intro a
      fin_cases a
      · show Host.clampedStart _ _ hf.1 st (0 : Fin 5) ≤ n.val ∧ n.val < Host.clampedStart _ _ hf.1 st (0 : Fin 5) + 1; rw [c0]; omega
      · show Host.clampedStart _ _ hf.1 st (1 : Fin 5) ≤ b.val ∧ b.val < Host.clampedStart _ _ hf.1 st (1 : Fin 5) + A; rw [c1]; omega
      · show Host.clampedStart _ _ hf.1 st (2 : Fin 5) ≤ h.val ∧ h.val < Host.clampedStart _ _ hf.1 st (2 : Fin 5) + B; rw [c2]; omega
      · show Host.clampedStart _ _ hf.1 st (3 : Fin 5) ≤ c.val ∧ c.val < Host.clampedStart _ _ hf.1 st (3 : Fin 5) + C; rw [c3]; omega
      · show Host.clampedStart _ _ hf.1 st (4 : Fin 5) ≤ d.val ∧ d.val < Host.clampedStart _ _ hf.1 st (4 : Fin 5) + D; rw [c4]; omega
  · rw [dif_neg, if_neg hn]
    intro e
    have := e (0 : Fin 5)
    have e' : Host.clampedStart _ _ hf.1 st (0 : Fin 5) ≤ n.val ∧ n.val < Host.clampedStart _ _ hf.1 st (0 : Fin 5) + 1 := this
    rw [c0] at e'
    exact hn (Fin.ext (by omega))

/-- A small number as a word, read back. -/
theorem toInt64 : ∀ j : Fin 64, (BitVec.ofNat 32 j.val).toInt = (j.val : Int) := by decide +kernel

section trip
variable (j : Fin 64) (s : State Ideal) (b : Fin 4) (h : Fin 8)
/-- A trip's queries are its chunk's. -/
theorem b5_rd (c : Fin 64) (d : Fin 128) : (b5 j.val s (ix4 b h c d) : EReal) = s.main_v510_0 (ix5 j b h c d) := by
  have h1 : (b5 j.val s (ix4 b h c d) : EReal) = b4 j.val s (ix5 0 b h c d) := by pointwise [b5]
  exact h1.trans (ds5 s.main_v510_0 _ j (toInt64 j) rfl rfl rfl rfl _ b h c d)
/-- A trip's keys are its chunk's. -/
theorem b11_rd (c : Fin 64) (d : Fin 128) : (b11 j.val s (ix4 b h c d) : EReal) = s.main_v510_1 (ix5 j b h c d) := by
  have h1 : (b11 j.val s (ix4 b h c d) : EReal) = b10 j.val s (ix5 0 b h c d) := by pointwise [b11]
  exact h1.trans (ds5 s.main_v510_1 _ j (toInt64 j) rfl rfl rfl rfl _ b h c d)
/-- A trip's solved values are its chunk's. -/
theorem b17_rd (c : Fin 64) (d : Fin 128) : (b17 j.val s (ix4 b h c d) : EReal) = s.main_v510_2 (ix5 j b h c d) := by
  have h1 : (b17 j.val s (ix4 b h c d) : EReal) = b16 j.val s (ix5 0 b h c d) := by pointwise [b17]
  exact h1.trans (ds5 s.main_v510_2 _ j (toInt64 j) rfl rfl rfl rfl _ b h c d)
/-- A trip's solved keys are its chunk's. -/
theorem b23_rd (c : Fin 64) (d : Fin 128) : (b23 j.val s (ix4 b h c d) : EReal) = s.main_v510_3 (ix5 j b h c d) := by
  have h1 : (b23 j.val s (ix4 b h c d) : EReal) = b22 j.val s (ix5 0 b h c d) := by pointwise [b23]
  exact h1.trans (ds5 s.main_v510_3 _ j (toInt64 j) rfl rfl rfl rfl _ b h c d)
/-- A trip's attention weights are its chunk's. -/
theorem b29_rd (c d : Fin 64) : (b29 j.val s (ix4 b h c d) : EReal) = s.main_v510_4 (ix5 j b h c d) := by
  have h1 : (b29 j.val s (ix4 b h c d) : EReal) = b28 j.val s (ix5 0 b h c d) := by pointwise [b29]
  exact h1.trans (ds5 s.main_v510_4 _ j (toInt64 j) rfl rfl rfl rfl _ b h c d)
/-- A trip's running sums are its chunk's. -/
theorem b34_rd (c : Fin 64) : (b34 j.val s (ix3 b h c) : EReal) = s.main_v510_5 (ix4 j b h c) := by
  have h1 : (b34 j.val s (ix3 b h c) : EReal) = b33 j.val s (ix4 0 b h c) := by pointwise [b34]
  exact h1.trans (ds4 s.main_v510_5 _ j (toInt64 j) rfl rfl rfl _ b h c)
/-- The values a trip writes, at an element. -/
theorem b36_rd (i : Fin 64) (e : Fin 128) : (b36 j.val s (ix4 b h i e) : EReal) = (b17 j.val s (ix4 b h i e) : EReal) - ∑ d : Fin 128, (b23 j.val s (ix4 b h i d) : EReal) * s.main_v510_7 (ix4 b h d e) := by
  pointwise [b36, b35]
/-- A trip's outputs, at an element. -/
theorem b43_rd (i : Fin 64) (e : Fin 128) : (b43 j.val s (ix4 b h i e) : EReal) =
    (∑ d : Fin 128, (b5 j.val s (ix4 b h i d) : EReal) * Ideal.exp (b34 j.val s (ix3 b h i)) * s.main_v510_7 (ix4 b h d e)) + ∑ t : Fin 64, (b29 j.val s (ix4 b h i t) : EReal) * b36 j.val s (ix4 b h t e) := by
  pointwise [b43, b42, b41, b40, b39, b38, b37]
/-- The state after a trip, at an element. -/
theorem b58_rd (d e : Fin 128) : (b58 j.val s (ix4 b h d e) : EReal) =
    (s.main_v510_7 (ix4 b h d e) : EReal) * Ideal.exp (b34 j.val s (ix3 b h 63)) +
      ∑ t : Fin 64, (b11 j.val s (ix4 b h t d) : EReal) * Ideal.exp ((b34 j.val s (ix3 b h 63) : EReal) - b34 j.val s (ix3 b h t)) * b36 j.val s (ix4 b h t e) := by
  pointwise [b58, b57, b56, b55, b54, b53, b52, b51, b50, b49, b48, b47, b46, b45, b44]
/-- The outputs after a trip: the trip's own chunk is new, the others stay. -/
theorem b64_rd (n : Fin 64) (c : Fin 64) (e : Fin 128) : (b64 j.val s (ix5 n b h c e) : EReal) = if n = j then (b43 j.val s (ix4 b h c e) : EReal) else s.main_v510_8 (ix5 n b h c e) := by
  refine (dus5 s.main_v510_8 (b59 j.val s) _ j (toInt64 j) rfl rfl rfl rfl _ n b h c e).trans ?_
  have h1 : (b59 j.val s (ix5 0 b h c e) : EReal) = b43 j.val s (ix4 b h c e) := by pointwise [b59]
  rw [h1]
end trip

/-- The state before trip `j`: the chunks' data, the states `I.S`, the outputs of the chunks before. -/
structure Inv (I : Inp) (j : ℕ) (s : State Ideal) : Prop where
  q : ∀ n b h c d, (s.main_v510_0 (ix5 n b h c d) : EReal) = (((I.ch b h n).q c d : ℝ) : EReal)
  k : ∀ n b h c d, (s.main_v510_1 (ix5 n b h c d) : EReal) = (((I.ch b h n).k c d : ℝ) : EReal)
  u : ∀ n b h c d, (s.main_v510_2 (ix5 n b h c d) : EReal) = (((I.ch b h n).u c d : ℝ) : EReal)
  w : ∀ n b h c d, (s.main_v510_3 (ix5 n b h c d) : EReal) = (((I.ch b h n).w c d : ℝ) : EReal)
  a : ∀ n b h c d, (s.main_v510_4 (ix5 n b h c d) : EReal) = (((I.ch b h n).a c d : ℝ) : EReal)
  g : ∀ n b h c, (s.main_v510_5 (ix4 n b h c) : EReal) = (((I.ch b h n).g c : ℝ) : EReal)
  S : ∀ b h d e, (s.main_v510_7 (ix4 b h d e) : EReal) = ((I.S b h j d e : ℝ) : EReal)
  o : ∀ n b h c e, n.val < j → (s.main_v510_8 (ix5 n b h c e) : EReal) = ((I.O b h n c e : ℝ) : EReal)

variable {I : Inp}
/-- The values a trip writes are the chunk's. -/
theorem vn_eq {j : Fin 64} {s : State Ideal} (H : Inv I j.val s) (b : Fin 4) (h : Fin 8) (i : Fin 64) (e : Fin 128) :
    (b36 j.val s (ix4 b h i e) : EReal) = (((I.ch b h j).vn (I.S b h j.val) i e : ℝ) : EReal) := by
  rw [b36_rd, b17_rd, H.u]
  simp only [b23_rd, H.w, H.S, ← EReal.coe_mul]
  rw [coe_sum', ← EReal.coe_sub]; rfl
/-- A trip's outputs are the chunk's. -/
theorem o_eq {j : Fin 64} {s : State Ideal} (H : Inv I j.val s) (b : Fin 4) (h : Fin 8) (i : Fin 64) (e : Fin 128) :
    (b43 j.val s (ix4 b h i e) : EReal) = ((I.O b h j i e : ℝ) : EReal) := by
  rw [b43_rd]
  simp only [b5_rd, b34_rd, b29_rd, vn_eq H, H.q, H.g, H.a, H.S, Ideal.exp_coe, ← EReal.coe_mul]
  rw [coe_sum', coe_sum', ← EReal.coe_add]; rfl
/-- The state after a trip is the chunk's next one. -/
theorem next_eq {j : Fin 64} {s : State Ideal} (H : Inv I j.val s) (b : Fin 4) (h : Fin 8) (d e : Fin 128) :
    (b58 j.val s (ix4 b h d e) : EReal) = (((I.ch b h j).next (I.S b h j.val) d e : ℝ) : EReal) := by
  rw [b58_rd]
  simp only [b11_rd, b34_rd, vn_eq H, H.k, H.g, H.S, ← EReal.coe_sub, Ideal.exp_coe, ← EReal.coe_mul]
  rw [coe_sum', ← EReal.coe_add]; rfl
/-- One trip. -/
theorem inv_step {j : Fin 64} {s : State Ideal} (H : Inv I j.val s) : Inv I (j.val + 1) (step j.val s) where
  q := H.q
  k := H.k
  u := H.u
  w := H.w
  a := H.a
  g := H.g
  S b h d e := by
    rw [step_main_v510_7]
    refine (next_eq H b h d e).trans ?_
    have e1 : (⟨j.val % 64, Nat.mod_lt _ (by decide)⟩ : Fin 64) = j := Fin.ext (Nat.mod_eq_of_lt j.isLt)
    show _ = (((I.ch b h ⟨j.val % 64, Nat.mod_lt _ (by decide)⟩).next (I.S b h j.val) d e : ℝ) : EReal)
    rw [e1]
  o n b h c e hn := by
    rw [step_main_v510_8]
    refine (b64_rd j s b h n c e).trans ?_
    by_cases hj : n = j
    · rw [if_pos hj, hj]; exact o_eq H b h c e
    · rw [if_neg hj]; exact H.o n b h c e (by have : n.val ≠ j.val := fun e => hj (Fin.ext e); omega)
/-- All trips. -/
theorem inv_iter {V : Valuation τ sig (Elt Ideal)} (h6 : V (Proc.devRef .tc main_v510_6) = constantI S_ 32 (BitVec.ofNat 32 0)) (H : Inv I 0 (stOf V)) (k : ℕ) : k ≤ 64 →
    Inv I k (stOf (Cert.RefDeltaIdeal.Value.STEP^[k] V)) ∧ (Cert.RefDeltaIdeal.Value.STEP^[k] V) (Proc.devRef .tc main_v510_6) = constantI S_ 32 (BitVec.ofNat 32 k) := by
  induction k with
  | zero => intro _; exact ⟨H, h6⟩
  | succ k ih =>
    intro hk
    obtain ⟨h1, h2⟩ := ih (by omega)
    rw [Function.iterate_succ_apply']
    obtain ⟨e1, e2⟩ := stOf_step _ k h2
    exact ⟨e1 ▸ inv_step (j := ⟨k, by omega⟩) h1, e2⟩
end Cert.Dn.Ref
end
-- ==== Proof.Dn.Final.lean ====
module
public import proofs.«01_k».proof.Proof.Dn.Loop
public import proofs.«01_k».proof.Proof.Dn.Data
public import proofs.«01_k».proof.Proof.Dn.Sum
public import Idealize.ShloMosaic.Lib.Pointwise
@[expose] public section

/-! The reference's result of the loop's outputs. -/

set_option maxRecDepth 65536
noncomputable section
namespace Cert.Dn.Ref
open Cert.RefDeltaIdeal Cert.RefDeltaIdeal.Gen Cert.RefDeltaIdeal.Step Idealize.ShloMosaic Idealize.ShloMosaic.TcCoe Idealize.SL.Sem

/-- The result at an element: the normed output times the activated output gate. -/
theorem fin_rd (s : State Ideal) (a0 : FVec Ideal S4x4096x4096 .f32) (a5 : FVec Ideal S128 .f32) (b : Fin 4) (R : Fin 4096) (K : Fin 1024) (z : ℝ) (hz : (a0 (ix3 b R ⟨3072 + K.val, by omega⟩) : EReal) = (z : EReal)) :
    (R_main_v531 s a0 a5 (ix3 b R K) : EReal) =
      fin (fun e => s.main_v510_8 (ix5 (⟨R.val / 64, by omega⟩ : Fin 64) b (⟨K.val / 128, by omega⟩ : Fin 8) (⟨R.val % 64, by omega⟩ : Fin 64) e)) (a5 (ix1 (⟨K.val % 128, by omega⟩ : Fin 128)))
        (a0 (ix3 b R ⟨3072 + K.val, by omega⟩)) ⟨K.val % 128, by omega⟩ := by
  pointwise [R_main_v531]
  unfold fin
  have hl : Ideal.div 1 (1 + Ideal.exp (-(z : EReal))) = Ideal.logistic (z : EReal) := (div_sig z).trans (Ideal.logistic_coe _).symm
  rw [hz, hl]
end Cert.Dn.Ref
end
-- ==== Proof.Dn.Result.lean ====
module
public import proofs.«01_k».proof.Proof.Dn.Entry0
public import proofs.«01_k».proof.Proof.Dn.Sub
public import proofs.«01_k».proof.Proof.Dn.Scan
public import proofs.«01_k».proof.Proof.Dn.Final
@[expose] public section

/-! The reference's result, entry by entry, on real inputs. -/

set_option maxRecDepth 65536
noncomputable section
namespace Cert.Dn.Ref
open Idealize.ShloMosaic.StableHlo Cert.RefDeltaIdeal Cert.RefDeltaIdeal.Gen Cert.RefDeltaIdeal.Step Cert.RefDeltaIdeal.Value Idealize.ShloMosaic Idealize.ShloMosaic.TcCoe Idealize.SL.Sem

section start
variable (p : Pre Ideal) (x : FVec Ideal S4x8x64x64x256 .f32) (n : Fin 64) (b : Fin 4) (h : Fin 8) (c : Fin 64)
/-- The loop starts with the queries, chunk by chunk. -/
theorem start_q (d : Fin 128) : ((start p x).main_v510_0 (ix5 n b h c d) : EReal) = p.q (ix5 b h n c d) := by
  unfold start; pointwise
/-- The loop starts with the keys, chunk by chunk. -/
theorem start_k (d : Fin 128) : ((start p x).main_v510_1 (ix5 n b h c d) : EReal) = p.k (ix5 b h n c d) := by
  unfold start; pointwise
/-- The loop starts with the solved values, chunk by chunk. -/
theorem start_u (d : Fin 128) : ((start p x).main_v510_2 (ix5 n b h c d) : EReal) = x (ix5 b h n c (⟨d.val, by omega⟩ : Fin 256)) := by
  unfold start; pointwise
/-- The loop starts with the solved keys, chunk by chunk. -/
theorem start_w (d : Fin 128) : ((start p x).main_v510_3 (ix5 n b h c d) : EReal) = x (ix5 b h n c (⟨128 + d.val, by omega⟩ : Fin 256)) := by
  unfold start; pointwise
/-- The loop starts with the attention weights, chunk by chunk. -/
theorem start_a (d : Fin 64) : ((start p x).main_v510_4 (ix5 n b h c d) : EReal) = (∑ e : Fin 128, (p.q (ix5 b h n c e) : EReal) * p.k (ix5 b h n d e)) * p.d (ix5 b h n c d) := by
  unfold start; pointwise
/-- The loop starts with the running sums, chunk by chunk. -/
theorem start_g : ((start p x).main_v510_5 (ix4 n b h c) : EReal) = p.g (ix4 b h n c) := by
  unfold start; pointwise
/-- The loop starts with zero states. -/
theorem start_S (d e : Fin 128) : ((start p x).main_v510_7 (ix4 b h d e) : EReal) = 0 := by
  show Ideal.ofBits .f32 0x00000000#32 = 0
  simp [Ideal.ofBits, Ideal.ieee]
end start

variable {I : Inp} {a0 : FVec Ideal S4x4096x4096 .f32} {a1 : FVec Ideal S4x4096x128 .f32} {a2 : FVec Ideal S4x3072 .f32} {a3 a4 : FVec Ideal S8 .f32}
/-- The state the loop starts from. -/
theorem inv0 (H : InpHolds I a0 a1 a2 a3 a4) : Inv I 0 (start (pre0 a0 a1 a2 a3 a4) (subs (pre0 a0 a1 a2 a3 a4) 0 64 (K_main_v113 (F := Ideal)))) where
  q n b h c d := (start_q _ _ n b h c d).trans (v48_eq H b h n c d)
  k n b h c d := (start_k _ _ n b h c d).trans (v58_eq H b h n c d)
  u n b h c d := (start_u _ _ n b h c d).trans (subs_eq _ rfl b h n (I.ch b h n).L (I.ch b h n).ru (fun e => ⟨e.val, by omega⟩) (v104_eq H b h n) (v112_u H b h n) 64 le_rfl c d)
  w n b h c d := (start_w _ _ n b h c d).trans (subs_eq _ rfl b h n (I.ch b h n).L (I.ch b h n).rw (fun e => ⟨128 + e.val, by omega⟩) (v104_eq H b h n) (v112_w H b h n) 64 le_rfl c d)
  a n b h c d := by
    refine (start_a _ _ n b h c d).trans ?_
    simp only [pre0]
    rw [v98_eq H]
    simp only [v48_eq H, v58_eq H, ← EReal.coe_mul]
    rw [coe_sum', ← EReal.coe_mul, Ch.a, ch_g, ch_g]
    simp only [ch_q, ch_k]
  g n b h c := (start_g _ _ n b h c).trans (v80_eq H b h n c)
  S b h d e := start_S _ _ b h d e
  o n b h c e hn := absurd hn (Nat.not_lt_zero _)

/-- The first step of the substitution. -/
theorem first : A_main_v119 (F := Ideal) a0 a1 a2 a3 a4 = subs (pre0 a0 a1 a2 a3 a4) 0 1 (K_main_v113 (F := Ideal)) := by
  simp only [A_main_v119, A_main_v118, A_main_v117, K_main_call6_v0, K_main_v116, K_main_v115, K_main_v114, K_main_c_10, subs, sub1, pre0]

variable (m : (ℓ : Loc nD τ sig) → Buf (Elt Ideal) ℓ) (c : Dev nD)
/-- The state at the loop's start holds the real data. -/
theorem at_loop (H : InpHolds I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    Inv I 0 (stOf (entryContents preI m c)) ∧ entryContents preI m c (Proc.devRef .tc main_v510_6) = constantI S_ 32 (BitVec.ofNat 32 0) := by
  have e : entryContents preI m c = afterL (preI.drop 14) (afterL (preI.take 14) (launchContents m c)) := afterL_split 14 preI (launchContents m c)
  obtain ⟨s1, s6⟩ := solved (afterL (preI.take 14) (launchContents m c))
  obtain ⟨p1, p2⟩ := pre_all (V := launchContents m c) (a0 := m ((c.tc : Thread nD τ).loc main_arg0)) (a1 := m ((c.tc : Thread nD τ).loc main_arg1)) (a2 := m ((c.tc : Thread nD τ).loc main_arg2))
    (a3 := m ((c.tc : Thread nD τ).loc main_arg3)) (a4 := m ((c.tc : Thread nD τ).loc main_arg4)) rfl rfl rfl rfl rfl
  rw [p1, p2] at s1
  rw [e]
  refine ⟨?_, s6⟩
  rw [s1]
  have e3 := subs_add (pre0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) 0 1 (K_main_v113 (F := Ideal)) 63
  rw [first]
  exact (congrArg (fun y => Inv I 0 (start _ y)) e3).mpr (inv0 H)

/-- The result is read off the state the loop ends in. -/
theorem out_eq (V : Valuation τ sig (Elt Ideal)) : out_main_v531 V = R_main_v531 (stOf V) (V (Proc.devRef .tc main_arg0)) (V (Proc.devRef .tc main_arg5)) := rfl

/-- The result: of sequence `b`, chunk `n`, row `r`, head `h`, column `d`. -/
theorem result (H : InpHolds I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (b : Fin 4) (n r : Fin 64) (h : Fin 8) (d : Fin 128) :
    (out_main_v531 (STEP^[64] (entryContents preI m c)) (ix3 b (rowOf n r) (⟨128 * h.val + d.val, by omega⟩ : Fin 1024)) : EReal) =
      fin (fun e => ((I.O b h n r e : ℝ) : EReal)) (m ((c.tc : Thread nD τ).loc main_arg5) (ix1 d)) (m ((c.tc : Thread nD τ).loc main_arg0) (ix3 b (rowOf n r) ⟨3072 + (128 * h.val + d.val), by omega⟩)) d := by
  obtain ⟨h0, h6⟩ := at_loop m c H
  have hi := (inv_iter h6 h0 64 le_rfl).1
  rw [out_eq, iter_main_arg0, iter_main_arg5]
  refine (fin_rd _ _ _ b (rowOf n r) (⟨128 * h.val + d.val, by omega⟩ : Fin 1024) _ (H.p _ _ _)).trans ?_
  have e1 : (⟨(rowOf n r).val / 64, by omega⟩ : Fin 64) = n := Fin.ext (by show (64 * n.val + r.val) / 64 = n.val; omega)
  have e2 : (⟨(rowOf n r).val % 64, by omega⟩ : Fin 64) = r := Fin.ext (by show (64 * n.val + r.val) % 64 = r.val; omega)
  have e3 : (⟨(128 * h.val + d.val) / 128, by omega⟩ : Fin 8) = h := Fin.ext (by show (128 * h.val + d.val) / 128 = h.val; omega)
  have e4 : (⟨(128 * h.val + d.val) % 128, by omega⟩ : Fin 128) = d := Fin.ext (by show (128 * h.val + d.val) % 128 = d.val; omega)
  rw [e1, e2, e3, e4]
  exact congrArg (fun o => fin o _ _ d) (funext fun e => hi.o n b h r e n.isLt)
end Cert.Dn.Ref
end
-- ==== Proof.Dn.Claim.lean ====
module
public import proofs.«01_k».proof.Defs
public import proofs.«01_k».proof.Proof.Dn.Grid
public import proofs.«01_k».proof.Proof.Dn.Real
public import proofs.«01_k».proof.Proof.Dn.Result
public import Idealize.ShloMosaic.Lib.Quiescent
@[expose] public section

/-! The claims about the DeltaNet call. -/

set_option maxRecDepth 65536
noncomputable section
namespace Cert.Dn
open Idealize.ShloMosaic Idealize.SL.Sem

/-- The reference's run ends with its arguments unchanged and no transfer open. -/
theorem quiescent_ref : quiescent_RefDeltaIdeal := fun m ρ _ =>
  (θ_run Cert.RefDeltaIdeal.defs _ _).mono (fun r h => ⟨fun c => (h c).2, sem_eq_zero_of_no_sems (by decide) r.2⟩)
    (Cert.RefDeltaIdeal.Value.run (F := Ideal) m ρ)

/-- Every position of the result is a row of a chunk and a column of a head. -/
theorem pos (R : Fin 4096) (K : Fin 1024) : ∃ (n r : Fin 64) (h : Fin 8) (d : Fin 128), R = rowOf n r ∧ K = (⟨128 * h.val + d.val, by omega⟩ : Fin 1024) :=
  ⟨⟨R.val / 64, by omega⟩, ⟨R.val % 64, by omega⟩, ⟨K.val / 128, by omega⟩, ⟨K.val % 128, by omega⟩,
    Fin.ext (by show R.val = 64 * (R.val / 64) + R.val % 64; omega), Fin.ext (by show K.val = 128 * (K.val / 128) + K.val % 128; omega)⟩

/-- Over real arrays the call leaves what its reference does. -/
theorem algebraic : algebraic_DeltaIdeal_RefDeltaIdeal_pre_all_real (hPre_all_real := Real.facts) := by
  intro m ρ m' ρ' hpre hagree
  haveI := Real.facts
  refine ⟨_, Cert.DeltaIdeal.Value.run (F := Ideal) m ρ, ?_⟩
  refine (θ_run Cert.RefDeltaIdeal.defs _ _).mono (fun _ h c => ⟨?_, (h c).2⟩) (Cert.RefDeltaIdeal.Value.run (F := Ideal) m' ρ')
  refine (h c).1.trans (funext fun i => ?_)
  obtain ⟨b, R, K, rfl⟩ : ∃ (b : Fin 4) (R : Fin 4096) (K : Fin 1024), i = ix3 b R K := ⟨i 0, i 1, i 2, eq_ix3 i⟩
  obtain ⟨n, r, hd, d, rfl, rfl⟩ := pos R K
  obtain ⟨I, H⟩ := Real.holds _ _ _ _ _ _ (hpre c)
  obtain ⟨g0, g1, g2, g3, g4, g5⟩ := hagree c
  have H' := H
  rw [← g0, ← g1, ← g2, ← g3, ← g4] at H'
  refine (Ref.result m' c H' b n r hd d).trans ((?_ : _ = _).trans (array m c H b n r hd d).symm)
  rw [g0, g5]
end Cert.Dn
end
-- ==== Proof.lean ====
/- The proof of the claims of proof/Defs.lean. The value claims read both programs' result arrays at an element: for the two
   feed-forward calls the kernel's by Ffn/Array.lean and Ffn/FinalArray.lean, the reference's by Ffn/Ref.lean and Ffn/FinalRef.lean;
   for the output projection both by Out/Proj.lean, for the modulation's product both by Out/Mods.lean; for the DeltaNet the kernel's by
   Dn/Grid.lean, the reference's by Dn/Result.lean, and Dn/Claim.lean puts the two together. Both programs of a call leave the same
   function of the arguments. -/
module

public import proofs.«01_k».proof.Defs
public import proofs.«01_k».proof.Proof.Gen.Final.Frame
public import proofs.«01_k».proof.Proof.Gen.FinalIdeal.Value
public import proofs.«01_k».proof.Proof.Gen.Kernel.Frame
public import proofs.«01_k».proof.Proof.Gen.KernelIdeal.Value
public import proofs.«01_k».proof.Proof.Gen.Delta.Frame
public import proofs.«01_k».proof.Proof.Gen.DeltaIdeal.Frame
public import proofs.«01_k».proof.Proof.Gen.RefFinalIdeal.Run
public import proofs.«01_k».proof.Proof.Gen.ReferenceIdeal.Run
public import proofs.«01_k».proof.Proof.Gen.ReferenceIdeal.Read
public import proofs.«01_k».proof.Proof.Gen.RefFinalIdeal.Read
public import proofs.«01_k».proof.Proof.Gen.Proj.Frame
public import proofs.«01_k».proof.Proof.Gen.ProjIdeal.Value
public import proofs.«01_k».proof.Proof.Gen.RefProjIdeal.Run
public import proofs.«01_k».proof.Proof.Gen.RefProjIdeal.Read
public import proofs.«01_k».proof.Proof.Gen.Mods.Frame
public import proofs.«01_k».proof.Proof.Gen.ModsIdeal.Value
public import proofs.«01_k».proof.Proof.Gen.RefModsIdeal.Run
public import proofs.«01_k».proof.Proof.Gen.RefModsIdeal.Read
public import proofs.«01_k».proof.Proof.Ffn.Array
public import proofs.«01_k».proof.Proof.Ffn.Ref
public import proofs.«01_k».proof.Proof.Ffn.FinalArray
public import proofs.«01_k».proof.Proof.Ffn.FinalRef
public import proofs.«01_k».proof.Proof.Out.Proj
public import proofs.«01_k».proof.Proof.Out.Mods
public import proofs.«01_k».proof.Proof.Dn.Claim
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The first reference's run ends with its arguments unchanged and no transfer open. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The last reference's run ends with its arguments unchanged and no transfer open. -/
theorem quiescent_RefFinalIdeal : quiescent_RefFinalIdeal := fun m ρ _ =>
  (θ_run Cert.RefFinalIdeal.defs _ _).mono (fun r h => ⟨fun c => (h c).2, sem_eq_zero_of_no_sems (by decide) r.2⟩)
    (Cert.RefFinalIdeal.Value.run (F := Ideal) m ρ)

/-- The first feed-forward call leaves what its reference does. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans (funext fun i => ?_)
  obtain ⟨r, q, rfl⟩ : ∃ (r : Fin 16384) (q : Fin 2048), i = ix2 r q := ⟨i 0, i 1, eq_ix2 i⟩
  refine (Cert.Ffn.Ref.result m' c r q).trans ((?_ : _ = _).trans (Cert.Ffn.array m c r q).symm)
  simp only [hagree c]
  rfl

/-- The last feed-forward call leaves what its reference does. -/
theorem algebraic_FinalIdeal_RefFinalIdeal : algebraic_FinalIdeal_RefFinalIdeal := by
  intro m ρ m' ρ' _ hagree
  refine ⟨_, Cert.FinalIdeal.Value.run (F := Ideal) m ρ, ?_⟩
  refine (θ_run Cert.RefFinalIdeal.defs _ _).mono (fun _ h c => ⟨?_, (h c).2⟩) (Cert.RefFinalIdeal.Value.run (F := Ideal) m' ρ')
  refine (h c).1.trans (funext fun i => ?_)
  obtain ⟨r, q, rfl⟩ : ∃ (r : Fin 16384) (q : Fin 2048), i = ix2 r q := ⟨i 0, i 1, eq_ix2 i⟩
  refine (Cert.Ffn.RefFinal.result m' c r q).trans ((?_ : _ = _).trans (Cert.Ffn.Final.array m c r q).symm)
  simp only [hagree c]
  rfl

/-- The output projection's reference's run ends with its arguments unchanged and no transfer open. -/
theorem quiescent_RefProjIdeal : quiescent_RefProjIdeal := fun m ρ _ =>
  (θ_run Cert.RefProjIdeal.defs _ _).mono (fun r h => ⟨fun c => (h c).2, sem_eq_zero_of_no_sems (by decide) r.2⟩)
    (Cert.RefProjIdeal.Value.run (F := Ideal) m ρ)

/-- The modulation's reference's run ends with its arguments unchanged and no transfer open. -/
theorem quiescent_RefModsIdeal : quiescent_RefModsIdeal := fun m ρ _ =>
  (θ_run Cert.RefModsIdeal.defs _ _).mono (fun r h => ⟨fun c => (h c).2, sem_eq_zero_of_no_sems (by decide) r.2⟩)
    (Cert.RefModsIdeal.Value.run (F := Ideal) m ρ)

/-- The output projection leaves what its reference does. -/
theorem algebraic_ProjIdeal_RefProjIdeal : algebraic_ProjIdeal_RefProjIdeal := by
  intro m ρ m' ρ' _ hagree
  refine ⟨_, Cert.ProjIdeal.Value.run_blocks (F := Ideal) m ρ, ?_⟩
  refine (θ_run Cert.RefProjIdeal.defs _ _).mono (fun _ h c => ⟨?_, (h c).2⟩) (Cert.RefProjIdeal.Value.run (F := Ideal) m' ρ')
  refine (h c).1.trans (funext fun i => ?_)
  obtain ⟨r, q, rfl⟩ : ∃ (r : Fin 16384) (q : Fin 2048), i = ix2 r q := ⟨i 0, i 1, eq_ix2 i⟩
  refine (congrFun (Cert.RefProjIdeal.Read.val_main_v12_eq (F := Ideal) _ _ _ _ _) (ix2 r q)).trans ?_
  refine (Cert.Out.ref _ _ _ _ _ r q).trans ((?_ : _ = _).trans (Cert.Out.array m c r q).symm)
  simp only [hagree c]

/-- The modulation's product leaves what its reference does. -/
theorem algebraic_ModsIdeal_RefModsIdeal : algebraic_ModsIdeal_RefModsIdeal := by
  intro m ρ m' ρ' _ hagree
  refine ⟨_, Cert.ModsIdeal.Value.run_blocks (F := Ideal) m ρ, ?_⟩
  refine (θ_run Cert.RefModsIdeal.defs _ _).mono (fun _ h c => ⟨?_, (h c).2⟩) (Cert.RefModsIdeal.Value.run (F := Ideal) m' ρ')
  refine (h c).1.trans (funext fun i => ?_)
  obtain ⟨r, q, rfl⟩ : ∃ (r : Fin 8) (q : Fin 18432), i = ix2 r q := ⟨i 0, i 1, eq_ix2 i⟩
  refine (congrFun (Cert.RefModsIdeal.Read.val_main_v4_eq (F := Ideal) _ _ _) (ix2 r q)).trans ?_
  refine (Cert.Mod.ref _ _ _ r q).trans ((?_ : _ = _).trans (Cert.Mod.array m c r q).symm)
  simp only [hagree c]

/-- All the claims. -/
theorem claim : Cert.Claim := ⟨
  Cert.Kernel.Gen.facts, Cert.KernelIdeal.Gen.facts, Cert.ReferenceIdeal.Gen.facts, Cert.Final.Gen.facts,
  Cert.FinalIdeal.Gen.facts, Cert.RefFinalIdeal.Gen.facts, Cert.Delta.Gen.facts, Cert.DeltaIdeal.Gen.facts,
  Cert.RefDeltaIdeal.Gen.facts, Cert.Proj.Gen.facts, Cert.ProjIdeal.Gen.facts, Cert.RefProjIdeal.Gen.facts,
  Cert.Mods.Gen.facts, Cert.ModsIdeal.Gen.facts, Cert.RefModsIdeal.Gen.facts, Cert.Dn.Real.facts,
  fun m ρ _ => Cert.Kernel.Gen.frame m ρ, fun m ρ _ => Cert.KernelIdeal.Gen.frame m ρ, quiescent_ReferenceIdeal,
  fun m ρ _ => Cert.Final.Gen.frame m ρ, fun m ρ _ => Cert.FinalIdeal.Gen.frame m ρ, quiescent_RefFinalIdeal,
  fun m ρ _ => Cert.Delta.Gen.frame m ρ, fun m ρ _ => Cert.DeltaIdeal.Gen.frame m ρ,
  fun m ρ _ => Cert.DeltaIdeal.Gen.frame m ρ, Cert.Dn.quiescent_ref, fun m ρ _ => Cert.Dn.quiescent_ref m ρ trivial,
  fun m ρ _ => Cert.Proj.Gen.frame m ρ, fun m ρ _ => Cert.ProjIdeal.Gen.frame m ρ, quiescent_RefProjIdeal,
  fun m ρ _ => Cert.Mods.Gen.frame m ρ, fun m ρ _ => Cert.ModsIdeal.Gen.frame m ρ, quiescent_RefModsIdeal,
  (trivial : preserves_Kernel_KernelIdeal), algebraic_KernelIdeal_ReferenceIdeal, (trivial : preserves_Final_FinalIdeal),
  algebraic_FinalIdeal_RefFinalIdeal, (trivial : preserves_Delta_DeltaIdeal), Cert.Dn.algebraic,
  (trivial : preserves_Proj_ProjIdeal), algebraic_ProjIdeal_RefProjIdeal, (trivial : preserves_Mods_ModsIdeal),
  algebraic_ModsIdeal_RefModsIdeal⟩

end Cert.Proof

end
